-- ==== Defs.lean ====
def Pre_Kernel [hPre_tokens_in_table : Cert.Pre_tokens_in_table.Facts] (m : (ℓ : Loc Cert.Kernel.nD Cert.Kernel.τ Cert.Kernel.sig) → Buf (Elt Bits) ℓ) : Prop :=
  ∀ c : Dev Cert.Kernel.nD,
    (Cert.Pre_tokens_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tokens_in_table : Cert.Pre_tokens_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_table [hPre_tokens_in_table : Cert.Pre_tokens_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_EncoderIdeal (m : (ℓ : Loc Cert.EncoderIdeal.nD Cert.EncoderIdeal.τ Cert.EncoderIdeal.sig) → Buf (Elt Ideal) ℓ) : Prop :=
  True

def Pre_EncoderReferenceIdeal (m : (ℓ : Loc Cert.EncoderReferenceIdeal.nD Cert.EncoderReferenceIdeal.τ Cert.EncoderReferenceIdeal.sig) → Buf (Elt Ideal) ℓ) : Prop :=
  True

def Pre_Decoder (m : (ℓ : Loc Cert.Decoder.nD Cert.Decoder.τ Cert.Decoder.sig) → Buf (Elt Bits) ℓ) : Prop :=
  True

def Pre_DecoderIdeal (m : (ℓ : Loc Cert.DecoderIdeal.nD Cert.DecoderIdeal.τ Cert.DecoderIdeal.sig) → Buf (Elt Ideal) ℓ) : Prop :=
  True

def Pre_DecoderIdeal_z_finite [hPre_z_finite : Cert.Pre_z_finite.Facts] (m : (ℓ : Loc Cert.DecoderIdeal.nD Cert.DecoderIdeal.τ Cert.DecoderIdeal.sig) → Buf (Elt Ideal) ℓ) : Prop :=
  ∀ c : Dev Cert.DecoderIdeal.nD,
    (Cert.Pre_z_finite.fn (F := Ideal) (m ((c.tc : Thread Cert.DecoderIdeal.nD Cert.DecoderIdeal.τ).loc Cert.DecoderIdeal.main_arg0)) (m ((c.tc : Thread Cert.DecoderIdeal.nD Cert.DecoderIdeal.τ).loc Cert.DecoderIdeal.main_arg1)) (m ((c.tc : Thread Cert.DecoderIdeal.nD Cert.DecoderIdeal.τ).loc Cert.DecoderIdeal.main_arg2)) (m ((c.tc : Thread Cert.DecoderIdeal.nD Cert.DecoderIdeal.τ).loc Cert.DecoderIdeal.main_arg3)) (m ((c.tc : Thread Cert.DecoderIdeal.nD Cert.DecoderIdeal.τ).loc Cert.DecoderIdeal.main_arg4)) (m ((c.tc : Thread Cert.DecoderIdeal.nD Cert.DecoderIdeal.τ).loc Cert.DecoderIdeal.main_arg5)) (m ((c.tc : Thread Cert.DecoderIdeal.nD Cert.DecoderIdeal.τ).loc Cert.DecoderIdeal.main_arg6)) (m ((c.tc : Thread Cert.DecoderIdeal.nD Cert.DecoderIdeal.τ).loc Cert.DecoderIdeal.main_arg7)) (m ((c.tc : Thread Cert.DecoderIdeal.nD Cert.DecoderIdeal.τ).loc Cert.DecoderIdeal.main_arg8)) (m ((c.tc : Thread Cert.DecoderIdeal.nD Cert.DecoderIdeal.τ).loc Cert.DecoderIdeal.main_arg9))) = (fun _ => 1#1)

def Pre_DecoderReferenceIdeal (m : (ℓ : Loc Cert.DecoderReferenceIdeal.nD Cert.DecoderReferenceIdeal.τ Cert.DecoderReferenceIdeal.sig) → Buf (Elt Ideal) ℓ) : Prop :=
  True

def Pre_DecoderReferenceIdeal_z_finite [hPre_z_finite : Cert.Pre_z_finite.Facts] (m : (ℓ : Loc Cert.DecoderReferenceIdeal.nD Cert.DecoderReferenceIdeal.τ Cert.DecoderReferenceIdeal.sig) → Buf (Elt Ideal) ℓ) : Prop :=
  ∀ c : Dev Cert.DecoderReferenceIdeal.nD,
    (Cert.Pre_z_finite.fn (F := Ideal) (m ((c.tc : Thread Cert.DecoderReferenceIdeal.nD Cert.DecoderReferenceIdeal.τ).loc Cert.DecoderReferenceIdeal.main_arg0)) (m ((c.tc : Thread Cert.DecoderReferenceIdeal.nD Cert.DecoderReferenceIdeal.τ).loc Cert.DecoderReferenceIdeal.main_arg1)) (m ((c.tc : Thread Cert.DecoderReferenceIdeal.nD Cert.DecoderReferenceIdeal.τ).loc Cert.DecoderReferenceIdeal.main_arg2)) (m ((c.tc : Thread Cert.DecoderReferenceIdeal.nD Cert.DecoderReferenceIdeal.τ).loc Cert.DecoderReferenceIdeal.main_arg3)) (m ((c.tc : Thread Cert.DecoderReferenceIdeal.nD Cert.DecoderReferenceIdeal.τ).loc Cert.DecoderReferenceIdeal.main_arg4)) (m ((c.tc : Thread Cert.DecoderReferenceIdeal.nD Cert.DecoderReferenceIdeal.τ).loc Cert.DecoderReferenceIdeal.main_arg5)) (m ((c.tc : Thread Cert.DecoderReferenceIdeal.nD Cert.DecoderReferenceIdeal.τ).loc Cert.DecoderReferenceIdeal.main_arg6)) (m ((c.tc : Thread Cert.DecoderReferenceIdeal.nD Cert.DecoderReferenceIdeal.τ).loc Cert.DecoderReferenceIdeal.main_arg7)) (m ((c.tc : Thread Cert.DecoderReferenceIdeal.nD Cert.DecoderReferenceIdeal.τ).loc Cert.DecoderReferenceIdeal.main_arg8)) (m ((c.tc : Thread Cert.DecoderReferenceIdeal.nD Cert.DecoderReferenceIdeal.τ).loc Cert.DecoderReferenceIdeal.main_arg9))) = (fun _ => 1#1)

def quiescent_Kernel [hKernel : Cert.Kernel.Facts] [hPre_tokens_in_table : Cert.Pre_tokens_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tokens_in_table : Cert.Pre_tokens_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tokens_in_table [hReferenceIdeal : Cert.ReferenceIdeal.Facts] [hPre_tokens_in_table : Cert.Pre_tokens_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_EncoderIdeal [hEncoderIdeal : Cert.EncoderIdeal.Facts] : Prop :=
  ∀ (m : (ℓ : Loc Cert.EncoderIdeal.nD Cert.EncoderIdeal.τ Cert.EncoderIdeal.sig) → Buf (Elt Ideal) ℓ) (g : Dev Cert.EncoderIdeal.nD → PrngReg), Pre_EncoderIdeal m →
    θ_run (Cert.EncoderIdeal.defs (F := Ideal)) (Cert.EncoderIdeal.threads (F := Ideal)) ⟨m, fun _ => 0, g⟩ (fun r => (∀ c : Dev Cert.EncoderIdeal.nD,
      r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
      ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
      ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
      ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
      ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
      ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
      ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
      ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7)
      ∧ r.2.mem ((c.tc : Thread Cert.EncoderIdeal.nD Cert.EncoderIdeal.τ).loc Cert.EncoderIdeal.main_arg8) = m ((c.tc : Thread Cert.EncoderIdeal.nD Cert.EncoderIdeal.τ).loc Cert.EncoderIdeal.main_arg8)
      ∧ r.2.mem ((c.tc : Thread Cert.EncoderIdeal.nD Cert.EncoderIdeal.τ).loc Cert.EncoderIdeal.main_arg9) = m ((c.tc : Thread Cert.EncoderIdeal.nD Cert.EncoderIdeal.τ).loc Cert.EncoderIdeal.main_arg9))
      ∧ r.2.sem = fun _ => 0)

def quiescent_EncoderReferenceIdeal [hEncoderReferenceIdeal : Cert.EncoderReferenceIdeal.Facts] : Prop :=
  ∀ (m : (ℓ : Loc Cert.EncoderReferenceIdeal.nD Cert.EncoderReferenceIdeal.τ Cert.EncoderReferenceIdeal.sig) → Buf (Elt Ideal) ℓ) (g : Dev Cert.EncoderReferenceIdeal.nD → PrngReg), Pre_EncoderReferenceIdeal m →
    θ_run (Cert.EncoderReferenceIdeal.defs (F := Ideal)) (onTc (τ := Cert.EncoderReferenceIdeal.τ) (Cert.EncoderReferenceIdeal.main (F := Ideal))) ⟨m, fun _ => 0, g⟩ (fun r => (∀ c : Dev Cert.EncoderReferenceIdeal.nD,
      r.2.mem ((c.tc : Thread Cert.EncoderReferenceIdeal.nD Cert.EncoderReferenceIdeal.τ).loc Cert.EncoderReferenceIdeal.main_arg0) = m ((c.tc : Thread Cert.EncoderReferenceIdeal.nD Cert.EncoderReferenceIdeal.τ).loc Cert.EncoderReferenceIdeal.main_arg0)
      ∧ r.2.mem ((c.tc : Thread Cert.EncoderReferenceIdeal.nD Cert.EncoderReferenceIdeal.τ).loc Cert.EncoderReferenceIdeal.main_arg1) = m ((c.tc : Thread Cert.EncoderReferenceIdeal.nD Cert.EncoderReferenceIdeal.τ).loc Cert.EncoderReferenceIdeal.main_arg1)
      ∧ r.2.mem ((c.tc : Thread Cert.EncoderReferenceIdeal.nD Cert.EncoderReferenceIdeal.τ).loc Cert.EncoderReferenceIdeal.main_arg2) = m ((c.tc : Thread Cert.EncoderReferenceIdeal.nD Cert.EncoderReferenceIdeal.τ).loc Cert.EncoderReferenceIdeal.main_arg2)
      ∧ r.2.mem ((c.tc : Thread Cert.EncoderReferenceIdeal.nD Cert.EncoderReferenceIdeal.τ).loc Cert.EncoderReferenceIdeal.main_arg3) = m ((c.tc : Thread Cert.EncoderReferenceIdeal.nD Cert.EncoderReferenceIdeal.τ).loc Cert.EncoderReferenceIdeal.main_arg3)
      ∧ r.2.mem ((c.tc : Thread Cert.EncoderReferenceIdeal.nD Cert.EncoderReferenceIdeal.τ).loc Cert.EncoderReferenceIdeal.main_arg4) = m ((c.tc : Thread Cert.EncoderReferenceIdeal.nD Cert.EncoderReferenceIdeal.τ).loc Cert.EncoderReferenceIdeal.main_arg4)
      ∧ r.2.mem ((c.tc : Thread Cert.EncoderReferenceIdeal.nD Cert.EncoderReferenceIdeal.τ).loc Cert.EncoderReferenceIdeal.main_arg5) = m ((c.tc : Thread Cert.EncoderReferenceIdeal.nD Cert.EncoderReferenceIdeal.τ).loc Cert.EncoderReferenceIdeal.main_arg5)
      ∧ r.2.mem ((c.tc : Thread Cert.EncoderReferenceIdeal.nD Cert.EncoderReferenceIdeal.τ).loc Cert.EncoderReferenceIdeal.main_arg6) = m ((c.tc : Thread Cert.EncoderReferenceIdeal.nD Cert.EncoderReferenceIdeal.τ).loc Cert.EncoderReferenceIdeal.main_arg6)
      ∧ r.2.mem ((c.tc : Thread Cert.EncoderReferenceIdeal.nD Cert.EncoderReferenceIdeal.τ).loc Cert.EncoderReferenceIdeal.main_arg7) = m ((c.tc : Thread Cert.EncoderReferenceIdeal.nD Cert.EncoderReferenceIdeal.τ).loc Cert.EncoderReferenceIdeal.main_arg7)
      ∧ r.2.mem ((c.tc : Thread Cert.EncoderReferenceIdeal.nD Cert.EncoderReferenceIdeal.τ).loc Cert.EncoderReferenceIdeal.main_arg8) = m ((c.tc : Thread Cert.EncoderReferenceIdeal.nD Cert.EncoderReferenceIdeal.τ).loc Cert.EncoderReferenceIdeal.main_arg8)
      ∧ r.2.mem ((c.tc : Thread Cert.EncoderReferenceIdeal.nD Cert.EncoderReferenceIdeal.τ).loc Cert.EncoderReferenceIdeal.main_arg9) = m ((c.tc : Thread Cert.EncoderReferenceIdeal.nD Cert.EncoderReferenceIdeal.τ).loc Cert.EncoderReferenceIdeal.main_arg9))
      ∧ r.2.sem = fun _ => 0)

def quiescent_Decoder [hDecoder : Cert.Decoder.Facts] : Prop :=
  ∀ (m : (ℓ : Loc Cert.Decoder.nD Cert.Decoder.τ Cert.Decoder.sig) → Buf (Elt Bits) ℓ) (g : Dev Cert.Decoder.nD → PrngReg), Pre_Decoder m →
    θ_run (Cert.Decoder.defs (F := Bits)) (onTc (τ := Cert.Decoder.τ) (Cert.Decoder.main (F := Bits))) ⟨m, fun _ => 0, g⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3)
      ∧ r.2.mem ((c.tc : Thread Cert.Decoder.nD Cert.Decoder.τ).loc Cert.Decoder.main_arg4) = m ((c.tc : Thread Cert.Decoder.nD Cert.Decoder.τ).loc Cert.Decoder.main_arg4)
      ∧ r.2.mem ((c.tc : Thread Cert.Decoder.nD Cert.Decoder.τ).loc Cert.Decoder.main_arg5) = m ((c.tc : Thread Cert.Decoder.nD Cert.Decoder.τ).loc Cert.Decoder.main_arg5)
      ∧ r.2.mem ((c.tc : Thread Cert.Decoder.nD Cert.Decoder.τ).loc Cert.Decoder.main_arg6) = m ((c.tc : Thread Cert.Decoder.nD Cert.Decoder.τ).loc Cert.Decoder.main_arg6)
      ∧ r.2.mem ((c.tc : Thread Cert.Decoder.nD Cert.Decoder.τ).loc Cert.Decoder.main_arg7) = m ((c.tc : Thread Cert.Decoder.nD Cert.Decoder.τ).loc Cert.Decoder.main_arg7)
      ∧ r.2.mem ((c.tc : Thread Cert.Decoder.nD Cert.Decoder.τ).loc Cert.Decoder.main_arg8) = m ((c.tc : Thread Cert.Decoder.nD Cert.Decoder.τ).loc Cert.Decoder.main_arg8)
      ∧ r.2.mem ((c.tc : Thread Cert.Decoder.nD Cert.Decoder.τ).loc Cert.Decoder.main_arg9) = m ((c.tc : Thread Cert.Decoder.nD Cert.Decoder.τ).loc Cert.Decoder.main_arg9))
      ∧ r.2.sem = fun _ => 0)

def quiescent_DecoderIdeal [hDecoderIdeal : Cert.DecoderIdeal.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
      ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
      ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8)
      ∧ r.2.mem ((c.tc : Thread Cert.DecoderIdeal.nD Cert.DecoderIdeal.τ).loc Cert.DecoderIdeal.main_arg9) = m ((c.tc : Thread Cert.DecoderIdeal.nD Cert.DecoderIdeal.τ).loc Cert.DecoderIdeal.main_arg9))
      ∧ r.2.sem = fun _ => 0)

def quiescent_DecoderIdeal_pre_z_finite [hDecoderIdeal : Cert.DecoderIdeal.Facts] [hPre_z_finite : Cert.Pre_z_finite.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal_z_finite m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
      ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
      ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8)
      ∧ r.2.mem ((c.tc : Thread Cert.DecoderIdeal.nD Cert.DecoderIdeal.τ).loc Cert.DecoderIdeal.main_arg9) = m ((c.tc : Thread Cert.DecoderIdeal.nD Cert.DecoderIdeal.τ).loc Cert.DecoderIdeal.main_arg9))
      ∧ r.2.sem = fun _ => 0)

def quiescent_DecoderReferenceIdeal [hDecoderReferenceIdeal : Cert.DecoderReferenceIdeal.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
      ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
      ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6)
      ∧ r.2.mem ((c.tc : Thread Cert.DecoderReferenceIdeal.nD Cert.DecoderReferenceIdeal.τ).loc Cert.DecoderReferenceIdeal.main_arg7) = m ((c.tc : Thread Cert.DecoderReferenceIdeal.nD Cert.DecoderReferenceIdeal.τ).loc Cert.DecoderReferenceIdeal.main_arg7)
      ∧ r.2.mem ((c.tc : Thread Cert.DecoderReferenceIdeal.nD Cert.DecoderReferenceIdeal.τ).loc Cert.DecoderReferenceIdeal.main_arg8) = m ((c.tc : Thread Cert.DecoderReferenceIdeal.nD Cert.DecoderReferenceIdeal.τ).loc Cert.DecoderReferenceIdeal.main_arg8)
      ∧ r.2.mem ((c.tc : Thread Cert.DecoderReferenceIdeal.nD Cert.DecoderReferenceIdeal.τ).loc Cert.DecoderReferenceIdeal.main_arg9) = m ((c.tc : Thread Cert.DecoderReferenceIdeal.nD Cert.DecoderReferenceIdeal.τ).loc Cert.DecoderReferenceIdeal.main_arg9))
      ∧ r.2.sem = fun _ => 0)

def quiescent_DecoderReferenceIdeal_pre_z_finite [hDecoderReferenceIdeal : Cert.DecoderReferenceIdeal.Facts] [hPre_z_finite : Cert.Pre_z_finite.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal_z_finite m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
      ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
      ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6)
      ∧ r.2.mem ((c.tc : Thread Cert.DecoderReferenceIdeal.nD Cert.DecoderReferenceIdeal.τ).loc Cert.DecoderReferenceIdeal.main_arg7) = m ((c.tc : Thread Cert.DecoderReferenceIdeal.nD Cert.DecoderReferenceIdeal.τ).loc Cert.DecoderReferenceIdeal.main_arg7)
      ∧ r.2.mem ((c.tc : Thread Cert.DecoderReferenceIdeal.nD Cert.DecoderReferenceIdeal.τ).loc Cert.DecoderReferenceIdeal.main_arg8) = m ((c.tc : Thread Cert.DecoderReferenceIdeal.nD Cert.DecoderReferenceIdeal.τ).loc Cert.DecoderReferenceIdeal.main_arg8)
      ∧ r.2.mem ((c.tc : Thread Cert.DecoderReferenceIdeal.nD Cert.DecoderReferenceIdeal.τ).loc Cert.DecoderReferenceIdeal.main_arg9) = m ((c.tc : Thread Cert.DecoderReferenceIdeal.nD Cert.DecoderReferenceIdeal.τ).loc Cert.DecoderReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_table : Cert.Pre_tokens_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_EncoderIdeal_EncoderReferenceIdeal [hEncoderIdeal : Cert.EncoderIdeal.Facts] [hEncoderReferenceIdeal : Cert.EncoderReferenceIdeal.Facts] : Prop :=
  ∀ (m : (ℓ : Loc Cert.EncoderIdeal.nD Cert.EncoderIdeal.τ Cert.EncoderIdeal.sig) → Buf (Elt Ideal) ℓ) (g : Dev Cert.EncoderIdeal.nD → PrngReg)
    (m' : (ℓ : Loc Cert.EncoderReferenceIdeal.nD Cert.EncoderReferenceIdeal.τ Cert.EncoderReferenceIdeal.sig) → Buf (Elt Ideal) ℓ) (g' : Dev Cert.EncoderReferenceIdeal.nD → PrngReg), Pre_EncoderIdeal m →
    (∀ c : Dev Cert.EncoderIdeal.nD,
      m' ((c.tc : Thread Cert.EncoderReferenceIdeal.nD Cert.EncoderReferenceIdeal.τ).loc Cert.EncoderReferenceIdeal.main_arg0) = m ((c.tc : Thread Cert.EncoderIdeal.nD Cert.EncoderIdeal.τ).loc Cert.EncoderIdeal.main_arg0)
      ∧ m' ((c.tc : Thread Cert.EncoderReferenceIdeal.nD Cert.EncoderReferenceIdeal.τ).loc Cert.EncoderReferenceIdeal.main_arg1) = m ((c.tc : Thread Cert.EncoderIdeal.nD Cert.EncoderIdeal.τ).loc Cert.EncoderIdeal.main_arg1)
      ∧ m' ((c.tc : Thread Cert.EncoderReferenceIdeal.nD Cert.EncoderReferenceIdeal.τ).loc Cert.EncoderReferenceIdeal.main_arg2) = m ((c.tc : Thread Cert.EncoderIdeal.nD Cert.EncoderIdeal.τ).loc Cert.EncoderIdeal.main_arg2)
      ∧ m' ((c.tc : Thread Cert.EncoderReferenceIdeal.nD Cert.EncoderReferenceIdeal.τ).loc Cert.EncoderReferenceIdeal.main_arg3) = m ((c.tc : Thread Cert.EncoderIdeal.nD Cert.EncoderIdeal.τ).loc Cert.EncoderIdeal.main_arg3)
      ∧ m' ((c.tc : Thread Cert.EncoderReferenceIdeal.nD Cert.EncoderReferenceIdeal.τ).loc Cert.EncoderReferenceIdeal.main_arg4) = m ((c.tc : Thread Cert.EncoderIdeal.nD Cert.EncoderIdeal.τ).loc Cert.EncoderIdeal.main_arg4)
      ∧ m' ((c.tc : Thread Cert.EncoderReferenceIdeal.nD Cert.EncoderReferenceIdeal.τ).loc Cert.EncoderReferenceIdeal.main_arg5) = m ((c.tc : Thread Cert.EncoderIdeal.nD Cert.EncoderIdeal.τ).loc Cert.EncoderIdeal.main_arg5)
      ∧ m' ((c.tc : Thread Cert.EncoderReferenceIdeal.nD Cert.EncoderReferenceIdeal.τ).loc Cert.EncoderReferenceIdeal.main_arg6) = m ((c.tc : Thread Cert.EncoderIdeal.nD Cert.EncoderIdeal.τ).loc Cert.EncoderIdeal.main_arg6)
      ∧ m' ((c.tc : Thread Cert.EncoderReferenceIdeal.nD Cert.EncoderReferenceIdeal.τ).loc Cert.EncoderReferenceIdeal.main_arg7) = m ((c.tc : Thread Cert.EncoderIdeal.nD Cert.EncoderIdeal.τ).loc Cert.EncoderIdeal.main_arg7)
      ∧ m' ((c.tc : Thread Cert.EncoderReferenceIdeal.nD Cert.EncoderReferenceIdeal.τ).loc Cert.EncoderReferenceIdeal.main_arg8) = m ((c.tc : Thread Cert.EncoderIdeal.nD Cert.EncoderIdeal.τ).loc Cert.EncoderIdeal.main_arg8)
      ∧ m' ((c.tc : Thread Cert.EncoderReferenceIdeal.nD Cert.EncoderReferenceIdeal.τ).loc Cert.EncoderReferenceIdeal.main_arg9) = m ((c.tc : Thread Cert.EncoderIdeal.nD Cert.EncoderIdeal.τ).loc Cert.EncoderIdeal.main_arg9)) →
    ∃ (v0 : (c : Dev Cert.EncoderIdeal.nD) → Buf (Elt Ideal) ((c.tc : Thread Cert.EncoderIdeal.nD Cert.EncoderIdeal.τ).loc Cert.EncoderIdeal.main_v98)) (v1 : (c : Dev Cert.EncoderIdeal.nD) → Buf (Elt Ideal) ((c.tc : Thread Cert.EncoderIdeal.nD Cert.EncoderIdeal.τ).loc Cert.EncoderIdeal.main_v99)),
      θ_run (Cert.EncoderIdeal.defs (F := Ideal)) (Cert.EncoderIdeal.threads (F := Ideal)) ⟨m, fun _ => 0, g⟩ (fun r => ∀ c : Dev Cert.EncoderIdeal.nD,
          r.2.mem ((c.tc : Thread Cert.EncoderIdeal.nD Cert.EncoderIdeal.τ).loc Cert.EncoderIdeal.main_v98) = v0 c
          ∧ r.2.mem ((c.tc : Thread Cert.EncoderIdeal.nD Cert.EncoderIdeal.τ).loc Cert.EncoderIdeal.main_v99) = v1 c
          ∧ r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
          ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
          ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
          ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
          ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
          ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
          ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
          ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7)
          ∧ r.2.mem ((c.tc : Thread Cert.EncoderIdeal.nD Cert.EncoderIdeal.τ).loc Cert.EncoderIdeal.main_arg8) = m ((c.tc : Thread Cert.EncoderIdeal.nD Cert.EncoderIdeal.τ).loc Cert.EncoderIdeal.main_arg8)
          ∧ r.2.mem ((c.tc : Thread Cert.EncoderIdeal.nD Cert.EncoderIdeal.τ).loc Cert.EncoderIdeal.main_arg9) = m ((c.tc : Thread Cert.EncoderIdeal.nD Cert.EncoderIdeal.τ).loc Cert.EncoderIdeal.main_arg9))
      ∧ θ_run (Cert.EncoderReferenceIdeal.defs (F := Ideal)) (onTc (τ := Cert.EncoderReferenceIdeal.τ) (Cert.EncoderReferenceIdeal.main (F := Ideal))) ⟨m', fun _ => 0, g'⟩ (fun r => ∀ c : Dev Cert.EncoderReferenceIdeal.nD,
          r.2.mem ((c.tc : Thread Cert.EncoderReferenceIdeal.nD Cert.EncoderReferenceIdeal.τ).loc Cert.EncoderReferenceIdeal.main_v208) = v0 c
          ∧ r.2.mem ((c.tc : Thread Cert.EncoderReferenceIdeal.nD Cert.EncoderReferenceIdeal.τ).loc Cert.EncoderReferenceIdeal.main_v209) = v1 c
          ∧ r.2.mem ((c.tc : Thread Cert.EncoderReferenceIdeal.nD Cert.EncoderReferenceIdeal.τ).loc Cert.EncoderReferenceIdeal.main_arg0) = m' ((c.tc : Thread Cert.EncoderReferenceIdeal.nD Cert.EncoderReferenceIdeal.τ).loc Cert.EncoderReferenceIdeal.main_arg0)
          ∧ r.2.mem ((c.tc : Thread Cert.EncoderReferenceIdeal.nD Cert.EncoderReferenceIdeal.τ).loc Cert.EncoderReferenceIdeal.main_arg1) = m' ((c.tc : Thread Cert.EncoderReferenceIdeal.nD Cert.EncoderReferenceIdeal.τ).loc Cert.EncoderReferenceIdeal.main_arg1)
          ∧ r.2.mem ((c.tc : Thread Cert.EncoderReferenceIdeal.nD Cert.EncoderReferenceIdeal.τ).loc Cert.EncoderReferenceIdeal.main_arg2) = m' ((c.tc : Thread Cert.EncoderReferenceIdeal.nD Cert.EncoderReferenceIdeal.τ).loc Cert.EncoderReferenceIdeal.main_arg2)
          ∧ r.2.mem ((c.tc : Thread Cert.EncoderReferenceIdeal.nD Cert.EncoderReferenceIdeal.τ).loc Cert.EncoderReferenceIdeal.main_arg3) = m' ((c.tc : Thread Cert.EncoderReferenceIdeal.nD Cert.EncoderReferenceIdeal.τ).loc Cert.EncoderReferenceIdeal.main_arg3)
          ∧ r.2.mem ((c.tc : Thread Cert.EncoderReferenceIdeal.nD Cert.EncoderReferenceIdeal.τ).loc Cert.EncoderReferenceIdeal.main_arg4) = m' ((c.tc : Thread Cert.EncoderReferenceIdeal.nD Cert.EncoderReferenceIdeal.τ).loc Cert.EncoderReferenceIdeal.main_arg4)
          ∧ r.2.mem ((c.tc : Thread Cert.EncoderReferenceIdeal.nD Cert.EncoderReferenceIdeal.τ).loc Cert.EncoderReferenceIdeal.main_arg5) = m' ((c.tc : Thread Cert.EncoderReferenceIdeal.nD Cert.EncoderReferenceIdeal.τ).loc Cert.EncoderReferenceIdeal.main_arg5)
          ∧ r.2.mem ((c.tc : Thread Cert.EncoderReferenceIdeal.nD Cert.EncoderReferenceIdeal.τ).loc Cert.EncoderReferenceIdeal.main_arg6) = m' ((c.tc : Thread Cert.EncoderReferenceIdeal.nD Cert.EncoderReferenceIdeal.τ).loc Cert.EncoderReferenceIdeal.main_arg6)
          ∧ r.2.mem ((c.tc : Thread Cert.EncoderReferenceIdeal.nD Cert.EncoderReferenceIdeal.τ).loc Cert.EncoderReferenceIdeal.main_arg7) = m' ((c.tc : Thread Cert.EncoderReferenceIdeal.nD Cert.EncoderReferenceIdeal.τ).loc Cert.EncoderReferenceIdeal.main_arg7)
          ∧ r.2.mem ((c.tc : Thread Cert.EncoderReferenceIdeal.nD Cert.EncoderReferenceIdeal.τ).loc Cert.EncoderReferenceIdeal.main_arg8) = m' ((c.tc : Thread Cert.EncoderReferenceIdeal.nD Cert.EncoderReferenceIdeal.τ).loc Cert.EncoderReferenceIdeal.main_arg8)
          ∧ r.2.mem ((c.tc : Thread Cert.EncoderReferenceIdeal.nD Cert.EncoderReferenceIdeal.τ).loc Cert.EncoderReferenceIdeal.main_arg9) = m' ((c.tc : Thread Cert.EncoderReferenceIdeal.nD Cert.EncoderReferenceIdeal.τ).loc Cert.EncoderReferenceIdeal.main_arg9))

def preserves_Decoder_DecoderIdeal : Prop :=
  True

def algebraic_DecoderIdeal_DecoderReferenceIdeal_pre_z_finite [hDecoderIdeal : Cert.DecoderIdeal.Facts] [hDecoderReferenceIdeal : Cert.DecoderReferenceIdeal.Facts] [hPre_z_finite : Cert.Pre_z_finite.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderReferenceIdeal.nD Cert.DecoderReferenceIdeal.τ Cert.DecoderReferenceIdeal.sig) → Buf (Elt Ideal) ℓ) (g' : Dev Cert.DecoderReferenceIdeal.nD → PrngReg), Pre_DecoderIdeal_z_finite m →
    (∀ c : Dev Cert.DecoderIdeal.nD,
      m' ((c.tc : Thread Cert.DecoderReferenceIdeal.nD Cert.DecoderReferenceIdeal.τ).loc Cert.DecoderReferenceIdeal.main_arg0) = m ((c.tc : Thread Cert.DecoderIdeal.nD Cert.DecoderIdeal.τ).loc Cert.DecoderIdeal.main_arg0)
      ∧ m' ((c.tc : Thread Cert.DecoderReferenceIdeal.nD Cert.DecoderReferenceIdeal.τ).loc Cert.DecoderReferenceIdeal.main_arg1) = m ((c.tc : Thread Cert.DecoderIdeal.nD Cert.DecoderIdeal.τ).loc Cert.DecoderIdeal.main_arg1)
      ∧ m' ((c.tc : Thread Cert.DecoderReferenceIdeal.nD Cert.DecoderReferenceIdeal.τ).loc Cert.DecoderReferenceIdeal.main_arg2) = m ((c.tc : Thread Cert.DecoderIdeal.nD Cert.DecoderIdeal.τ).loc Cert.DecoderIdeal.main_arg2)
      ∧ m' ((c.tc : Thread Cert.DecoderReferenceIdeal.nD Cert.DecoderReferenceIdeal.τ).loc Cert.DecoderReferenceIdeal.main_arg3) = m ((c.tc : Thread Cert.DecoderIdeal.nD Cert.DecoderIdeal.τ).loc Cert.DecoderIdeal.main_arg3)
      ∧ m' ((c.tc : Thread Cert.DecoderReferenceIdeal.nD Cert.DecoderReferenceIdeal.τ).loc Cert.DecoderReferenceIdeal.main_arg4) = m ((c.tc : Thread Cert.DecoderIdeal.nD Cert.DecoderIdeal.τ).loc Cert.DecoderIdeal.main_arg4)
      ∧ m' ((c.tc : Thread Cert.DecoderReferenceIdeal.nD Cert.DecoderReferenceIdeal.τ).loc Cert.DecoderReferenceIdeal.main_arg5) = m ((c.tc : Thread Cert.DecoderIdeal.nD Cert.DecoderIdeal.τ).loc Cert.DecoderIdeal.main_arg5)
      ∧ m' ((c.tc : Thread Cert.DecoderReferenceIdeal.nD Cert.DecoderReferenceIdeal.τ).loc Cert.DecoderReferenceIdeal.main_arg6) = m ((c.tc : Thread Cert.DecoderIdeal.nD Cert.DecoderIdeal.τ).loc Cert.DecoderIdeal.main_arg6)
      ∧ m' ((c.tc : Thread Cert.DecoderReferenceIdeal.nD Cert.DecoderReferenceIdeal.τ).loc Cert.DecoderReferenceIdeal.main_arg7) = m ((c.tc : Thread Cert.DecoderIdeal.nD Cert.DecoderIdeal.τ).loc Cert.DecoderIdeal.main_arg7)
      ∧ m' ((c.tc : Thread Cert.DecoderReferenceIdeal.nD Cert.DecoderReferenceIdeal.τ).loc Cert.DecoderReferenceIdeal.main_arg8) = m ((c.tc : Thread Cert.DecoderIdeal.nD Cert.DecoderIdeal.τ).loc Cert.DecoderIdeal.main_arg8)
      ∧ m' ((c.tc : Thread Cert.DecoderReferenceIdeal.nD Cert.DecoderReferenceIdeal.τ).loc Cert.DecoderReferenceIdeal.main_arg9) = m ((c.tc : Thread Cert.DecoderIdeal.nD Cert.DecoderIdeal.τ).loc Cert.DecoderIdeal.main_arg9)) →
    ∃ (v0 : (c : Dev Cert.DecoderIdeal.nD) → Buf (Elt Ideal) ((c.tc : Thread Cert.DecoderIdeal.nD Cert.DecoderIdeal.τ).loc Cert.DecoderIdeal.main_v71)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v71) = v0 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
          ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
          ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
          ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
          ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
          ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8)
          ∧ r.2.mem ((c.tc : Thread Cert.DecoderIdeal.nD Cert.DecoderIdeal.τ).loc Cert.DecoderIdeal.main_arg9) = m ((c.tc : Thread Cert.DecoderIdeal.nD Cert.DecoderIdeal.τ).loc Cert.DecoderIdeal.main_arg9))
      ∧ θ_run (Cert.DecoderReferenceIdeal.defs (F := Ideal)) (onTc (τ := Cert.DecoderReferenceIdeal.τ) (Cert.DecoderReferenceIdeal.main (F := Ideal))) ⟨m', fun _ => 0, g'⟩ (fun r => ∀ c : Dev Cert.DecoderReferenceIdeal.nD,
          r.2.mem ((c.tc : Thread Cert.DecoderReferenceIdeal.nD Cert.DecoderReferenceIdeal.τ).loc Cert.DecoderReferenceIdeal.main_v185) = v0 c
          ∧ r.2.mem ((c.tc : Thread Cert.DecoderReferenceIdeal.nD Cert.DecoderReferenceIdeal.τ).loc Cert.DecoderReferenceIdeal.main_arg0) = m' ((c.tc : Thread Cert.DecoderReferenceIdeal.nD Cert.DecoderReferenceIdeal.τ).loc Cert.DecoderReferenceIdeal.main_arg0)
          ∧ r.2.mem ((c.tc : Thread Cert.DecoderReferenceIdeal.nD Cert.DecoderReferenceIdeal.τ).loc Cert.DecoderReferenceIdeal.main_arg1) = m' ((c.tc : Thread Cert.DecoderReferenceIdeal.nD Cert.DecoderReferenceIdeal.τ).loc Cert.DecoderReferenceIdeal.main_arg1)
          ∧ r.2.mem ((c.tc : Thread Cert.DecoderReferenceIdeal.nD Cert.DecoderReferenceIdeal.τ).loc Cert.DecoderReferenceIdeal.main_arg2) = m' ((c.tc : Thread Cert.DecoderReferenceIdeal.nD Cert.DecoderReferenceIdeal.τ).loc Cert.DecoderReferenceIdeal.main_arg2)
          ∧ r.2.mem ((c.tc : Thread Cert.DecoderReferenceIdeal.nD Cert.DecoderReferenceIdeal.τ).loc Cert.DecoderReferenceIdeal.main_arg3) = m' ((c.tc : Thread Cert.DecoderReferenceIdeal.nD Cert.DecoderReferenceIdeal.τ).loc Cert.DecoderReferenceIdeal.main_arg3)
          ∧ r.2.mem ((c.tc : Thread Cert.DecoderReferenceIdeal.nD Cert.DecoderReferenceIdeal.τ).loc Cert.DecoderReferenceIdeal.main_arg4) = m' ((c.tc : Thread Cert.DecoderReferenceIdeal.nD Cert.DecoderReferenceIdeal.τ).loc Cert.DecoderReferenceIdeal.main_arg4)
          ∧ r.2.mem ((c.tc : Thread Cert.DecoderReferenceIdeal.nD Cert.DecoderReferenceIdeal.τ).loc Cert.DecoderReferenceIdeal.main_arg5) = m' ((c.tc : Thread Cert.DecoderReferenceIdeal.nD Cert.DecoderReferenceIdeal.τ).loc Cert.DecoderReferenceIdeal.main_arg5)
          ∧ r.2.mem ((c.tc : Thread Cert.DecoderReferenceIdeal.nD Cert.DecoderReferenceIdeal.τ).loc Cert.DecoderReferenceIdeal.main_arg6) = m' ((c.tc : Thread Cert.DecoderReferenceIdeal.nD Cert.DecoderReferenceIdeal.τ).loc Cert.DecoderReferenceIdeal.main_arg6)
          ∧ r.2.mem ((c.tc : Thread Cert.DecoderReferenceIdeal.nD Cert.DecoderReferenceIdeal.τ).loc Cert.DecoderReferenceIdeal.main_arg7) = m' ((c.tc : Thread Cert.DecoderReferenceIdeal.nD Cert.DecoderReferenceIdeal.τ).loc Cert.DecoderReferenceIdeal.main_arg7)
          ∧ r.2.mem ((c.tc : Thread Cert.DecoderReferenceIdeal.nD Cert.DecoderReferenceIdeal.τ).loc Cert.DecoderReferenceIdeal.main_arg8) = m' ((c.tc : Thread Cert.DecoderReferenceIdeal.nD Cert.DecoderReferenceIdeal.τ).loc Cert.DecoderReferenceIdeal.main_arg8)
          ∧ r.2.mem ((c.tc : Thread Cert.DecoderReferenceIdeal.nD Cert.DecoderReferenceIdeal.τ).loc Cert.DecoderReferenceIdeal.main_arg9) = m' ((c.tc : Thread Cert.DecoderReferenceIdeal.nD Cert.DecoderReferenceIdeal.τ).loc Cert.DecoderReferenceIdeal.main_arg9))

def Claim : Prop :=
  ∃ (hKernel : Cert.Kernel.Facts) (hKernelIdeal : Cert.KernelIdeal.Facts) (hReferenceIdeal : Cert.ReferenceIdeal.Facts) (hEncoderIdeal : Cert.EncoderIdeal.Facts) (hEncoderReferenceIdeal : Cert.EncoderReferenceIdeal.Facts) (hDecoder : Cert.Decoder.Facts) (hDecoderIdeal : Cert.DecoderIdeal.Facts) (hDecoderReferenceIdeal : Cert.DecoderReferenceIdeal.Facts) (hPre_tokens_in_table : Cert.Pre_tokens_in_table.Facts) (hPre_z_finite : Cert.Pre_z_finite.Facts),
    quiescent_Kernel (hKernel := hKernel) (hPre_tokens_in_table := hPre_tokens_in_table)
    ∧ quiescent_KernelIdeal (hKernelIdeal := hKernelIdeal) (hPre_tokens_in_table := hPre_tokens_in_table)
    ∧ quiescent_ReferenceIdeal (hReferenceIdeal := hReferenceIdeal)
    ∧ quiescent_ReferenceIdeal_pre_tokens_in_table (hReferenceIdeal := hReferenceIdeal) (hPre_tokens_in_table := hPre_tokens_in_table)
    ∧ quiescent_EncoderIdeal (hEncoderIdeal := hEncoderIdeal)
    ∧ quiescent_EncoderReferenceIdeal (hEncoderReferenceIdeal := hEncoderReferenceIdeal)
    ∧ quiescent_Decoder (hDecoder := hDecoder)
    ∧ quiescent_DecoderIdeal (hDecoderIdeal := hDecoderIdeal)
    ∧ quiescent_DecoderIdeal_pre_z_finite (hDecoderIdeal := hDecoderIdeal) (hPre_z_finite := hPre_z_finite)
    ∧ quiescent_DecoderReferenceIdeal (hDecoderReferenceIdeal := hDecoderReferenceIdeal)
    ∧ quiescent_DecoderReferenceIdeal_pre_z_finite (hDecoderReferenceIdeal := hDecoderReferenceIdeal) (hPre_z_finite := hPre_z_finite)
    ∧ preserves_Kernel_KernelIdeal
    ∧ algebraic_KernelIdeal_ReferenceIdeal (hKernelIdeal := hKernelIdeal) (hReferenceIdeal := hReferenceIdeal) (hPre_tokens_in_table := hPre_tokens_in_table)
    ∧ algebraic_EncoderIdeal_EncoderReferenceIdeal (hEncoderIdeal := hEncoderIdeal) (hEncoderReferenceIdeal := hEncoderReferenceIdeal)
    ∧ preserves_Decoder_DecoderIdeal
    ∧ algebraic_DecoderIdeal_DecoderReferenceIdeal_pre_z_finite (hDecoderIdeal := hDecoderIdeal) (hDecoderReferenceIdeal := hDecoderReferenceIdeal) (hPre_z_finite := hPre_z_finite)
-- ==== Pre_tokens_in_table.lean ====
abbrev S8192x256 : Shape := ⟨2, ![8192, 256]⟩
abbrev S6400 : Shape := ⟨1, ![6400]⟩
abbrev S_ : Shape := ⟨0, ![]⟩

class Facts : Prop where
  bcast_S_S6400 : S_.BroadcastsInDim S6400 (![] : Fin 0 → Fin S6400.rank)

variable [Facts]

def fn {F : FTy → Type} [FloatOps F] (main_arg0 : FVec F S8192x256 .f32) (main_arg1 : IVec S6400 32) : IVec S6400 1 :=
  let main_c : IVec S_ 32 := constantI S_ 32 0#32
  let main_v0 : IVec S6400 32 := broadcastInDim S6400 ![] bcast_S_S6400 main_c
  let main_v1 : IVec S6400 1 := cmpi .sge main_arg1 main_v0
  let main_c_0 : IVec S_ 32 := constantI S_ 32 8192#32
  let main_v2 : IVec S6400 32 := broadcastInDim S6400 ![] bcast_S_S6400 main_c_0
  let main_v3 : IVec S6400 1 := cmpi .slt main_arg1 main_v2
  let main_v4 : IVec S6400 1 := andi main_v1 main_v3
  main_v4
-- ==== Pre_z_finite.lean ====
abbrev S2x4x256x28x28 : Shape := ⟨5, ![2, 4, 256, 28, 28]⟩
abbrev S256x256x1x1 : Shape := ⟨4, ![256, 256, 1, 1]⟩
abbrev S256 : Shape := ⟨1, ![256]⟩
abbrev S128x256x3x3 : Shape := ⟨4, ![128, 256, 3, 3]⟩
abbrev S128 : Shape := ⟨1, ![128]⟩
abbrev S64x128x3x3 : Shape := ⟨4, ![64, 128, 3, 3]⟩
abbrev S64 : Shape := ⟨1, ![64]⟩
abbrev S3x64x3x3 : Shape := ⟨4, ![3, 64, 3, 3]⟩
abbrev S3 : Shape := ⟨1, ![3]⟩
abbrev S_ : Shape := ⟨0, ![]⟩

class Facts : Prop where
  bcast_S_S2x4x256x28x28 : S_.BroadcastsInDim S2x4x256x28x28 (![] : Fin 0 → Fin S2x4x256x28x28.rank)

variable [Facts]

def fn {F : FTy → Type} [FloatOps F] (main_arg0 : FVec F S2x4x256x28x28 .f32) (main_arg1 : FVec F S2x4x256x28x28 .f32) (main_arg2 : FVec F S256x256x1x1 .f32) (main_arg3 : FVec F S256 .f32) (main_arg4 : FVec F S128x256x3x3 .f32) (main_arg5 : FVec F S128 .f32) (main_arg6 : FVec F S64x128x3x3 .f32) (main_arg7 : FVec F S64 .f32) (main_arg8 : FVec F S3x64x3x3 .f32) (main_arg9 : FVec F S3 .f32) : IVec S2x4x256x28x28 1 :=
  let main_v0 : FVec F S2x4x256x28x28 .f32 := Host.absf main_arg0
  let main_cst : FVec F S_ .f32 := constant S_ .f32 0x7F800000#32
  let main_v1 : FVec F S2x4x256x28x28 .f32 := broadcastInDim S2x4x256x28x28 ![] bcast_S_S2x4x256x28x28 main_cst
  let main_v2 : IVec S2x4x256x28x28 1 := cmpf .olt main_v0 main_v1
  main_v2
-- ==== Kernel.lean ====
abbrev S8192x256 : Shape := ⟨2, ![8192, 256]⟩
abbrev S6400 : Shape := ⟨1, ![6400]⟩
abbrev S8192x2x128 : Shape := ⟨3, ![8192, 2, 128]⟩
abbrev S6400x2x128 : Shape := ⟨3, ![6400, 2, 128]⟩
abbrev S200 : Shape := ⟨1, ![200]⟩
abbrev S200x2x128 : Shape := ⟨3, ![200, 2, 128]⟩
abbrev S_ : Shape := ⟨0, ![]⟩
abbrev S6400x256 : Shape := ⟨2, ![6400, 256]⟩
abbrev S6272x256 : Shape := ⟨2, ![6272, 256]⟩
abbrev S8x784x256 : Shape := ⟨3, ![8, 784, 256]⟩
abbrev S8x256x784 : Shape := ⟨3, ![8, 256, 784]⟩
abbrev S8x256x28x28 : Shape := ⟨4, ![8, 256, 28, 28]⟩
abbrev S2x4x256x28x28 : Shape := ⟨5, ![2, 4, 256, 28, 28]⟩

abbrev nBuf : Table → Nat
  | .hbm => 10
  | .local .scVector .vmem => 2
  | _ => 0

abbrev bufTy : (tb : Table) → Fin (nBuf tb) → BufTy
  | .hbm, ⟨0, _⟩ => ⟨S8192x256, .f32⟩
  | .hbm, ⟨1, _⟩ => ⟨S6400, .i32⟩
  | .hbm, ⟨2, _⟩ => ⟨S8192x2x128, .f32⟩
  | .hbm, ⟨3, _⟩ => ⟨S6400x2x128, .f32⟩
  | .hbm, ⟨4, _⟩ => ⟨S6400x256, .f32⟩
  | .hbm, ⟨5, _⟩ => ⟨S6272x256, .f32⟩
  | .hbm, ⟨6, _⟩ => ⟨S8x784x256, .f32⟩
  | .hbm, ⟨7, _⟩ => ⟨S8x256x784, .f32⟩
  | .hbm, ⟨8, _⟩ => ⟨S8x256x28x28, .f32⟩
  | .hbm, ⟨9, _⟩ => ⟨S2x4x256x28x28, .f32⟩
  | .local .scVector .vmem, ⟨0, _⟩ => ⟨S200, .i32⟩
  | .local .scVector .vmem, ⟨1, _⟩ => ⟨S200x2x128, .f32⟩
  | _, _ => ⟨S8192x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  ![v2.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_5_r1 : BitVec 32 := 0#32
  let c0_i32_6_r1 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x256 : Shape := ⟨2, ![8192, 256]⟩
abbrev S6400 : Shape := ⟨1, ![6400]⟩
abbrev S6272 : Shape := ⟨1, ![6272]⟩
abbrev S_ : Shape := ⟨0, ![]⟩
abbrev S6272x1 : Shape := ⟨2, ![6272, 1]⟩
abbrev S1 : Shape := ⟨1, ![1]⟩
abbrev S1x1 : Shape := ⟨2, ![1, 1]⟩
abbrev S6272x256 : Shape := ⟨2, ![6272, 256]⟩
abbrev S8x28x28x256 : Shape := ⟨4, ![8, 28, 28, 256]⟩
abbrev S8x256x28x28 : Shape := ⟨4, ![8, 256, 28, 28]⟩
abbrev S2x4x256x28x28 : Shape := ⟨5, ![2, 4, 256, 28, 28]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S6400, .i32⟩
  | .hbm, ⟨2, _⟩ => ⟨S6272, .i32⟩
  | .hbm, ⟨3, _⟩ => ⟨S_, .i32⟩
  | .hbm, ⟨4, _⟩ => ⟨S6272, .i32⟩
  | .hbm, ⟨5, _⟩ => ⟨S6272, .i1⟩
  | .hbm, ⟨6, _⟩ => ⟨S_, .i32⟩
  | .hbm, ⟨7, _⟩ => ⟨S6272, .i32⟩
  | .hbm, ⟨8, _⟩ => ⟨S6272, .i32⟩
  | .hbm, ⟨9, _⟩ => ⟨S6272, .i32⟩
  | .hbm, ⟨10, _⟩ => ⟨S6272x1, .i32⟩
  | .hbm, ⟨11, _⟩ => ⟨S1, .i32⟩
  | .hbm, ⟨12, _⟩ => ⟨S_, .i32⟩
  | .hbm, ⟨13, _⟩ => ⟨S6272x1, .i32⟩
  | .hbm, ⟨14, _⟩ => ⟨S6272x1, .i1⟩
  | .hbm, ⟨15, _⟩ => ⟨S1x1, .i32⟩
  | .hbm, ⟨16, _⟩ => ⟨S6272x1, .i32⟩
  | .hbm, ⟨17, _⟩ => ⟨S6272x1, .i1⟩
  | .hbm, ⟨18, _⟩ => ⟨S6272x1, .i1⟩
  | .hbm, ⟨19, _⟩ => ⟨S_, .i1⟩
  | .hbm, ⟨20, _⟩ => ⟨S6272, .i1⟩
  | .hbm, ⟨21, _⟩ => ⟨S6272x256, .f32⟩
  | .hbm, ⟨22, _⟩ => ⟨S6272x256, .i1⟩
  | .hbm, ⟨23, _⟩ => ⟨S_, .f32⟩
  | .hbm, ⟨24, _⟩ => ⟨S6272x256, .f32⟩
  | .hbm, ⟨25, _⟩ => ⟨S6272x256, .f32⟩
  | .hbm, ⟨26, _⟩ => ⟨S8x28x28x256, .f32⟩
  | .hbm, ⟨27, _⟩ => ⟨S8x256x28x28, .f32⟩
  | .hbm, ⟨28, _⟩ => ⟨S2x4x256x28x28, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== EncoderIdeal.lean ====
abbrev S2x4x3x224x224 : Shape := ⟨5, ![2, 4, 3, 224, 224]⟩
abbrev S8192x256 : Shape := ⟨2, ![8192, 256]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S256x256x1x1 : Shape := ⟨4, ![256, 256, 1, 1]⟩
abbrev S8x3x224x224 : Shape := ⟨4, ![8, 3, 224, 224]⟩
abbrev S_ : Shape := ⟨0, ![]⟩
abbrev S8x3x226x226 : Shape := ⟨4, ![8, 3, 226, 226]⟩
abbrev S8x3x112x112 : Shape := ⟨4, ![8, 3, 112, 112]⟩
abbrev S8x3x12544 : Shape := ⟨3, ![8, 3, 12544]⟩
abbrev S3x3x3x64 : Shape := ⟨4, ![3, 3, 3, 64]⟩
abbrev S27x64 : Shape := ⟨2, ![27, 64]⟩
abbrev S64x27 : Shape := ⟨2, ![64, 27]⟩
abbrev S64x1 : Shape := ⟨2, ![64, 1]⟩
abbrev S8x64x12544 : Shape := ⟨3, ![8, 64, 12544]⟩
abbrev S1x3x12544 : Shape := ⟨3, ![1, 3, 12544]⟩
abbrev S1x64x12544 : Shape := ⟨3, ![1, 64, 12544]⟩
abbrev S3x12544 : Shape := ⟨2, ![3, 12544]⟩
abbrev S27x12544 : Shape := ⟨2, ![27, 12544]⟩
abbrev S64x12544 : Shape := ⟨2, ![64, 12544]⟩
abbrev S8x64x112x112 : Shape := ⟨4, ![8, 64, 112, 112]⟩
abbrev S8x64x114x114 : Shape := ⟨4, ![8, 64, 114, 114]⟩
abbrev S8x64x56x56 : Shape := ⟨4, ![8, 64, 56, 56]⟩
abbrev S8x64x3136 : Shape := ⟨3, ![8, 64, 3136]⟩
abbrev S3x3x64x128 : Shape := ⟨4, ![3, 3, 64, 128]⟩
abbrev S576x128 : Shape := ⟨2, ![576, 128]⟩
abbrev S128x576 : Shape := ⟨2, ![128, 576]⟩
abbrev S128x1 : Shape := ⟨2, ![128, 1]⟩
abbrev S8x128x3136 : Shape := ⟨3, ![8, 128, 3136]⟩
abbrev S1x64x3136 : Shape := ⟨3, ![1, 64, 3136]⟩
abbrev S1x128x3136 : Shape := ⟨3, ![1, 128, 3136]⟩
abbrev S64x3136 : Shape := ⟨2, ![64, 3136]⟩
abbrev S576x3136 : Shape := ⟨2, ![576, 3136]⟩
abbrev S128x3136 : Shape := ⟨2, ![128, 3136]⟩
abbrev S8x128x56x56 : Shape := ⟨4, ![8, 128, 56, 56]⟩
abbrev S8x128x58x58 : Shape := ⟨4, ![8, 128, 58, 58]⟩
abbrev S8x128x28x28 : Shape := ⟨4, ![8, 128, 28, 28]⟩
abbrev S8x128x784 : Shape := ⟨3, ![8, 128, 784]⟩
abbrev S3x3x128x256 : Shape := ⟨4, ![3, 3, 128, 256]⟩
abbrev S1152x256 : Shape := ⟨2, ![1152, 256]⟩
abbrev S256x1152 : Shape := ⟨2, ![256, 1152]⟩
abbrev S256x1 : Shape := ⟨2, ![256, 1]⟩
abbrev S8x256x784 : Shape := ⟨3, ![8, 256, 784]⟩
abbrev S1x128x784 : Shape := ⟨3, ![1, 128, 784]⟩
abbrev S1x256x784 : Shape := ⟨3, ![1, 256, 784]⟩
abbrev S128x784 : Shape := ⟨2, ![128, 784]⟩
abbrev S1152x784 : Shape := ⟨2, ![1152, 784]⟩
abbrev S256x784 : Shape := ⟨2, ![256, 784]⟩
abbrev S8x256x28x28 : Shape := ⟨4, ![8, 256, 28, 28]⟩
abbrev S256x256 : Shape := ⟨2, ![256, 256]⟩
abbrev S8x784x256 : Shape := ⟨3, ![8, 784, 256]⟩
abbrev S6272x256 : Shape := ⟨2, ![6272, 256]⟩
abbrev S6400x256 : Shape := ⟨2, ![6400, 256]⟩
abbrev S256x8192 : Shape := ⟨2, ![256, 8192]⟩
abbrev S25x1x256 : Shape := ⟨3, ![25, 1, 256]⟩
abbrev S1x1x256 : Shape := ⟨3, ![1, 1, 256]⟩
abbrev S8192 : Shape := ⟨1, ![8192]⟩
abbrev S1x8192 : Shape := ⟨2, ![1, 8192]⟩
abbrev S6400 : Shape := ⟨1, ![6400]⟩
abbrev S8192x2x128 : Shape := ⟨3, ![8192, 2, 128]⟩
abbrev S6400x2x128 : Shape := ⟨3, ![6400, 2, 128]⟩
abbrev S200 : Shape := ⟨1, ![200]⟩
abbrev S200x2x128 : Shape := ⟨3, ![200, 2, 128]⟩
abbrev S2x4x256x28x28 : Shape := ⟨5, ![2, 4, 256, 28, 28]⟩

abbrev nBuf : Table → Nat
  | .hbm => 120
  | .local .tc .vmem => 77
  | .local .scVector .vmem => 2
  | _ => 0

abbrev bufTy : (tb : Table) → Fin (nBuf tb) → BufTy
  | .hbm, ⟨0, _⟩ => ⟨S2x4x3x224x224, .f32⟩
  | .hbm, ⟨1, _⟩ => ⟨S8192x256, .f32⟩
  | .hbm, ⟨2, _⟩ => ⟨S64x3x3x3, .f32⟩
  | .hbm, ⟨3, _⟩ => ⟨S64, .f32⟩
  | .hbm, ⟨4, _⟩ => ⟨S128x64x3x3, .f32⟩
  | .hbm, ⟨5, _⟩ => ⟨S128, .f32⟩
  | .hbm, ⟨6, _⟩ => ⟨S256x128x3x3, .f32⟩
  | .hbm, ⟨7, _⟩ => ⟨S256, .f32⟩
  | .hbm, ⟨8, _⟩ => ⟨S256x256x1x1, .f32⟩
  | .hbm, ⟨9, _⟩ => ⟨S256, .f32⟩
  | .hbm, ⟨10, _⟩ => ⟨S8x3x224x224, .f32⟩
  | .hbm, ⟨11, _⟩ => ⟨S_, .f32⟩
  | .hbm, ⟨12, _⟩ => ⟨S8x3x224x224, .f32⟩
  | .hbm, ⟨13, _⟩ => ⟨S8x3x224x224, .f32⟩
  | .hbm, ⟨14, _⟩ => ⟨S_, .f32⟩
  | .hbm, ⟨15, _⟩ => ⟨S8x3x224x224, .f32⟩
  | .hbm, ⟨16, _⟩ => ⟨S8x3x224x224, .f32⟩
  | .hbm, ⟨17, _⟩ => ⟨S_, .i32⟩
  | .hbm, ⟨18, _⟩ => ⟨S_, .f32⟩
  | .hbm, ⟨19, _⟩ => ⟨S8x3x226x226, .f32⟩
  | .hbm, ⟨20, _⟩ => ⟨S8x3x112x112, .f32⟩
  | .hbm, ⟨21, _⟩ => ⟨S8x3x12544, .f32⟩
  | .hbm, ⟨22, _⟩ => ⟨S8x3x112x112, .f32⟩
  | .hbm, ⟨23, _⟩ => ⟨S8x3x12544, .f32⟩
  | .hbm, ⟨24, _⟩ => ⟨S8x3x112x112, .f32⟩
  | .hbm, ⟨25, _⟩ => ⟨S8x3x12544, .f32⟩
  | .hbm, ⟨26, _⟩ => ⟨S8x3x112x112, .f32⟩
  | .hbm, ⟨27, _⟩ => ⟨S8x3x12544, .f32⟩
  | .hbm, ⟨28, _⟩ => ⟨S8x3x112x112, .f32⟩
  | .hbm, ⟨29, _⟩ => ⟨S8x3x12544, .f32⟩
  | .hbm, ⟨30, _⟩ => ⟨S8x3x112x112, .f32⟩
  | .hbm, ⟨31, _⟩ => ⟨S8x3x12544, .f32⟩
  | .hbm, ⟨32, _⟩ => ⟨S8x3x112x112, .f32⟩
  | .hbm, ⟨33, _⟩ => ⟨S8x3x12544, .f32⟩
  | .hbm, ⟨34, _⟩ => ⟨S8x3x112x112, .f32⟩
  | .hbm, ⟨35, _⟩ => ⟨S8x3x12544, .f32⟩
  | .hbm, ⟨36, _⟩ => ⟨S8x3x112x112, .f32⟩
  | .hbm, ⟨37, _⟩ => ⟨S8x3x12544, .f32⟩
  | .hbm, ⟨38, _⟩ => ⟨S3x3x3x64, .f32⟩
  | .hbm, ⟨39, _⟩ => ⟨S27x64, .f32⟩
  | .hbm, ⟨40, _⟩ => ⟨S64x27, .f32⟩
  | .hbm, ⟨41, _⟩ => ⟨S64x1, .f32⟩
  | .hbm, ⟨42, _⟩ => ⟨S8x64x12544, .f32⟩
  | .hbm, ⟨43, _⟩ => ⟨S8x64x112x112, .f32⟩
  | .hbm, ⟨44, _⟩ => ⟨S_, .i32⟩
  | .hbm, ⟨45, _⟩ => ⟨S_, .f32⟩
  | .hbm, ⟨46, _⟩ => ⟨S8x64x114x114, .f32⟩
  | .hbm, ⟨47, _⟩ => ⟨S8x64x56x56, .f32⟩
  | .hbm, ⟨48, _⟩ => ⟨S8x64x3136, .f32⟩
  | .hbm, ⟨49, _⟩ => ⟨S8x64x56x56, .f32⟩
  | .hbm, ⟨50, _⟩ => ⟨S8x64x3136, .f32⟩
  | .hbm, ⟨51, _⟩ => ⟨S8x64x56x56, .f32⟩
  | .hbm, ⟨52, _⟩ => ⟨S8x64x3136, .f32⟩
  | .hbm, ⟨53, _⟩ => ⟨S8x64x56x56, .f32⟩
  | .hbm, ⟨54, _⟩ => ⟨S8x64x3136, .f32⟩
  | .hbm, ⟨55, _⟩ => ⟨S8x64x56x56, .f32⟩
  | .hbm, ⟨56, _⟩ => ⟨S8x64x3136, .f32⟩
  | .hbm, ⟨57, _⟩ => ⟨S8x64x56x56, .f32⟩
  | .hbm, ⟨58, _⟩ => ⟨S8x64x3136, .f32⟩
  | .hbm, ⟨59, _⟩ => ⟨S8x64x56x56, .f32⟩
  | .hbm, ⟨60, _⟩ => ⟨S8x64x3136, .f32⟩
  | .hbm, ⟨61, _⟩ => ⟨S8x64x56x56, .f32⟩
  | .hbm, ⟨62, _⟩ => ⟨S8x64x3136, .f32⟩
  | .hbm, ⟨63, _⟩ => ⟨S8x64x56x56, .f32⟩
  | .hbm, ⟨64, _⟩ => ⟨S8x64x3136, .f32⟩
  | .hbm, ⟨65, _⟩ => ⟨S3x3x64x128, .f32⟩
  | .hbm, ⟨66, _⟩ => ⟨S576x128, .f32⟩
  | .hbm, ⟨67, _⟩ => ⟨S128x576, .f32⟩
  | .hbm, ⟨68, _⟩ => ⟨S128x1, .f32⟩
  | .hbm, ⟨69, _⟩ => ⟨S8x128x3136, .f32⟩
  | .hbm, ⟨70, _⟩ => ⟨S8x128x56x56, .f32⟩
  | .hbm, ⟨71, _⟩ => ⟨S_, .i32⟩
  | .hbm, ⟨72, _⟩ => ⟨S_, .f32⟩
  | .hbm, ⟨73, _⟩ => ⟨S8x128x58x58, .f32⟩
  | .hbm, ⟨74, _⟩ => ⟨S8x128x28x28, .f32⟩
  | .hbm, ⟨75, _⟩ => ⟨S8x128x784, .f32⟩
  | .hbm, ⟨76, _⟩ => ⟨S8x128x28x28, .f32⟩
  | .hbm, ⟨77, _⟩ => ⟨S8x128x784, .f32⟩
  | .hbm, ⟨78, _⟩ => ⟨S8x128x28x28, .f32⟩
  | .hbm, ⟨79, _⟩ => ⟨S8x128x784, .f32⟩
  | .hbm, ⟨80, _⟩ => ⟨S8x128x28x28, .f32⟩
  | .hbm, ⟨81, _⟩ => ⟨S8x128x784, .f32⟩
  | .hbm, ⟨82, _⟩ => ⟨S8x128x28x28, .f32⟩
  | .hbm, ⟨83, _⟩ => ⟨S8x128x784, .f32⟩
  | .hbm, ⟨84, _⟩ => ⟨S8x128x28x28, .f32⟩
  | .hbm, ⟨85, _⟩ => ⟨S8x128x784, .f32⟩
  | .hbm, ⟨86, _⟩ => ⟨S8x128x28x28, .f32⟩
  | .hbm, ⟨87, _⟩ => ⟨S8x128x784, .f32⟩
  | .hbm, ⟨88, _⟩ => ⟨S8x128x28x28, .f32⟩
  | .hbm, ⟨89, _⟩ => ⟨S8x128x784, .f32⟩
  | .hbm, ⟨90, _⟩ => ⟨S8x128x28x28, .f32⟩
  | .hbm, ⟨91, _⟩ => ⟨S8x128x784, .f32⟩
  | .hbm, ⟨92, _⟩ => ⟨S3x3x128x256, .f32⟩
  | .hbm, ⟨93, _⟩ => ⟨S1152x256, .f32⟩
  | .hbm, ⟨94, _⟩ => ⟨S256x1152, .f32⟩
  | .hbm, ⟨95, _⟩ => ⟨S256x1, .f32⟩
  | .hbm, ⟨96, _⟩ => ⟨S8x256x784, .f32⟩
  | .hbm, ⟨97, _⟩ => ⟨S8x256x28x28, .f32⟩
  | .hbm, ⟨98, _⟩ => ⟨S8x256x784, .f32⟩
  | .hbm, ⟨99, _⟩ => ⟨S256x256, .f32⟩
  | .hbm, ⟨100, _⟩ => ⟨S256x1, .f32⟩
  | .hbm, ⟨101, _⟩ => ⟨S8x256x784, .f32⟩
  | .hbm, ⟨102, _⟩ => ⟨S8x784x256, .f32⟩
  | .hbm, ⟨103, _⟩ => ⟨S6272x256, .f32⟩
  | .hbm, ⟨104, _⟩ => ⟨S_, .i32⟩
  | .hbm, ⟨105, _⟩ => ⟨S_, .f32⟩
  | .hbm, ⟨106, _⟩ => ⟨S6400x256, .f32⟩
  | .hbm, ⟨107, _⟩ => ⟨S256x8192, .f32⟩
  | .hbm, ⟨108, _⟩ => ⟨S25x1x256, .i32⟩
  | .hbm, ⟨109, _⟩ => ⟨S6400, .i32⟩
  | .hbm, ⟨110, _⟩ => ⟨S8192x2x128, .f32⟩
  | .hbm, ⟨111, _⟩ => ⟨S6400x2x128, .f32⟩
  | .hbm, ⟨112, _⟩ => ⟨S6400x256, .f32⟩
  | .hbm, ⟨113, _⟩ => ⟨S6272x256, .f32⟩
  | .hbm, ⟨114, _⟩ => ⟨S8x784x256, .f32⟩
  | .hbm, ⟨115, _⟩ => ⟨S8x256x784, .f32⟩
  | .hbm, ⟨116, _⟩ => ⟨S8x256x28x28, .f32⟩
  | .hbm, ⟨117, _⟩ => ⟨S8x256x28x28, .f32⟩
  | .hbm, ⟨118, _⟩ => ⟨S2x4x256x28x28, .f32⟩
  | .hbm, ⟨119, _⟩ => ⟨S2x4x256x28x28, .f32⟩
  | .local .tc .vmem, ⟨0, _⟩ => ⟨S1x3x12544, .f32⟩
  | .local .tc .vmem, ⟨1, _⟩ => ⟨S1x3x12544, .f32⟩
  | .local .tc .vmem, ⟨2, _⟩ => ⟨S1x3x12544, .f32⟩
  | .local .tc .vmem, ⟨3, _⟩ => ⟨S1x3x12544, .f32⟩
  | .local .tc .vmem, ⟨4, _⟩ => ⟨S1x3x12544, .f32⟩
  | .local .tc .vmem, ⟨5, _⟩ => ⟨S1x3x12544, .f32⟩
  | .local .tc .vmem, ⟨6, _⟩ => ⟨S1x3x12544, .f32⟩
  | .local .tc .vmem, ⟨7, _⟩ => ⟨S1x3x12544, .f32⟩
  | .local .tc .vmem, ⟨8, _⟩ => ⟨S1x3x12544, .f32⟩
  | .local .tc .vmem, ⟨9, _⟩ => ⟨S1x3x12544, .f32⟩
  | .local .tc .vmem, ⟨10, _⟩ => ⟨S1x3x12544, .f32⟩
  | .local .tc .vmem, ⟨11, _⟩ => ⟨S1x3x12544, .f32⟩
  | .local .tc .vmem, ⟨12, _⟩ => ⟨S1x3x12544, .f32⟩
  | .local .tc .vmem, ⟨13, _⟩ => ⟨S1x3x12544, .f32⟩
  | .local .tc .vmem, ⟨14, _⟩ => ⟨S1x3x12544, .f32⟩
  | .local .tc .vmem, ⟨15, _⟩ => ⟨S1x3x12544, .f32⟩
  | .local .tc .vmem, ⟨16, _⟩ => ⟨S1x3x12544, .f32⟩
  | .local .tc .vmem, ⟨17, _⟩ => ⟨S1x3x12544, .f32⟩
  | .local .tc .vmem, ⟨18, _⟩ => ⟨S64x27, .f32⟩
  | .local .tc .vmem, ⟨19, _⟩ => ⟨S64x1, .f32⟩
  | .local .tc .vmem, ⟨20, _⟩ => ⟨S1x64x12544, .f32⟩
  | .local .tc .vmem, ⟨21, _⟩ => ⟨S1x64x12544, .f32⟩
  | .local .tc .vmem, ⟨22, _⟩ => ⟨S1x64x3136, .f32⟩
  | .local .tc .vmem, ⟨23, _⟩ => ⟨S1x64x3136, .f32⟩
  | .local .tc .vmem, ⟨24, _⟩ => ⟨S1x64x3136, .f32⟩
  | .local .tc .vmem, ⟨25, _⟩ => ⟨S1x64x3136, .f32⟩
  | .local .tc .vmem, ⟨26, _⟩ => ⟨S1x64x3136, .f32⟩
  | .local .tc .vmem, ⟨27, _⟩ => ⟨S1x64x3136, .f32⟩
  | .local .tc .vmem, ⟨28, _⟩ => ⟨S1x64x3136, .f32⟩
  | .local .tc .vmem, ⟨29, _⟩ => ⟨S1x64x3136, .f32⟩
  | .local .tc .vmem, ⟨30, _⟩ => ⟨S1x64x3136, .f32⟩
  | .local .tc .vmem, ⟨31, _⟩ => ⟨S1x64x3136, .f32⟩
  | .local .tc .vmem, ⟨32, _⟩ => ⟨S1x64x3136, .f32⟩
  | .local .tc .vmem, ⟨33, _⟩ => ⟨S1x64x3136, .f32⟩
  | .local .tc .vmem, ⟨34, _⟩ => ⟨S1x64x3136, .f32⟩
  | .local .tc .vmem, ⟨35, _⟩ => ⟨S1x64x3136, .f32⟩
  | .local .tc .vmem, ⟨36, _⟩ => ⟨S1x64x3136, .f32⟩
  | .local .tc .vmem, ⟨37, _⟩ => ⟨S1x64x3136, .f32⟩
  | .local .tc .vmem, ⟨38, _⟩ => ⟨S1x64x3136, .f32⟩
  | .local .tc .vmem, ⟨39, _⟩ => ⟨S1x64x3136, .f32⟩
  | .local .tc .vmem, ⟨40, _⟩ => ⟨S128x576, .f32⟩
  | .local .tc .vmem, ⟨41, _⟩ => ⟨S128x1, .f32⟩
  | .local .tc .vmem, ⟨42, _⟩ => ⟨S1x128x3136, .f32⟩
  | .local .tc .vmem, ⟨43, _⟩ => ⟨S1x128x3136, .f32⟩
  | .local .tc .vmem, ⟨44, _⟩ => ⟨S1x128x784, .f32⟩
  | .local .tc .vmem, ⟨45, _⟩ => ⟨S1x128x784, .f32⟩
  | .local .tc .vmem, ⟨46, _⟩ => ⟨S1x128x784, .f32⟩
  | .local .tc .vmem, ⟨47, _⟩ => ⟨S1x128x784, .f32⟩
  | .local .tc .vmem, ⟨48, _⟩ => ⟨S1x128x784, .f32⟩
  | .local .tc .vmem, ⟨49, _⟩ => ⟨S1x128x784, .f32⟩
  | .local .tc .vmem, ⟨50, _⟩ => ⟨S1x128x784, .f32⟩
  | .local .tc .vmem, ⟨51, _⟩ => ⟨S1x128x784, .f32⟩
  | .local .tc .vmem, ⟨52, _⟩ => ⟨S1x128x784, .f32⟩
  | .local .tc .vmem, ⟨53, _⟩ => ⟨S1x128x784, .f32⟩
  | .local .tc .vmem, ⟨54, _⟩ => ⟨S1x128x784, .f32⟩
  | .local .tc .vmem, ⟨55, _⟩ => ⟨S1x128x784, .f32⟩
  | .local .tc .vmem, ⟨56, _⟩ => ⟨S1x128x784, .f32⟩
  | .local .tc .vmem, ⟨57, _⟩ => ⟨S1x128x784, .f32⟩
  | .local .tc .vmem, ⟨58, _⟩ => ⟨S1x128x784, .f32⟩
  | .local .tc .vmem, ⟨59, _⟩ => ⟨S1x128x784, .f32⟩
  | .local .tc .vmem, ⟨60, _⟩ => ⟨S1x128x784, .f32⟩
  | .local .tc .vmem, ⟨61, _⟩ => ⟨S1x128x784, .f32⟩
  | .local .tc .vmem, ⟨62, _⟩ => ⟨S256x1152, .f32⟩
  | .local .tc .vmem, ⟨63, _⟩ => ⟨S256x1, .f32⟩
  | .local .tc .vmem, ⟨64, _⟩ => ⟨S1x256x784, .f32⟩
  | .local .tc .vmem, ⟨65, _⟩ => ⟨S1x256x784, .f32⟩
  | .local .tc .vmem, ⟨66, _⟩ => ⟨S1x256x784, .f32⟩
  | .local .tc .vmem, ⟨67, _⟩ => ⟨S1x256x784, .f32⟩
  | .local .tc .vmem, ⟨68, _⟩ => ⟨S256x256, .f32⟩
  | .local .tc .vmem, ⟨69, _⟩ => ⟨S256x1, .f32⟩
  | .local .tc .vmem, ⟨70, _⟩ => ⟨S1x256x784, .f32⟩
  | .local .tc .vmem, ⟨71, _⟩ => ⟨S1x256x784, .f32⟩
  | .local .tc .vmem, ⟨72, _⟩ => ⟨S256x256, .f32⟩
  | .local .tc .vmem, ⟨73, _⟩ => ⟨S256x256, .f32⟩
  | .local .tc .vmem, ⟨74, _⟩ => ⟨S256x8192, .f32⟩
  | .local .tc .vmem, ⟨75, _⟩ => ⟨S1x1x256, .i32⟩
  | .local .tc .vmem, ⟨76, _⟩ => ⟨S1x1x256, .i32⟩
  | .local .scVector .vmem, ⟨0, _⟩ => ⟨S200, .i32⟩
  | .local .scVector .vmem, ⟨1, _⟩ => ⟨S200x2x128, .f32⟩
  | _, _ => ⟨S2x4x3x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => false
  | ⟨78, _⟩ => false
  | ⟨79, _⟩ => false
  | _ => false

abbrev sig : RefSig :=
  ofTables nBuf rfl bufTy 4 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_1 : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_2 : Ref sig .tc := ⟨.hbm, 71, rfl⟩
abbrev main_call2_v0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c_3 : Ref sig .tc := ⟨.hbm, 104, rfl⟩
abbrev main_call3_v0 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v90_scv : Ref sig .scVector := ⟨.hbm, 110, rfl⟩
abbrev main_v89_scv : Ref sig .scVector := ⟨.hbm, 109, rfl⟩
abbrev main_v91_scv : Ref sig .scVector := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg10_0 : Ref sig .tc := ⟨.vmem, 41, rfl⟩
abbrev cc1_stg11_0 : Ref sig .tc := ⟨.vmem, 42, rfl⟩
abbrev cc1_stg11_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc2_stg5_0 : Ref sig .tc := ⟨.vmem, 54, rfl⟩
abbrev cc2_stg5_1 : Ref sig .tc := ⟨.vmem, 55, rfl⟩
abbrev cc2_stg6_0 : Ref sig .tc := ⟨.vmem, 56, rfl⟩
abbrev cc2_stg6_1 : Ref sig .tc := ⟨.vmem, 57, rfl⟩
abbrev cc2_stg7_0 : Ref sig .tc := ⟨.vmem, 58, rfl⟩
abbrev cc2_stg7_1 : Ref sig .tc := ⟨.vmem, 59, rfl⟩
abbrev cc2_stg8_0 : Ref sig .tc := ⟨.vmem, 60, rfl⟩
abbrev cc2_stg8_1 : Ref sig .tc := ⟨.vmem, 61, rfl⟩
abbrev cc2_stg9_0 : Ref sig .tc := ⟨.vmem, 62, rfl⟩
abbrev cc2_stg10_0 : Ref sig .tc := ⟨.vmem, 63, rfl⟩
abbrev cc2_stg11_0 : Ref sig .tc := ⟨.vmem, 64, rfl⟩
abbrev cc2_stg11_1 : Ref sig .tc := ⟨.vmem, 65, rfl⟩
abbrev cc3_stg0_0 : Ref sig .tc := ⟨.vmem, 66, rfl⟩
abbrev cc3_stg0_1 : Ref sig .tc := ⟨.vmem, 67, rfl⟩
abbrev cc3_stg1_0 : Ref sig .tc := ⟨.vmem, 68, rfl⟩
abbrev cc3_stg2_0 : Ref sig .tc := ⟨.vmem, 69, rfl⟩
abbrev cc3_stg3_0 : Ref sig .tc := ⟨.vmem, 70, rfl⟩
abbrev cc3_stg3_1 : Ref sig .tc := ⟨.vmem, 71, rfl⟩
abbrev cc4_stg0_0 : Ref sig .tc := ⟨.vmem, 72, rfl⟩
abbrev cc4_stg0_1 : Ref sig .tc := ⟨.vmem, 73, rfl⟩
abbrev cc4_stg1_0 : Ref sig .tc := ⟨.vmem, 74, rfl⟩
abbrev cc4_stg2_0 : Ref sig .tc := ⟨.vmem, 75, rfl⟩
abbrev cc4_stg2_1 : Ref sig .tc := ⟨.vmem, 76, rfl⟩
abbrev cc5_scratch0 : Ref sig .scVector := ⟨.vmem, 0, rfl⟩
abbrev cc5_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem10_0 : DmaSem sig := 41
abbrev cc1_sem11_0 : DmaSem sig := 42
abbrev cc1_sem11_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem2_1 : DmaSem sig := 49
abbrev cc2_sem3_0 : DmaSem sig := 50
abbrev cc2_sem3_1 : DmaSem sig := 51
abbrev cc2_sem4_0 : DmaSem sig := 52
abbrev cc2_sem4_1 : DmaSem sig := 53
abbrev cc2_sem5_0 : DmaSem sig := 54
abbrev cc2_sem5_1 : DmaSem sig := 55
abbrev cc2_sem6_0 : DmaSem sig := 56
abbrev cc2_sem6_1 : DmaSem sig := 57
abbrev cc2_sem7_0 : DmaSem sig := 58
abbrev cc2_sem7_1 : DmaSem sig := 59
abbrev cc2_sem8_0 : DmaSem sig := 60
abbrev cc2_sem8_1 : DmaSem sig := 61
abbrev cc2_sem9_0 : DmaSem sig := 62
abbrev cc2_sem10_0 : DmaSem sig := 63
abbrev cc2_sem11_0 : DmaSem sig := 64
abbrev cc2_sem11_1 : DmaSem sig := 65
abbrev cc3_sem0_0 : DmaSem sig := 66
abbrev cc3_sem0_1 : DmaSem sig := 67
abbrev cc3_sem1_0 : DmaSem sig := 68
abbrev cc3_sem2_0 : DmaSem sig := 69
abbrev cc3_sem3_0 : DmaSem sig := 70
abbrev cc3_sem3_1 : DmaSem sig := 71
abbrev cc4_sem0_0 : DmaSem sig := 72
abbrev cc4_sem0_1 : DmaSem sig := 73
abbrev cc4_sem1_0 : DmaSem sig := 74
abbrev cc4_sem2_0 : DmaSem sig := 75
abbrev cc4_sem2_1 : DmaSem sig := 76
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x12544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x12544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x12544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x12544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x12544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x12544 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x12544 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x27 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x64x12544 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x3136 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x3136 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x3136 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x3136 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x3136 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x3136 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x3136 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x64x3136 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S128x576 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x128x3136 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x784 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x784 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x784 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x784 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128x784 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x784 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x784 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128x784 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x128x784 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S256x1152 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1x256x784 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x784 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x256x784 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S256x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x8192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x256 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![2, 16], ![false, false]⟩

def k5_off1 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  ![v2.toNat]
def k5_off2 (i : grid5.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_5_r1 : BitVec 32 := 0#32
  let c0_i32_6_r1 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== EncoderReferenceIdeal.lean ====
abbrev S2x4x3x224x224 : Shape := ⟨5, ![2, 4, 3, 224, 224]⟩
abbrev S8192x256 : Shape := ⟨2, ![8192, 256]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S256x256x1x1 : Shape := ⟨4, ![256, 256, 1, 1]⟩
abbrev S_ : Shape := ⟨0, ![]⟩
abbrev S8x3x224x224 : Shape := ⟨4, ![8, 3, 224, 224]⟩
abbrev S8x3x225x225 : Shape := ⟨4, ![8, 3, 225, 225]⟩
abbrev S8x3x112x112 : Shape := ⟨4, ![8, 3, 112, 112]⟩
abbrev S64x3x1x1 : Shape := ⟨4, ![64, 3, 1, 1]⟩
abbrev S64x3 : Shape := ⟨2, ![64, 3]⟩
abbrev S8x112x112x64 : Shape := ⟨4, ![8, 112, 112, 64]⟩
abbrev S8x64x112x112 : Shape := ⟨4, ![8, 64, 112, 112]⟩
abbrev S1x64x1x1 : Shape := ⟨4, ![1, 64, 1, 1]⟩
abbrev S8x64x113x113 : Shape := ⟨4, ![8, 64, 113, 113]⟩
abbrev S8x64x56x56 : Shape := ⟨4, ![8, 64, 56, 56]⟩
abbrev S128x64x1x1 : Shape := ⟨4, ![128, 64, 1, 1]⟩
abbrev S128x64 : Shape := ⟨2, ![128, 64]⟩
abbrev S8x56x56x128 : Shape := ⟨4, ![8, 56, 56, 128]⟩
abbrev S8x128x56x56 : Shape := ⟨4, ![8, 128, 56, 56]⟩
abbrev S1x128x1x1 : Shape := ⟨4, ![1, 128, 1, 1]⟩
abbrev S8x128x57x57 : Shape := ⟨4, ![8, 128, 57, 57]⟩
abbrev S8x128x28x28 : Shape := ⟨4, ![8, 128, 28, 28]⟩
abbrev S256x128x1x1 : Shape := ⟨4, ![256, 128, 1, 1]⟩
abbrev S256x128 : Shape := ⟨2, ![256, 128]⟩
abbrev S8x28x28x256 : Shape := ⟨4, ![8, 28, 28, 256]⟩
abbrev S8x256x28x28 : Shape := ⟨4, ![8, 256, 28, 28]⟩
abbrev S1x256x1x1 : Shape := ⟨4, ![1, 256, 1, 1]⟩
abbrev S256x256 : Shape := ⟨2, ![256, 256]⟩
abbrev S6272x256 : Shape := ⟨2, ![6272, 256]⟩
abbrev S6272 : Shape := ⟨1, ![6272]⟩
abbrev S6272x1 : Shape := ⟨2, ![6272, 1]⟩
abbrev S8192 : Shape := ⟨1, ![8192]⟩
abbrev S1x8192 : Shape := ⟨2, ![1, 8192]⟩
abbrev S6272x8192 : Shape := ⟨2, ![6272, 8192]⟩
abbrev S256x8192 : Shape := ⟨2, ![256, 8192]⟩
abbrev S1 : Shape := ⟨1, ![1]⟩
abbrev S1x1 : Shape := ⟨2, ![1, 1]⟩
abbrev S2x4x256x28x28 : Shape := ⟨5, ![2, 4, 256, 28, 28]⟩

abbrev nBuf : Space → Nat
  | .hbm => 260
  | .vmem => 0
  | .smem => 0
  | _ => 0

abbrev hbmTy0_0 (i : Nat) : BufTy := match i % 128 with
  | 0 => ⟨S2x4x3x224x224, .f32⟩
  | 1 => ⟨S8192x256, .f32⟩
  | 2 => ⟨S64x3x3x3, .f32⟩
  | 3 => ⟨S64, .f32⟩
  | 4 => ⟨S128x64x3x3, .f32⟩
  | 5 => ⟨S128, .f32⟩
  | 6 => ⟨S256x128x3x3, .f32⟩
  | 7 => ⟨S256, .f32⟩
  | 8 => ⟨S256x256x1x1, .f32⟩
  | 9 => ⟨S256, .f32⟩
  | 10 => ⟨S_, .f32⟩
  | 11 => ⟨S2x4x3x224x224, .f32⟩
  | 12 => ⟨S2x4x3x224x224, .f32⟩
  | 13 => ⟨S_, .f32⟩
  | 14 => ⟨S2x4x3x224x224, .f32⟩
  | 15 => ⟨S2x4x3x224x224, .f32⟩
  | 16 => ⟨S8x3x224x224, .f32⟩
  | 17 => ⟨S_, .i32⟩
  | 18 => ⟨S_, .f32⟩
  | 19 => ⟨S8x3x225x225, .f32⟩
  | 20 => ⟨S8x3x112x112, .f32⟩
  | 21 => ⟨S64x3x1x1, .f32⟩
  | 22 => ⟨S64x3, .f32⟩
  | 23 => ⟨S8x112x112x64, .f32⟩
  | 24 => ⟨S8x64x112x112, .f32⟩
  | 25 => ⟨S8x3x112x112, .f32⟩
  | 26 => ⟨S64x3x1x1, .f32⟩
  | 27 => ⟨S64x3, .f32⟩
  | 28 => ⟨S8x112x112x64, .f32⟩
  | 29 => ⟨S8x64x112x112, .f32⟩
  | 30 => ⟨S8x64x112x112, .f32⟩
  | 31 => ⟨S8x3x112x112, .f32⟩
  | 32 => ⟨S64x3x1x1, .f32⟩
  | 33 => ⟨S64x3, .f32⟩
  | 34 => ⟨S8x112x112x64, .f32⟩
  | 35 => ⟨S8x64x112x112, .f32⟩
  | 36 => ⟨S8x64x112x112, .f32⟩
  | 37 => ⟨S8x3x112x112, .f32⟩
  | 38 => ⟨S64x3x1x1, .f32⟩
  | 39 => ⟨S64x3, .f32⟩
  | 40 => ⟨S8x112x112x64, .f32⟩
  | 41 => ⟨S8x64x112x112, .f32⟩
  | 42 => ⟨S8x64x112x112, .f32⟩
  | 43 => ⟨S8x3x112x112, .f32⟩
  | 44 => ⟨S64x3x1x1, .f32⟩
  | 45 => ⟨S64x3, .f32⟩
  | 46 => ⟨S8x112x112x64, .f32⟩
  | 47 => ⟨S8x64x112x112, .f32⟩
  | 48 => ⟨S8x64x112x112, .f32⟩
  | 49 => ⟨S8x3x112x112, .f32⟩
  | 50 => ⟨S64x3x1x1, .f32⟩
  | 51 => ⟨S64x3, .f32⟩
  | 52 => ⟨S8x112x112x64, .f32⟩
  | 53 => ⟨S8x64x112x112, .f32⟩
  | 54 => ⟨S8x64x112x112, .f32⟩
  | 55 => ⟨S8x3x112x112, .f32⟩
  | 56 => ⟨S64x3x1x1, .f32⟩
  | 57 => ⟨S64x3, .f32⟩
  | 58 => ⟨S8x112x112x64, .f32⟩
  | 59 => ⟨S8x64x112x112, .f32⟩
  | 60 => ⟨S8x64x112x112, .f32⟩
  | 61 => ⟨S8x3x112x112, .f32⟩
  | 62 => ⟨S64x3x1x1, .f32⟩
  | 63 => ⟨S64x3, .f32⟩
  | 64 => ⟨S8x112x112x64, .f32⟩
  | 65 => ⟨S8x64x112x112, .f32⟩
  | 66 => ⟨S8x64x112x112, .f32⟩
  | 67 => ⟨S8x3x112x112, .f32⟩
  | 68 => ⟨S64x3x1x1, .f32⟩
  | 69 => ⟨S64x3, .f32⟩
  | 70 => ⟨S8x112x112x64, .f32⟩
  | 71 => ⟨S8x64x112x112, .f32⟩
  | 72 => ⟨S8x64x112x112, .f32⟩
  | 73 => ⟨S1x64x1x1, .f32⟩
  | 74 => ⟨S8x64x112x112, .f32⟩
  | 75 => ⟨S8x64x112x112, .f32⟩
  | 76 => ⟨S_, .f32⟩
  | 77 => ⟨S8x64x112x112, .f32⟩
  | 78 => ⟨S8x64x112x112, .f32⟩
  | 79 => ⟨S_, .i32⟩
  | 80 => ⟨S_, .f32⟩
  | 81 => ⟨S8x64x113x113, .f32⟩
  | 82 => ⟨S8x64x56x56, .f32⟩
  | 83 => ⟨S128x64x1x1, .f32⟩
  | 84 => ⟨S128x64, .f32⟩
  | 85 => ⟨S8x56x56x128, .f32⟩
  | 86 => ⟨S8x128x56x56, .f32⟩
  | 87 => ⟨S8x64x56x56, .f32⟩
  | 88 => ⟨S128x64x1x1, .f32⟩
  | 89 => ⟨S128x64, .f32⟩
  | 90 => ⟨S8x56x56x128, .f32⟩
  | 91 => ⟨S8x128x56x56, .f32⟩
  | 92 => ⟨S8x128x56x56, .f32⟩
  | 93 => ⟨S8x64x56x56, .f32⟩
  | 94 => ⟨S128x64x1x1, .f32⟩
  | 95 => ⟨S128x64, .f32⟩
  | 96 => ⟨S8x56x56x128, .f32⟩
  | 97 => ⟨S8x128x56x56, .f32⟩
  | 98 => ⟨S8x128x56x56, .f32⟩
  | 99 => ⟨S8x64x56x56, .f32⟩
  | 100 => ⟨S128x64x1x1, .f32⟩
  | 101 => ⟨S128x64, .f32⟩
  | 102 => ⟨S8x56x56x128, .f32⟩
  | 103 => ⟨S8x128x56x56, .f32⟩
  | 104 => ⟨S8x128x56x56, .f32⟩
  | 105 => ⟨S8x64x56x56, .f32⟩
  | 106 => ⟨S128x64x1x1, .f32⟩
  | 107 => ⟨S128x64, .f32⟩
  | 108 => ⟨S8x56x56x128, .f32⟩
  | 109 => ⟨S8x128x56x56, .f32⟩
  | 110 => ⟨S8x128x56x56, .f32⟩
  | 111 => ⟨S8x64x56x56, .f32⟩
  | 112 => ⟨S128x64x1x1, .f32⟩
  | 113 => ⟨S128x64, .f32⟩
  | 114 => ⟨S8x56x56x128, .f32⟩
  | 115 => ⟨S8x128x56x56, .f32⟩
  | 116 => ⟨S8x128x56x56, .f32⟩
  | 117 => ⟨S8x64x56x56, .f32⟩
  | 118 => ⟨S128x64x1x1, .f32⟩
  | 119 => ⟨S128x64, .f32⟩
  | 120 => ⟨S8x56x56x128, .f32⟩
  | 121 => ⟨S8x128x56x56, .f32⟩
  | 122 => ⟨S8x128x56x56, .f32⟩
  | 123 => ⟨S8x64x56x56, .f32⟩
  | 124 => ⟨S128x64x1x1, .f32⟩
  | 125 => ⟨S128x64, .f32⟩
  | 126 => ⟨S8x56x56x128, .f32⟩
  | 127 => ⟨S8x128x56x56, .f32⟩
  | _ => ⟨S2x4x3x224x224, .f32⟩

abbrev hbmTy0_1 (i : Nat) : BufTy := match i % 128 with
  | 0 => ⟨S8x128x56x56, .f32⟩
  | 1 => ⟨S8x64x56x56, .f32⟩
  | 2 => ⟨S128x64x1x1, .f32⟩
  | 3 => ⟨S128x64, .f32⟩
  | 4 => ⟨S8x56x56x128, .f32⟩
  | 5 => ⟨S8x128x56x56, .f32⟩
  | 6 => ⟨S8x128x56x56, .f32⟩
  | 7 => ⟨S1x128x1x1, .f32⟩
  | 8 => ⟨S8x128x56x56, .f32⟩
  | 9 => ⟨S8x128x56x56, .f32⟩
  | 10 => ⟨S_, .f32⟩
  | 11 => ⟨S8x128x56x56, .f32⟩
  | 12 => ⟨S8x128x56x56, .f32⟩
  | 13 => ⟨S_, .i32⟩
  | 14 => ⟨S_, .f32⟩
  | 15 => ⟨S8x128x57x57, .f32⟩
  | 16 => ⟨S8x128x28x28, .f32⟩
  | 17 => ⟨S256x128x1x1, .f32⟩
  | 18 => ⟨S256x128, .f32⟩
  | 19 => ⟨S8x28x28x256, .f32⟩
  | 20 => ⟨S8x256x28x28, .f32⟩
  | 21 => ⟨S8x128x28x28, .f32⟩
  | 22 => ⟨S256x128x1x1, .f32⟩
  | 23 => ⟨S256x128, .f32⟩
  | 24 => ⟨S8x28x28x256, .f32⟩
  | 25 => ⟨S8x256x28x28, .f32⟩
  | 26 => ⟨S8x256x28x28, .f32⟩
  | 27 => ⟨S8x128x28x28, .f32⟩
  | 28 => ⟨S256x128x1x1, .f32⟩
  | 29 => ⟨S256x128, .f32⟩
  | 30 => ⟨S8x28x28x256, .f32⟩
  | 31 => ⟨S8x256x28x28, .f32⟩
  | 32 => ⟨S8x256x28x28, .f32⟩
  | 33 => ⟨S8x128x28x28, .f32⟩
  | 34 => ⟨S256x128x1x1, .f32⟩
  | 35 => ⟨S256x128, .f32⟩
  | 36 => ⟨S8x28x28x256, .f32⟩
  | 37 => ⟨S8x256x28x28, .f32⟩
  | 38 => ⟨S8x256x28x28, .f32⟩
  | 39 => ⟨S8x128x28x28, .f32⟩
  | 40 => ⟨S256x128x1x1, .f32⟩
  | 41 => ⟨S256x128, .f32⟩
  | 42 => ⟨S8x28x28x256, .f32⟩
  | 43 => ⟨S8x256x28x28, .f32⟩
  | 44 => ⟨S8x256x28x28, .f32⟩
  | 45 => ⟨S8x128x28x28, .f32⟩
  | 46 => ⟨S256x128x1x1, .f32⟩
  | 47 => ⟨S256x128, .f32⟩
  | 48 => ⟨S8x28x28x256, .f32⟩
  | 49 => ⟨S8x256x28x28, .f32⟩
  | 50 => ⟨S8x256x28x28, .f32⟩
  | 51 => ⟨S8x128x28x28, .f32⟩
  | 52 => ⟨S256x128x1x1, .f32⟩
  | 53 => ⟨S256x128, .f32⟩
  | 54 => ⟨S8x28x28x256, .f32⟩
  | 55 => ⟨S8x256x28x28, .f32⟩
  | 56 => ⟨S8x256x28x28, .f32⟩
  | 57 => ⟨S8x128x28x28, .f32⟩
  | 58 => ⟨S256x128x1x1, .f32⟩
  | 59 => ⟨S256x128, .f32⟩
  | 60 => ⟨S8x28x28x256, .f32⟩
  | 61 => ⟨S8x256x28x28, .f32⟩
  | 62 => ⟨S8x256x28x28, .f32⟩
  | 63 => ⟨S8x128x28x28, .f32⟩
  | 64 => ⟨S256x128x1x1, .f32⟩
  | 65 => ⟨S256x128, .f32⟩
  | 66 => ⟨S8x28x28x256, .f32⟩
  | 67 => ⟨S8x256x28x28, .f32⟩
  | 68 => ⟨S8x256x28x28, .f32⟩
  | 69 => ⟨S1x256x1x1, .f32⟩
  | 70 => ⟨S8x256x28x28, .f32⟩
  | 71 => ⟨S8x256x28x28, .f32⟩
  | 72 => ⟨S_, .f32⟩
  | 73 => ⟨S8x256x28x28, .f32⟩
  | 74 => ⟨S8x256x28x28, .f32⟩
  | 75 => ⟨S256x256, .f32⟩
  | 76 => ⟨S8x28x28x256, .f32⟩
  | 77 => ⟨S8x256x28x28, .f32⟩
  | 78 => ⟨S1x256x1x1, .f32⟩
  | 79 => ⟨S8x256x28x28, .f32⟩
  | 80 => ⟨S8x256x28x28, .f32⟩
  | 81 => ⟨S8x28x28x256, .f32⟩
  | 82 => ⟨S6272x256, .f32⟩
  | 83 => ⟨S6272x256, .f32⟩
  | 84 => ⟨S_, .f32⟩
  | 85 => ⟨S6272, .f32⟩
  | 86 => ⟨S6272x1, .f32⟩
  | 87 => ⟨S8192x256, .f32⟩
  | 88 => ⟨S_, .f32⟩
  | 89 => ⟨S8192, .f32⟩
  | 90 => ⟨S1x8192, .f32⟩
  | 91 => ⟨S6272x8192, .f32⟩
  | 92 => ⟨S6272x8192, .f32⟩
  | 93 => ⟨S6272x8192, .f32⟩
  | 94 => ⟨S256x8192, .f32⟩
  | 95 => ⟨S6272x8192, .f32⟩
  | 96 => ⟨S_, .f32⟩
  | 97 => ⟨S6272x8192, .f32⟩
  | 98 => ⟨S6272x8192, .f32⟩
  | 99 => ⟨S6272x8192, .f32⟩
  | 100 => ⟨S6272x8192, .i32⟩
  | 101 => ⟨S_, .f32⟩
  | 102 => ⟨S_, .i32⟩
  | 103 => ⟨S6272, .f32⟩
  | 104 => ⟨S6272, .i32⟩
  | 105 => ⟨S_, .i32⟩
  | 106 => ⟨S6272, .i32⟩
  | 107 => ⟨S6272, .i1⟩
  | 108 => ⟨S_, .i32⟩
  | 109 => ⟨S6272, .i32⟩
  | 110 => ⟨S6272, .i32⟩
  | 111 => ⟨S6272, .i32⟩
  | 112 => ⟨S6272x1, .i32⟩
  | 113 => ⟨S1, .i32⟩
  | 114 => ⟨S_, .i32⟩
  | 115 => ⟨S6272x1, .i32⟩
  | 116 => ⟨S6272x1, .i1⟩
  | 117 => ⟨S1x1, .i32⟩
  | 118 => ⟨S6272x1, .i32⟩
  | 119 => ⟨S6272x1, .i1⟩
  | 120 => ⟨S6272x1, .i1⟩
  | 121 => ⟨S_, .i1⟩
  | 122 => ⟨S6272, .i1⟩
  | 123 => ⟨S6272x256, .f32⟩
  | 124 => ⟨S6272x256, .i1⟩
  | 125 => ⟨S_, .f32⟩
  | 126 => ⟨S6272x256, .f32⟩
  | 127 => ⟨S6272x256, .f32⟩
  | _ => ⟨S2x4x3x224x224, .f32⟩

abbrev hbmTy0_2 (i : Nat) : BufTy := match i % 128 with
  | 0 => ⟨S8x28x28x256, .f32⟩
  | 1 => ⟨S8x256x28x28, .f32⟩
  | 2 => ⟨S2x4x256x28x28, .f32⟩
  | 3 => ⟨S2x4x256x28x28, .f32⟩
  | _ => ⟨S2x4x3x224x224, .f32⟩

abbrev hbmTy (i : Nat) : BufTy := match i / 128 with
  | 0 => hbmTy0_0 i
  | 1 => hbmTy0_1 i
  | 2 => hbmTy0_2 i
  | _ => ⟨S2x4x3x224x224, .f32⟩

abbrev bufTy : (tb : Table) → Fin (tcTables nBuf tb) → BufTy
  | .hbm, ⟨i, _⟩ => hbmTy i
  | _, _ => ⟨S2x4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_1 : Ref sig .tc := ⟨.hbm, 76, rfl⟩
abbrev main_v62 : Ref sig .tc := ⟨.hbm, 77, rfl⟩
abbrev main_v63 : Ref sig .tc := ⟨.hbm, 78, rfl⟩
abbrev main_c_2 : Ref sig .tc := ⟨.hbm, 79, rfl⟩
abbrev main_call1_v0 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_3 : Ref sig .tc := ⟨.hbm, 138, rfl⟩
abbrev main_v121 : Ref sig .tc := ⟨.hbm, 139, rfl⟩
abbrev main_v122 : Ref sig .tc := ⟨.hbm, 140, rfl⟩
abbrev main_c_4 : Ref sig .tc := ⟨.hbm, 141, rfl⟩
abbrev main_call2_v0 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_cst_5 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_cst_6 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_cst_7 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_cst_8 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_call3_v0 : Ref sig .tc := ⟨.hbm, 228, rfl⟩
abbrev main_call3_cst : Ref sig .tc := ⟨.hbm, 229, rfl⟩
abbrev main_call3_c : Ref sig .tc := ⟨.hbm, 230, rfl⟩
abbrev main_call3_v1_0 : Ref sig .tc := ⟨.hbm, 231, rfl⟩
abbrev main_v204 : Ref sig .tc := ⟨.hbm, 232, rfl⟩
abbrev main_call4_c : Ref sig .tc := ⟨.hbm, 233, rfl⟩
abbrev main_call4_v0 : Ref sig .tc := ⟨.hbm, 234, rfl⟩
abbrev main_call4_v1 : Ref sig .tc := ⟨.hbm, 235, rfl⟩
abbrev main_call4_c_0 : Ref sig .tc := ⟨.hbm, 236, rfl⟩
abbrev main_call4_v2 : Ref sig .tc := ⟨.hbm, 237, rfl⟩
abbrev main_call4_v3 : Ref sig .tc := ⟨.hbm, 238, rfl⟩
abbrev main_call4_v4 : Ref sig .tc := ⟨.hbm, 239, rfl⟩
abbrev main_call4_v5 : Ref sig .tc := ⟨.hbm, 240, rfl⟩
abbrev main_call4_c_1 : Ref sig .tc := ⟨.hbm, 241, rfl⟩
abbrev main_call4_c_2 : Ref sig .tc := ⟨.hbm, 242, rfl⟩
abbrev main_call4_v6 : Ref sig .tc := ⟨.hbm, 243, rfl⟩
abbrev main_call4_v7 : Ref sig .tc := ⟨.hbm, 244, rfl⟩
abbrev main_call4_v8 : Ref sig .tc := ⟨.hbm, 245, rfl⟩
abbrev main_call4_v9 : Ref sig .tc := ⟨.hbm, 246, rfl⟩
abbrev main_call4_v10 : Ref sig .tc := ⟨.hbm, 247, rfl⟩
abbrev main_call4_v11 : Ref sig .tc := ⟨.hbm, 248, rfl⟩
abbrev main_call4_c_3 : Ref sig .tc := ⟨.hbm, 249, rfl⟩
abbrev main_call4_v12 : Ref sig .tc := ⟨.hbm, 250, rfl⟩
abbrev main_call4_v13 : Ref sig .tc := ⟨.hbm, 251, rfl⟩
abbrev main_call4_v14 : Ref sig .tc := ⟨.hbm, 252, rfl⟩
abbrev main_call4_cst : Ref sig .tc := ⟨.hbm, 253, rfl⟩
abbrev main_call4_v15 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩

abbrev nD : Nat := 1
abbrev τ : Topo := Topo.v7x

variable {F : FTy → Type} [FloatOps F]
-- ==== Decoder.lean ====
abbrev S2x4x256x28x28 : Shape := ⟨5, ![2, 4, 256, 28, 28]⟩
abbrev S256x256x1x1 : Shape := ⟨4, ![256, 256, 1, 1]⟩
abbrev S256 : Shape := ⟨1, ![256]⟩
abbrev S128x256x3x3 : Shape := ⟨4, ![128, 256, 3, 3]⟩
abbrev S128 : Shape := ⟨1, ![128]⟩
abbrev S64x128x3x3 : Shape := ⟨4, ![64, 128, 3, 3]⟩
abbrev S64 : Shape := ⟨1, ![64]⟩
abbrev S3x64x3x3 : Shape := ⟨4, ![3, 64, 3, 3]⟩
abbrev S3 : Shape := ⟨1, ![3]⟩
abbrev S8x256x784 : Shape := ⟨3, ![8, 256, 784]⟩
abbrev S256x256 : Shape := ⟨2, ![256, 256]⟩
abbrev S256x1 : Shape := ⟨2, ![256, 1]⟩
abbrev S1x256x784 : Shape := ⟨3, ![1, 256, 784]⟩
abbrev S256x784 : Shape := ⟨2, ![256, 784]⟩
abbrev S8x256x28x28 : Shape := ⟨4, ![8, 256, 28, 28]⟩
abbrev S_ : Shape := ⟨0, ![]⟩
abbrev S8x256x29x29 : Shape := ⟨4, ![8, 256, 29, 29]⟩
abbrev S3x3x256x128 : Shape := ⟨4, ![3, 3, 256, 128]⟩
abbrev S9x256x128 : Shape := ⟨3, ![9, 256, 128]⟩
abbrev S9x128x256 : Shape := ⟨3, ![9, 128, 256]⟩
abbrev S128x1 : Shape := ⟨2, ![128, 1]⟩
abbrev S8x128x784 : Shape := ⟨3, ![8, 128, 784]⟩
abbrev S1x128x784 : Shape := ⟨3, ![1, 128, 784]⟩
abbrev S1x128x256 : Shape := ⟨3, ![1, 128, 256]⟩
abbrev S128x256 : Shape := ⟨2, ![128, 256]⟩
abbrev S128x784 : Shape := ⟨2, ![128, 784]⟩
abbrev S1x8x128x784 : Shape := ⟨4, ![1, 8, 128, 784]⟩
abbrev S4x8x128x784 : Shape := ⟨4, ![4, 8, 128, 784]⟩
abbrev S2x2x8x128x28x28 : Shape := ⟨6, ![2, 2, 8, 128, 28, 28]⟩
abbrev S8x128x28x2x28x2 : Shape := ⟨6, ![8, 128, 28, 2, 28, 2]⟩
abbrev S8x128x56x56 : Shape := ⟨4, ![8, 128, 56, 56]⟩
abbrev S8x128x57x57 : Shape := ⟨4, ![8, 128, 57, 57]⟩
abbrev S8x128x3136 : Shape := ⟨3, ![8, 128, 3136]⟩
abbrev S3x3x128x64 : Shape := ⟨4, ![3, 3, 128, 64]⟩
abbrev S9x128x64 : Shape := ⟨3, ![9, 128, 64]⟩
abbrev S9x64x128 : Shape := ⟨3, ![9, 64, 128]⟩
abbrev S64x1 : Shape := ⟨2, ![64, 1]⟩
abbrev S8x64x3136 : Shape := ⟨3, ![8, 64, 3136]⟩
abbrev S1x128x3136 : Shape := ⟨3, ![1, 128, 3136]⟩
abbrev S1x64x3136 : Shape := ⟨3, ![1, 64, 3136]⟩
abbrev S1x64x128 : Shape := ⟨3, ![1, 64, 128]⟩
abbrev S64x128 : Shape := ⟨2, ![64, 128]⟩
abbrev S128x3136 : Shape := ⟨2, ![128, 3136]⟩
abbrev S64x3136 : Shape := ⟨2, ![64, 3136]⟩
abbrev S1x8x64x3136 : Shape := ⟨4, ![1, 8, 64, 3136]⟩
abbrev S4x8x64x3136 : Shape := ⟨4, ![4, 8, 64, 3136]⟩
abbrev S2x2x8x64x56x56 : Shape := ⟨6, ![2, 2, 8, 64, 56, 56]⟩
abbrev S8x64x56x2x56x2 : Shape := ⟨6, ![8, 64, 56, 2, 56, 2]⟩
abbrev S8x64x112x112 : Shape := ⟨4, ![8, 64, 112, 112]⟩
abbrev S8x64x113x113 : Shape := ⟨4, ![8, 64, 113, 113]⟩
abbrev S8x64x12544 : Shape := ⟨3, ![8, 64, 12544]⟩
abbrev S3x3x64x3 : Shape := ⟨4, ![3, 3, 64, 3]⟩
abbrev S9x64x3 : Shape := ⟨3, ![9, 64, 3]⟩
abbrev S9x3x64 : Shape := ⟨3, ![9, 3, 64]⟩
abbrev S3x1 : Shape := ⟨2, ![3, 1]⟩
abbrev S8x3x12544 : Shape := ⟨3, ![8, 3, 12544]⟩
abbrev S1x64x12544 : Shape := ⟨3, ![1, 64, 12544]⟩
abbrev S1x3x12544 : Shape := ⟨3, ![1, 3, 12544]⟩
abbrev S1x3x64 : Shape := ⟨3, ![1, 3, 64]⟩
abbrev S3x64 : Shape := ⟨2, ![3, 64]⟩
abbrev S64x12544 : Shape := ⟨2, ![64, 12544]⟩
abbrev S3x12544 : Shape := ⟨2, ![3, 12544]⟩
abbrev S1x8x3x12544 : Shape := ⟨4, ![1, 8, 3, 12544]⟩
abbrev S4x8x3x12544 : Shape := ⟨4, ![4, 8, 3, 12544]⟩
abbrev S2x2x8x3x112x112 : Shape := ⟨6, ![2, 2, 8, 3, 112, 112]⟩
abbrev S8x3x112x2x112x2 : Shape := ⟨6, ![8, 3, 112, 2, 112, 2]⟩
abbrev S8x3x224x224 : Shape := ⟨4, ![8, 3, 224, 224]⟩
abbrev S2x4x3x224x224 : Shape := ⟨5, ![2, 4, 3, 224, 224]⟩

abbrev nBuf : Space → Nat
  | .hbm => 97
  | .vmem => 60
  | .smem => 0
  | _ => 0

abbrev bufTy : (tb : Table) → Fin (tcTables nBuf tb) → BufTy
  | .hbm, ⟨0, _⟩ => ⟨S2x4x256x28x28, .f32⟩
  | .hbm, ⟨1, _⟩ => ⟨S2x4x256x28x28, .f32⟩
  | .hbm, ⟨2, _⟩ => ⟨S256x256x1x1, .f32⟩
  | .hbm, ⟨3, _⟩ => ⟨S256, .f32⟩
  | .hbm, ⟨4, _⟩ => ⟨S128x256x3x3, .f32⟩
  | .hbm, ⟨5, _⟩ => ⟨S128, .f32⟩
  | .hbm, ⟨6, _⟩ => ⟨S64x128x3x3, .f32⟩
  | .hbm, ⟨7, _⟩ => ⟨S64, .f32⟩
  | .hbm, ⟨8, _⟩ => ⟨S3x64x3x3, .f32⟩
  | .hbm, ⟨9, _⟩ => ⟨S3, .f32⟩
  | .hbm, ⟨10, _⟩ => ⟨S8x256x784, .f32⟩
  | .hbm, ⟨11, _⟩ => ⟨S256x256, .f32⟩
  | .hbm, ⟨12, _⟩ => ⟨S256x1, .f32⟩
  | .hbm, ⟨13, _⟩ => ⟨S8x256x784, .f32⟩
  | .hbm, ⟨14, _⟩ => ⟨S8x256x28x28, .f32⟩
  | .hbm, ⟨15, _⟩ => ⟨S_, .i32⟩
  | .hbm, ⟨16, _⟩ => ⟨S_, .f32⟩
  | .hbm, ⟨17, _⟩ => ⟨S8x256x29x29, .f32⟩
  | .hbm, ⟨18, _⟩ => ⟨S8x256x28x28, .f32⟩
  | .hbm, ⟨19, _⟩ => ⟨S8x256x784, .f32⟩
  | .hbm, ⟨20, _⟩ => ⟨S8x256x28x28, .f32⟩
  | .hbm, ⟨21, _⟩ => ⟨S8x256x784, .f32⟩
  | .hbm, ⟨22, _⟩ => ⟨S8x256x28x28, .f32⟩
  | .hbm, ⟨23, _⟩ => ⟨S8x256x784, .f32⟩
  | .hbm, ⟨24, _⟩ => ⟨S8x256x28x28, .f32⟩
  | .hbm, ⟨25, _⟩ => ⟨S8x256x784, .f32⟩
  | .hbm, ⟨26, _⟩ => ⟨S3x3x256x128, .f32⟩
  | .hbm, ⟨27, _⟩ => ⟨S9x256x128, .f32⟩
  | .hbm, ⟨28, _⟩ => ⟨S9x128x256, .f32⟩
  | .hbm, ⟨29, _⟩ => ⟨S128x1, .f32⟩
  | .hbm, ⟨30, _⟩ => ⟨S8x128x784, .f32⟩
  | .hbm, ⟨31, _⟩ => ⟨S8x128x784, .f32⟩
  | .hbm, ⟨32, _⟩ => ⟨S8x128x784, .f32⟩
  | .hbm, ⟨33, _⟩ => ⟨S8x128x784, .f32⟩
  | .hbm, ⟨34, _⟩ => ⟨S1x8x128x784, .f32⟩
  | .hbm, ⟨35, _⟩ => ⟨S1x8x128x784, .f32⟩
  | .hbm, ⟨36, _⟩ => ⟨S1x8x128x784, .f32⟩
  | .hbm, ⟨37, _⟩ => ⟨S1x8x128x784, .f32⟩
  | .hbm, ⟨38, _⟩ => ⟨S4x8x128x784, .f32⟩
  | .hbm, ⟨39, _⟩ => ⟨S2x2x8x128x28x28, .f32⟩
  | .hbm, ⟨40, _⟩ => ⟨S8x128x28x2x28x2, .f32⟩
  | .hbm, ⟨41, _⟩ => ⟨S8x128x56x56, .f32⟩
  | .hbm, ⟨42, _⟩ => ⟨S_, .i32⟩
  | .hbm, ⟨43, _⟩ => ⟨S_, .f32⟩
  | .hbm, ⟨44, _⟩ => ⟨S8x128x57x57, .f32⟩
  | .hbm, ⟨45, _⟩ => ⟨S8x128x56x56, .f32⟩
  | .hbm, ⟨46, _⟩ => ⟨S8x128x3136, .f32⟩
  | .hbm, ⟨47, _⟩ => ⟨S8x128x56x56, .f32⟩
  | .hbm, ⟨48, _⟩ => ⟨S8x128x3136, .f32⟩
  | .hbm, ⟨49, _⟩ => ⟨S8x128x56x56, .f32⟩
  | .hbm, ⟨50, _⟩ => ⟨S8x128x3136, .f32⟩
  | .hbm, ⟨51, _⟩ => ⟨S8x128x56x56, .f32⟩
  | .hbm, ⟨52, _⟩ => ⟨S8x128x3136, .f32⟩
  | .hbm, ⟨53, _⟩ => ⟨S3x3x128x64, .f32⟩
  | .hbm, ⟨54, _⟩ => ⟨S9x128x64, .f32⟩
  | .hbm, ⟨55, _⟩ => ⟨S9x64x128, .f32⟩
  | .hbm, ⟨56, _⟩ => ⟨S64x1, .f32⟩
  | .hbm, ⟨57, _⟩ => ⟨S8x64x3136, .f32⟩
  | .hbm, ⟨58, _⟩ => ⟨S8x64x3136, .f32⟩
  | .hbm, ⟨59, _⟩ => ⟨S8x64x3136, .f32⟩
  | .hbm, ⟨60, _⟩ => ⟨S8x64x3136, .f32⟩
  | .hbm, ⟨61, _⟩ => ⟨S1x8x64x3136, .f32⟩
  | .hbm, ⟨62, _⟩ => ⟨S1x8x64x3136, .f32⟩
  | .hbm, ⟨63, _⟩ => ⟨S1x8x64x3136, .f32⟩
  | .hbm, ⟨64, _⟩ => ⟨S1x8x64x3136, .f32⟩
  | .hbm, ⟨65, _⟩ => ⟨S4x8x64x3136, .f32⟩
  | .hbm, ⟨66, _⟩ => ⟨S2x2x8x64x56x56, .f32⟩
  | .hbm, ⟨67, _⟩ => ⟨S8x64x56x2x56x2, .f32⟩
  | .hbm, ⟨68, _⟩ => ⟨S8x64x112x112, .f32⟩
  | .hbm, ⟨69, _⟩ => ⟨S_, .i32⟩
  | .hbm, ⟨70, _⟩ => ⟨S_, .f32⟩
  | .hbm, ⟨71, _⟩ => ⟨S8x64x113x113, .f32⟩
  | .hbm, ⟨72, _⟩ => ⟨S8x64x112x112, .f32⟩
  | .hbm, ⟨73, _⟩ => ⟨S8x64x12544, .f32⟩
  | .hbm, ⟨74, _⟩ => ⟨S8x64x112x112, .f32⟩
  | .hbm, ⟨75, _⟩ => ⟨S8x64x12544, .f32⟩
  | .hbm, ⟨76, _⟩ => ⟨S8x64x112x112, .f32⟩
  | .hbm, ⟨77, _⟩ => ⟨S8x64x12544, .f32⟩
  | .hbm, ⟨78, _⟩ => ⟨S8x64x112x112, .f32⟩
  | .hbm, ⟨79, _⟩ => ⟨S8x64x12544, .f32⟩
  | .hbm, ⟨80, _⟩ => ⟨S3x3x64x3, .f32⟩
  | .hbm, ⟨81, _⟩ => ⟨S9x64x3, .f32⟩
  | .hbm, ⟨82, _⟩ => ⟨S9x3x64, .f32⟩
  | .hbm, ⟨83, _⟩ => ⟨S3x1, .f32⟩
  | .hbm, ⟨84, _⟩ => ⟨S8x3x12544, .f32⟩
  | .hbm, ⟨85, _⟩ => ⟨S8x3x12544, .f32⟩
  | .hbm, ⟨86, _⟩ => ⟨S8x3x12544, .f32⟩
  | .hbm, ⟨87, _⟩ => ⟨S8x3x12544, .f32⟩
  | .hbm, ⟨88, _⟩ => ⟨S1x8x3x12544, .f32⟩
  | .hbm, ⟨89, _⟩ => ⟨S1x8x3x12544, .f32⟩
  | .hbm, ⟨90, _⟩ => ⟨S1x8x3x12544, .f32⟩
  | .hbm, ⟨91, _⟩ => ⟨S1x8x3x12544, .f32⟩
  | .hbm, ⟨92, _⟩ => ⟨S4x8x3x12544, .f32⟩
  | .hbm, ⟨93, _⟩ => ⟨S2x2x8x3x112x112, .f32⟩
  | .hbm, ⟨94, _⟩ => ⟨S8x3x112x2x112x2, .f32⟩
  | .hbm, ⟨95, _⟩ => ⟨S8x3x224x224, .f32⟩
  | .hbm, ⟨96, _⟩ => ⟨S2x4x3x224x224, .f32⟩
  | .local _ .vmem, ⟨0, _⟩ => ⟨S1x256x784, .f32⟩
  | .local _ .vmem, ⟨1, _⟩ => ⟨S1x256x784, .f32⟩
  | .local _ .vmem, ⟨2, _⟩ => ⟨S256x256, .f32⟩
  | .local _ .vmem, ⟨3, _⟩ => ⟨S256x1, .f32⟩
  | .local _ .vmem, ⟨4, _⟩ => ⟨S1x256x784, .f32⟩
  | .local _ .vmem, ⟨5, _⟩ => ⟨S1x256x784, .f32⟩
  | .local _ .vmem, ⟨6, _⟩ => ⟨S1x256x784, .f32⟩
  | .local _ .vmem, ⟨7, _⟩ => ⟨S1x256x784, .f32⟩
  | .local _ .vmem, ⟨8, _⟩ => ⟨S1x256x784, .f32⟩
  | .local _ .vmem, ⟨9, _⟩ => ⟨S1x256x784, .f32⟩
  | .local _ .vmem, ⟨10, _⟩ => ⟨S1x256x784, .f32⟩
  | .local _ .vmem, ⟨11, _⟩ => ⟨S1x256x784, .f32⟩
  | .local _ .vmem, ⟨12, _⟩ => ⟨S1x256x784, .f32⟩
  | .local _ .vmem, ⟨13, _⟩ => ⟨S1x256x784, .f32⟩
  | .local _ .vmem, ⟨14, _⟩ => ⟨S9x128x256, .f32⟩
  | .local _ .vmem, ⟨15, _⟩ => ⟨S128x1, .f32⟩
  | .local _ .vmem, ⟨16, _⟩ => ⟨S1x128x784, .f32⟩
  | .local _ .vmem, ⟨17, _⟩ => ⟨S1x128x784, .f32⟩
  | .local _ .vmem, ⟨18, _⟩ => ⟨S1x128x784, .f32⟩
  | .local _ .vmem, ⟨19, _⟩ => ⟨S1x128x784, .f32⟩
  | .local _ .vmem, ⟨20, _⟩ => ⟨S1x128x784, .f32⟩
  | .local _ .vmem, ⟨21, _⟩ => ⟨S1x128x784, .f32⟩
  | .local _ .vmem, ⟨22, _⟩ => ⟨S1x128x784, .f32⟩
  | .local _ .vmem, ⟨23, _⟩ => ⟨S1x128x784, .f32⟩
  | .local _ .vmem, ⟨24, _⟩ => ⟨S1x128x3136, .f32⟩
  | .local _ .vmem, ⟨25, _⟩ => ⟨S1x128x3136, .f32⟩
  | .local _ .vmem, ⟨26, _⟩ => ⟨S1x128x3136, .f32⟩
  | .local _ .vmem, ⟨27, _⟩ => ⟨S1x128x3136, .f32⟩
  | .local _ .vmem, ⟨28, _⟩ => ⟨S1x128x3136, .f32⟩
  | .local _ .vmem, ⟨29, _⟩ => ⟨S1x128x3136, .f32⟩
  | .local _ .vmem, ⟨30, _⟩ => ⟨S1x128x3136, .f32⟩
  | .local _ .vmem, ⟨31, _⟩ => ⟨S1x128x3136, .f32⟩
  | .local _ .vmem, ⟨32, _⟩ => ⟨S9x64x128, .f32⟩
  | .local _ .vmem, ⟨33, _⟩ => ⟨S64x1, .f32⟩
  | .local _ .vmem, ⟨34, _⟩ => ⟨S1x64x3136, .f32⟩
  | .local _ .vmem, ⟨35, _⟩ => ⟨S1x64x3136, .f32⟩
  | .local _ .vmem, ⟨36, _⟩ => ⟨S1x64x3136, .f32⟩
  | .local _ .vmem, ⟨37, _⟩ => ⟨S1x64x3136, .f32⟩
  | .local _ .vmem, ⟨38, _⟩ => ⟨S1x64x3136, .f32⟩
  | .local _ .vmem, ⟨39, _⟩ => ⟨S1x64x3136, .f32⟩
  | .local _ .vmem, ⟨40, _⟩ => ⟨S1x64x3136, .f32⟩
  | .local _ .vmem, ⟨41, _⟩ => ⟨S1x64x3136, .f32⟩
  | .local _ .vmem, ⟨42, _⟩ => ⟨S1x64x12544, .f32⟩
  | .local _ .vmem, ⟨43, _⟩ => ⟨S1x64x12544, .f32⟩
  | .local _ .vmem, ⟨44, _⟩ => ⟨S1x64x12544, .f32⟩
  | .local _ .vmem, ⟨45, _⟩ => ⟨S1x64x12544, .f32⟩
  | .local _ .vmem, ⟨46, _⟩ => ⟨S1x64x12544, .f32⟩
  | .local _ .vmem, ⟨47, _⟩ => ⟨S1x64x12544, .f32⟩
  | .local _ .vmem, ⟨48, _⟩ => ⟨S1x64x12544, .f32⟩
  | .local _ .vmem, ⟨49, _⟩ => ⟨S1x64x12544, .f32⟩
  | .local _ .vmem, ⟨50, _⟩ => ⟨S9x3x64, .f32⟩
  | .local _ .vmem, ⟨51, _⟩ => ⟨S3x1, .f32⟩
  | .local _ .vmem, ⟨52, _⟩ => ⟨S1x3x12544, .f32⟩
  | .local _ .vmem, ⟨53, _⟩ => ⟨S1x3x12544, .f32⟩
  | .local _ .vmem, ⟨54, _⟩ => ⟨S1x3x12544, .f32⟩
  | .local _ .vmem, ⟨55, _⟩ => ⟨S1x3x12544, .f32⟩
  | .local _ .vmem, ⟨56, _⟩ => ⟨S1x3x12544, .f32⟩
  | .local _ .vmem, ⟨57, _⟩ => ⟨S1x3x12544, .f32⟩
  | .local _ .vmem, ⟨58, _⟩ => ⟨S1x3x12544, .f32⟩
  | .local _ .vmem, ⟨59, _⟩ => ⟨S1x3x12544, .f32⟩
  | _, _ => ⟨S2x4x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_0 : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev main_v40_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_1 : Ref sig .tc := ⟨.hbm, 69, rfl⟩
abbrev main_call2_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62_0 : Ref sig .tc := ⟨.hbm, 84, rfl⟩
abbrev main_v62_1 : Ref sig .tc := ⟨.hbm, 85, rfl⟩
abbrev main_v62_2 : Ref sig .tc := ⟨.hbm, 86, rfl⟩
abbrev main_v62_3 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg6_1 : Ref sig .tc := ⟨.vmem, 53, rfl⟩
abbrev cc3_stg7_0 : Ref sig .tc := ⟨.vmem, 54, rfl⟩
abbrev cc3_stg7_1 : Ref sig .tc := ⟨.vmem, 55, rfl⟩
abbrev cc3_stg8_0 : Ref sig .tc := ⟨.vmem, 56, rfl⟩
abbrev cc3_stg8_1 : Ref sig .tc := ⟨.vmem, 57, rfl⟩
abbrev cc3_stg9_0 : Ref sig .tc := ⟨.vmem, 58, rfl⟩
abbrev cc3_stg9_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem5_0 : DmaSem sig := 51
abbrev cc3_sem6_0 : DmaSem sig := 52
abbrev cc3_sem6_1 : DmaSem sig := 53
abbrev cc3_sem7_0 : DmaSem sig := 54
abbrev cc3_sem7_1 : DmaSem sig := 55
abbrev cc3_sem8_0 : DmaSem sig := 56
abbrev cc3_sem8_1 : DmaSem sig := 57
abbrev cc3_sem9_0 : DmaSem sig := 58
abbrev cc3_sem9_1 : DmaSem sig := 59

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x784 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x784 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x784 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S9x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x128x784 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x784 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x784 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128x784 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x3136 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x3136 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x3136 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x3136 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S9x64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x64x3136 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x64x3136 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x64x3136 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x64x3136 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x64x12544 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x64x12544 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x64x12544 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x64x12544 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S9x3x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x3x12544 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x3x12544 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x3x12544 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x3x12544 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== DecoderReferenceIdeal.lean ====
abbrev S2x4x256x28x28 : Shape := ⟨5, ![2, 4, 256, 28, 28]⟩
abbrev S256x256x1x1 : Shape := ⟨4, ![256, 256, 1, 1]⟩
abbrev S256 : Shape := ⟨1, ![256]⟩
abbrev S128x256x3x3 : Shape := ⟨4, ![128, 256, 3, 3]⟩
abbrev S128 : Shape := ⟨1, ![128]⟩
abbrev S64x128x3x3 : Shape := ⟨4, ![64, 128, 3, 3]⟩
abbrev S64 : Shape := ⟨1, ![64]⟩
abbrev S3x64x3x3 : Shape := ⟨4, ![3, 64, 3, 3]⟩
abbrev S3 : Shape := ⟨1, ![3]⟩
abbrev S8x256x28x28 : Shape := ⟨4, ![8, 256, 28, 28]⟩
abbrev S256x256 : Shape := ⟨2, ![256, 256]⟩
abbrev S8x28x28x256 : Shape := ⟨4, ![8, 28, 28, 256]⟩
abbrev S1x256x1x1 : Shape := ⟨4, ![1, 256, 1, 1]⟩
abbrev S_ : Shape := ⟨0, ![]⟩
abbrev S8x256x58x58 : Shape := ⟨4, ![8, 256, 58, 58]⟩
abbrev S128x256x1x1 : Shape := ⟨4, ![128, 256, 1, 1]⟩
abbrev S128x256 : Shape := ⟨2, ![128, 256]⟩
abbrev S8x256x56x56 : Shape := ⟨4, ![8, 256, 56, 56]⟩
abbrev S8x56x56x128 : Shape := ⟨4, ![8, 56, 56, 128]⟩
abbrev S8x128x56x56 : Shape := ⟨4, ![8, 128, 56, 56]⟩
abbrev S1x128x1x1 : Shape := ⟨4, ![1, 128, 1, 1]⟩
abbrev S8x128x114x114 : Shape := ⟨4, ![8, 128, 114, 114]⟩
abbrev S64x128x1x1 : Shape := ⟨4, ![64, 128, 1, 1]⟩
abbrev S64x128 : Shape := ⟨2, ![64, 128]⟩
abbrev S8x128x112x112 : Shape := ⟨4, ![8, 128, 112, 112]⟩
abbrev S8x112x112x64 : Shape := ⟨4, ![8, 112, 112, 64]⟩
abbrev S8x64x112x112 : Shape := ⟨4, ![8, 64, 112, 112]⟩
abbrev S1x64x1x1 : Shape := ⟨4, ![1, 64, 1, 1]⟩
abbrev S8x64x226x226 : Shape := ⟨4, ![8, 64, 226, 226]⟩
abbrev S3x64x1x1 : Shape := ⟨4, ![3, 64, 1, 1]⟩
abbrev S3x64 : Shape := ⟨2, ![3, 64]⟩
abbrev S8x64x224x224 : Shape := ⟨4, ![8, 64, 224, 224]⟩
abbrev S8x224x224x3 : Shape := ⟨4, ![8, 224, 224, 3]⟩
abbrev S8x3x224x224 : Shape := ⟨4, ![8, 3, 224, 224]⟩
abbrev S1x3x1x1 : Shape := ⟨4, ![1, 3, 1, 1]⟩
abbrev S2x4x3x224x224 : Shape := ⟨5, ![2, 4, 3, 224, 224]⟩

abbrev nBuf : Space → Nat
  | .hbm => 201
  | .vmem => 0
  | .smem => 0
  | _ => 0

abbrev hbmTy0_0 (i : Nat) : BufTy := match i % 128 with
  | 0 => ⟨S2x4x256x28x28, .f32⟩
  | 1 => ⟨S2x4x256x28x28, .f32⟩
  | 2 => ⟨S256x256x1x1, .f32⟩
  | 3 => ⟨S256, .f32⟩
  | 4 => ⟨S128x256x3x3, .f32⟩
  | 5 => ⟨S128, .f32⟩
  | 6 => ⟨S64x128x3x3, .f32⟩
  | 7 => ⟨S64, .f32⟩
  | 8 => ⟨S3x64x3x3, .f32⟩
  | 9 => ⟨S3, .f32⟩
  | 10 => ⟨S8x256x28x28, .f32⟩
  | 11 => ⟨S8x256x28x28, .f32⟩
  | 12 => ⟨S8x256x28x28, .f32⟩
  | 13 => ⟨S8x256x28x28, .f32⟩
  | 14 => ⟨S256x256, .f32⟩
  | 15 => ⟨S8x28x28x256, .f32⟩
  | 16 => ⟨S8x256x28x28, .f32⟩
  | 17 => ⟨S1x256x1x1, .f32⟩
  | 18 => ⟨S8x256x28x28, .f32⟩
  | 19 => ⟨S8x256x28x28, .f32⟩
  | 20 => ⟨S_, .f32⟩
  | 21 => ⟨S8x256x58x58, .f32⟩
  | 22 => ⟨S128x256x1x1, .f32⟩
  | 23 => ⟨S128x256, .f32⟩
  | 24 => ⟨S8x256x56x56, .f32⟩
  | 25 => ⟨S8x56x56x128, .f32⟩
  | 26 => ⟨S8x128x56x56, .f32⟩
  | 27 => ⟨S128x256x1x1, .f32⟩
  | 28 => ⟨S128x256, .f32⟩
  | 29 => ⟨S8x256x56x56, .f32⟩
  | 30 => ⟨S8x56x56x128, .f32⟩
  | 31 => ⟨S8x128x56x56, .f32⟩
  | 32 => ⟨S8x128x56x56, .f32⟩
  | 33 => ⟨S128x256x1x1, .f32⟩
  | 34 => ⟨S128x256, .f32⟩
  | 35 => ⟨S8x256x56x56, .f32⟩
  | 36 => ⟨S8x56x56x128, .f32⟩
  | 37 => ⟨S8x128x56x56, .f32⟩
  | 38 => ⟨S8x128x56x56, .f32⟩
  | 39 => ⟨S128x256x1x1, .f32⟩
  | 40 => ⟨S128x256, .f32⟩
  | 41 => ⟨S8x256x56x56, .f32⟩
  | 42 => ⟨S8x56x56x128, .f32⟩
  | 43 => ⟨S8x128x56x56, .f32⟩
  | 44 => ⟨S8x128x56x56, .f32⟩
  | 45 => ⟨S128x256x1x1, .f32⟩
  | 46 => ⟨S128x256, .f32⟩
  | 47 => ⟨S8x256x56x56, .f32⟩
  | 48 => ⟨S8x56x56x128, .f32⟩
  | 49 => ⟨S8x128x56x56, .f32⟩
  | 50 => ⟨S8x128x56x56, .f32⟩
  | 51 => ⟨S128x256x1x1, .f32⟩
  | 52 => ⟨S128x256, .f32⟩
  | 53 => ⟨S8x256x56x56, .f32⟩
  | 54 => ⟨S8x56x56x128, .f32⟩
  | 55 => ⟨S8x128x56x56, .f32⟩
  | 56 => ⟨S8x128x56x56, .f32⟩
  | 57 => ⟨S128x256x1x1, .f32⟩
  | 58 => ⟨S128x256, .f32⟩
  | 59 => ⟨S8x256x56x56, .f32⟩
  | 60 => ⟨S8x56x56x128, .f32⟩
  | 61 => ⟨S8x128x56x56, .f32⟩
  | 62 => ⟨S8x128x56x56, .f32⟩
  | 63 => ⟨S128x256x1x1, .f32⟩
  | 64 => ⟨S128x256, .f32⟩
  | 65 => ⟨S8x256x56x56, .f32⟩
  | 66 => ⟨S8x56x56x128, .f32⟩
  | 67 => ⟨S8x128x56x56, .f32⟩
  | 68 => ⟨S8x128x56x56, .f32⟩
  | 69 => ⟨S128x256x1x1, .f32⟩
  | 70 => ⟨S128x256, .f32⟩
  | 71 => ⟨S8x256x56x56, .f32⟩
  | 72 => ⟨S8x56x56x128, .f32⟩
  | 73 => ⟨S8x128x56x56, .f32⟩
  | 74 => ⟨S8x128x56x56, .f32⟩
  | 75 => ⟨S1x128x1x1, .f32⟩
  | 76 => ⟨S8x128x56x56, .f32⟩
  | 77 => ⟨S8x128x56x56, .f32⟩
  | 78 => ⟨S_, .f32⟩
  | 79 => ⟨S8x128x56x56, .f32⟩
  | 80 => ⟨S8x128x56x56, .f32⟩
  | 81 => ⟨S_, .f32⟩
  | 82 => ⟨S8x128x114x114, .f32⟩
  | 83 => ⟨S64x128x1x1, .f32⟩
  | 84 => ⟨S64x128, .f32⟩
  | 85 => ⟨S8x128x112x112, .f32⟩
  | 86 => ⟨S8x112x112x64, .f32⟩
  | 87 => ⟨S8x64x112x112, .f32⟩
  | 88 => ⟨S64x128x1x1, .f32⟩
  | 89 => ⟨S64x128, .f32⟩
  | 90 => ⟨S8x128x112x112, .f32⟩
  | 91 => ⟨S8x112x112x64, .f32⟩
  | 92 => ⟨S8x64x112x112, .f32⟩
  | 93 => ⟨S8x64x112x112, .f32⟩
  | 94 => ⟨S64x128x1x1, .f32⟩
  | 95 => ⟨S64x128, .f32⟩
  | 96 => ⟨S8x128x112x112, .f32⟩
  | 97 => ⟨S8x112x112x64, .f32⟩
  | 98 => ⟨S8x64x112x112, .f32⟩
  | 99 => ⟨S8x64x112x112, .f32⟩
  | 100 => ⟨S64x128x1x1, .f32⟩
  | 101 => ⟨S64x128, .f32⟩
  | 102 => ⟨S8x128x112x112, .f32⟩
  | 103 => ⟨S8x112x112x64, .f32⟩
  | 104 => ⟨S8x64x112x112, .f32⟩
  | 105 => ⟨S8x64x112x112, .f32⟩
  | 106 => ⟨S64x128x1x1, .f32⟩
  | 107 => ⟨S64x128, .f32⟩
  | 108 => ⟨S8x128x112x112, .f32⟩
  | 109 => ⟨S8x112x112x64, .f32⟩
  | 110 => ⟨S8x64x112x112, .f32⟩
  | 111 => ⟨S8x64x112x112, .f32⟩
  | 112 => ⟨S64x128x1x1, .f32⟩
  | 113 => ⟨S64x128, .f32⟩
  | 114 => ⟨S8x128x112x112, .f32⟩
  | 115 => ⟨S8x112x112x64, .f32⟩
  | 116 => ⟨S8x64x112x112, .f32⟩
  | 117 => ⟨S8x64x112x112, .f32⟩
  | 118 => ⟨S64x128x1x1, .f32⟩
  | 119 => ⟨S64x128, .f32⟩
  | 120 => ⟨S8x128x112x112, .f32⟩
  | 121 => ⟨S8x112x112x64, .f32⟩
  | 122 => ⟨S8x64x112x112, .f32⟩
  | 123 => ⟨S8x64x112x112, .f32⟩
  | 124 => ⟨S64x128x1x1, .f32⟩
  | 125 => ⟨S64x128, .f32⟩
  | 126 => ⟨S8x128x112x112, .f32⟩
  | 127 => ⟨S8x112x112x64, .f32⟩
  | _ => ⟨S2x4x256x28x28, .f32⟩

abbrev hbmTy0_1 (i : Nat) : BufTy := match i % 128 with
  | 0 => ⟨S8x64x112x112, .f32⟩
  | 1 => ⟨S8x64x112x112, .f32⟩
  | 2 => ⟨S64x128x1x1, .f32⟩
  | 3 => ⟨S64x128, .f32⟩
  | 4 => ⟨S8x128x112x112, .f32⟩
  | 5 => ⟨S8x112x112x64, .f32⟩
  | 6 => ⟨S8x64x112x112, .f32⟩
  | 7 => ⟨S8x64x112x112, .f32⟩
  | 8 => ⟨S1x64x1x1, .f32⟩
  | 9 => ⟨S8x64x112x112, .f32⟩
  | 10 => ⟨S8x64x112x112, .f32⟩
  | 11 => ⟨S_, .f32⟩
  | 12 => ⟨S8x64x112x112, .f32⟩
  | 13 => ⟨S8x64x112x112, .f32⟩
  | 14 => ⟨S_, .f32⟩
  | 15 => ⟨S8x64x226x226, .f32⟩
  | 16 => ⟨S3x64x1x1, .f32⟩
  | 17 => ⟨S3x64, .f32⟩
  | 18 => ⟨S8x64x224x224, .f32⟩
  | 19 => ⟨S8x224x224x3, .f32⟩
  | 20 => ⟨S8x3x224x224, .f32⟩
  | 21 => ⟨S3x64x1x1, .f32⟩
  | 22 => ⟨S3x64, .f32⟩
  | 23 => ⟨S8x64x224x224, .f32⟩
  | 24 => ⟨S8x224x224x3, .f32⟩
  | 25 => ⟨S8x3x224x224, .f32⟩
  | 26 => ⟨S8x3x224x224, .f32⟩
  | 27 => ⟨S3x64x1x1, .f32⟩
  | 28 => ⟨S3x64, .f32⟩
  | 29 => ⟨S8x64x224x224, .f32⟩
  | 30 => ⟨S8x224x224x3, .f32⟩
  | 31 => ⟨S8x3x224x224, .f32⟩
  | 32 => ⟨S8x3x224x224, .f32⟩
  | 33 => ⟨S3x64x1x1, .f32⟩
  | 34 => ⟨S3x64, .f32⟩
  | 35 => ⟨S8x64x224x224, .f32⟩
  | 36 => ⟨S8x224x224x3, .f32⟩
  | 37 => ⟨S8x3x224x224, .f32⟩
  | 38 => ⟨S8x3x224x224, .f32⟩
  | 39 => ⟨S3x64x1x1, .f32⟩
  | 40 => ⟨S3x64, .f32⟩
  | 41 => ⟨S8x64x224x224, .f32⟩
  | 42 => ⟨S8x224x224x3, .f32⟩
  | 43 => ⟨S8x3x224x224, .f32⟩
  | 44 => ⟨S8x3x224x224, .f32⟩
  | 45 => ⟨S3x64x1x1, .f32⟩
  | 46 => ⟨S3x64, .f32⟩
  | 47 => ⟨S8x64x224x224, .f32⟩
  | 48 => ⟨S8x224x224x3, .f32⟩
  | 49 => ⟨S8x3x224x224, .f32⟩
  | 50 => ⟨S8x3x224x224, .f32⟩
  | 51 => ⟨S3x64x1x1, .f32⟩
  | 52 => ⟨S3x64, .f32⟩
  | 53 => ⟨S8x64x224x224, .f32⟩
  | 54 => ⟨S8x224x224x3, .f32⟩
  | 55 => ⟨S8x3x224x224, .f32⟩
  | 56 => ⟨S8x3x224x224, .f32⟩
  | 57 => ⟨S3x64x1x1, .f32⟩
  | 58 => ⟨S3x64, .f32⟩
  | 59 => ⟨S8x64x224x224, .f32⟩
  | 60 => ⟨S8x224x224x3, .f32⟩
  | 61 => ⟨S8x3x224x224, .f32⟩
  | 62 => ⟨S8x3x224x224, .f32⟩
  | 63 => ⟨S3x64x1x1, .f32⟩
  | 64 => ⟨S3x64, .f32⟩
  | 65 => ⟨S8x64x224x224, .f32⟩
  | 66 => ⟨S8x224x224x3, .f32⟩
  | 67 => ⟨S8x3x224x224, .f32⟩
  | 68 => ⟨S8x3x224x224, .f32⟩
  | 69 => ⟨S1x3x1x1, .f32⟩
  | 70 => ⟨S8x3x224x224, .f32⟩
  | 71 => ⟨S8x3x224x224, .f32⟩
  | 72 => ⟨S2x4x3x224x224, .f32⟩
  | _ => ⟨S2x4x256x28x28, .f32⟩

abbrev hbmTy (i : Nat) : BufTy := match i / 128 with
  | 0 => hbmTy0_0 i
  | 1 => hbmTy0_1 i
  | _ => ⟨S2x4x256x28x28, .f32⟩

abbrev bufTy : (tb : Table) → Fin (tcTables nBuf tb) → BufTy
  | .hbm, ⟨i, _⟩ => hbmTy i
  | _, _ => ⟨S2x4x256x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_0 : Ref sig .tc := ⟨.hbm, 78, rfl⟩
abbrev main_v67 : Ref sig .tc := ⟨.hbm, 79, rfl⟩
abbrev main_v68 : Ref sig .tc := ⟨.hbm, 80, rfl⟩
abbrev main_cst_1 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_cst_2 : Ref sig .tc := ⟨.hbm, 139, rfl⟩
abbrev main_v126 : Ref sig .tc := ⟨.hbm, 140, rfl⟩
abbrev main_v127 : Ref sig .tc := ⟨.hbm, 141, rfl⟩
abbrev main_cst_3 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩

abbrev nD : Nat := 1
abbrev τ : Topo := Topo.v7x

variable {F : FTy → Type} [FloatOps F]
-- ==== Proof.Gather.lean ====
/-
  The SparseCore call of the kernel, run with its value.

  Thirty-two tiles (two SparseCores, sixteen tiles of each) fetch two hundred token words each, gather the rows of the
  table that those words name, and write them to their own block of two hundred rows of the output. The tile of core `c`
  and subcore `s` owns block `2 s + c`. The account below is given once, for any float values, any contents `tb` of the
  table and `ix` of the token array: the output ends at `rowsOf tb ix`, row `r` of which is row `ix r` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call, and their thirty-two blocks -/

abbrev tLoc (d : Dev nD) : Loc nD τ sig := (SparseCore.T d).loc main_v0
abbrev iLoc (d : Dev nD) : Loc nD τ sig := (SparseCore.T d).loc main_arg1
abbrev oLoc (d : Dev nD) : Loc nD τ sig := (SparseCore.T d).loc main_v1

local notation "tV" => (Memref.whole Cert.KernelIdeal.main_v0_scv : Memref Cert.KernelIdeal.sig Kind.scVector Space.hbm Cert.KernelIdeal.S8192x2x128 EltTy.f32)
local notation "iV" => (Memref.whole Cert.KernelIdeal.main_arg1_scv : Memref Cert.KernelIdeal.sig Kind.scVector Space.hbm Cert.KernelIdeal.S6400 EltTy.i32)
local notation "oV" => (Memref.whole Cert.KernelIdeal.main_v1_scv : Memref Cert.KernelIdeal.sig Kind.scVector Space.hbm Cert.KernelIdeal.S6400x2x128 EltTy.f32)
local notation "sV" => (Memref.whole Cert.KernelIdeal.cc0_scratch0 : Memref Cert.KernelIdeal.sig Kind.scVector Space.vmem Cert.KernelIdeal.S200 EltTy.i32)
local notation "rV" => (Memref.whole Cert.KernelIdeal.cc0_scratch1 : Memref Cert.KernelIdeal.sig Kind.scVector Space.vmem Cert.KernelIdeal.S200x2x128 EltTy.f32)

theorem idiv : 32 ∣ S6400.size 0 := ⟨200, rfl⟩
theorem odiv : 32 ∣ S6400x2x128.size 0 := ⟨200, rfl⟩
abbrev iBlk (b : Fin 32) : Rect S6400 := Rect.part (s := S6400) (a₀ := 0) idiv b
abbrev oBlk (b : Fin 32) : Rect S6400x2x128 := Rect.part (s := S6400x2x128) (a₀ := 0) odiv b
abbrev iSet (b : Fin 32) : Finset S6400.Idx := ((iV).view.slice (iBlk b)).set
abbrev oSet (b : Fin 32) : Finset S6400x2x128.Idx := ((oV).view.slice (oBlk b)).set

/-- The block of core `c`, subcore `s`. -/
def blk (c : Fin 2) (s : Fin 16) : Fin 32 := finProdFinEquiv (m := 16) (n := 2) (s, c)
theorem blk_val (c : Fin 2) (s : Fin 16) : (blk c s).val = c.val + 2 * s.val := rfl

/-- The contents the launch finds in the three arrays. -/
structure Held (F : FTy → Type) where
  tb : (d : Dev nD) → Buf (Elt F) (tLoc d)
  ix : (d : Dev nD) → Buf (Elt F) (iLoc d)
  o₀ : (d : Dev nD) → Buf (Elt F) (oLoc d)

/-- Every token names a row of the table. -/
def Held.OK (H : Held F) : Prop := ∀ (d : Dev nD) (j : S6400.Idx), (H.ix d j : BitVec 32).toNat < 8192

/-- Row `r` of the output is the table's row at token `r` (a token past the table is reduced into it). -/
def rowsOf (tb : S8192x2x128.Idx → Elt F .f32) (ix : S6400.Idx → BitVec 32) : S6400x2x128.Idx → Elt F .f32 := fun j =>
  tb (fun | 0 => ⟨(ix (fun | 0 => j 0)).toNat % 8192, Nat.mod_lt _ (by decide)⟩ | 1 => j 1 | 2 => j 2)

/-- The piece of the table's full share that block `b`'s tile reads it at. -/
abbrev tq (b : Fin 32) : PosShare TreeShare := pieceOf fullShare 32 (by decide) b

variable (H : Held F)

abbrev iPart (d : Dev nD) (b : Fin 32) : sProp 𝕄 := iLoc d ↦[iSet b]{fullShare} H.ix d
abbrev tPart (d : Dev nD) (b : Fin 32) : sProp 𝕄 := tLoc d ↦{tq b} H.tb d
abbrev oPart (d : Dev nD) (b : Fin 32) (f : Buf (Elt F) (oLoc d)) : sProp 𝕄 := oLoc d ↦[oSet b]{fullShare} f
abbrev gOut (d : Dev nD) : Buf (Elt F) (oLoc d) := rowsOf (H.tb d) (H.ix d)

/-- What the tile of block `b` is handed, and what it brings back. -/
abbrev inPart (d : Dev nD) (b : Fin 32) : sProp 𝕄 := iprop(iPart H d b ∗ tPart H d b ∗ oPart d b (H.o₀ d))
abbrev outPart (d : Dev nD) (b : Fin 32) : sProp 𝕄 := iprop(iPart H d b ∗ tPart H d b ∗ oPart d b (gOut H d))

/-- What the handshakes carry: a core is started with its sixteen tiles' parts and brings their results back. -/
def P [FloatOps F] : (K (F := F)).Pay (nD := nD) (Val := Elt F) (Name := ℕ) (U := UU) where
  st := fun q d c => match q with | 0 => bigSep Finset.univ fun s : Fin 16 => inPart H d (blk (Fin.cast nCore_zero c) s)
  dn := fun q d c => match q with | 0 => bigSep Finset.univ fun s : Fin 16 => outPart H d (blk (Fin.cast nCore_zero c) s)
  go := fun q d c i => match q with | 0 => inPart H d (blk (Fin.cast nCore_zero c) (Fin.cast nSub_zero i))
  td := fun q d c i => match q with | 0 => outPart H d (blk (Fin.cast nCore_zero c) (Fin.cast nSub_zero i))
  x := fun _ _ => iprop(emp)

variable [FloatOps F]

instance P_storable : (P (F := F) H).IsStorable where
  st q d c := match q with
    | 0 => (inferInstance : BI.Storable (upEmb : UEmb _ 𝕄) (bigSep Finset.univ fun s : Fin 16 => inPart H d (blk (Fin.cast nCore_zero c) s)))
  dn q d c := match q with
    | 0 => (inferInstance : BI.Storable (upEmb : UEmb _ 𝕄) (bigSep Finset.univ fun s : Fin 16 => outPart H d (blk (Fin.cast nCore_zero c) s)))
  go q d c i := match q with
    | 0 => (inferInstance : BI.Storable (upEmb : UEmb _ 𝕄) (inPart H d (blk (Fin.cast nCore_zero c) (Fin.cast nSub_zero i))))
  td q d c i := match q with
    | 0 => (inferInstance : BI.Storable (upEmb : UEmb _ 𝕄) (outPart H d (blk (Fin.cast nCore_zero c) (Fin.cast nSub_zero i))))

/-! ## One tile -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_core : grid0.bound 0 = 2 := rfl
omit [FloatOps F] in
theorem bound_sub : grid0.bound 1 = 16 := rfl
abbrev bL (L : grid0.Coords) : Fin 32 := blk (Fin.cast bound_core (L 0)) (Fin.cast bound_sub (L 1))

omit [FloatOps F] in
theorem bL_val : (bL L).val = (L 0).val + 2 * (L 1).val := rfl

abbrev iRect (L : grid0.Coords) : Rect S6400 := Rect.unit (s := S6400) (k0_off1 L) S200.size (k0_off1_inb L)
abbrev oRect (L : grid0.Coords) : Rect S6400x2x128 := Rect.unit (s := S6400x2x128) (k0_off2 L) S200x2x128.size (k0_off2_inb L)
abbrev iMem (L : grid0.Coords) : Memref sig .scVector .hbm S200 .i32 := (iV).slice (iRect L) (fun _ => rfl)
abbrev oMem (L : grid0.Coords) : Memref sig .scVector .hbm S200x2x128 .f32 := (oV).slice (oRect L) (fun _ => rfl)
abbrev tMem : Memref sig .scVector .hbm S8192x2x128 .f32 :=
  (tV).slice (Rect.unit (s := S8192x2x128) ![0, 0, 0] S8192x2x128.size inb_S8192x2x128_S8192x2x128_0_0_0) (fun _ => rfl)

omit [FloatOps F] in
theorem iRect_eq : iRect L = iBlk (bL L) := by
  unfold iRect iBlk Rect.part Rect.block
  congr 1 <;> funext a
  · rw [k0_off1_eq]
    match a with
    | 0 => simp [Shape.partIx, Shape.partSize, bL_val]; omega
  · match a with
    | 0 => simp [Shape.partSize]
omit [FloatOps F] in
theorem oRect_eq : oRect L = oBlk (bL L) := by
  unfold oRect oBlk Rect.part Rect.block
  congr 1 <;> funext a
  · rw [k0_off2_eq]
    match a with
    | 0 => simp [Shape.partIx, Shape.partSize, bL_val]; omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem iMem_set : (iMem L).view.set = iSet (bL L) := by
  show ((iV).view.slice (iRect L)).set = ((iV).view.slice (iBlk (bL L))).set
  exact iRect_eq L ▸ rfl
omit [FloatOps F] in
theorem oMem_set : (oMem L).view.set = oSet (bL L) := by
  show ((oV).view.slice (oRect L)).set = ((oV).view.slice (oBlk (bL L))).set
  exact oRect_eq L ▸ rfl

omit [FloatOps F] in
theorem iMem_pts (f : Buf (Elt F) (iLoc d)) :
    ((iMem L).view.loc (V d (cV L) (jV L)) ↦[(iMem L).view.set]{fullShare} f : sProp 𝕄) = iLoc d ↦[iSet (bL L)]{fullShare} f := by
  rw [iMem_set]
omit [FloatOps F] in
theorem oMem_pts (f : Buf (Elt F) (oLoc d)) :
    ((oMem L).view.loc (V d (cV L) (jV L)) ↦[(oMem L).view.set]{fullShare} f : sProp 𝕄) = oLoc d ↦[oSet (bL L)]{fullShare} f := by
  rw [oMem_set]

abbrev gCell (d : Dev nD) (c : Fin τ.nSC) (i : Fin τ.nSub) : GSem nD τ sig := (V d c i, .dma cc0_scratch2.sem)
abbrev aCell (d : Dev nD) (c : Fin τ.nSC) (i : Fin τ.nSub) : GSem nD τ sig := (V d c i, .dma cc0_scoped0.sem)
abbrev bCell (d : Dev nD) (c : Fin τ.nSC) (i : Fin τ.nSub) : GSem nD τ sig := (V d c i, .dma cc0_scoped1.sem)

omit [FloatOps F] in
/-- The tile's own semaphores: its three transfers' and the rest. -/
theorem sems_tile :
    (ownSems0 (V d (cV L) (jV L)) : sProp 𝕄)
      = iprop(semVal (aCell d (cV L) (jV L)) 0 ∗ semVal (gCell d (cV L) (jV L)) 0 ∗ semVal (bCell d (cV L) (jV L)) 0
          ∗ bigSep ((((ownCells (V d (cV L) (jV L))).erase (aCell d (cV L) (jV L))).erase (gCell d (cV L) (jV L))).erase (bCell d (cV L) (jV L))) fun g => semVal g 0) := by
  unfold SparseCore.Cfg.ownSems0
  rw [SparseCore.bigSep_erase' ((mem_ownCells (g := aCell d (cV L) (jV L))).mpr ⟨rfl, by
      show (SemLoc.dma cc0_scoped0.sem : SemLoc sig).isScoped .scVector = true; decide⟩),
    SparseCore.bigSep_erase' (Finset.mem_erase.mpr ⟨by simp [aCell, gCell]; decide, (mem_ownCells (g := gCell d (cV L) (jV L))).mpr ⟨rfl, by
      show (SemLoc.dma cc0_scratch2.sem : SemLoc sig).isScoped .scVector = true; decide⟩⟩),
    SparseCore.bigSep_erase' (Finset.mem_erase.mpr ⟨by simp [gCell, bCell]; decide, Finset.mem_erase.mpr ⟨by simp [aCell, bCell]; decide,
      (mem_ownCells (g := bCell d (cV L) (jV L))).mpr ⟨rfl, by show (SemLoc.dma cc0_scoped1.sem : SemLoc sig).isScoped .scVector = true; decide⟩⟩⟩)]

omit [FloatOps F] in
/-- The tile's own buffers: its two scratch buffers and the rest. -/
theorem bufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The token words a tile's fetch lands in its scratch are its block's. -/
theorem list_read (fs : Buf (Elt F) ((V d (cV L) (jV L)).loc cc0_scratch0)) (pay : S200.Idx → Elt F .i32)
    (hpay : pay = (iMem L).view.read (Elt F) (H.ix d)) (x : S200.Idx) :
    (sV).view.read (Elt F) (View.write (Elt F) (sV).view fs pay Finset.univ) x = H.ix d ((iRect L).emb x) := by
  subst hpay
  rw [View.write_whole_univ]
  simp only [Memref.view_whole, View.read_whole]
  exact (View.read_apply _ _).trans (cast_eq _ _)

omit [FloatOps F] in
theorem list_inb (hok : H.OK) (fs : Buf (Elt F) ((V d (cV L) (jV L)).loc cc0_scratch0)) (pay : S200.Idx → Elt F .i32)
    (hpay : pay = (iMem L).view.read (Elt F) (H.ix d)) :
    ∀ x, ((sV).view.read (Elt F) (View.write (Elt F) (sV).view fs pay Finset.univ) x : BitVec 32).toNat
      < S8192x2x128.size gathers_S8192x2x128_S200x2x128.axis := by
  intro x
  rw [list_read H d L fs pay hpay x]
  exact hok d _

omit [FloatOps F] in
/-- Entry `k` of a list of two hundred words is the word at index `k`. -/
theorem row_list (k : Fin S200.numel) : S200.rowMajor.symm k = (fun | 0 => k) := by
  rw [Equiv.symm_apply_eq]
  refine Fin.ext ?_
  have h := Shape.rowMajorPi_succ_val (n := 0) S200.size (fun | 0 => k)
  refine Eq.trans ?_ h.symm
  have h0 : ∀ z : Fin (∏ a : Fin 0, S200.size a.succ), z.val = 0 := fun z => by
    have := z.isLt; simp at this; omega
  rw [h0]; simp

omit [FloatOps F] in
/-- The block a tile writes out is the gathered rows: at every index of it, `rowsOf`. -/
theorem block_value (hok : H.OK) (fs : Buf (Elt F) ((V d (cV L) (jV L)).loc cc0_scratch0)) (fr : Buf (Elt F) ((V d (cV L) (jV L)).loc cc0_scratch1))
    (pay : S200.Idx → Elt F .i32) (hpay : pay = (iMem L).view.read (Elt F) (H.ix d))
    (hin : ∀ x, ((sV).view.read (Elt F) (View.write (Elt F) (sV).view fs pay Finset.univ) x : BitVec 32).toNat
      < S8192x2x128.size gathers_S8192x2x128_S200x2x128.axis)
    (out : S200x2x128.Idx → Elt F .f32)
    (hout : out = (rV).view.read (Elt F) (View.write (Elt F) (rV).view fr
      (SparseCore.gatherPayload gathers_S8192x2x128_S200x2x128 ((tMem).view.read (Elt F) (H.tb d))
        (SparseCore.rows ((sV).view.read (Elt F) (View.write (Elt F) (sV).view fs pay Finset.univ)) rfl hin)) Finset.univ)) :
    ∀ i ∈ (oMem L).view.set, gOut H d i = (oMem L).view.writes (Elt F) (H.o₀ d) [⟨Rect.whole S200x2x128, out⟩] i := by
  subst hout
  intro i hi
  obtain ⟨x, -, rfl⟩ := Finset.mem_map.mp hi
  have hu : ∀ w : S200x2x128.Idx → Elt F .f32, (oMem L).view.writes (Elt F) (H.o₀ d) [⟨Rect.whole S200x2x128, w⟩]
      = (oMem L).view.write (Elt F) (H.o₀ d) w Finset.univ := fun w => by
    rw [← View.write_univ_eq_writes_whole, View.writes_nil]
  rw [hu, View.write_emb_of_mem _ _ (Finset.mem_univ _), cast_eq, View.write_whole_univ]
  simp only [Memref.view_whole, View.read_whole]
  unfold SparseCore.gatherPayload
  refine Eq.trans ?_ ((View.read_apply _ _).trans (cast_eq _ _)).symm
  refine congrArg (H.tb d) (funext fun a => Fin.ext ?_)
  match a with
  | 0 =>
    dsimp only
    refine Eq.trans ?_ (show ((gathers_S8192x2x128_S200x2x128.idx _ x) gathers_S8192x2x128_S200x2x128.axis).val
      = 0 + 1 * ((gathers_S8192x2x128_S200x2x128.idx _ x) 0).val from (by rw [Nat.zero_add, Nat.one_mul]; rfl))
    rw [Shape.Gathers.idx_axis]; refine (Nat.mod_eq_of_lt (hok d _)).trans ?_
    show _ = BitVec.toNat ((sV).view.read (Elt F) (View.write (Elt F) (sV).view fs pay Finset.univ) _)
    rw [list_read H d L fs pay hpay]
    refine Eq.trans ?_ (congrArg (fun j => BitVec.toNat (H.ix d ((iRect L).emb j))) (row_list _)).symm
    refine congrArg (fun j => BitVec.toNat (H.ix d j)) (funext fun b => Fin.ext ?_)
    match b with
    | 0 =>
      show k0_off2 L 0 + 1 * (x 0).val = k0_off1 L 0 + 1 * (x 0).val
      rw [k0_off1_eq, k0_off2_eq]; rfl
  | 1 =>
    show k0_off2 L 1 + 1 * (x 1).val = 0 + 1 * ((gathers_S8192x2x128_S200x2x128.idx _ x) 1).val
    rw [Shape.Gathers.idx_of_ne _ _ _ _ (by decide), k0_off2_eq]; rfl
  | 2 =>
    show k0_off2 L 2 + 1 * (x 2).val = 0 + 1 * ((gathers_S8192x2x128_S200x2x128.idx _ x) 2).val
    rw [Shape.Gathers.idx_of_ne _ _ _ _ (by decide), k0_off2_eq]; rfl

set_option maxHeartbeats 4000000 in
theorem tile_body (hF : (K (F := F)).Facts) (hok : H.OK) (O : CellTallies nD τ sig (HIx 1)) (W : Waits sig (HIx 1)) (hO : ∀ g, O g none = 0) :
    iprop(levAts (K (F := F)).L (K (F := F)).lev ∗ emp ∗ inPart H d (bL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) iV (Memref.isWhole_whole _) oV (Memref.isWhole_whole _)
            sV (Memref.isWhole_whole _) rV (Memref.isWhole_whole _) cc0_scratch2 cc0_scoped0 cc0_scoped1)
          fun _ => iprop(outPart H d (bL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), sems_tile, bufs_tile]
  iintro ⟨#Hlv, -, ⟨Hi, Ht, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (iMem_pts (F := F) d L _).symm) $$ Hi
  ihave Ho' := (Entails.of_eq (oMem_pts (F := F) d L _).symm) $$ Ho
  ihave Ht' := (Entails.of_eq (show (tLoc d ↦{tq (bL L)} H.tb d : sProp 𝕄) = ((tV).view.loc (V d (cV L) (jV L)) ↦{tq (bL L)} H.tb d) from rfl)) $$ Ht
  ihave Hs' := (Entails.of_eq (show ((V d (cV L) (jV L)).loc cc0_scratch0 ↦{fullShare} fs : sProp 𝕄) = ((sV).view.loc (V d (cV L) (jV L)) ↦{fullShare} fs) from rfl)) $$ Hs
  ihave Hr' := (Entails.of_eq (show ((V d (cV L) (jV L)).loc cc0_scratch1 ↦{fullShare} fr : sProp 𝕄) = ((rV).view.loc (V d (cV L) (jV L)) ↦{fullShare} fr) from rfl)) $$ Hr
  sl_exec
  -- the gather: a piece of the table, the row buffer and the list go in, its flight comes back
  ihave Hts := (pointsTo_split_subset (q := tq (bL L)) (f := H.tb d) (S := Finset.univ) (Finset.subset_univ (tMem).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 H d L) Finset.univ : sProp 𝕄)
      = (sV).view.loc (V d (cV L) (jV L)) ↦[(sV).view.set]{fullShare} View.write (Elt F) (sV).view fs (tile_body.sl.dma0 H d L) Finset.univ
      by rw [hss])) $$ Hs'
  have hN : ∀ h : S8192x2x128.Gathers 0 S200x2x128, ∑ j, ((rV).slice (S200x2x128.rowRect h.axis' j) (S200x2x128.stride_rowRect h.axis' j)).view.dmaCredit
      = (rV).view.dmaCredit := by decide
  iapply (SparseCore.wp_indirectGatherLocal countersEmb 𝒱₀ (V d (cV L) (jV L)) none (hg := gathers_S8192x2x128_S200x2x128) (default : HIx 1)
      (rV).view.dmaCredit (hN _) (by decide) (list_inb H d L hok fs _ rfl)) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := (pointsTo_split_subset (q := tq (bL L)) (f := H.tb d) (S := Finset.univ) (Finset.subset_univ (tMem).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Ht' Ho']
  · isplitl [Hi']; · iapply (Entails.of_eq (iMem_pts (F := F) d L _)); iexact Hi'
    isplitl [Ht']; · iexact Ht'
    iapply (Entails.of_eq ((oMem_pts (F := F) d L _).symm.trans (pointsTo_congr (block_value H d L hok fs fr _ rfl (list_inb H d L hok fs _ rfl) _ rfl))).symm); iexact Ho'
  isplitl [Hs3 Hr3 Hbufs]
  · isplitl [Hs3]; · iexists _; iexact Hs3
    isplitl [Hr3]; · iexists _; iexact Hr3
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation of every tile -/

def tileAt (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_k (tileAt c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hok : H.OK) : (K (F := F)).TileObl (D (F := F)) 𝒱 (P H) v₀ 0 := by
  intro d c i O W hO _ _
  simp only [show (P H).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body H d (tileAt ⟨_, hci.1⟩ ⟨_, hci.2⟩) hF hok O W hO).trans (wp_mono frame _ _ fun _ => post_weaken)

end Tile

/-! ## The arrays in blocks, and a core's part in its tiles' -/

omit [FloatOps F] in
theorem iSet_eq (b : Fin 32) : iSet b = (iBlk b).set := by
  show ((View.whole (main_arg1_scv : Ref sig .scVector)).slice (iBlk b)).set = _
  rw [View.set_slice]; exact Finset.map_refl
omit [FloatOps F] in
theorem oSet_eq (b : Fin 32) : oSet b = (oBlk b).set := by
  show ((View.whole (main_v1_scv : Ref sig .scVector)).slice (oBlk b)).set = _
  rw [View.set_slice]; exact Finset.map_refl

omit [FloatOps F] in
theorem iPts_blocks (d : Dev nD) (f : Buf (Elt F) (iLoc d)) :
    (iLoc d ↦{fullShare} f : sProp 𝕄) = bigSep Finset.univ fun b : Fin 32 => iLoc d ↦[iSet b]{fullShare} f := by
  rw [← pointsTo_biUnion Finset.univ (ℓ := iLoc d) iSet
      (fun a _ b _ h => by rw [iSet_eq, iSet_eq]; exact Rect.part_disjoint idiv h),
    (Finset.biUnion_congr rfl fun b _ => iSet_eq b).trans (Rect.biUnion_part idiv)]; try rfl
omit [FloatOps F] in
theorem oPts_blocks (d : Dev nD) (f : Buf (Elt F) (oLoc d)) :
    (oLoc d ↦{fullShare} f : sProp 𝕄) = bigSep Finset.univ fun b : Fin 32 => oLoc d ↦[oSet b]{fullShare} f := by
  rw [← pointsTo_biUnion Finset.univ (ℓ := oLoc d) oSet
      (fun a _ b _ h => by rw [oSet_eq, oSet_eq]; exact Rect.part_disjoint odiv h),
    (Finset.biUnion_congr rfl fun b _ => oSet_eq b).trans (Rect.biUnion_part odiv)]; try rfl

omit [FloatOps F] in
/-- A family over the blocks is a family over the cores and their tiles. -/
theorem blocks_cores (Φ : Fin 32 → sProp 𝕄) :
    (bigSep Finset.univ fun c : Fin 2 => bigSep Finset.univ fun s : Fin 16 => Φ (blk c s)) = bigSep Finset.univ Φ := by
  rw [bigSep_univ_equiv ((Equiv.prodComm (Fin 2) (Fin 16)).trans (finProdFinEquiv (m := 16) (n := 2))) Φ, bigSep_univ_prod]
  rfl

/-- What the cores take together: the token array, the table, the output as it stood. -/
theorem start_eq (d : Dev nD) :
    (bigSep Finset.univ fun c : Fin ((K (F := F)).nCore 0) => (P H).st 0 d c)
      = iprop((iLoc d ↦{fullShare} H.ix d) ∗ (tLoc d ↦{fullShare} H.tb d) ∗ oLoc d ↦{fullShare} H.o₀ d) := by
  show (bigSep Finset.univ fun c : Fin 2 => bigSep Finset.univ fun s : Fin 16 => inPart H d (blk c s)) = _
  rw [blocks_cores (fun b => inPart H d b), bigSep_sep', bigSep_sep', ← oPts_blocks, ← iPts_blocks,
    ← pointsTo_piecesOf Finset.univ (H.tb d) (by decide : 0 < 32) fullShare]

/-- What they bring back: the output at the gathered rows. -/
theorem done_eq (d : Dev nD) :
    (bigSep Finset.univ fun c : Fin ((K (F := F)).nCore 0) => (P H).dn 0 d c)
      = iprop((iLoc d ↦{fullShare} H.ix d) ∗ (tLoc d ↦{fullShare} H.tb d) ∗ oLoc d ↦{fullShare} gOut H d) := by
  show (bigSep Finset.univ fun c : Fin 2 => bigSep Finset.univ fun s : Fin 16 => outPart H d (blk c s)) = _
  rw [blocks_cores (fun b => outPart H d b), bigSep_sep', bigSep_sep', ← oPts_blocks, ← iPts_blocks,
    ← pointsTo_piecesOf Finset.univ (H.tb d) (by decide : 0 < 32) fullShare]

theorem vecSplit : (K (F := F)).VecSplit' (P H) 0 := by
  intro d c
  show (bigSep Finset.univ fun s : Fin 16 => inPart H d (blk (Fin.cast nCore_zero c) s)) ⊢ |={Set.univ}=> iprop(
      (bigSep Finset.univ fun s : Fin 16 => inPart H d (blk (Fin.cast nCore_zero c) s))
      ∗ ((bigSep Finset.univ fun s : Fin 16 => outPart H d (blk (Fin.cast nCore_zero c) s))
          -∗ (bigSep Finset.univ fun s : Fin 16 => outPart H d (blk (Fin.cast nCore_zero c) s))))
  iintro H; imodintro
  isplitl [H]; · iexact H
  iintro H; iexact H

/-! ## The ghost state of the launch -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P H).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) H).x q thr) = bigSep Finset.univ fun _ => iprop(emp) from
    bigSep_congr fun _ _ => bigSep_univ_of_subsingleton (0 : Fin 1), bigSep_none]
  iempintro

end Cert.Proof.Gather

end
-- ==== Proof.Launch.lean ====
/-
  The whole program around the SparseCore call: the table's rows are cut in two halves of 128 words, the call runs, and
  the gathered rows are put together again, cut to the 6272 real ones and transposed to the result's layout. One run, for
  any float values, says what the result holds and that the arguments are unchanged.
-/
module

public import proofs.«01_k».proof.Proof.Gather

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

abbrev eRef : DevRef τ sig := Proc.devRef .tc (main_arg0 : Ref sig .tc)
abbrev iRef : DevRef τ sig := Proc.devRef .tc (main_arg1 : Ref sig .tc)
abbrev tRef : DevRef τ sig := Proc.devRef .tc (main_v0 : Ref sig .tc)
abbrev oRef : DevRef τ sig := Proc.devRef .tc (main_v1 : Ref sig .tc)
abbrev zRef : DevRef τ sig := Proc.devRef .tc (main_v7 : Ref sig .tc)
abbrev eLoc (d : Dev nD) : Loc nD τ sig := (SparseCore.T d).loc main_arg0
abbrev zLoc (d : Dev nD) : Loc nD τ sig := (SparseCore.T d).loc main_v7

/-- The host's one operation before the call and its six after it. -/
abbrev opCut : HloOp τ sig (Elt F) := StableHlo.reshape main_arg0 main_v0 (rfl : (.f32 : EltTy) = .f32) shapeCasts_S8192x256_S8192x2x128
abbrev opJoin : HloOp τ sig (Elt F) := StableHlo.reshape main_v1 main_v2 (rfl : (.f32 : EltTy) = .f32) shapeCasts_S6400x2x128_S6400x256
abbrev opReal : HloOp τ sig (Elt F) :=
  StableHlo.unary main_v2 main_v3 ((extractStridedSlice S6272x256 ![0, 0] · slices_S6400x256_S6272x256_0_0) : (⟨S6400x256, .f32⟩ : BufTy).Contents (Elt F) → (⟨S6272x256, .f32⟩ : BufTy).Contents (Elt F))
abbrev opImages : HloOp τ sig (Elt F) := StableHlo.reshape main_v3 main_v4 (rfl : (.f32 : EltTy) = .f32) shapeCasts_S6272x256_S8x784x256
abbrev opChan : HloOp τ sig (Elt F) :=
  StableHlo.unary main_v4 main_v5 ((transpose S8x256x784 [0, 2, 1] · transposes_S8x784x256_S8x256x784_0_2_1) : (⟨S8x784x256, .f32⟩ : BufTy).Contents (Elt F) → (⟨S8x256x784, .f32⟩ : BufTy).Contents (Elt F))
abbrev opGrid : HloOp τ sig (Elt F) := StableHlo.reshape main_v5 main_v6 (rfl : (.f32 : EltTy) = .f32) shapeCasts_S8x256x784_S8x256x28x28
abbrev opClips : HloOp τ sig (Elt F) := StableHlo.reshape main_v6 main_v7 (rfl : (.f32 : EltTy) = .f32) shapeCasts_S8x256x28x28_S2x4x256x28x28

/-- The launch contents, and the contents before the call. -/
def V0 (d : Dev nD) : Valuation τ sig (Elt F) := fun b => m (d, b)
def V1 (d : Dev nD) : Valuation τ sig (Elt F) := (opCut (F := F)).result (V0 m d)

/-- What the call meets. -/
def held₁ : Held F where
  tb d := V1 m d tRef
  ix d := V1 m d iRef
  o₀ d := V1 m d oRef

/-- After the call, and after the host's last operation. -/
def V2 (d : Dev nD) : Valuation τ sig (Elt F) := Function.update (V1 m d) oRef (gOut (held₁ m) d)
def V3 (d : Dev nD) : Valuation τ sig (Elt F) := after [opJoin, opReal, opImages, opChan, opGrid, opClips] (V2 m d)

/-- The six operations after the call, of the call's output. -/
def layout (o : S6400x2x128.Idx → Elt F .f32) : S2x4x256x28x28.Idx → Elt F .f32 :=
  shapeCast _ (shapeCast _ (transpose S8x256x784 [0, 2, 1] (shapeCast _ (extractStridedSlice S6272x256 ![0, 0]
    (shapeCast _ o shapeCasts_S6400x2x128_S6400x256)
    slices_S6400x256_S6272x256_0_0) shapeCasts_S6272x256_S8x784x256) transposes_S8x784x256_S8x256x784_0_2_1) shapeCasts_S8x256x784_S8x256x28x28)
    shapeCasts_S8x256x28x28_S2x4x256x28x28
/-- The result: the rows of the table at the real tokens, in the result's layout. -/
def result (e : S8192x256.Idx → Elt F .f32) (ix : S6400.Idx → BitVec 32) : S2x4x256x28x28.Idx → Elt F .f32 :=
  layout (F := F) (rowsOf (F := F) (shapeCast _ e shapeCasts_S8192x256_S8192x2x128) ix)

theorem V1_e (d : Dev nD) : V1 m d eRef = m (eLoc d) :=
  (opCut (F := F)).result_of_not_mem _ (show eRef ∉ ({tRef} : Finset (DevRef τ sig)) by decide)
theorem V1_i (d : Dev nD) : V1 m d iRef = m (iLoc d) :=
  (opCut (F := F)).result_of_not_mem _ (show iRef ∉ ({tRef} : Finset (DevRef τ sig)) by decide)
theorem V1_t (d : Dev nD) : V1 m d tRef = shapeCast _ (m (eLoc d)) shapeCasts_S8192x256_S8192x2x128 := by
  show after [opCut] (V0 m d) tRef = _
  after_results <;> rfl
theorem V2_e (d : Dev nD) : V2 m d eRef = m (eLoc d) := (Function.update_of_ne (show eRef ≠ oRef by decide) _ _).trans (V1_e m d)
theorem V2_i (d : Dev nD) : V2 m d iRef = V1 m d iRef := Function.update_of_ne (show iRef ≠ oRef by decide) _ _
theorem V2_t (d : Dev nD) : V2 m d tRef = V1 m d tRef := Function.update_of_ne (show tRef ≠ oRef by decide) _ _
theorem V2_o (d : Dev nD) : V2 m d oRef = rowsOf (F := F) (shapeCast _ (m (eLoc d)) shapeCasts_S8192x256_S8192x2x128) (m (iLoc d)) := by
  refine (Function.update_self _ _ _).trans ?_
  show rowsOf (F := F) (V1 m d tRef) (V1 m d iRef) = _
  rw [V1_t, V1_i]
theorem V3_e (d : Dev nD) : V3 m d eRef = m (eLoc d) := by
  refine Eq.trans ?_ (V2_e m d)
  unfold V3; after_results <;> rfl
theorem V3_i (d : Dev nD) : V3 m d iRef = m (iLoc d) := by
  refine Eq.trans ?_ ((V2_i m d).trans (V1_i m d))
  unfold V3; after_results <;> rfl
theorem after_z (W : Valuation τ sig (Elt F)) : after [opJoin, opReal, opImages, opChan, opGrid, opClips] W zRef = layout (F := F) (W oRef) := by
  unfold layout
  after_results <;> rfl
theorem V3_z (d : Dev nD) : V3 m d zRef = result (m (eLoc d)) (m (iLoc d)) :=
  (after_z (V2 m d)).trans (congrArg (layout (F := F)) (V2_o m d))

/-! ## @main on the TensorCore -/

abbrev BUFS : Finset (DevRef τ sig) := Pipeline.ucRefs τ sig
abbrev TIO : Finset (DevRef τ sig) := {iRef, tRef, oRef}
abbrev ARGS : Finset (DevRef τ sig) := {eRef, iRef, zRef}

theorem tio_sub : TIO ⊆ BUFS := by decide
theorem args_sub : ARGS ⊆ BUFS := by decide

omit [FloatOps F] in
theorem held_TIO (d : Dev nD) (W : Valuation τ sig (Elt F)) :
    (held (SparseCore.T d) TIO W : sProp 𝕄) = iprop((iLoc d ↦{fullShare} W iRef) ∗ (tLoc d ↦{fullShare} W tRef) ∗ oLoc d ↦{fullShare} W oRef) := by
  unfold held TIO
  rw [SparseCore.bigSep_insert' (by decide), SparseCore.bigSep_insert' (by decide), bigSep_singleton]
omit [FloatOps F] in
theorem held_ARGS (d : Dev nD) (W : Valuation τ sig (Elt F)) :
    (held (SparseCore.T d) ARGS W : sProp 𝕄) = iprop((eLoc d ↦{fullShare} W eRef) ∗ (iLoc d ↦{fullShare} W iRef) ∗ zLoc d ↦{fullShare} W zRef) := by
  unfold held ARGS
  rw [SparseCore.bigSep_insert' (by decide), SparseCore.bigSep_insert' (by decide), bigSep_singleton]

/-- What @main leaves: the arguments as they were, the result. -/
abbrev FIN (d : Dev nD) : sProp 𝕄 :=
  iprop((eLoc d ↦{fullShare} m (eLoc d)) ∗ (iLoc d ↦{fullShare} m (iLoc d)) ∗ zLoc d ↦{fullShare} result (F := F) (m (eLoc d)) (m (iLoc d)))

theorem unscoped_held (d : Dev nD) : (unscopedBufs d (fun b => m ((SparseCore.T d).loc b)) : sProp 𝕄) = held (SparseCore.T d) BUFS (V0 m d) :=
  Pipeline.unscopedBufs_held d (V0 m d)

/-- The call's three arrays and the rest, before the call and after it. -/
theorem held_call (d : Dev nD) :
    (held (SparseCore.T d) BUFS ((opCut (F := F)).result (V0 m d)) : sProp 𝕄)
      = iprop((bigSep Finset.univ fun c : Fin ((K (F := F)).nCore 0) => (P (held₁ m)).st 0 d c) ∗ held (SparseCore.T d) (BUFS \ TIO) (V1 m d)) := by
  show (held (SparseCore.T d) BUFS (V1 m d) : sProp 𝕄) = _
  rw [held_sub_split (SparseCore.T d) tio_sub (V1 m d), held_TIO, start_eq]; rfl
theorem held_called (d : Dev nD) :
    iprop((bigSep Finset.univ fun c : Fin ((K (F := F)).nCore 0) => (P (held₁ m)).dn 0 d c) ∗ held (SparseCore.T d) (BUFS \ TIO) (V1 m d))
      = (held (SparseCore.T d) BUFS (V2 m d) : sProp 𝕄) := by
  rw [held_sub_split (SparseCore.T d) tio_sub (V2 m d), held_TIO, done_eq, V2_i, V2_t,
    held_congr (SparseCore.T d) (S := BUFS \ TIO) (V := V1 m d) (V' := V2 m d) (fun b hb => (Function.update_of_ne (fun e => by
      subst e; exact (Finset.mem_sdiff.mp hb).2 (by decide)) _ _).symm)]
  rw [show V2 m d oRef = gOut (held₁ m) d from Function.update_self _ _ _]; rfl

theorem held_end (d : Dev nD) :
    (held (SparseCore.T d) BUFS ((opClips (F := F)).result ((opGrid (F := F)).result ((opChan (F := F)).result ((opImages (F := F)).result ((opReal (F := F)).result ((opJoin (F := F)).result (V2 m d))))))) : sProp 𝕄)
      = iprop(FIN m d ∗ held (SparseCore.T d) (BUFS \ ARGS) (V3 m d)) := by
  show (held (SparseCore.T d) BUFS (V3 m d) : sProp 𝕄) = _
  rw [held_sub_split (SparseCore.T d) args_sub (V3 m d), held_ARGS, V3_e, V3_i, V3_z]

theorem main_run (κ : GSem nD τ sig → ℕ) (d : Dev nD) :
    iprop((K (F := F)).ctx EH (P (held₁ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCut) (S := BUFS) (Pipeline.sub_ucRefs _ (reshape_bufs_sub ..)) (V := V0 m d)) $$ [Hb Hheld]
  · isplitl [Hb] <;> iassumption
  iintro ⟨Hb, Hheld⟩
  rw [wp_ret]; imodintro
  ihave Hh := (Entails.of_eq (held_call (F := F) m d)) $$ Hheld
  icases Hh with ⟨Hin, Hrest⟩
  iapply ((K (F := F)).wp_run (D (F := F)) 𝒱 (EH := EH) (P := P (held₁ m)) κ d 0) $$ [Hst Hin Hrest Hb Hts]
  isplitr; · iexact Hctx
  isplitl [Hst]; · iexact Hst
  isplitl [Hin]; · iexact Hin
  iintro ⟨Hst, Hdn⟩
  ihave Hheld := (Entails.of_eq (held_called (F := F) m d)) $$ [Hdn Hrest]
  · isplitl [Hdn] <;> iassumption
  iapply (wp_hlo_within 𝒱 (SparseCore.T d) none Set.univ (op := opJoin) (S := BUFS) (Pipeline.sub_ucRefs _ (reshape_bufs_sub ..)) (V := V2 m d)) $$ [Hb Hheld]
  · isplitl [Hb] <;> iassumption
  iintro ⟨Hb, Hheld⟩
  rw [wp_ret]; imodintro
  iapply (wp_hlo_within 𝒱 (SparseCore.T d) none Set.univ (op := opReal) (S := BUFS) (Pipeline.sub_ucRefs _ (unary_bufs_sub ..)) (V := (opJoin (F := F)).result (V2 m d))) $$ [Hb Hheld]
  · isplitl [Hb] <;> iassumption
  iintro ⟨Hb, Hheld⟩
  rw [wp_ret]; imodintro
  iapply (wp_hlo_within 𝒱 (SparseCore.T d) none Set.univ (op := opImages) (S := BUFS) (Pipeline.sub_ucRefs _ (reshape_bufs_sub ..)) (V := (opReal (F := F)).result ((opJoin (F := F)).result (V2 m d)))) $$ [Hb Hheld]
  · isplitl [Hb] <;> iassumption
  iintro ⟨Hb, Hheld⟩
  rw [wp_ret]; imodintro
  iapply (wp_hlo_within 𝒱 (SparseCore.T d) none Set.univ (op := opChan) (S := BUFS) (Pipeline.sub_ucRefs _ (unary_bufs_sub ..)) (V := (opImages (F := F)).result ((opReal (F := F)).result ((opJoin (F := F)).result (V2 m d))))) $$ [Hb Hheld]
  · isplitl [Hb] <;> iassumption
  iintro ⟨Hb, Hheld⟩
  rw [wp_ret]; imodintro
  iapply (wp_hlo_within 𝒱 (SparseCore.T d) none Set.univ (op := opGrid) (S := BUFS) (Pipeline.sub_ucRefs _ (reshape_bufs_sub ..)) (V := (opChan (F := F)).result ((opImages (F := F)).result ((opReal (F := F)).result ((opJoin (F := F)).result (V2 m d)))))) $$ [Hb Hheld]
  · isplitl [Hb] <;> iassumption
  iintro ⟨Hb, Hheld⟩
  rw [wp_ret]; imodintro
  iapply (wp_hlo_within 𝒱 (SparseCore.T d) none Set.univ (op := opClips) (S := BUFS) (Pipeline.sub_ucRefs _ (reshape_bufs_sub ..)) (V := (opGrid (F := F)).result ((opChan (F := F)).result ((opImages (F := F)).result ((opReal (F := F)).result ((opJoin (F := F)).result (V2 m d))))))) $$ [Hb Hheld]
  · isplitl [Hb] <;> iassumption
  iintro ⟨Hb, Hheld⟩
  rw [wp_ret]; imodintro; imodintro
  ihave Hh := (Entails.of_eq (held_end (F := F) m d)) $$ Hheld
  icases Hh with ⟨Hfin, -⟩
  isplitl [Hst]; · iexact Hst
  isplitl [Hfin]; · iexact Hfin
  isplitl [Hb] <;> iassumption

def fq (d : Dev nD) (s' : Phys nD τ sig (Elt F)) : Prop :=
  s'.mem.mem (eLoc d) = m (eLoc d) ∧ s'.mem.mem (iLoc d) = m (iLoc d) ∧ s'.mem.mem (zLoc d) = result (F := F) (m (eLoc d)) (m (iLoc d))

set_option maxRecDepth 16384 in
theorem final (d : Dev nD) (s' : Phys nD τ sig (Elt F)) : iprop(FIN m d ∗ SI s') ⊢ (⌜fq m d s'⌝ : sProp 𝕄) := by
  iintro ⟨⟨He, Hi, Hz⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := zLoc d) (I := Finset.univ) (q := fullShare) (f := result (F := F) (m (eLoc d)) (m (iLoc d)))) $$ [HSI Hz]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ d : Dev nD, r.2.mem (eLoc d) = m (eLoc d) ∧ r.2.mem (iLoc d) = m (iLoc d) ∧ r.2.mem (zLoc d) = result (F := F) (m (eLoc d)) (m (iLoc d)))
    ∧ r.2.sem = fun _ => 0

/-- Every token of the launch memory names a row of the table. -/
def InTable : Prop := ∀ (d : Dev nD) (j : S6400.Idx), (m (iLoc d) j : BitVec 32).toNat < 8192

theorem run_main [∀ e, Nonempty (Elt F e)] (hpre : InTable m) :
    θ_run (Cert.KernelIdeal.defs (F := F)) (Cert.KernelIdeal.threads (F := F)) ⟨m, fun _ => 0, ρ⟩ (QC m) :=
  have hok : (held₁ m).OK := fun d j => by
    show (V1 m d iRef j : BitVec 32).toNat < 8192
    rw [V1_i]; exact hpre d j
  SparseCore.Cfg.θ_run_sc_quiescent (K := K (F := F)) (D := D (F := F)) (𝒱 := 𝒱) (EH := EH) (P := P (held₁ m)) (A := ∅) facts v₀
    (fun q hq => match q with | 0 => nomatch hq)
    (fun q _ => match q with | 0 => tileObl (held₁ m) facts hok)
    (fun q _ => match q with | 0 => SparseCore.Cfg.VecSplit.of_plain (vecSplit (held₁ m)))
    m ρ main (fun _ => iprop(emp)) (FIN m) (u₀ (F := F)) (sep_elim_left.trans (hu₀ (held₁ m))) (main_run m ρ) (fq m) (final m) (QC m) (fun _ h hz => ⟨h, hz⟩)

end Cert.Proof.Gather

end
-- ==== Proof.Rows.lean ====
/-
  The kernel's result and the reference's are one array: entry (a, b, c, h, w) of either is entry c of the table's row
  that token ((4 a + b) · 28 + h) · 28 + w names. The kernel cuts a row in two halves, gathers, and lays the rows out by
  three reshapes and a transpose; the reference takes the rows (`jnp.take`, whose guard against tokens outside the table
  never acts here) and lays them out by two reshapes and another transpose.
-/
module

public import proofs.«01_k».proof.Proof.Launch
public import proofs.«01_k».proof.Proof.Gen.ReferenceIdeal.Run
public import Idealize.ShloMosaic.Lib.Routing.Ops
public import Idealize.ShloMosaic.Lib.ReduceAll
public import Idealize.ShloMosaic.Lib.ValueLayout
public import Idealize.ShloMosaic.Lib.Pipeline.Value

@[expose] public section

noncomputable section

namespace Cert.Proof.Rows

open Idealize.ShloMosaic Idealize.ShloMosaic.ValueIdx

variable {F : FTy → Type} [FloatOps F]

abbrev Table (F : FTy → Type) : Type := (⟨2, ![8192, 256]⟩ : Shape).Idx → Elt F .f32
abbrev Toks : Type := (⟨1, ![6400]⟩ : Shape).Idx → BitVec 32

/-- Row `k` is the table's row at token `k`. -/
def plain (e : Table F) (ix : Toks) : (⟨2, ![6272, 256]⟩ : Shape).Idx → Elt F .f32 := fun y =>
  e (ix2 ⟨(ix (ix1 ⟨(y 0).val, (idx2_lt0 y).trans (by decide)⟩)).toNat % 8192, Nat.mod_lt _ (by decide)⟩ ⟨(y 1).val, idx2_lt1 y⟩)

/-- Where row `k` and entry `c` of the rows lie in the result. -/
def laid (G : (⟨2, ![6272, 256]⟩ : Shape).Idx → Elt F .f32) : (⟨5, ![2, 4, 256, 28, 28]⟩ : Shape).Idx → Elt F .f32 := fun j =>
  G (ix2 ⟨(((j 0).val * 4 + (j 1).val) * 28 + (j 3).val) * 28 + (j 4).val, by
    have h0 : (j 0).val < 2 := (j 0).isLt; have h1 : (j 1).val < 4 := (j 1).isLt
    have h3 : (j 3).val < 28 := (j 3).isLt; have h4 : (j 4).val < 28 := (j 4).isLt
    omega⟩ ⟨(j 2).val, (j 2).isLt⟩)

section Kernel
open Cert.KernelIdeal Cert.KernelIdeal.Gen

theorem rowsOf_apply (tb : (⟨3, ![8192, 2, 128]⟩ : Shape).Idx → Elt F .f32) (ix : Toks) (r : Fin 6400) (a : Fin 2) (b : Fin 128) :
    Gather.rowsOf (F := F) tb ix (ix3 r a b) = tb (ix3 ⟨(ix (ix1 r)).toNat % 8192, Nat.mod_lt _ (by decide)⟩ a b) := by
  unfold Gather.rowsOf
  refine congrArg tb (funext fun x => ?_)
  match x with
  | ⟨0, _⟩ => exact Fin.ext (congrArg (fun j => (ix j).toNat % 8192) (funext fun z => match z with | ⟨0, _⟩ => rfl))
  | ⟨1, _⟩ => rfl
  | ⟨2, _⟩ => rfl

theorem kernel_rows (e : Table F) (ix : Toks) :
    extractStridedSlice S6272x256 ![0, 0] (shapeCast _ (Gather.rowsOf (F := F) (shapeCast _ e shapeCasts_S8192x256_S8192x2x128) ix) shapeCasts_S6400x2x128_S6400x256)
      slices_S6400x256_S6272x256_0_0 = plain (F := F) e ix := by
  funext y
  have y0 : (y 0).val < 6272 := (y 0).isLt
  have y1 : (y 1).val < 256 := (y 1).isLt
  refine (extractStridedSlice_apply _ _ _ y (ix2 ⟨(y 0).val, by omega⟩ ⟨(y 1).val, y1⟩) fun a => ?_).trans ?_
  · match a with
    | ⟨0, _⟩ => show (y 0).val = 0 + (y 0).val; omega
    | ⟨1, _⟩ => show (y 1).val = 0 + (y 1).val; omega
  refine (shapeCast_apply _ _ _ (ix3 ⟨(y 0).val, by omega⟩ ⟨(y 1).val / 128, by omega⟩ ⟨(y 1).val % 128, by omega⟩) ?_).trans ?_
  · rw [Shape.rowMajor_val_three, Shape.rowMajor_val_two]
    show ((y 0).val * 2 + (y 1).val / 128) * 128 + (y 1).val % 128 = (y 0).val * 256 + (y 1).val
    omega
  rw [rowsOf_apply]
  unfold plain
  refine (shapeCast_apply _ _ _ (ix2 ⟨(ix (ix1 ⟨(y 0).val, by omega⟩)).toNat % 8192, Nat.mod_lt _ (by decide)⟩ ⟨(y 1).val, y1⟩) ?_).trans rfl
  rw [Shape.rowMajor_val_three, Shape.rowMajor_val_two]
  show (ix (ix1 ⟨(y 0).val, by omega⟩)).toNat % 8192 * 256 + (y 1).val
    = ((ix (ix1 ⟨(y 0).val, by omega⟩)).toNat % 8192 * 2 + (y 1).val / 128) * 128 + (y 1).val % 128
  omega

theorem kernel_laid (G : (⟨2, ![6272, 256]⟩ : Shape).Idx → Elt F .f32) :
    shapeCast S2x4x256x28x28 (shapeCast S8x256x28x28 (transpose S8x256x784 [0, 2, 1] (shapeCast S8x784x256 G shapeCasts_S6272x256_S8x784x256) transposes_S8x784x256_S8x256x784_0_2_1)
      shapeCasts_S8x256x784_S8x256x28x28) shapeCasts_S8x256x28x28_S2x4x256x28x28 = laid (F := F) G := by
  funext j
  have h0 : (j 0).val < 2 := (j 0).isLt
  have h1 : (j 1).val < 4 := (j 1).isLt
  have h2 : (j 2).val < 256 := (j 2).isLt
  have h3 : (j 3).val < 28 := (j 3).isLt
  have h4 : (j 4).val < 28 := (j 4).isLt
  refine (shapeCast_apply _ _ _ (ix4 ⟨(j 0).val * 4 + (j 1).val, by omega⟩ ⟨(j 2).val, h2⟩ ⟨(j 3).val, h3⟩ ⟨(j 4).val, h4⟩) ?_).trans ?_
  · rw [Shape.rowMajor_val_four, Shape.rowMajor_val_five]; rfl
  refine (shapeCast_apply _ _ _ (ix3 ⟨(j 0).val * 4 + (j 1).val, by omega⟩ ⟨(j 2).val, h2⟩ ⟨(j 3).val * 28 + (j 4).val, by omega⟩) ?_).trans ?_
  · rw [Shape.rowMajor_val_four, Shape.rowMajor_val_three]
    show (((j 0).val * 4 + (j 1).val) * 256 + (j 2).val) * 784 + ((j 3).val * 28 + (j 4).val)
      = ((((j 0).val * 4 + (j 1).val) * 256 + (j 2).val) * 28 + (j 3).val) * 28 + (j 4).val
    omega
  refine (transpose_apply _ _ _ _ (ix3 ⟨(j 0).val * 4 + (j 1).val, by omega⟩ ⟨(j 3).val * 28 + (j 4).val, by omega⟩ ⟨(j 2).val, h2⟩) fun b => ?_).trans ?_
  · match b with
    | ⟨0, _⟩ => rfl
    | ⟨1, _⟩ => rfl
    | ⟨2, _⟩ => rfl
  refine (shapeCast_apply _ _ _ (ix2 ⟨(((j 0).val * 4 + (j 1).val) * 28 + (j 3).val) * 28 + (j 4).val, by omega⟩ ⟨(j 2).val, h2⟩) ?_).trans rfl
  rw [Shape.rowMajor_val_three, Shape.rowMajor_val_two]
  show ((((j 0).val * 4 + (j 1).val) * 28 + (j 3).val) * 28 + (j 4).val) * 256 + (j 2).val
    = (((j 0).val * 4 + (j 1).val) * 784 + ((j 3).val * 28 + (j 4).val)) * 256 + (j 2).val
  omega

/-- The kernel's result. -/
theorem kernel_result (e : Table F) (ix : Toks) : Gather.result (F := F) e ix = laid (F := F) (plain (F := F) e ix) := by
  unfold Gather.result Gather.layout
  rw [kernel_rows]
  exact kernel_laid _

end Kernel

section Reference
open Cert.ReferenceIdeal Cert.ReferenceIdeal.Gen

theorem reference_laid (G : (⟨2, ![6272, 256]⟩ : Shape).Idx → Elt F .f32) :
    shapeCast S2x4x256x28x28 (transpose S8x256x28x28 [0, 3, 1, 2] (shapeCast S8x28x28x256 G shapeCasts_S6272x256_S8x28x28x256) transposes_S8x28x28x256_S8x256x28x28_0_3_1_2)
      shapeCasts_S8x256x28x28_S2x4x256x28x28 = laid (F := F) G := by
  funext j
  have h0 : (j 0).val < 2 := (j 0).isLt
  have h1 : (j 1).val < 4 := (j 1).isLt
  have h2 : (j 2).val < 256 := (j 2).isLt
  have h3 : (j 3).val < 28 := (j 3).isLt
  have h4 : (j 4).val < 28 := (j 4).isLt
  refine (shapeCast_apply _ _ _ (ix4 ⟨(j 0).val * 4 + (j 1).val, by omega⟩ ⟨(j 2).val, h2⟩ ⟨(j 3).val, h3⟩ ⟨(j 4).val, h4⟩) ?_).trans ?_
  · rw [Shape.rowMajor_val_four, Shape.rowMajor_val_five]; rfl
  refine (transpose_apply _ _ _ _ (ix4 ⟨(j 0).val * 4 + (j 1).val, by omega⟩ ⟨(j 3).val, h3⟩ ⟨(j 4).val, h4⟩ ⟨(j 2).val, h2⟩) fun b => ?_).trans ?_
  · match b with
    | ⟨0, _⟩ => rfl
    | ⟨1, _⟩ => rfl
    | ⟨2, _⟩ => rfl
    | ⟨3, _⟩ => rfl
  refine (shapeCast_apply _ _ _ (ix2 ⟨(((j 0).val * 4 + (j 1).val) * 28 + (j 3).val) * 28 + (j 4).val, by omega⟩ ⟨(j 2).val, h2⟩) ?_).trans rfl
  rw [Shape.rowMajor_val_four, Shape.rowMajor_val_two]
  rfl

/-- The tokens as the reference's take uses them: a negative one, counted from the table's end, is never met. -/
def words (ix : Toks) : (⟨1, ![6272]⟩ : Shape).Idx → BitVec 32 :=
  select (cmpi .slt (extractStridedSlice S6272 ![0] ix slices_S6400_S6272_0) (broadcastInDim S6272 ![] bcast_S_S6272 (constantI S_ 32 0#32)))
    (addi (extractStridedSlice S6272 ![0] ix slices_S6400_S6272_0) (broadcastInDim S6272 ![] bcast_S_S6272 (constantI S_ 32 8192#32)))
    (extractStridedSlice S6272 ![0] ix slices_S6400_S6272_0)

theorem word_cmp : ∀ v : BitVec 32, v.toNat < 8192 → IntOp.cmpi .slt v 0#32 = 0#1 ∧ IntOp.cmpi .sge v 0#32 = 1#1 ∧ IntOp.cmpi .sle v 8191#32 = 1#1 := by
  intro v hv
  have ofBool_eq_one (p : Bool) : (BitVec.ofBool p = 1#1) ↔ p = true := by cases p <;> decide
  have ofBool_eq_zero (p : Bool) : (BitVec.ofBool p = 0#1) ↔ p = false := by cases p <;> decide
  simp only [IntOp.cmpi, ofBool_eq_one, ofBool_eq_zero, BitVec.sle_eq_decide, BitVec.slt_eq_decide,
      decide_eq_true_eq, decide_eq_false_iff_not, BitVec.toInt_eq_toNat_cond, BitVec.toNat_ofNat, Nat.reducePow, Nat.reduceMod]
  omega

theorem words_apply (ix : Toks) (hix : ∀ j, (ix j).toNat < 8192) (k : Fin 6272) :
    words ix (ix1 k) = ix (ix1 ⟨k.val, by omega⟩) := by
  have hs : extractStridedSlice S6272 ![0] ix slices_S6400_S6272_0 (ix1 k) = ix (ix1 ⟨k.val, by omega⟩) :=
    extractStridedSlice_apply _ _ _ _ _ fun a => by
      match a with
      | ⟨0, _⟩ => show k.val = 0 + k.val; omega
  unfold words
  show (if IntOp.cmpi .slt (extractStridedSlice S6272 ![0] ix slices_S6400_S6272_0 (ix1 k)) 0#32 = 1#1 then _ else _) = _
  rw [hs, (word_cmp _ (hix _)).1]
  exact if_neg (by decide)

theorem column_apply (ix : Toks) (hix : ∀ j, (ix j).toNat < 8192) (k : Fin 6272) (u : Fin 1) :
    broadcastInDim S6272x1 ![0] bcast_S6272_S6272x1_0 (words ix) (ix2 k u) = ix (ix1 ⟨k.val, by omega⟩) :=
  (broadcastInDim_apply _ _ _ _ (ix1 k) fun a => by
    match a with
    | ⟨0, _⟩ => rfl).trans (words_apply ix hix k)

/-- The reference's take: the guard holds everywhere, the rows are the table's at the tokens. -/
theorem reference_rows (e : Table F) (ix : Toks) (hix : ∀ j, (ix j).toNat < 8192) :
    select (broadcastInDim S6272x256 ![0] bcast_S6272_S6272x256_0 (Host.reduce IntOp.andi
        (andi (cmpi .sge (broadcastInDim S6272x1 ![0] bcast_S6272_S6272x1_0 (words ix)) (broadcastInDim S6272x1 ![] bcast_S_S6272x1 (constantI S_ 32 0#32)))
          (cmpi .sle (broadcastInDim S6272x1 ![0] bcast_S6272_S6272x1_0 (words ix)) (broadcastInDim S6272x1 ![0, 1] bcast_S1x1_S6272x1_0_1 (broadcastInDim S1x1 ![1] bcast_S1_S1x1_1 (constantI S1 32 8191#32)))))
        (constantI S_ 1 1#1) reducesTo_S6272x1_S6272_d1 h_S_))
      (Host.gather gather_S8192x256_S6272x1_S6272x256_1_0_n_n_0_1_1256 e (broadcastInDim S6272x1 ![0] bcast_S6272_S6272x1_0 (words ix)))
      (broadcastInDim S6272x256 ![] bcast_S_S6272x256 (constant (F := F) S_ .f32 0x7FC00000#32)) = plain (F := F) e ix := by
  funext y
  obtain ⟨k, c, rfl⟩ : ∃ (k : Fin 6272) (c : Fin 256), y = ix2 k c := ⟨y 0, y 1, eq_ix2 y⟩
  have hg : ∀ i : (⟨2, ![6272, 1]⟩ : Shape).Idx, andi (cmpi .sge (broadcastInDim S6272x1 ![0] bcast_S6272_S6272x1_0 (words ix)) (broadcastInDim S6272x1 ![] bcast_S_S6272x1 (constantI S_ 32 0#32)))
          (cmpi .sle (broadcastInDim S6272x1 ![0] bcast_S6272_S6272x1_0 (words ix)) (broadcastInDim S6272x1 ![0, 1] bcast_S1x1_S6272x1_0_1 (broadcastInDim S1x1 ![1] bcast_S1_S1x1_1 (constantI S1 32 8191#32)))) i = 1#1 := by
    intro i
    obtain ⟨r, u, rfl⟩ : ∃ (r : Fin 6272) (u : Fin 1), i = ix2 r u := ⟨i 0, i 1, eq_ix2 i⟩
    show IntOp.andi (IntOp.cmpi .sge (broadcastInDim S6272x1 ![0] bcast_S6272_S6272x1_0 (words ix) (ix2 r u)) 0#32)
      (IntOp.cmpi .sle (broadcastInDim S6272x1 ![0] bcast_S6272_S6272x1_0 (words ix) (ix2 r u)) 8191#32) = 1#1
    rw [column_apply ix hix, (word_cmp _ (hix _)).2.1, (word_cmp _ (hix _)).2.2]
    decide
  have hm := (broadcastInDim_apply ![0] bcast_S6272_S6272x256_0 (Host.reduce IntOp.andi _ (constantI S_ 1 1#1) reducesTo_S6272x1_S6272_d1 h_S_) (ix2 k c) (ix1 k) fun a => by
      match a with
      | ⟨0, _⟩ => rfl).trans (Host.reduce_andi_one _ (constantI S_ 1 1#1) reducesTo_S6272x1_S6272_d1 h_S_ (ix1 k) rfl hg)
  unfold select
  refine (if_pos hm).trans ?_
  exact Routing.gather_row _ rfl rfl rfl rfl rfl e _ k c ⟨(ix (ix1 ⟨k.val, by omega⟩)).toNat % 8192, Nat.mod_lt _ (by decide)⟩
      ((column_apply ix hix k 0).trans (by
        show _ = BitVec.ofNat 32 ((ix _).toNat % 8192)
        rw [Nat.mod_eq_of_lt (hix _), BitVec.ofNat_toNat, BitVec.setWidth_eq])) (by decide)

/-- The reference's result. -/
theorem reference_result (e : Table F) (ix : Toks) (hix : ∀ j, (ix j).toNat < 8192) :
    shapeCast S2x4x256x28x28 (transpose S8x256x28x28 [0, 3, 1, 2] (shapeCast S8x28x28x256 (select (broadcastInDim S6272x256 ![0] bcast_S6272_S6272x256_0 (Host.reduce IntOp.andi
        (andi (cmpi .sge (broadcastInDim S6272x1 ![0] bcast_S6272_S6272x1_0 (words ix)) (broadcastInDim S6272x1 ![] bcast_S_S6272x1 (constantI S_ 32 0#32)))
          (cmpi .sle (broadcastInDim S6272x1 ![0] bcast_S6272_S6272x1_0 (words ix)) (broadcastInDim S6272x1 ![0, 1] bcast_S1x1_S6272x1_0_1 (broadcastInDim S1x1 ![1] bcast_S1_S1x1_1 (constantI S1 32 8191#32)))))
        (constantI S_ 1 1#1) reducesTo_S6272x1_S6272_d1 h_S_))
      (Host.gather gather_S8192x256_S6272x1_S6272x256_1_0_n_n_0_1_1256 e (broadcastInDim S6272x1 ![0] bcast_S6272_S6272x1_0 (words ix)))
      (broadcastInDim S6272x256 ![] bcast_S_S6272x256 (constant (F := F) S_ .f32 0x7FC00000#32))) shapeCasts_S6272x256_S8x28x28x256) transposes_S8x28x28x256_S8x256x28x28_0_3_1_2)
      shapeCasts_S8x256x28x28_S2x4x256x28x28 = laid (F := F) (plain (F := F) e ix) := by
  rw [reference_rows e ix hix]
  exact reference_laid _

end Reference

end Cert.Proof.Rows

end
-- ==== Proof.Encoder.Tile.lean ====
/-
  The SparseCore call of the whole kernel, run with its value, and the launch it shares with the TensorCore calls.

  Thirty-two tiles (two SparseCores, sixteen tiles of each) fetch two hundred token words each, gather the rows of the
  table that those words name, and write them to their own block of two hundred rows of the output. The tile of core `c`
  and subcore `s` owns block `2 s + c`. The account below is given once, for any float values, any contents `tb` of the
  table and `ix` of the token array: the output ends at `rowsOf tb ix`, row `r` of which is row `ix r` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Gen.EncoderIdeal
public import proofs.«01_k».proof.Proof.Gen.EncoderIdeal.Skeleton
public import proofs.«01_k».proof.Proof.Gen.EncoderIdeal.Launch

@[expose] public section

noncomputable section

namespace Cert.Proof.Encoder

open Cert.EncoderIdeal Cert.EncoderIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Tactic

variable {F : FTy → Type}

/-! ## The launch -/

abbrev ΛP : Labels := Pipeline.Sig Λ₀ (Fin 5) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × UP × Counters

local notation "𝕄" => MT nD τ sig (HIx 1) (Elt F) ℕ UU ℕ

abbrev EH : Emb UH (MT nD τ sig (HIx 1) (Elt F) ℕ UU ℕ) := embL

/-- The ghost state of the five pipelines' staging cells. -/
abbrev EP : Emb UP (MT nD τ sig (HIx 1) (Elt F) ℕ UU ℕ) := (Emb.inl : Emb UP (UP × Counters)).trans embR

instance EP_landsIn : (EP (F := F)).LandsIn (upEmb : UEmb _ 𝕄) := inferInstance

abbrev adm : (p : Fin 5) → (pcfgs (F := F) p).Adm := fun p => (cfgs p).toPCfg_adm

theorem cells_inj : Function.Injective (Pipeline.cellOf (nD := nD) (τ := τ) (Pipeline.pin (pcfgs (F := F)) (adm (F := F)))) := cellOf_inj

/-- The ghost state of the pipelines of `s` on device `d`. -/
abbrev ghost (s : Finset (Fin 5)) (d : Dev nD) : sProp 𝕄 := Pipeline.ghostOn (pcfgs (F := F)) (adm (F := F)) (EP (F := F)) s d

/-! ## The arrays of the call, and their thirty-two blocks -/

abbrev tLoc (d : Dev nD) : Loc nD τ sig := (SparseCore.T d).loc main_v90
abbrev iLoc (d : Dev nD) : Loc nD τ sig := (SparseCore.T d).loc main_v89
abbrev oLoc (d : Dev nD) : Loc nD τ sig := (SparseCore.T d).loc main_v91

local notation "tV" => (Memref.whole Cert.EncoderIdeal.main_v90_scv : Memref Cert.EncoderIdeal.sig Kind.scVector Space.hbm Cert.EncoderIdeal.S8192x2x128 EltTy.f32)
local notation "iV" => (Memref.whole Cert.EncoderIdeal.main_v89_scv : Memref Cert.EncoderIdeal.sig Kind.scVector Space.hbm Cert.EncoderIdeal.S6400 EltTy.i32)
local notation "oV" => (Memref.whole Cert.EncoderIdeal.main_v91_scv : Memref Cert.EncoderIdeal.sig Kind.scVector Space.hbm Cert.EncoderIdeal.S6400x2x128 EltTy.f32)
local notation "sV" => (Memref.whole Cert.EncoderIdeal.cc5_scratch0 : Memref Cert.EncoderIdeal.sig Kind.scVector Space.vmem Cert.EncoderIdeal.S200 EltTy.i32)
local notation "rV" => (Memref.whole Cert.EncoderIdeal.cc5_scratch1 : Memref Cert.EncoderIdeal.sig Kind.scVector Space.vmem Cert.EncoderIdeal.S200x2x128 EltTy.f32)

theorem idiv : 32 ∣ S6400.size 0 := ⟨200, rfl⟩
theorem odiv : 32 ∣ S6400x2x128.size 0 := ⟨200, rfl⟩
abbrev iBlk (b : Fin 32) : Rect S6400 := Rect.part (s := S6400) (a₀ := 0) idiv b
abbrev oBlk (b : Fin 32) : Rect S6400x2x128 := Rect.part (s := S6400x2x128) (a₀ := 0) odiv b
abbrev iSet (b : Fin 32) : Finset S6400.Idx := ((iV).view.slice (iBlk b)).set
abbrev oSet (b : Fin 32) : Finset S6400x2x128.Idx := ((oV).view.slice (oBlk b)).set

/-- The block of core `c`, subcore `s`. -/
def blk (c : Fin 2) (s : Fin 16) : Fin 32 := finProdFinEquiv (m := 16) (n := 2) (s, c)
theorem blk_val (c : Fin 2) (s : Fin 16) : (blk c s).val = c.val + 2 * s.val := rfl

/-- The contents the launch finds in the three arrays. -/
structure Held (F : FTy → Type) where
  tb : (d : Dev nD) → Buf (Elt F) (tLoc d)
  ix : (d : Dev nD) → Buf (Elt F) (iLoc d)
  o₀ : (d : Dev nD) → Buf (Elt F) (oLoc d)

/-- Every token names a row of the table. -/
def Held.OK (H : Held F) : Prop := ∀ (d : Dev nD) (j : S6400.Idx), (H.ix d j : BitVec 32).toNat < 8192

/-- Row `r` of the output is the table's row at token `r` (a token past the table is reduced into it). -/
def rowsOf (tb : S8192x2x128.Idx → Elt F .f32) (ix : S6400.Idx → BitVec 32) : S6400x2x128.Idx → Elt F .f32 := fun j =>
  tb (fun | 0 => ⟨(ix (fun | 0 => j 0)).toNat % 8192, Nat.mod_lt _ (by decide)⟩ | 1 => j 1 | 2 => j 2)

/-- The piece of the table's full share that block `b`'s tile reads it at. -/
abbrev tq (b : Fin 32) : PosShare TreeShare := pieceOf fullShare 32 (by decide) b

variable (H : Held F)

abbrev iPart (d : Dev nD) (b : Fin 32) : sProp 𝕄 := iLoc d ↦[iSet b]{fullShare} H.ix d
abbrev tPart (d : Dev nD) (b : Fin 32) : sProp 𝕄 := tLoc d ↦{tq b} H.tb d
abbrev oPart (d : Dev nD) (b : Fin 32) (f : Buf (Elt F) (oLoc d)) : sProp 𝕄 := oLoc d ↦[oSet b]{fullShare} f
abbrev gOut (d : Dev nD) : Buf (Elt F) (oLoc d) := rowsOf (H.tb d) (H.ix d)

/-- What the tile of block `b` is handed, and what it brings back. -/
abbrev inPart (d : Dev nD) (b : Fin 32) : sProp 𝕄 := iprop(iPart H d b ∗ tPart H d b ∗ oPart d b (H.o₀ d))
abbrev outPart (d : Dev nD) (b : Fin 32) : sProp 𝕄 := iprop(iPart H d b ∗ tPart H d b ∗ oPart d b (gOut H d))

/-- What the handshakes carry: a core is started with its sixteen tiles' parts and brings their results back. -/
def P [FloatOps F] : (K (F := F)).Pay (nD := nD) (Val := Elt F) (Name := ℕ) (U := UU) where
  st := fun q d c => match q with | 0 => bigSep Finset.univ fun s : Fin 16 => inPart H d (blk (Fin.cast nCore_zero c) s)
  dn := fun q d c => match q with | 0 => bigSep Finset.univ fun s : Fin 16 => outPart H d (blk (Fin.cast nCore_zero c) s)
  go := fun q d c i => match q with | 0 => inPart H d (blk (Fin.cast nCore_zero c) (Fin.cast nSub_zero i))
  td := fun q d c i => match q with | 0 => outPart H d (blk (Fin.cast nCore_zero c) (Fin.cast nSub_zero i))
  x := fun _ _ => iprop(emp)

variable [FloatOps F]

instance P_storable : (P (F := F) H).IsStorable where
  st q d c := match q with
    | 0 => (inferInstance : BI.Storable (upEmb : UEmb _ 𝕄) (bigSep Finset.univ fun s : Fin 16 => inPart H d (blk (Fin.cast nCore_zero c) s)))
  dn q d c := match q with
    | 0 => (inferInstance : BI.Storable (upEmb : UEmb _ 𝕄) (bigSep Finset.univ fun s : Fin 16 => outPart H d (blk (Fin.cast nCore_zero c) s)))
  go q d c i := match q with
    | 0 => (inferInstance : BI.Storable (upEmb : UEmb _ 𝕄) (inPart H d (blk (Fin.cast nCore_zero c) (Fin.cast nSub_zero i))))
  td q d c i := match q with
    | 0 => (inferInstance : BI.Storable (upEmb : UEmb _ 𝕄) (outPart H d (blk (Fin.cast nCore_zero c) (Fin.cast nSub_zero i))))

/-! ## One tile -/

section Tile

variable (d : Dev nD) (L : grid5.Coords)

abbrev cV (L : grid5.Coords) : Fin τ.nSC := (L 0).castLE hcore5
abbrev jV (L : grid5.Coords) : Fin τ.nSub := (L 1).castLE hsub5
omit [FloatOps F] in
theorem bound_core : grid5.bound 0 = 2 := rfl
omit [FloatOps F] in
theorem bound_sub : grid5.bound 1 = 16 := rfl
abbrev bL (L : grid5.Coords) : Fin 32 := blk (Fin.cast bound_core (L 0)) (Fin.cast bound_sub (L 1))

omit [FloatOps F] in
theorem bL_val : (bL L).val = (L 0).val + 2 * (L 1).val := rfl

abbrev iRect (L : grid5.Coords) : Rect S6400 := Rect.unit (s := S6400) (k5_off1 L) S200.size (k5_off1_inb L)
abbrev oRect (L : grid5.Coords) : Rect S6400x2x128 := Rect.unit (s := S6400x2x128) (k5_off2 L) S200x2x128.size (k5_off2_inb L)
abbrev iMem (L : grid5.Coords) : Memref sig .scVector .hbm S200 .i32 := (iV).slice (iRect L) (fun _ => rfl)
abbrev oMem (L : grid5.Coords) : Memref sig .scVector .hbm S200x2x128 .f32 := (oV).slice (oRect L) (fun _ => rfl)
abbrev tMem : Memref sig .scVector .hbm S8192x2x128 .f32 :=
  (tV).slice (Rect.unit (s := S8192x2x128) ![0, 0, 0] S8192x2x128.size inb_S8192x2x128_S8192x2x128_0_0_0) (fun _ => rfl)

omit [FloatOps F] in
theorem iRect_eq : iRect L = iBlk (bL L) := by
  unfold iRect iBlk Rect.part Rect.block
  congr 1 <;> funext a
  · rw [k5_off1_eq]
    match a with
    | 0 => simp [Shape.partIx, Shape.partSize, bL_val]; omega
  · match a with
    | 0 => simp [Shape.partSize]
omit [FloatOps F] in
theorem oRect_eq : oRect L = oBlk (bL L) := by
  unfold oRect oBlk Rect.part Rect.block
  congr 1 <;> funext a
  · rw [k5_off2_eq]
    match a with
    | 0 => simp [Shape.partIx, Shape.partSize, bL_val]; omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem iMem_set : (iMem L).view.set = iSet (bL L) := by
  show ((iV).view.slice (iRect L)).set = ((iV).view.slice (iBlk (bL L))).set
  exact iRect_eq L ▸ rfl
omit [FloatOps F] in
theorem oMem_set : (oMem L).view.set = oSet (bL L) := by
  show ((oV).view.slice (oRect L)).set = ((oV).view.slice (oBlk (bL L))).set
  exact oRect_eq L ▸ rfl

omit [FloatOps F] in
theorem iMem_pts (f : Buf (Elt F) (iLoc d)) :
    ((iMem L).view.loc (V d (cV L) (jV L)) ↦[(iMem L).view.set]{fullShare} f : sProp 𝕄) = iLoc d ↦[iSet (bL L)]{fullShare} f := by
  rw [iMem_set]
omit [FloatOps F] in
theorem oMem_pts (f : Buf (Elt F) (oLoc d)) :
    ((oMem L).view.loc (V d (cV L) (jV L)) ↦[(oMem L).view.set]{fullShare} f : sProp 𝕄) = oLoc d ↦[oSet (bL L)]{fullShare} f := by
  rw [oMem_set]

abbrev gCell (d : Dev nD) (c : Fin τ.nSC) (i : Fin τ.nSub) : GSem nD τ sig := (V d c i, .dma cc5_scratch2.sem)
abbrev aCell (d : Dev nD) (c : Fin τ.nSC) (i : Fin τ.nSub) : GSem nD τ sig := (V d c i, .dma cc5_scoped0.sem)
abbrev bCell (d : Dev nD) (c : Fin τ.nSC) (i : Fin τ.nSub) : GSem nD τ sig := (V d c i, .dma cc5_scoped1.sem)

omit [FloatOps F] in
/-- The tile's own semaphores: its three transfers' and the rest. -/
theorem sems_tile :
    (ownSems0 (V d (cV L) (jV L)) : sProp 𝕄)
      = iprop(semVal (aCell d (cV L) (jV L)) 0 ∗ semVal (gCell d (cV L) (jV L)) 0 ∗ semVal (bCell d (cV L) (jV L)) 0
          ∗ bigSep ((((ownCells (V d (cV L) (jV L))).erase (aCell d (cV L) (jV L))).erase (gCell d (cV L) (jV L))).erase (bCell d (cV L) (jV L))) fun g => semVal g 0) := by
  unfold SparseCore.Cfg.ownSems0
  rw [SparseCore.bigSep_erase' ((mem_ownCells (g := aCell d (cV L) (jV L))).mpr ⟨rfl, by
      show (SemLoc.dma cc5_scoped0.sem : SemLoc sig).isScoped .scVector = true; decide⟩),
    SparseCore.bigSep_erase' (Finset.mem_erase.mpr ⟨by simp [aCell, gCell]; decide, (mem_ownCells (g := gCell d (cV L) (jV L))).mpr ⟨rfl, by
      show (SemLoc.dma cc5_scratch2.sem : SemLoc sig).isScoped .scVector = true; decide⟩⟩),
    SparseCore.bigSep_erase' (Finset.mem_erase.mpr ⟨by simp [gCell, bCell]; decide, Finset.mem_erase.mpr ⟨by simp [aCell, bCell]; decide,
      (mem_ownCells (g := bCell d (cV L) (jV L))).mpr ⟨rfl, by show (SemLoc.dma cc5_scoped1.sem : SemLoc sig).isScoped .scVector = true; decide⟩⟩⟩)]

omit [FloatOps F] in
/-- The tile's own buffers: its two scratch buffers and the rest. -/
theorem bufs_tile :
    (ownBufs (V d (cV L) (jV L)) : sProp 𝕄)
      = iprop((∃ f, (V d (cV L) (jV L)).loc cc5_scratch0 ↦{fullShare} f) ∗ (∃ f, (V d (cV L) (jV L)).loc cc5_scratch1 ↦{fullShare} f)
          ∗ bigSep (((ownRefs (τ := τ) (.scVector (cV L) (jV L))).erase ((Proc.scVector (cV L) (jV L)).devRef cc5_scratch0)).erase
              ((Proc.scVector (cV L) (jV L)).devRef cc5_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc5_scratch0) rfl)).trans ?_
  rw [SparseCore.bigSep_erase' (Finset.mem_erase.mpr ⟨fun e => absurd (Proc.devRef_injective _ e) (show (cc5_scratch1 : Ref sig .scVector) ≠ cc5_scratch0 by decide),
    SparseCore.Cfg.mem_ownRefs_of_owner (p := Proc.scVector (cV L) (jV L)) (b := (Proc.scVector (cV L) (jV L)).devRef cc5_scratch1) rfl⟩)]

omit [FloatOps F] in
/-- The token words a tile's fetch lands in its scratch are its block's. -/
theorem list_read (fs : Buf (Elt F) ((V d (cV L) (jV L)).loc cc5_scratch0)) (pay : S200.Idx → Elt F .i32)
    (hpay : pay = (iMem L).view.read (Elt F) (H.ix d)) (x : S200.Idx) :
    (sV).view.read (Elt F) (View.write (Elt F) (sV).view fs pay Finset.univ) x = H.ix d ((iRect L).emb x) := by
  subst hpay
  rw [View.write_whole_univ]
  simp only [Memref.view_whole, View.read_whole]
  exact (View.read_apply _ _).trans (cast_eq _ _)

omit [FloatOps F] in
theorem list_inb (hok : H.OK) (fs : Buf (Elt F) ((V d (cV L) (jV L)).loc cc5_scratch0)) (pay : S200.Idx → Elt F .i32)
    (hpay : pay = (iMem L).view.read (Elt F) (H.ix d)) :
    ∀ x, ((sV).view.read (Elt F) (View.write (Elt F) (sV).view fs pay Finset.univ) x : BitVec 32).toNat
      < S8192x2x128.size gathers_S8192x2x128_S200x2x128.axis := by
  intro x
  rw [list_read H d L fs pay hpay x]
  exact hok d _

omit [FloatOps F] in
/-- Entry `k` of a list of two hundred words is the word at index `k`. -/
theorem row_list (k : Fin S200.numel) : S200.rowMajor.symm k = (fun | 0 => k) := by
  rw [Equiv.symm_apply_eq]
  refine Fin.ext ?_
  have h := Shape.rowMajorPi_succ_val (n := 0) S200.size (fun | 0 => k)
  refine Eq.trans ?_ h.symm
  have h0 : ∀ z : Fin (∏ a : Fin 0, S200.size a.succ), z.val = 0 := fun z => by
    have := z.isLt; simp at this; omega
  rw [h0]; simp

set_option maxHeartbeats 4000000 in
omit [FloatOps F] in
/-- The block a tile writes out is the gathered rows: at every index of it, `rowsOf`. -/
theorem block_value (hok : H.OK) (fs : Buf (Elt F) ((V d (cV L) (jV L)).loc cc5_scratch0)) (fr : Buf (Elt F) ((V d (cV L) (jV L)).loc cc5_scratch1))
    (pay : S200.Idx → Elt F .i32) (hpay : pay = (iMem L).view.read (Elt F) (H.ix d))
    (hin : ∀ x, ((sV).view.read (Elt F) (View.write (Elt F) (sV).view fs pay Finset.univ) x : BitVec 32).toNat
      < S8192x2x128.size gathers_S8192x2x128_S200x2x128.axis)
    (out : S200x2x128.Idx → Elt F .f32)
    (hout : out = (rV).view.read (Elt F) (View.write (Elt F) (rV).view fr
      (SparseCore.gatherPayload gathers_S8192x2x128_S200x2x128 ((tMem).view.read (Elt F) (H.tb d))
        (SparseCore.rows ((sV).view.read (Elt F) (View.write (Elt F) (sV).view fs pay Finset.univ)) rfl hin)) Finset.univ)) :
    ∀ i ∈ (oMem L).view.set, gOut H d i = (oMem L).view.writes (Elt F) (H.o₀ d) [⟨Rect.whole S200x2x128, out⟩] i := by
  subst hout
  intro i hi
  obtain ⟨x, -, rfl⟩ := Finset.mem_map.mp hi
  have hu : ∀ w : S200x2x128.Idx → Elt F .f32, (oMem L).view.writes (Elt F) (H.o₀ d) [⟨Rect.whole S200x2x128, w⟩]
      = (oMem L).view.write (Elt F) (H.o₀ d) w Finset.univ := fun w => by
    rw [← View.write_univ_eq_writes_whole, View.writes_nil]
  rw [hu, View.write_emb_of_mem _ _ (Finset.mem_univ _), cast_eq, View.write_whole_univ]
  simp only [Memref.view_whole, View.read_whole]
  unfold SparseCore.gatherPayload
  refine Eq.trans ?_ ((View.read_apply _ _).trans (cast_eq _ _)).symm
  refine congrArg (H.tb d) (funext fun a => Fin.ext ?_)
  match a with
  | 0 =>
    dsimp only
    refine Eq.trans ?_ (show ((gathers_S8192x2x128_S200x2x128.idx _ x) gathers_S8192x2x128_S200x2x128.axis).val
      = 0 + 1 * ((gathers_S8192x2x128_S200x2x128.idx _ x) 0).val from (by rw [Nat.zero_add, Nat.one_mul]; rfl))
    rw [Shape.Gathers.idx_axis]; refine (Nat.mod_eq_of_lt (hok d _)).trans ?_
    show _ = BitVec.toNat ((sV).view.read (Elt F) (View.write (Elt F) (sV).view fs pay Finset.univ) _)
    rw [list_read H d L fs pay hpay]
    refine Eq.trans ?_ (congrArg (fun j => BitVec.toNat (H.ix d ((iRect L).emb j))) (row_list _)).symm
    refine congrArg (fun j => BitVec.toNat (H.ix d j)) (funext fun b => Fin.ext ?_)
    match b with
    | 0 =>
      show k5_off2 L 0 + 1 * (x 0).val = k5_off1 L 0 + 1 * (x 0).val
      rw [k5_off1_eq, k5_off2_eq]; rfl
  | 1 =>
    show k5_off2 L 1 + 1 * (x 1).val = 0 + 1 * ((gathers_S8192x2x128_S200x2x128.idx _ x) 1).val
    rw [Shape.Gathers.idx_of_ne _ _ _ _ (by decide), k5_off2_eq]; rfl
  | 2 =>
    show k5_off2 L 2 + 1 * (x 2).val = 0 + 1 * ((gathers_S8192x2x128_S200x2x128.idx _ x) 2).val
    rw [Shape.Gathers.idx_of_ne _ _ _ _ (by decide), k5_off2_eq]; rfl

set_option maxHeartbeats 4000000 in
theorem tile_body (hF : (K (F := F)).Facts) (hok : H.OK) (O : CellTallies nD τ sig (HIx 1)) (W : Waits sig (HIx 1)) (hO : ∀ g, O g none = 0) :
    iprop(levAts (K (F := F)).L (K (F := F)).lev ∗ emp ∗ inPart H d (bL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5_k L tV (Memref.isWhole_whole _) iV (Memref.isWhole_whole _) oV (Memref.isWhole_whole _)
            sV (Memref.isWhole_whole _) rV (Memref.isWhole_whole _) cc5_scratch2 cc5_scoped0 cc5_scoped1)
          fun _ => iprop(outPart H d (bL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc5_k_eq_skeleton]; unfold cc5_k_skel
  rw [(K (F := F)).scopedBufs_V hF d (cV L) (jV L), SparseCore.Cfg.scopedSems0_V (Val := Elt F) d (cV L) (jV L), sems_tile, bufs_tile]
  iintro ⟨#Hlv, -, ⟨Hi, Ht, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (iMem_pts (F := F) d L _).symm) $$ Hi
  ihave Ho' := (Entails.of_eq (oMem_pts (F := F) d L _).symm) $$ Ho
  ihave Ht' := (Entails.of_eq (show (tLoc d ↦{tq (bL L)} H.tb d : sProp 𝕄) = ((tV).view.loc (V d (cV L) (jV L)) ↦{tq (bL L)} H.tb d) from rfl)) $$ Ht
  ihave Hs' := (Entails.of_eq (show ((V d (cV L) (jV L)).loc cc5_scratch0 ↦{fullShare} fs : sProp 𝕄) = ((sV).view.loc (V d (cV L) (jV L)) ↦{fullShare} fs) from rfl)) $$ Hs
  ihave Hr' := (Entails.of_eq (show ((V d (cV L) (jV L)).loc cc5_scratch1 ↦{fullShare} fr : sProp 𝕄) = ((rV).view.loc (V d (cV L) (jV L)) ↦{fullShare} fr) from rfl)) $$ Hr
  sl_exec
  -- the gather: a piece of the table, the row buffer and the list go in, its flight comes back
  ihave Hts := (pointsTo_split_subset (q := tq (bL L)) (f := H.tb d) (S := Finset.univ) (Finset.subset_univ (tMem).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 H d L) Finset.univ : sProp 𝕄)
      = (sV).view.loc (V d (cV L) (jV L)) ↦[(sV).view.set]{fullShare} View.write (Elt F) (sV).view fs (tile_body.sl.dma0 H d L) Finset.univ
      by rw [hss])) $$ Hs'
  have hN : ∀ h : S8192x2x128.Gathers 0 S200x2x128, ∑ j, ((rV).slice (S200x2x128.rowRect h.axis' j) (S200x2x128.stride_rowRect h.axis' j)).view.dmaCredit
      = (rV).view.dmaCredit := by decide
  iapply (SparseCore.wp_indirectGatherLocal countersEmb 𝒱₀ (V d (cV L) (jV L)) none (hg := gathers_S8192x2x128_S200x2x128) (default : HIx 1)
      (rV).view.dmaCredit (hN _) (by decide) (list_inb H d L hok fs _ rfl)) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc5_scratch2.sem)) $$ Hmw
  iintro ⟨⟨Hr', Hts, Hs'⟩, HsemG, HO⟩
  ihave Ht' := (pointsTo_split_subset (q := tq (bL L)) (f := H.tb d) (S := Finset.univ) (Finset.subset_univ (tMem).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Ht' Ho']
  · isplitl [Hi']; · iapply (Entails.of_eq (iMem_pts (F := F) d L _)); iexact Hi'
    isplitl [Ht']; · iexact Ht'
    iapply (Entails.of_eq ((oMem_pts (F := F) d L _).symm.trans (pointsTo_congr (block_value H d L hok fs fr _ rfl (list_inb H d L hok fs _ rfl) _ rfl))).symm); iexact Ho'
  isplitl [Hs3 Hr3 Hbufs]
  · isplitl [Hs3]; · iexists _; iexact Hs3
    isplitl [Hr3]; · iexists _; iexact Hr3
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation of every tile -/

def tileAt (c : Fin (grid5.bound 0)) (s : Fin (grid5.bound 1)) : grid5.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 5 ()
      = SparseCore.onTile hcore5 hsub5 (fun c s => cc5_k (tileAt c s)
          tV (Memref.isWhole_whole _) iV (Memref.isWhole_whole _) oV (Memref.isWhole_whole _)
          sV (Memref.isWhole_whole _) rV (Memref.isWhole_whole _) cc5_scratch2 cc5_scoped0 cc5_scoped1) ⟨⟩ c s := rfl

omit [FloatOps F] in
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hok : H.OK) : (K (F := F)).TileObl (D (F := F)) 𝒱 (P H) v₀ 0 := by
  intro d c i O W hO _ _
  simp only [show (P H).ox = fun _ _ => 0 from rfl, add_zero]
  have hci : ((K (F := F)).core 0 c).val < grid5.bound 0 ∧ ((K (F := F)).sub 0 i).val < grid5.bound 1 := ⟨c.isLt, i.isLt⟩
  change _ ⊢ wp _ _ _ (Pipeline.liftProg (defs₀ (F := F) (.scVector ((K (F := F)).core 0 c) ((K (F := F)).sub 0 i)) 5 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body H d (tileAt ⟨_, hci.1⟩ ⟨_, hci.2⟩) hF hok O W hO).trans (wp_mono frame _ _ fun _ => post_weaken)

end Tile

/-! ## The arrays in blocks, and a core's part in its tiles' -/

omit [FloatOps F] in
theorem iSet_eq (b : Fin 32) : iSet b = (iBlk b).set := by
  show ((View.whole (main_v89_scv : Ref sig .scVector)).slice (iBlk b)).set = _
  rw [View.set_slice]; exact Finset.map_refl
omit [FloatOps F] in
theorem oSet_eq (b : Fin 32) : oSet b = (oBlk b).set := by
  show ((View.whole (main_v91_scv : Ref sig .scVector)).slice (oBlk b)).set = _
  rw [View.set_slice]; exact Finset.map_refl

omit [FloatOps F] in
theorem iPts_blocks (d : Dev nD) (f : Buf (Elt F) (iLoc d)) :
    (iLoc d ↦{fullShare} f : sProp 𝕄) = bigSep Finset.univ fun b : Fin 32 => iLoc d ↦[iSet b]{fullShare} f := by
  rw [← pointsTo_biUnion Finset.univ (ℓ := iLoc d) iSet
      (fun a _ b _ h => by rw [iSet_eq, iSet_eq]; exact Rect.part_disjoint idiv h),
    (Finset.biUnion_congr rfl fun b _ => iSet_eq b).trans (Rect.biUnion_part idiv)]; try rfl
omit [FloatOps F] in
theorem oPts_blocks (d : Dev nD) (f : Buf (Elt F) (oLoc d)) :
    (oLoc d ↦{fullShare} f : sProp 𝕄) = bigSep Finset.univ fun b : Fin 32 => oLoc d ↦[oSet b]{fullShare} f := by
  rw [← pointsTo_biUnion Finset.univ (ℓ := oLoc d) oSet
      (fun a _ b _ h => by rw [oSet_eq, oSet_eq]; exact Rect.part_disjoint odiv h),
    (Finset.biUnion_congr rfl fun b _ => oSet_eq b).trans (Rect.biUnion_part odiv)]; try rfl

omit [FloatOps F] in
/-- A family over the blocks is a family over the cores and their tiles. -/
theorem blocks_cores (Φ : Fin 32 → sProp 𝕄) :
    (bigSep Finset.univ fun c : Fin 2 => bigSep Finset.univ fun s : Fin 16 => Φ (blk c s)) = bigSep Finset.univ Φ := by
  rw [bigSep_univ_equiv ((Equiv.prodComm (Fin 2) (Fin 16)).trans (finProdFinEquiv (m := 16) (n := 2))) Φ, bigSep_univ_prod]
  rfl

/-- What the cores take together: the token array, the table, the output as it stood. -/
theorem start_eq (d : Dev nD) :
    (bigSep Finset.univ fun c : Fin ((K (F := F)).nCore 0) => (P H).st 0 d c)
      = iprop((iLoc d ↦{fullShare} H.ix d) ∗ (tLoc d ↦{fullShare} H.tb d) ∗ oLoc d ↦{fullShare} H.o₀ d) := by
  show (bigSep Finset.univ fun c : Fin 2 => bigSep Finset.univ fun s : Fin 16 => inPart H d (blk c s)) = _
  rw [blocks_cores (fun b => inPart H d b), bigSep_sep', bigSep_sep', ← oPts_blocks, ← iPts_blocks,
    ← pointsTo_piecesOf Finset.univ (H.tb d) (by decide : 0 < 32) fullShare]

/-- What they bring back: the output at the gathered rows. -/
theorem done_eq (d : Dev nD) :
    (bigSep Finset.univ fun c : Fin ((K (F := F)).nCore 0) => (P H).dn 0 d c)
      = iprop((iLoc d ↦{fullShare} H.ix d) ∗ (tLoc d ↦{fullShare} H.tb d) ∗ oLoc d ↦{fullShare} gOut H d) := by
  show (bigSep Finset.univ fun c : Fin 2 => bigSep Finset.univ fun s : Fin 16 => outPart H d (blk c s)) = _
  rw [blocks_cores (fun b => outPart H d b), bigSep_sep', bigSep_sep', ← oPts_blocks, ← iPts_blocks,
    ← pointsTo_piecesOf Finset.univ (H.tb d) (by decide : 0 < 32) fullShare]

theorem vecSplit : (K (F := F)).VecSplit' (P H) 0 := by
  intro d c
  show (bigSep Finset.univ fun s : Fin 16 => inPart H d (blk (Fin.cast nCore_zero c) s)) ⊢ |={Set.univ}=> iprop(
      (bigSep Finset.univ fun s : Fin 16 => inPart H d (blk (Fin.cast nCore_zero c) s))
      ∗ ((bigSep Finset.univ fun s : Fin 16 => outPart H d (blk (Fin.cast nCore_zero c) s))
          -∗ (bigSep Finset.univ fun s : Fin 16 => outPart H d (blk (Fin.cast nCore_zero c) s))))
  iintro H; imodintro
  isplitl [H]; · iexact H
  iintro H; iexact H

end Cert.Proof.Encoder

end
-- ==== Proof.Encoder.Ghost.lean ====
/-
  The launch's ghost state: the handshake cells of the SparseCore call beside the staging cells of the five TensorCore
  calls, dealt out to the devices.
-/
module

public import proofs.«01_k».proof.Proof.Encoder.Tile
public import Idealize.ShloMosaic.Lib.Pipeline.Regions

@[expose] public section

noncomputable section

namespace Cert.Proof.Encoder

open Cert.EncoderIdeal Cert.EncoderIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type}

local notation "𝕄" => MT nD τ sig (HIx 1) (Elt F) ℕ UU ℕ

variable [FloatOps F]

variable (H : Held F)

/-! ## The ghost state of the launch -/

def u₀ : UU := (initOf (K (F := F)).hsCells (K (F := F)).hsToks,
  (initOf (Pipeline.cells (Pipeline.pin (pcfgs (F := F)) (adm (F := F))) (cells_inj (F := F)))
    (Pipeline.launchToks (Pipeline.pin (pcfgs (F := F)) (adm (F := F))) (cells_inj (F := F))), 1))

omit [FloatOps F] in
theorem bigSep_none {I : Type} (s : Finset I) : (bigSep s fun _ => iprop(emp)) = (iprop(emp) : sProp 𝕄) := bigSep_emp_const s

omit [FloatOps F] in
theorem ghost_all (c : Dev nD) :
    iprop((bigSep Finset.univ fun p : Fin 5 => Pipeline.cellsGhost (Pipeline.pin (pcfgs (F := F)) (adm (F := F))) (EP (F := F)) p c)
        ∗ (bigSep Finset.univ fun p : Fin 5 => (Pipeline.toksInit (Pipeline.pin (pcfgs (F := F)) (adm (F := F))) (EP (F := F)) p c : sProp 𝕄)))
      = ghost (F := F) Finset.univ c := by
  unfold ghost Pipeline.ghostOn Pipeline.PerCore.ghostOn
  exact (bigSep_sep' ..).symm

omit [FloatOps F] in
theorem ghost_dealt :
    iprop((bigSep Finset.univ fun c : Dev nD => bigSep Finset.univ fun p : Fin 5 => Pipeline.cellsGhost (Pipeline.pin (pcfgs (F := F)) (adm (F := F))) (EP (F := F)) p c)
        ∗ (bigSep Finset.univ fun c : Dev nD => bigSep Finset.univ fun p : Fin 5 => (Pipeline.toksInit (Pipeline.pin (pcfgs (F := F)) (adm (F := F))) (EP (F := F)) p c : sProp 𝕄)))
      ⊢ bigSep Finset.univ fun d : Dev nD => ghost (F := F) Finset.univ d := by
  rw [← bigSep_sep']
  exact bigSep_mono fun c _ => Entails.of_eq (ghost_all c)

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) Finset.univ d)
        ∗ bigSep Finset.univ fun thr : Thread nD τ => bigSep Finset.univ fun q : Fin 1 => (P H).x q thr) := by
  unfold u₀
  iintro Hu
  ihave H := (ownU_pair _ _) $$ Hu
  icases H with ⟨HH, Hr⟩
  ihave H := (own_pair_emb embR _ _) $$ Hr
  icases H with ⟨HP, -⟩
  imod (Pipeline.fund_ghost (Pipeline.pin (pcfgs (F := F)) (adm (F := F))) (EP (F := F)) (cells_inj (F := F))) $$ HP with Hg
  imodintro
  isplitl [HH]; · iexact HH
  isplitl [Hg]; · iapply (ghost_dealt (F := F)); iexact Hg
  rw [show (bigSep Finset.univ fun thr : Thread nD τ => bigSep Finset.univ fun q : Fin 1 => (P (F := F) H).x q thr) = bigSep Finset.univ fun _ => iprop(emp) from
    bigSep_congr fun _ _ => bigSep_univ_of_subsingleton (0 : Fin 1), bigSep_none]
  iempintro

end Cert.Proof.Encoder

end
-- ==== Proof.Encoder.Region.lean ====
/-
  The five TensorCore calls as steps of the host's program: whatever the memory holds before a call, it holds after it
  the same everywhere but in the call's arrays, which end at the contents the call's run computes. Each runs while the
  core still owes the SparseCores their start signals, which lie above every wait of the call.
-/
module

public import proofs.«01_k».proof.Proof.Encoder.Tile
public import proofs.«01_k».proof.Proof.Gen.Own.EncoderIdeal.Calls
public import Idealize.ShloMosaic.Lib.Pipeline.FrameTail

@[expose] public section

noncomputable section

namespace Cert.Proof.Encoder

open Cert.EncoderIdeal Cert.EncoderIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg BodyObligationLoose RegionSeg OwnSemFacts PLaunchFacts)

variable {F : FTy → Type}

local notation "𝕄" => MT nD τ sig (HIx 1) (Elt F) ℕ UU ℕ

variable [FloatOps F]

/-- The stages of the one SparseCore call. -/
abbrev Z₁ : SparseCore.Cfg.Blocks 1 1 := inferInstance

/-- The waits a core may have recorded before the SparseCore call. -/
abbrev low (d : Dev nD) : Set (SemLoc sig × HIx 1) := {q | (K (F := F)).lev (SparseCore.T d, q.1) q.2 ≤ 8 * Z₁.fst 0}
/-- What a core owes before the SparseCore call, and what it may have recorded. -/
abbrev debt (_ : Fin 5) (d : Dev nD) : CellTallies nD τ sig (HIx 1) × Set (SemLoc sig × HIx 1) := ((K (F := F)).Otc d 0, low (F := F) d)

variable (W : Fin 5 → Dev nD → Valuation τ sig (Elt F))

/-- The calls' proof data, call `p` entered from the contents `W p`. -/
abbrev dats : (p : Fin 5) → (c : Dev nD) → Dat τ (Elt F) (HIx 1) ℕ UU ℕ (Pipeline.pin (pcfgs (F := F)) (adm (F := F)) p) c :=
  Own.pdats 𝒱₀ (fun p c b => W p c (Proc.devRef .tc b)) (debt (F := F)) (adm (F := F))

theorem kit : (p : Fin 5) → PLaunchFacts (nD := nD) (τ := τ) (pcfgs (F := F)) p
  | ⟨0, _⟩ => launch0.toP
  | ⟨1, _⟩ => launch1.toP
  | ⟨2, _⟩ => launch2.toP
  | ⟨3, _⟩ => launch3.toP
  | ⟨4, _⟩ => launch4.toP

theorem kitK : (p : Fin 5) → (pcfgs (F := F) p).pre.K = 0
  | ⟨0, _⟩ => rfl
  | ⟨1, _⟩ => rfl
  | ⟨2, _⟩ => rfl
  | ⟨3, _⟩ => rfl
  | ⟨4, _⟩ => rfl

theorem body : (p : Fin 5) → (c : Dev nD) → BodyObligationLoose (dats W p c) (defs₀ (F := F)) 𝒱₀ none Set.univ
  | ⟨0, _⟩, c => (Own.K0.body_obligation 𝒱₀ (fun c b => W 0 c (Proc.devRef .tc b)) (debt (F := F) 0) none c).loose
  | ⟨1, _⟩, c => (Own.K1.body_obligation 𝒱₀ (fun c b => W 1 c (Proc.devRef .tc b)) (debt (F := F) 1) none c).loose
  | ⟨2, _⟩, c => (Own.K2.body_obligation 𝒱₀ (fun c b => W 2 c (Proc.devRef .tc b)) (debt (F := F) 2) none c).loose
  | ⟨3, _⟩, c => (Own.K3.body_obligation 𝒱₀ (fun c b => W 3 c (Proc.devRef .tc b)) (debt (F := F) 3) none c).loose
  | ⟨4, _⟩, c => (Own.K4.body_obligation 𝒱₀ (fun c b => W 4 c (Proc.devRef .tc b)) (debt (F := F) 4) none c).loose

theorem share : (p : Fin 5) → (c : Dev nD) → ∀ w, (dats W p c).share w = fullShare
  | ⟨0, _⟩, c => (Own.K0.dat 𝒱₀ (fun c b => W 0 c (Proc.devRef .tc b)) (debt (F := F) 0) c).share_full fun _ => rfl
  | ⟨1, _⟩, c => (Own.K1.dat 𝒱₀ (fun c b => W 1 c (Proc.devRef .tc b)) (debt (F := F) 1) c).share_full fun _ => rfl
  | ⟨2, _⟩, c => (Own.K2.dat 𝒱₀ (fun c b => W 2 c (Proc.devRef .tc b)) (debt (F := F) 2) c).share_full fun _ => rfl
  | ⟨3, _⟩, c => (Own.K3.dat 𝒱₀ (fun c b => W 3 c (Proc.devRef .tc b)) (debt (F := F) 3) c).share_full fun _ => rfl
  | ⟨4, _⟩, c => (Own.K4.dat 𝒱₀ (fun c b => W 4 c (Proc.devRef .tc b)) (debt (F := F) 4) c).share_full fun _ => rfl

theorem owed : (p : Fin 5) → (c : Dev nD) → ∀ t, (dats W p c).owed t = (K (F := F)).Otc c 0
  | ⟨0, _⟩, _ => fun _ => rfl
  | ⟨1, _⟩, _ => fun _ => rfl
  | ⟨2, _⟩, _ => fun _ => rfl
  | ⟨3, _⟩, _ => fun _ => rfl
  | ⟨4, _⟩, _ => fun _ => rfl

theorem recorded : (p : Fin 5) → (c : Dev nD) → ∀ t, (dats W p c).recorded t = low (F := F) c
  | ⟨0, _⟩, _ => fun _ => rfl
  | ⟨1, _⟩, _ => fun _ => rfl
  | ⟨2, _⟩, _ => fun _ => rfl
  | ⟨3, _⟩, _ => fun _ => rfl
  | ⟨4, _⟩, _ => fun _ => rfl

theorem entry_eq : (p : Fin 5) → (c : Dev nD) → ∀ w, (dats W p c).A w = W p c (Proc.devRef .tc (Pipeline.arrRef (Pipeline.pin (pcfgs (F := F)) (adm (F := F)) p).spec w))
  | ⟨0, _⟩, c => Own.K0.A_eq 𝒱₀ (fun c b => W 0 c (Proc.devRef .tc b)) (debt (F := F) 0) c
  | ⟨1, _⟩, c => Own.K1.A_eq 𝒱₀ (fun c b => W 1 c (Proc.devRef .tc b)) (debt (F := F) 1) c
  | ⟨2, _⟩, c => Own.K2.A_eq 𝒱₀ (fun c b => W 2 c (Proc.devRef .tc b)) (debt (F := F) 2) c
  | ⟨3, _⟩, c => Own.K3.A_eq 𝒱₀ (fun c b => W 3 c (Proc.devRef .tc b)) (debt (F := F) 3) c
  | ⟨4, _⟩, c => Own.K4.A_eq 𝒱₀ (fun c b => W 4 c (Proc.devRef .tc b)) (debt (F := F) 4) c

theorem phase_eq : (p : Fin 5) → (c : Dev nD) → ∀ t, (dats W p c).Φ t = (iprop(Pipeline.scopedRest (Pipeline.pin (pcfgs (F := F)) (adm (F := F)) p).spec c ∗ ∃ r, prngReg c r) : sProp 𝕄)
  | ⟨0, _⟩, _ => fun _ => rfl
  | ⟨1, _⟩, _ => fun _ => rfl
  | ⟨2, _⟩, _ => fun _ => rfl
  | ⟨3, _⟩, _ => fun _ => rfl
  | ⟨4, _⟩, _ => fun _ => rfl

theorem arr_inj : (p : Fin 5) → Function.Injective (Pipeline.arrRef (Pipeline.pin (pcfgs (F := F)) (adm (F := F)) p).spec)
  | ⟨0, _⟩ => launch0.win.arr_inj
  | ⟨1, _⟩ => launch1.win.arr_inj
  | ⟨2, _⟩ => launch2.win.arr_inj
  | ⟨3, _⟩ => launch3.win.arr_inj
  | ⟨4, _⟩ => launch4.win.arr_inj

/-- The memory after call `p`. -/
abbrev exitOf (p : Fin 5) (c : Dev nD) : Valuation τ sig (Elt F) := Pipeline.afterRegion (dats W p c) (W p c)

/-- What rides beside the memory before the SparseCore call: the random-number register, and the core's debts. -/
abbrev side (c : Dev nD) : sProp 𝕄 :=
  iprop((∃ r, prngReg c r) ∗ ∃ w, ⌜(K (F := F)).WBelow (SparseCore.T c) w (8 * Z₁.fst 0)⌝ ∗ owes (SparseCore.T c) ((K (F := F)).Otc c 0) w)

set_option backward.isDefEq.respectTransparency.types false in
/-- Call `p` as a region over the whole memory. -/
def region (p : Fin 5) : RegionSeg (pcfgs (F := F)) (adm (F := F)) (dats W) (none : HIx 1) (defs₀ (F := F)) 𝒱₀ ((K (F := F)).L (nD := nD)) (K (F := F)).lev p where
  win := (kit (F := F) p).win.to₀
  block_pos := (kit (F := F) p).block_pos
  stage_whole := (kit (F := F) p).stage_whole
  K := PEmpty
  osem k := k.elim
  ho := OwnSemFacts.none _
  hbody := body W p
  hwaits c := Pipeline.cellsWaits_of_cut (Pipeline.pin (pcfgs (F := F)) (adm (F := F))) (dats W) none p c 0 ((K (F := F)).Otc c 0) (owed W p c)
    (fun _ _ => Finset.mem_univ _) (fun _ _ => le_rfl)
    (fun g i h => ⟨Finset.mem_univ _, lt_of_lt_of_le (Nat.succ_pos _) ((K (F := F)).lev_of_Otc_pos h)⟩)
  pre c := iprop(held (SparseCore.T c) (Pipeline.ucRefs τ sig) (W p c) ∗ side (F := F) c)
  post c := iprop(held (SparseCore.T c) (Pipeline.ucRefs τ sig) (exitOf W p c) ∗ side (F := F) c)
  X c := iprop(∃ r, prngReg c r)
  Y c := iprop(∃ r, prngReg c r)
  Z c := Pipeline.unscopedRest (Pipeline.pin (pcfgs (F := F)) (adm (F := F)) p).spec c (fun b => W p c (Proc.devRef .tc b))
  hentry c := by
    rw [Pipeline.ownSems0_none, Pipeline.prefHeld_of_none _ (kitK p),
      show held (SparseCore.T c) (Pipeline.ucRefs τ sig) (W p c) = (unscopedBufs c (fun b => W p c (Proc.devRef .tc b)) : sProp 𝕄)
        from (Pipeline.unscopedBufs_held c (W p c)).symm]
    have hsplit := Pipeline.arrays_of_unscopedBufs (p := p) (pcfgs (F := F)) (adm (F := F)) (dats W) (kit (F := F) p).win (kit (F := F) p).arr_whole c (share W p c)
      (fun b => W p c (Proc.devRef .tc b)) (entry_eq W p c)
    iintro ⟨⟨Hub, Hp, ⟨%w, %hw, HO⟩⟩, -, -⟩
    ihave H := hsplit $$ Hub
    icases H with ⟨Ha, Hrest⟩
    imodintro
    isplitl [Ha]; · iexact Ha
    isplitr; · iempintro
    isplitl [HO]
    · unfold Dat.owesAt Pipeline.owesWithin Dat.bound
      rw [owed W p c 0, recorded W p c 0]
      iexists w
      isplitr
      · ipureintro; exact fun q hq => Or.inl (hw q hq)
      iexact HO
    isplitl [Hp]; · iexact Hp
    iexact Hrest
  hin c := by
    rw [phase_eq W p c]
    iintro ⟨Hp, -, Hr⟩
    isplitl [Hr] <;> iassumption
  hout c := by
    rw [Pipeline.ownSems0_none, phase_eq W p c]
    iintro ⟨Hr, Hp⟩
    isplitl [Hp]; · iexact Hp
    isplitr; · iempintro
    iexact Hr
  hexit c := by
    have hjoin := Pipeline.unscopedBufs_of_arrays (p := p) (pcfgs (F := F)) (adm (F := F)) (Ix := HIx 1) (Name := ℕ) (U := UU) (Lvl := ℕ)
      (kit (F := F) p).win (kit (F := F) p).arr_whole c (dats W) (share W p c)
      (fun b => W p c (Proc.devRef .tc b)) (fun b => exitOf W p c (Proc.devRef .tc b)) ((dats W p c).arrAt · (Pipeline.pin (pcfgs (F := F)) (adm (F := F)) p).N)
      (fun w => (Pipeline.afterRegion_arr (dats W p c) (W p c) (arr_inj p) w).symm)
      (fun b hb => Pipeline.afterRegion_of_not_arr (dats W p c) (W p c)
        fun w h => hb (h ▸ Finset.mem_image.mpr ⟨w, Finset.mem_univ _, rfl⟩))
    rw [show held (SparseCore.T c) (Pipeline.ucRefs τ sig) (exitOf W p c) = (unscopedBufs c (fun b => exitOf W p c (Proc.devRef .tc b)) : sProp 𝕄)
        from (Pipeline.unscopedBufs_held c (exitOf W p c)).symm]
    iintro ⟨Ha, HO, Hp, Hrest⟩
    imodintro
    isplitl [Ha Hrest]
    · iapply hjoin; isplitl [Ha] <;> iassumption
    isplitl [Hp]; · iexact Hp
    unfold Dat.owesAt Pipeline.owesWithin Dat.bound
    rw [owed W p c (Fin.last _), recorded W p c (Fin.last _)]
    icases HO with ⟨%w, %hw, HO⟩
    iexists w
    isplitr
    · ipureintro
      intro q hq
      rcases hw hq with h | ⟨_, _, rfl⟩
      · exact h
      · exact Nat.zero_le _
    iexact HO

/-- A call as a step of @main: from the memory, the debts and the call's ghost state, to the memory after it. -/
theorem call_step {A : Type} (p : Fin 5) (c : Dev nD) (S : Finset (Fin 5)) (hp : p ∈ S)
    (k : PUnit.{1} → Prog (TpuEff nD τ sig (Elt F) (ΛP (F := F)) .tc) A) (Q : A → sProp 𝕄) :
    iprop((((boundary (SparseCore.T c) ∗ held (SparseCore.T c) (Pipeline.ucRefs τ sig) (exitOf W p c) ∗ side (F := F) c) ∗ ghost (F := F) (S.erase p) c) -∗
          wp frame (wpE (D (F := F)) 𝒱 (SparseCore.T c) none) Set.univ (k ⟨⟩) Q)
        ∗ boundary (SparseCore.T c) ∗ held (SparseCore.T c) (Pipeline.ucRefs τ sig) (W p c) ∗ side (F := F) c
        ∗ levAts ((K (F := F)).L (nD := nD)) (K (F := F)).lev ∗ ghost (F := F) S c)
      ⊢ wp frame (wpE (D (F := F)) 𝒱 (SparseCore.T c) none) Set.univ (.op (.customCall (Pipeline.entry p) ()) k) Q := by
  have hwp := (region W p).wp (pcfgs (F := F)) (adm (F := F)) (dats W) none cells_inj (EP (F := F)) (defs₀ (F := F)) 𝒱₀
    ((K (F := F)).L (nD := nD)) (K (F := F)).lev c none (fun u h => nomatch h) k Q
  rw [show (region W p).pre c = iprop(held (SparseCore.T c) (Pipeline.ucRefs τ sig) (W p c) ∗ side (F := F) c) from rfl,
    show (region W p).post c = iprop(held (SparseCore.T c) (Pipeline.ucRefs τ sig) (exitOf W p c) ∗ side (F := F) c) from rfl] at hwp
  have hg : (ghost (F := F) S c : sProp 𝕄) = iprop((Pipeline.cellsGhost (Pipeline.pin (pcfgs (F := F)) (adm (F := F))) (EP (F := F)) p c
      ∗ Pipeline.toksInit (Pipeline.pin (pcfgs (F := F)) (adm (F := F))) (EP (F := F)) p c) ∗ ghost (F := F) (S.erase p) c) := by
    unfold ghost Pipeline.ghostOn Pipeline.PerCore.ghostOn
    exact Idealize.SL.BI.bigSep_erase hp
  rw [hg]
  iintro ⟨Hk, Hbd, Hh, Hs, Hla, ⟨Hg, Ht⟩, Hrest⟩
  iapply hwp
  isplitr [Hbd Hh Hs Hla Hg Ht]
  · iintro ⟨Hbd, Hpost⟩
    iapply Hk
    isplitr [Hrest]
    · isplitl [Hbd]; · iexact Hbd
      iexact Hpost
    iexact Hrest
  isplitl [Hbd]; · iexact Hbd
  isplitl [Hh Hs]
  · isplitl [Hh] <;> iassumption
  isplitl [Hla]; · iexact Hla
  isplitl [Hg] <;> iassumption

end Cert.Proof.Encoder

end
-- ==== Proof.Encoder.HostOps.lean ====
/-
  The host operations of the encoder's program, between its calls: seven straight lines, the program as those lines with
  the calls between them, and the buffers each line writes.
-/
module

public import proofs.«01_k».proof.Proof.Gen.EncoderIdeal
public import Idealize.ShloMosaic.Lib.StableHlo.RunRead
public import Idealize.ShloMosaic.Lib.Pipeline.Frame

@[expose] public section

noncomputable section

namespace Cert.Proof.Encoder

open Cert.EncoderIdeal Cert.EncoderIdeal.Gen
open Idealize.ShloMosaic Idealize.ShloMosaic.TcCoe Idealize.SL.Sem Idealize.ShloMosaic.StableHlo

variable {F : FTy → Type} [FloatOps F]

/-- Before the first layer's call: the input scaled and padded, its nine taps, the first layer's weights. -/
abbrev opsA : List (HloOp τ sig (Elt F)) :=
  [ reshape main_arg0 main_v0 (rfl : (.f32 : EltTy) = .f32) shapeCasts_S2x4x3x224x224_S8x3x224x224,
    nullary main_cst (constant S_ .f32 0x40000000#32),
    unary main_cst main_v1 (broadcastInDim S8x3x224x224 ![] bcast_S_S8x3x224x224 : (⟨S_, .f32⟩ : BufTy).Contents (Elt F) → (⟨S8x3x224x224, .f32⟩ : BufTy).Contents (Elt F)),
    binary main_v0 main_v1 main_v2 (mulf : (⟨S8x3x224x224, .f32⟩ : BufTy).Contents (Elt F) → (⟨S8x3x224x224, .f32⟩ : BufTy).Contents (Elt F) → (⟨S8x3x224x224, .f32⟩ : BufTy).Contents (Elt F)),
    nullary main_cst_0 (constant S_ .f32 0x3F800000#32),
    unary main_cst_0 main_v3 (broadcastInDim S8x3x224x224 ![] bcast_S_S8x3x224x224 : (⟨S_, .f32⟩ : BufTy).Contents (Elt F) → (⟨S8x3x224x224, .f32⟩ : BufTy).Contents (Elt F)),
    binary main_v2 main_v3 main_v4 (subf : (⟨S8x3x224x224, .f32⟩ : BufTy).Contents (Elt F) → (⟨S8x3x224x224, .f32⟩ : BufTy).Contents (Elt F) → (⟨S8x3x224x224, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x3x224x224, .f32⟩) main_v4) (TRef.of (T := ⟨S_, .f32⟩) main_call0_v0) (TRef.of (T := ⟨S8x3x226x226, .f32⟩) main_v5) (fun x v => pad S8x3x226x226 ![0, 0, 0, 0] ![0, 0, 2, 2] ![0, 0, 0, 0] x v pads_S8x3x224x224_S8x3x226x226_000_000_020_020 h_S_),
    unary main_v5 main_v6 ((Host.slice S8x3x112x112 ![0, 0, 0, 0] ![1, 1, 2, 2] · slicesBy_S8x3x226x226_S8x3x112x112_0s1_0s1_0s2_0s2) : (⟨S8x3x226x226, .f32⟩ : BufTy).Contents (Elt F) → (⟨S8x3x112x112, .f32⟩ : BufTy).Contents (Elt F)),
    reshape main_v6 main_v7 (rfl : (.f32 : EltTy) = .f32) shapeCasts_S8x3x112x112_S8x3x12544,
    unary main_v5 main_v8 ((Host.slice S8x3x112x112 ![0, 0, 0, 1] ![1, 1, 2, 2] · slicesBy_S8x3x226x226_S8x3x112x112_0s1_0s1_0s2_1s2) : (⟨S8x3x226x226, .f32⟩ : BufTy).Contents (Elt F) → (⟨S8x3x112x112, .f32⟩ : BufTy).Contents (Elt F)),
    reshape main_v8 main_v9 (rfl : (.f32 : EltTy) = .f32) shapeCasts_S8x3x112x112_S8x3x12544,
    unary main_v5 main_v10 ((Host.slice S8x3x112x112 ![0, 0, 0, 2] ![1, 1, 2, 2] · slicesBy_S8x3x226x226_S8x3x112x112_0s1_0s1_0s2_2s2) : (⟨S8x3x226x226, .f32⟩ : BufTy).Contents (Elt F) → (⟨S8x3x112x112, .f32⟩ : BufTy).Contents (Elt F)),
    reshape main_v10 main_v11 (rfl : (.f32 : EltTy) = .f32) shapeCasts_S8x3x112x112_S8x3x12544,
    unary main_v5 main_v12 ((Host.slice S8x3x112x112 ![0, 0, 1, 0] ![1, 1, 2, 2] · slicesBy_S8x3x226x226_S8x3x112x112_0s1_0s1_1s2_0s2) : (⟨S8x3x226x226, .f32⟩ : BufTy).Contents (Elt F) → (⟨S8x3x112x112, .f32⟩ : BufTy).Contents (Elt F)),
    reshape main_v12 main_v13 (rfl : (.f32 : EltTy) = .f32) shapeCasts_S8x3x112x112_S8x3x12544,
    unary main_v5 main_v14 ((Host.slice S8x3x112x112 ![0, 0, 1, 1] ![1, 1, 2, 2] · slicesBy_S8x3x226x226_S8x3x112x112_0s1_0s1_1s2_1s2) : (⟨S8x3x226x226, .f32⟩ : BufTy).Contents (Elt F) → (⟨S8x3x112x112, .f32⟩ : BufTy).Contents (Elt F)),
    reshape main_v14 main_v15 (rfl : (.f32 : EltTy) = .f32) shapeCasts_S8x3x112x112_S8x3x12544,
    unary main_v5 main_v16 ((Host.slice S8x3x112x112 ![0, 0, 1, 2] ![1, 1, 2, 2] · slicesBy_S8x3x226x226_S8x3x112x112_0s1_0s1_1s2_2s2) : (⟨S8x3x226x226, .f32⟩ : BufTy).Contents (Elt F) → (⟨S8x3x112x112, .f32⟩ : BufTy).Contents (Elt F)),
    reshape main_v16 main_v17 (rfl : (.f32 : EltTy) = .f32) shapeCasts_S8x3x112x112_S8x3x12544,
    unary main_v5 main_v18 ((Host.slice S8x3x112x112 ![0, 0, 2, 0] ![1, 1, 2, 2] · slicesBy_S8x3x226x226_S8x3x112x112_0s1_0s1_2s2_0s2) : (⟨S8x3x226x226, .f32⟩ : BufTy).Contents (Elt F) → (⟨S8x3x112x112, .f32⟩ : BufTy).Contents (Elt F)),
    reshape main_v18 main_v19 (rfl : (.f32 : EltTy) = .f32) shapeCasts_S8x3x112x112_S8x3x12544,
    unary main_v5 main_v20 ((Host.slice S8x3x112x112 ![0, 0, 2, 1] ![1, 1, 2, 2] · slicesBy_S8x3x226x226_S8x3x112x112_0s1_0s1_2s2_1s2) : (⟨S8x3x226x226, .f32⟩ : BufTy).Contents (Elt F) → (⟨S8x3x112x112, .f32⟩ : BufTy).Contents (Elt F)),
    reshape main_v20 main_v21 (rfl : (.f32 : EltTy) = .f32) shapeCasts_S8x3x112x112_S8x3x12544,
    unary main_v5 main_v22 ((Host.slice S8x3x112x112 ![0, 0, 2, 2] ![1, 1, 2, 2] · slicesBy_S8x3x226x226_S8x3x112x112_0s1_0s1_2s2_2s2) : (⟨S8x3x226x226, .f32⟩ : BufTy).Contents (Elt F) → (⟨S8x3x112x112, .f32⟩ : BufTy).Contents (Elt F)),
    reshape main_v22 main_v23 (rfl : (.f32 : EltTy) = .f32) shapeCasts_S8x3x112x112_S8x3x12544,
    unary main_arg2 main_v24 ((transpose S3x3x3x64 [2, 3, 1, 0] · transposes_S64x3x3x3_S3x3x3x64_2_3_1_0) : (⟨S64x3x3x3, .f32⟩ : BufTy).Contents (Elt F) → (⟨S3x3x3x64, .f32⟩ : BufTy).Contents (Elt F)),
    reshape main_v24 main_v25 (rfl : (.f32 : EltTy) = .f32) shapeCasts_S3x3x3x64_S27x64,
    unary main_v25 main_v26 ((transpose S64x27 [1, 0] · transposes_S27x64_S64x27_1_0) : (⟨S27x64, .f32⟩ : BufTy).Contents (Elt F) → (⟨S64x27, .f32⟩ : BufTy).Contents (Elt F)),
    reshape main_arg3 main_v27 (rfl : (.f32 : EltTy) = .f32) shapeCasts_S64_S64x1 ]
/-- The buffers they write, in order. -/
abbrev writesA : List (Ref sig .tc) := [main_v0, main_cst, main_v1, main_v2, main_cst_0, main_v3, main_v4, main_c, main_call0_v0, main_v5, main_v6, main_v7, main_v8, main_v9, main_v10, main_v11, main_v12, main_v13, main_v14, main_v15, main_v16, main_v17, main_v18, main_v19, main_v20, main_v21, main_v22, main_v23, main_v24, main_v25, main_v26, main_v27]

/-- Before the second layer's call. -/
abbrev opsB : List (HloOp τ sig (Elt F)) :=
  [ reshape main_v28 main_v29 (rfl : (.f32 : EltTy) = .f32) shapeCasts_S8x64x12544_S8x64x112x112,
    nullary main_c_1 (constantI S_ 32 0#32),
    TRef.unary (TRef.of (T := ⟨S_, .i32⟩) main_c_1) (TRef.of (T := ⟨S_, .f32⟩) main_call1_v0) (sitofp .f32),
    TRef.binary (TRef.of (T := ⟨S8x64x112x112, .f32⟩) main_v29) (TRef.of (T := ⟨S_, .f32⟩) main_call1_v0) (TRef.of (T := ⟨S8x64x114x114, .f32⟩) main_v30) (fun x v => pad S8x64x114x114 ![0, 0, 0, 0] ![0, 0, 2, 2] ![0, 0, 0, 0] x v pads_S8x64x112x112_S8x64x114x114_000_000_020_020 h_S_),
    unary main_v30 main_v31 ((Host.slice S8x64x56x56 ![0, 0, 0, 0] ![1, 1, 2, 2] · slicesBy_S8x64x114x114_S8x64x56x56_0s1_0s1_0s2_0s2) : (⟨S8x64x114x114, .f32⟩ : BufTy).Contents (Elt F) → (⟨S8x64x56x56, .f32⟩ : BufTy).Contents (Elt F)),
    reshape main_v31 main_v32 (rfl : (.f32 : EltTy) = .f32) shapeCasts_S8x64x56x56_S8x64x3136,
    unary main_v30 main_v33 ((Host.slice S8x64x56x56 ![0, 0, 0, 1] ![1, 1, 2, 2] · slicesBy_S8x64x114x114_S8x64x56x56_0s1_0s1_0s2_1s2) : (⟨S8x64x114x114, .f32⟩ : BufTy).Contents (Elt F) → (⟨S8x64x56x56, .f32⟩ : BufTy).Contents (Elt F)),
    reshape main_v33 main_v34 (rfl : (.f32 : EltTy) = .f32) shapeCasts_S8x64x56x56_S8x64x3136,
    unary main_v30 main_v35 ((Host.slice S8x64x56x56 ![0, 0, 0, 2] ![1, 1, 2, 2] · slicesBy_S8x64x114x114_S8x64x56x56_0s1_0s1_0s2_2s2) : (⟨S8x64x114x114, .f32⟩ : BufTy).Contents (Elt F) → (⟨S8x64x56x56, .f32⟩ : BufTy).Contents (Elt F)),
    reshape main_v35 main_v36 (rfl : (.f32 : EltTy) = .f32) shapeCasts_S8x64x56x56_S8x64x3136,
    unary main_v30 main_v37 ((Host.slice S8x64x56x56 ![0, 0, 1, 0] ![1, 1, 2, 2] · slicesBy_S8x64x114x114_S8x64x56x56_0s1_0s1_1s2_0s2) : (⟨S8x64x114x114, .f32⟩ : BufTy).Contents (Elt F) → (⟨S8x64x56x56, .f32⟩ : BufTy).Contents (Elt F)),
    reshape main_v37 main_v38 (rfl : (.f32 : EltTy) = .f32) shapeCasts_S8x64x56x56_S8x64x3136,
    unary main_v30 main_v39 ((Host.slice S8x64x56x56 ![0, 0, 1, 1] ![1, 1, 2, 2] · slicesBy_S8x64x114x114_S8x64x56x56_0s1_0s1_1s2_1s2) : (⟨S8x64x114x114, .f32⟩ : BufTy).Contents (Elt F) → (⟨S8x64x56x56, .f32⟩ : BufTy).Contents (Elt F)),
    reshape main_v39 main_v40 (rfl : (.f32 : EltTy) = .f32) shapeCasts_S8x64x56x56_S8x64x3136,
    unary main_v30 main_v41 ((Host.slice S8x64x56x56 ![0, 0, 1, 2] ![1, 1, 2, 2] · slicesBy_S8x64x114x114_S8x64x56x56_0s1_0s1_1s2_2s2) : (⟨S8x64x114x114, .f32⟩ : BufTy).Contents (Elt F) → (⟨S8x64x56x56, .f32⟩ : BufTy).Contents (Elt F)),
    reshape main_v41 main_v42 (rfl : (.f32 : EltTy) = .f32) shapeCasts_S8x64x56x56_S8x64x3136,
    unary main_v30 main_v43 ((Host.slice S8x64x56x56 ![0, 0, 2, 0] ![1, 1, 2, 2] · slicesBy_S8x64x114x114_S8x64x56x56_0s1_0s1_2s2_0s2) : (⟨S8x64x114x114, .f32⟩ : BufTy).Contents (Elt F) → (⟨S8x64x56x56, .f32⟩ : BufTy).Contents (Elt F)),
    reshape main_v43 main_v44 (rfl : (.f32 : EltTy) = .f32) shapeCasts_S8x64x56x56_S8x64x3136,
    unary main_v30 main_v45 ((Host.slice S8x64x56x56 ![0, 0, 2, 1] ![1, 1, 2, 2] · slicesBy_S8x64x114x114_S8x64x56x56_0s1_0s1_2s2_1s2) : (⟨S8x64x114x114, .f32⟩ : BufTy).Contents (Elt F) → (⟨S8x64x56x56, .f32⟩ : BufTy).Contents (Elt F)),
    reshape main_v45 main_v46 (rfl : (.f32 : EltTy) = .f32) shapeCasts_S8x64x56x56_S8x64x3136,
    unary main_v30 main_v47 ((Host.slice S8x64x56x56 ![0, 0, 2, 2] ![1, 1, 2, 2] · slicesBy_S8x64x114x114_S8x64x56x56_0s1_0s1_2s2_2s2) : (⟨S8x64x114x114, .f32⟩ : BufTy).Contents (Elt F) → (⟨S8x64x56x56, .f32⟩ : BufTy).Contents (Elt F)),
    reshape main_v47 main_v48 (rfl : (.f32 : EltTy) = .f32) shapeCasts_S8x64x56x56_S8x64x3136,
    unary main_arg4 main_v49 ((transpose S3x3x64x128 [2, 3, 1, 0] · transposes_S128x64x3x3_S3x3x64x128_2_3_1_0) : (⟨S128x64x3x3, .f32⟩ : BufTy).Contents (Elt F) → (⟨S3x3x64x128, .f32⟩ : BufTy).Contents (Elt F)),
    reshape main_v49 main_v50 (rfl : (.f32 : EltTy) = .f32) shapeCasts_S3x3x64x128_S576x128,
    unary main_v50 main_v51 ((transpose S128x576 [1, 0] · transposes_S576x128_S128x576_1_0) : (⟨S576x128, .f32⟩ : BufTy).Contents (Elt F) → (⟨S128x576, .f32⟩ : BufTy).Contents (Elt F)),
    reshape main_arg5 main_v52 (rfl : (.f32 : EltTy) = .f32) shapeCasts_S128_S128x1 ]
/-- The buffers they write, in order. -/
abbrev writesB : List (Ref sig .tc) := [main_v29, main_c_1, main_call1_v0, main_v30, main_v31, main_v32, main_v33, main_v34, main_v35, main_v36, main_v37, main_v38, main_v39, main_v40, main_v41, main_v42, main_v43, main_v44, main_v45, main_v46, main_v47, main_v48, main_v49, main_v50, main_v51, main_v52]

/-- Before the third layer's call. -/
abbrev opsC : List (HloOp τ sig (Elt F)) :=
  [ reshape main_v53 main_v54 (rfl : (.f32 : EltTy) = .f32) shapeCasts_S8x128x3136_S8x128x56x56,
    nullary main_c_2 (constantI S_ 32 0#32),
    TRef.unary (TRef.of (T := ⟨S_, .i32⟩) main_c_2) (TRef.of (T := ⟨S_, .f32⟩) main_call2_v0) (sitofp .f32),
    TRef.binary (TRef.of (T := ⟨S8x128x56x56, .f32⟩) main_v54) (TRef.of (T := ⟨S_, .f32⟩) main_call2_v0) (TRef.of (T := ⟨S8x128x58x58, .f32⟩) main_v55) (fun x v => pad S8x128x58x58 ![0, 0, 0, 0] ![0, 0, 2, 2] ![0, 0, 0, 0] x v pads_S8x128x56x56_S8x128x58x58_000_000_020_020 h_S_),
    unary main_v55 main_v56 ((Host.slice S8x128x28x28 ![0, 0, 0, 0] ![1, 1, 2, 2] · slicesBy_S8x128x58x58_S8x128x28x28_0s1_0s1_0s2_0s2) : (⟨S8x128x58x58, .f32⟩ : BufTy).Contents (Elt F) → (⟨S8x128x28x28, .f32⟩ : BufTy).Contents (Elt F)),
    reshape main_v56 main_v57 (rfl : (.f32 : EltTy) = .f32) shapeCasts_S8x128x28x28_S8x128x784,
    unary main_v55 main_v58 ((Host.slice S8x128x28x28 ![0, 0, 0, 1] ![1, 1, 2, 2] · slicesBy_S8x128x58x58_S8x128x28x28_0s1_0s1_0s2_1s2) : (⟨S8x128x58x58, .f32⟩ : BufTy).Contents (Elt F) → (⟨S8x128x28x28, .f32⟩ : BufTy).Contents (Elt F)),
    reshape main_v58 main_v59 (rfl : (.f32 : EltTy) = .f32) shapeCasts_S8x128x28x28_S8x128x784,
    unary main_v55 main_v60 ((Host.slice S8x128x28x28 ![0, 0, 0, 2] ![1, 1, 2, 2] · slicesBy_S8x128x58x58_S8x128x28x28_0s1_0s1_0s2_2s2) : (⟨S8x128x58x58, .f32⟩ : BufTy).Contents (Elt F) → (⟨S8x128x28x28, .f32⟩ : BufTy).Contents (Elt F)),
    reshape main_v60 main_v61 (rfl : (.f32 : EltTy) = .f32) shapeCasts_S8x128x28x28_S8x128x784,
    unary main_v55 main_v62 ((Host.slice S8x128x28x28 ![0, 0, 1, 0] ![1, 1, 2, 2] · slicesBy_S8x128x58x58_S8x128x28x28_0s1_0s1_1s2_0s2) : (⟨S8x128x58x58, .f32⟩ : BufTy).Contents (Elt F) → (⟨S8x128x28x28, .f32⟩ : BufTy).Contents (Elt F)),
    reshape main_v62 main_v63 (rfl : (.f32 : EltTy) = .f32) shapeCasts_S8x128x28x28_S8x128x784,
    unary main_v55 main_v64 ((Host.slice S8x128x28x28 ![0, 0, 1, 1] ![1, 1, 2, 2] · slicesBy_S8x128x58x58_S8x128x28x28_0s1_0s1_1s2_1s2) : (⟨S8x128x58x58, .f32⟩ : BufTy).Contents (Elt F) → (⟨S8x128x28x28, .f32⟩ : BufTy).Contents (Elt F)),
    reshape main_v64 main_v65 (rfl : (.f32 : EltTy) = .f32) shapeCasts_S8x128x28x28_S8x128x784,
    unary main_v55 main_v66 ((Host.slice S8x128x28x28 ![0, 0, 1, 2] ![1, 1, 2, 2] · slicesBy_S8x128x58x58_S8x128x28x28_0s1_0s1_1s2_2s2) : (⟨S8x128x58x58, .f32⟩ : BufTy).Contents (Elt F) → (⟨S8x128x28x28, .f32⟩ : BufTy).Contents (Elt F)),
    reshape main_v66 main_v67 (rfl : (.f32 : EltTy) = .f32) shapeCasts_S8x128x28x28_S8x128x784,
    unary main_v55 main_v68 ((Host.slice S8x128x28x28 ![0, 0, 2, 0] ![1, 1, 2, 2] · slicesBy_S8x128x58x58_S8x128x28x28_0s1_0s1_2s2_0s2) : (⟨S8x128x58x58, .f32⟩ : BufTy).Contents (Elt F) → (⟨S8x128x28x28, .f32⟩ : BufTy).Contents (Elt F)),
    reshape main_v68 main_v69 (rfl : (.f32 : EltTy) = .f32) shapeCasts_S8x128x28x28_S8x128x784,
    unary main_v55 main_v70 ((Host.slice S8x128x28x28 ![0, 0, 2, 1] ![1, 1, 2, 2] · slicesBy_S8x128x58x58_S8x128x28x28_0s1_0s1_2s2_1s2) : (⟨S8x128x58x58, .f32⟩ : BufTy).Contents (Elt F) → (⟨S8x128x28x28, .f32⟩ : BufTy).Contents (Elt F)),
    reshape main_v70 main_v71 (rfl : (.f32 : EltTy) = .f32) shapeCasts_S8x128x28x28_S8x128x784,
    unary main_v55 main_v72 ((Host.slice S8x128x28x28 ![0, 0, 2, 2] ![1, 1, 2, 2] · slicesBy_S8x128x58x58_S8x128x28x28_0s1_0s1_2s2_2s2) : (⟨S8x128x58x58, .f32⟩ : BufTy).Contents (Elt F) → (⟨S8x128x28x28, .f32⟩ : BufTy).Contents (Elt F)),
    reshape main_v72 main_v73 (rfl : (.f32 : EltTy) = .f32) shapeCasts_S8x128x28x28_S8x128x784,
    unary main_arg6 main_v74 ((transpose S3x3x128x256 [2, 3, 1, 0] · transposes_S256x128x3x3_S3x3x128x256_2_3_1_0) : (⟨S256x128x3x3, .f32⟩ : BufTy).Contents (Elt F) → (⟨S3x3x128x256, .f32⟩ : BufTy).Contents (Elt F)),
    reshape main_v74 main_v75 (rfl : (.f32 : EltTy) = .f32) shapeCasts_S3x3x128x256_S1152x256,
    unary main_v75 main_v76 ((transpose S256x1152 [1, 0] · transposes_S1152x256_S256x1152_1_0) : (⟨S1152x256, .f32⟩ : BufTy).Contents (Elt F) → (⟨S256x1152, .f32⟩ : BufTy).Contents (Elt F)),
    reshape main_arg7 main_v77 (rfl : (.f32 : EltTy) = .f32) shapeCasts_S256_S256x1 ]
/-- The buffers they write, in order. -/
abbrev writesC : List (Ref sig .tc) := [main_v54, main_c_2, main_call2_v0, main_v55, main_v56, main_v57, main_v58, main_v59, main_v60, main_v61, main_v62, main_v63, main_v64, main_v65, main_v66, main_v67, main_v68, main_v69, main_v70, main_v71, main_v72, main_v73, main_v74, main_v75, main_v76, main_v77]

/-- Before the 1x1 layer's call. -/
abbrev opsE : List (HloOp τ sig (Elt F)) :=
  [ reshape main_v78 main_v79 (rfl : (.f32 : EltTy) = .f32) shapeCasts_S8x256x784_S8x256x28x28,
    reshape main_v79 main_v80 (rfl : (.f32 : EltTy) = .f32) shapeCasts_S8x256x28x28_S8x256x784,
    reshape main_arg8 main_v81 (rfl : (.f32 : EltTy) = .f32) shapeCasts_S256x256x1x1_S256x256,
    reshape main_arg9 main_v82 (rfl : (.f32 : EltTy) = .f32) shapeCasts_S256_S256x1 ]
/-- The buffers they write, in order. -/
abbrev writesE : List (Ref sig .tc) := [main_v79, main_v80, main_v81, main_v82]

/-- Before the call that finds the tokens. -/
abbrev opsG : List (HloOp τ sig (Elt F)) :=
  [ unary main_v83 main_v84 ((transpose S8x784x256 [0, 2, 1] · transposes_S8x256x784_S8x784x256_0_2_1) : (⟨S8x256x784, .f32⟩ : BufTy).Contents (Elt F) → (⟨S8x784x256, .f32⟩ : BufTy).Contents (Elt F)),
    reshape main_v84 main_v85 (rfl : (.f32 : EltTy) = .f32) shapeCasts_S8x784x256_S6272x256,
    nullary main_c_3 (constantI S_ 32 0#32),
    TRef.unary (TRef.of (T := ⟨S_, .i32⟩) main_c_3) (TRef.of (T := ⟨S_, .f32⟩) main_call3_v0) (sitofp .f32),
    TRef.binary (TRef.of (T := ⟨S6272x256, .f32⟩) main_v85) (TRef.of (T := ⟨S_, .f32⟩) main_call3_v0) (TRef.of (T := ⟨S6400x256, .f32⟩) main_v86) (fun x v => pad S6400x256 ![0, 0] ![128, 0] ![0, 0] x v pads_S6272x256_S6400x256_01280_000 h_S_),
    unary main_arg1 main_v87 ((transpose S256x8192 [1, 0] · transposes_S8192x256_S256x8192_1_0) : (⟨S8192x256, .f32⟩ : BufTy).Contents (Elt F) → (⟨S256x8192, .f32⟩ : BufTy).Contents (Elt F)) ]
/-- The buffers they write, in order. -/
abbrev writesG : List (Ref sig .tc) := [main_v84, main_v85, main_c_3, main_call3_v0, main_v86, main_v87]

/-- Between the tokens and the SparseCore call. -/
abbrev opsH : List (HloOp τ sig (Elt F)) :=
  [ reshape main_v88 main_v89 (rfl : (.i32 : EltTy) = .i32) shapeCasts_S25x1x256_S6400,
    reshape main_arg1 main_v90 (rfl : (.f32 : EltTy) = .f32) shapeCasts_S8192x256_S8192x2x128 ]
/-- The buffers they write, in order. -/
abbrev writesH : List (Ref sig .tc) := [main_v89, main_v90]

/-- After the SparseCore call. -/
abbrev opsT : List (HloOp τ sig (Elt F)) :=
  [ reshape main_v91 main_v92 (rfl : (.f32 : EltTy) = .f32) shapeCasts_S6400x2x128_S6400x256,
    unary main_v92 main_v93 ((extractStridedSlice S6272x256 ![0, 0] · slices_S6400x256_S6272x256_0_0) : (⟨S6400x256, .f32⟩ : BufTy).Contents (Elt F) → (⟨S6272x256, .f32⟩ : BufTy).Contents (Elt F)),
    reshape main_v93 main_v94 (rfl : (.f32 : EltTy) = .f32) shapeCasts_S6272x256_S8x784x256,
    unary main_v94 main_v95 ((transpose S8x256x784 [0, 2, 1] · transposes_S8x784x256_S8x256x784_0_2_1) : (⟨S8x784x256, .f32⟩ : BufTy).Contents (Elt F) → (⟨S8x256x784, .f32⟩ : BufTy).Contents (Elt F)),
    reshape main_v83 main_v96 (rfl : (.f32 : EltTy) = .f32) shapeCasts_S8x256x784_S8x256x28x28,
    reshape main_v95 main_v97 (rfl : (.f32 : EltTy) = .f32) shapeCasts_S8x256x784_S8x256x28x28,
    reshape main_v96 main_v98 (rfl : (.f32 : EltTy) = .f32) shapeCasts_S8x256x28x28_S2x4x256x28x28,
    reshape main_v97 main_v99 (rfl : (.f32 : EltTy) = .f32) shapeCasts_S8x256x28x28_S2x4x256x28x28 ]
/-- The buffers they write, in order. -/
abbrev writesT : List (Ref sig .tc) := [main_v92, main_v93, main_v94, main_v95, main_v96, main_v97, main_v98, main_v99]

abbrev enter (p : Fin 5) : Prog (TpuEff nD τ sig (Elt F) (SparseCore.Sig (Pipeline.Sig Λ₀ (Fin 5) fun p => (pcfgs (F := F) p).Adm) 1) .tc) PUnit :=
  Prog.lift (.customCall (SparseCore.inner (Pipeline.entry p)) ())

set_option maxRecDepth 16384 in
set_option maxHeartbeats 4000000 in
/-- The program: the seven lines and the six calls between them. -/
theorem main_eq (d : Dev nD) : main (F := F) d =
    seq opsA >>= fun _ => enter 0 >>= fun _ => seq opsB >>= fun _ => enter 1 >>= fun _ => seq opsC >>= fun _ => enter 2 >>= fun _ =>
    seq opsE >>= fun _ => enter 3 >>= fun _ => seq opsG >>= fun _ => enter 4 >>= fun _ => seq opsH >>= fun _ =>
    sc.run d 0 >>= fun _ => seq opsT := rfl

theorem sub_of {ops : List (HloOp τ sig (Elt F))} (h : ops.Forall fun op => op.bufs ⊆ tcRefs τ sig) : ∀ op ∈ ops, op.bufs ⊆ Pipeline.ucRefs τ sig :=
  fun op ho => Pipeline.sub_ucRefs op (List.forall_iff_forall_mem.mp h op ho)

theorem subA : ∀ op ∈ (opsA : List (HloOp τ sig (Elt F))), op.bufs ⊆ Pipeline.ucRefs τ sig := sub_of
  ⟨reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem freshA : ∀ op ∈ (opsA : List (HloOp τ sig (Elt F))), op.fresh = ∅ := by
  intro _ h; (repeat (cases h with | head => rfl | tail _ h => ?_)); exact nomatch h
theorem wroteA : (opsA : List (HloOp τ sig (Elt F))).map HloOp.writes = writesA.map fun w => {Proc.devRef (τ := τ) .tc w} := rfl

theorem subB : ∀ op ∈ (opsB : List (HloOp τ sig (Elt F))), op.bufs ⊆ Pipeline.ucRefs τ sig := sub_of
  ⟨reshape_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem freshB : ∀ op ∈ (opsB : List (HloOp τ sig (Elt F))), op.fresh = ∅ := by
  intro _ h; (repeat (cases h with | head => rfl | tail _ h => ?_)); exact nomatch h
theorem wroteB : (opsB : List (HloOp τ sig (Elt F))).map HloOp.writes = writesB.map fun w => {Proc.devRef (τ := τ) .tc w} := rfl

theorem subC : ∀ op ∈ (opsC : List (HloOp τ sig (Elt F))), op.bufs ⊆ Pipeline.ucRefs τ sig := sub_of
  ⟨reshape_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem freshC : ∀ op ∈ (opsC : List (HloOp τ sig (Elt F))), op.fresh = ∅ := by
  intro _ h; (repeat (cases h with | head => rfl | tail _ h => ?_)); exact nomatch h
theorem wroteC : (opsC : List (HloOp τ sig (Elt F))).map HloOp.writes = writesC.map fun w => {Proc.devRef (τ := τ) .tc w} := rfl

theorem subE : ∀ op ∈ (opsE : List (HloOp τ sig (Elt F))), op.bufs ⊆ Pipeline.ucRefs τ sig := sub_of
  ⟨reshape_bufs_sub .., reshape_bufs_sub .., reshape_bufs_sub .., reshape_bufs_sub ..⟩
theorem freshE : ∀ op ∈ (opsE : List (HloOp τ sig (Elt F))), op.fresh = ∅ := by
  intro _ h; (repeat (cases h with | head => rfl | tail _ h => ?_)); exact nomatch h
theorem wroteE : (opsE : List (HloOp τ sig (Elt F))).map HloOp.writes = writesE.map fun w => {Proc.devRef (τ := τ) .tc w} := rfl

theorem subG : ∀ op ∈ (opsG : List (HloOp τ sig (Elt F))), op.bufs ⊆ Pipeline.ucRefs τ sig := sub_of
  ⟨unary_bufs_sub .., reshape_bufs_sub .., nullary_bufs_sub .., unary_bufs_sub .., binary_bufs_sub .., unary_bufs_sub ..⟩
theorem freshG : ∀ op ∈ (opsG : List (HloOp τ sig (Elt F))), op.fresh = ∅ := by
  intro _ h; (repeat (cases h with | head => rfl | tail _ h => ?_)); exact nomatch h
theorem wroteG : (opsG : List (HloOp τ sig (Elt F))).map HloOp.writes = writesG.map fun w => {Proc.devRef (τ := τ) .tc w} := rfl

theorem subH : ∀ op ∈ (opsH : List (HloOp τ sig (Elt F))), op.bufs ⊆ Pipeline.ucRefs τ sig := sub_of
  ⟨reshape_bufs_sub .., reshape_bufs_sub ..⟩
theorem freshH : ∀ op ∈ (opsH : List (HloOp τ sig (Elt F))), op.fresh = ∅ := by
  intro _ h; (repeat (cases h with | head => rfl | tail _ h => ?_)); exact nomatch h
theorem wroteH : (opsH : List (HloOp τ sig (Elt F))).map HloOp.writes = writesH.map fun w => {Proc.devRef (τ := τ) .tc w} := rfl

theorem subT : ∀ op ∈ (opsT : List (HloOp τ sig (Elt F))), op.bufs ⊆ Pipeline.ucRefs τ sig := sub_of
  ⟨reshape_bufs_sub .., unary_bufs_sub .., reshape_bufs_sub .., unary_bufs_sub .., reshape_bufs_sub .., reshape_bufs_sub .., reshape_bufs_sub .., reshape_bufs_sub ..⟩
theorem freshT : ∀ op ∈ (opsT : List (HloOp τ sig (Elt F))), op.fresh = ∅ := by
  intro _ h; (repeat (cases h with | head => rfl | tail _ h => ?_)); exact nomatch h
theorem wroteT : (opsT : List (HloOp τ sig (Elt F))).map HloOp.writes = writesT.map fun w => {Proc.devRef (τ := τ) .tc w} := rfl

end Cert.Proof.Encoder

end
-- ==== Proof.Encoder.Main.lean ====
/-
  The whole program around its six calls: host operations, the three convolution layers, the 1x1 layer, the search for the
  nearest codebook row, the SparseCore gather, and the layout of the two results. One run, for any float values under
  which every token names a row of the table, ends with the memory that the operations and calls compute one after the other.
-/
module

public import proofs.«01_k».proof.Proof.Encoder.Ghost
public import proofs.«01_k».proof.Proof.Encoder.Region
public import proofs.«01_k».proof.Proof.Encoder.HostOps

@[expose] public section

noncomputable section

namespace Cert.Proof.Encoder

open Cert.EncoderIdeal Cert.EncoderIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type}

local notation "𝕄" => MT nD τ sig (HIx 1) (Elt F) ℕ UU ℕ

variable [FloatOps F]
variable (m : (ℓ : Loc nD τ sig) → Buf (Elt F) ℓ) (ρ : Dev nD → PrngReg)

abbrev tRef : DevRef τ sig := Proc.devRef .tc (main_v90 : Ref sig .tc)
abbrev iRef : DevRef τ sig := Proc.devRef .tc (main_v89 : Ref sig .tc)
abbrev oRef : DevRef τ sig := Proc.devRef .tc (main_v91 : Ref sig .tc)

/-! ## The memory, step by step -/

/-- The memory after TensorCore call `p` entered from the memory `E`. -/
def exit (p : Fin 5) (E : Dev nD → Valuation τ sig (Elt F)) (d : Dev nD) : Valuation τ sig (Elt F) := exitOf (fun _ => E) p d

def V0 (d : Dev nD) : Valuation τ sig (Elt F) := fun b => m (d, b)
def E0 (d : Dev nD) : Valuation τ sig (Elt F) := after opsA (V0 m d)
def X0 : Dev nD → Valuation τ sig (Elt F) := exit 0 (E0 m)
def E1 (d : Dev nD) : Valuation τ sig (Elt F) := after opsB (X0 m d)
def X1 : Dev nD → Valuation τ sig (Elt F) := exit 1 (E1 m)
def E2 (d : Dev nD) : Valuation τ sig (Elt F) := after opsC (X1 m d)
def X2 : Dev nD → Valuation τ sig (Elt F) := exit 2 (E2 m)
def E3 (d : Dev nD) : Valuation τ sig (Elt F) := after opsE (X2 m d)
def X3 : Dev nD → Valuation τ sig (Elt F) := exit 3 (E3 m)
def E4 (d : Dev nD) : Valuation τ sig (Elt F) := after opsG (X3 m d)
def X4 : Dev nD → Valuation τ sig (Elt F) := exit 4 (E4 m)
/-- The memory at the SparseCore call. -/
def E5 (d : Dev nD) : Valuation τ sig (Elt F) := after opsH (X4 m d)
/-- What the SparseCore call meets. -/
def held₁ : Held F where
  tb d := E5 m d tRef
  ix d := E5 m d iRef
  o₀ d := E5 m d oRef
/-- The memory after the SparseCore call, and at the end. -/
def X5 (d : Dev nD) : Valuation τ sig (Elt F) := Function.update (E5 m d) oRef (gOut (held₁ m) d)
def END (d : Dev nD) : Valuation τ sig (Elt F) := after opsT (X5 m d)

/-! ## The SparseCore call's arrays -/

abbrev BUFS : Finset (DevRef τ sig) := Pipeline.ucRefs τ sig
abbrev TIO : Finset (DevRef τ sig) := {iRef, tRef, oRef}

theorem tio_sub : TIO ⊆ BUFS := by decide

omit [FloatOps F] in
theorem held_TIO (d : Dev nD) (W : Valuation τ sig (Elt F)) :
    (held (SparseCore.T d) TIO W : sProp 𝕄) = iprop((iLoc d ↦{fullShare} W iRef) ∗ (tLoc d ↦{fullShare} W tRef) ∗ oLoc d ↦{fullShare} W oRef) := by
  unfold held TIO
  rw [SparseCore.bigSep_insert' (by decide), SparseCore.bigSep_insert' (by decide), bigSep_singleton]

theorem held_call (d : Dev nD) :
    (held (SparseCore.T d) BUFS (E5 m d) : sProp 𝕄)
      = iprop((bigSep Finset.univ fun c : Fin ((K (F := F)).nCore 0) => (P (held₁ m)).st 0 d c) ∗ held (SparseCore.T d) (BUFS \ TIO) (E5 m d)) := by
  rw [held_sub_split (SparseCore.T d) tio_sub (E5 m d), held_TIO, start_eq]; rfl
theorem held_called (d : Dev nD) :
    iprop((bigSep Finset.univ fun c : Fin ((K (F := F)).nCore 0) => (P (held₁ m)).dn 0 d c) ∗ held (SparseCore.T d) (BUFS \ TIO) (E5 m d))
      = (held (SparseCore.T d) BUFS (X5 m d) : sProp 𝕄) := by
  rw [held_sub_split (SparseCore.T d) tio_sub (X5 m d), held_TIO, done_eq,
    held_congr (SparseCore.T d) (S := BUFS \ TIO) (V := E5 m d) (V' := X5 m d) (fun b hb => (Function.update_of_ne (fun e => by
      subst e; exact (Finset.mem_sdiff.mp hb).2 (by decide)) _ _).symm),
    show X5 m d oRef = gOut (held₁ m) d from Function.update_self _ _ _,
    show X5 m d iRef = E5 m d iRef from Function.update_of_ne (show iRef ≠ oRef by decide) _ _,
    show X5 m d tRef = E5 m d tRef from Function.update_of_ne (show tRef ≠ oRef by decide) _ _]; rfl

/-! ## @main on the TensorCore -/

set_option backward.isDefEq.respectTransparency.types false in
/-- A TensorCore call at the head of the program. -/
theorem call_wp (E : Dev nD → Valuation τ sig (Elt F)) (p : Fin 5) (c : Dev nD) (S S' : Finset (Fin 5)) (hp : p ∈ S) (hS : S.erase p = S')
    (k : PUnit.{1} → Prog (TpuEff nD τ sig (Elt F) (SparseCore.Sig (ΛP (F := F)) 1) .tc) PUnit) (Q : PUnit → sProp 𝕄) :
    iprop(levAts ((K (F := F)).L (nD := nD)) (K (F := F)).lev ∗ boundary (SparseCore.T c) ∗ held (SparseCore.T c) BUFS (E c) ∗ side (F := F) c ∗ ghost (F := F) S c
        ∗ ((boundary (SparseCore.T c) ∗ held (SparseCore.T c) BUFS (exit p E c) ∗ side (F := F) c ∗ ghost (F := F) S' c) -∗
          wp frame (wpE ((K (F := F)).defs (D (F := F))) 𝒱 (SparseCore.T c) none) Set.univ (k ⟨⟩) Q))
      ⊢ wp frame (wpE ((K (F := F)).defs (D (F := F))) 𝒱 (SparseCore.T c) none) Set.univ (enter p >>= k) Q := by
  subst hS
  rw [wp_bind]
  iintro ⟨Hl, Hb, Hh, Hs, Hg, Hk⟩
  iapply ((K (F := F)).wp_liftProg (D (F := F)) 𝒱 (SparseCore.T c) Set.univ none
    (.op (.customCall (Pipeline.entry p) ()) fun _ => .ret ⟨⟩)
    (fun a => wp frame (wpE ((K (F := F)).defs (D (F := F))) 𝒱 (SparseCore.T c) none) Set.univ (k a) Q))
  iapply (call_step (fun _ => E) p c S hp (fun _ => .ret ⟨⟩) _)
  isplitl [Hk]
  · iintro ⟨⟨Hb, Hh, Hs⟩, Hg⟩
    rw [wp_ret]; imodintro
    iapply Hk
    isplitl [Hb]; · iexact Hb
    isplitl [Hh]; · iexact Hh
    isplitl [Hs] <;> iassumption
  isplitl [Hb]; · iexact Hb
  isplitl [Hh]; · iexact Hh
  isplitl [Hs]; · iexact Hs
  isplitl [Hl] <;> iassumption

/-- The calls still to come after the first, the second, … -/
abbrev left₁ : Finset (Fin 5) := Finset.univ.erase 0
abbrev left₂ : Finset (Fin 5) := left₁.erase 1
abbrev left₃ : Finset (Fin 5) := left₂.erase 2
abbrev left₄ : Finset (Fin 5) := left₃.erase 3
abbrev left₅ : Finset (Fin 5) := left₄.erase 4

set_option maxHeartbeats 4000000 in
set_option backward.isDefEq.respectTransparency.types false in
theorem main_run (κ : GSem nD τ sig → ℕ) (d : Dev nD) :
    iprop((K (F := F)).ctx EH (P (held₁ m)) κ ∗ (K (F := F)).tcSt EH d 0 ∗ (K (F := F)).tcRes m ρ d ∗ ghost (F := F) Finset.univ d)
      ⊢ wp frame (wpE ((K (F := F)).defs (D (F := F))) 𝒱 (SparseCore.T d) none) Set.univ (main d)
          fun _ => iprop((K (F := F)).tcSt EH d 1 ∗ held (SparseCore.T d) BUFS (END m d) ∗ (K (F := F)).tcEnd d) := by
  rw [main_eq]
  unfold SparseCore.Cfg.tcRes SparseCore.Cfg.tcEnd
  rw [show (unscopedBufs d (fun b => m ((SparseCore.T d).loc b)) : sProp 𝕄) = held (SparseCore.T d) BUFS (V0 m d) from Pipeline.unscopedBufs_held d (V0 m d)]
  iintro ⟨#Hctx, Hst, ⟨Hb, Hh, Hts, Hp⟩, Hg⟩
  ihave #Hl := (SparseCore.Cfg.ctx_levAts κ) $$ Hctx
  ihave Hst := (Entails.of_eq (show (K (F := F)).tcSt EH d 0 = _ by unfold SparseCore.Cfg.tcSt; rfl)) $$ Hst
  icases Hst with ⟨Howes, Hst⟩
  ihave Hs := (show iprop(prngReg d (ρ d) ∗ ∃ w, ⌜(K (F := F)).WBelow (SparseCore.T d) w (8 * Z₁.fst 0)⌝ ∗ owes (SparseCore.T d) ((K (F := F)).Otc d 0) w) ⊢ side (F := F) d from by
    iintro ⟨Hp, Ho⟩
    isplitl [Hp]; · iexists _; iexact Hp
    iexact Ho) $$ [Hp Howes]
  · isplitl [Hp] <;> iassumption
  iapply (wp_seq 𝒱 none Set.univ d BUFS _ opsA subA freshA (V0 m d)) $$ [Hb Hh]
  · isplitl [Hb]; · iexact Hb
    iexact Hh
  iintro ⟨Hb, Hh⟩
  iapply (call_wp (E0 m) 0 d Finset.univ left₁ (by decide) rfl)
  isplitr; · iexact Hl
  isplitl [Hb]; · iexact Hb
  isplitl [Hh]; · iexact Hh
  isplitl [Hs]; · iexact Hs
  isplitl [Hg]; · iexact Hg
  iintro ⟨Hb, Hh, Hs, Hg⟩
  iapply (wp_seq 𝒱 none Set.univ d BUFS _ opsB subB freshB (X0 m d)) $$ [Hb Hh]
  · isplitl [Hb]; · iexact Hb
    iexact Hh
  iintro ⟨Hb, Hh⟩
  iapply (call_wp (E1 m) 1 d left₁ left₂ (by decide) rfl)
  isplitr; · iexact Hl
  isplitl [Hb]; · iexact Hb
  isplitl [Hh]; · iexact Hh
  isplitl [Hs]; · iexact Hs
  isplitl [Hg]; · iexact Hg
  iintro ⟨Hb, Hh, Hs, Hg⟩
  iapply (wp_seq 𝒱 none Set.univ d BUFS _ opsC subC freshC (X1 m d)) $$ [Hb Hh]
  · isplitl [Hb]; · iexact Hb
    iexact Hh
  iintro ⟨Hb, Hh⟩
  iapply (call_wp (E2 m) 2 d left₂ left₃ (by decide) rfl)
  isplitr; · iexact Hl
  isplitl [Hb]; · iexact Hb
  isplitl [Hh]; · iexact Hh
  isplitl [Hs]; · iexact Hs
  isplitl [Hg]; · iexact Hg
  iintro ⟨Hb, Hh, Hs, Hg⟩
  iapply (wp_seq 𝒱 none Set.univ d BUFS _ opsE subE freshE (X2 m d)) $$ [Hb Hh]
  · isplitl [Hb]; · iexact Hb
    iexact Hh
  iintro ⟨Hb, Hh⟩
  iapply (call_wp (E3 m) 3 d left₃ left₄ (by decide) rfl)
  isplitr; · iexact Hl
  isplitl [Hb]; · iexact Hb
  isplitl [Hh]; · iexact Hh
  isplitl [Hs]; · iexact Hs
  isplitl [Hg]; · iexact Hg
  iintro ⟨Hb, Hh, Hs, Hg⟩
  iapply (wp_seq 𝒱 none Set.univ d BUFS _ opsG subG freshG (X3 m d)) $$ [Hb Hh]
  · isplitl [Hb]; · iexact Hb
    iexact Hh
  iintro ⟨Hb, Hh⟩
  iapply (call_wp (E4 m) 4 d left₄ left₅ (by decide) rfl)
  isplitr; · iexact Hl
  isplitl [Hb]; · iexact Hb
  isplitl [Hh]; · iexact Hh
  isplitl [Hs]; · iexact Hs
  isplitl [Hg]; · iexact Hg
  iintro ⟨Hb, Hh, Hs, -⟩
  iapply (wp_seq 𝒱 none Set.univ d BUFS _ opsH subH freshH (X4 m d)) $$ [Hb Hh]
  · isplitl [Hb]; · iexact Hb
    iexact Hh
  iintro ⟨Hb, Hh⟩
  icases Hs with ⟨-, Howes⟩
  ihave Hh := (Entails.of_eq ((congrArg (held (SparseCore.T d) BUFS) (show after opsH (X4 m d) = E5 m d from rfl)).trans (held_call (F := F) m d))) $$ Hh
  icases Hh with ⟨Hin, Hrest⟩
  rw [wp_bind]
  iapply ((K (F := F)).wp_run (D (F := F)) 𝒱 (EH := EH) (P := P (held₁ m)) κ d 0)
  isplitr; · iexact Hctx
  isplitl [Hst Howes]
  · unfold SparseCore.Cfg.tcSt
    isplitl [Howes]; · iexact Howes
    iexact Hst
  isplitl [Hin]; · iexact Hin
  iintro ⟨Hst, Hdn⟩
  ihave Hh := (Entails.of_eq (held_called (F := F) m d)) $$ [Hdn Hrest]
  · isplitl [Hdn] <;> iassumption
  rw [show seq (opsT (F := F)) = seq opsT >>= fun _ => pure ⟨⟩ from (bind_pure _).symm]
  iapply (wp_seq 𝒱 none Set.univ d BUFS _ opsT subT freshT (X5 m d)) $$ [Hb Hh]
  · isplitl [Hb]; · iexact Hb
    iexact Hh
  iintro ⟨Hb, Hh⟩
  rw [wp_pure]; imodintro
  isplitl [Hst]; · iexact Hst
  isplitl [Hh]; · iexact Hh
  isplitl [Hb] <;> iassumption

theorem final (d : Dev nD) (s' : Phys nD τ sig (Elt F)) :
    iprop(held (SparseCore.T d) BUFS (END m d) ∗ SI s') ⊢ (⌜∀ b ∈ BUFS, s'.mem.mem (d, b) = END m d b⌝ : sProp 𝕄) := by
  unfold held
  iintro ⟨H, HSI⟩
  ihave %h := (SI_pointsTo_bufs_agree (qs := fun _ => fullShare) BUFS) $$ [HSI H]
  · isplitl [HSI]; · iexact HSI
    iexact H
  ipureintro
  exact h

/-! ## The program's run -/

def QC : PUnit × MemSt nD τ sig (Elt F) → Prop := fun r => (∀ d : Dev nD, ∀ b ∈ BUFS, r.2.mem (d, b) = END m d b) ∧ r.2.sem = fun _ => 0

theorem run_main [∀ e, Nonempty (Elt F e)] (hok : (held₁ m).OK) :
    θ_run (Cert.EncoderIdeal.defs (F := F)) (Cert.EncoderIdeal.threads (F := F)) ⟨m, fun _ => 0, ρ⟩ (QC m) :=
  SparseCore.Cfg.θ_run_sc_quiescent (K := K (F := F)) (D := D (F := F)) (𝒱 := 𝒱) (EH := EH) (P := P (held₁ m)) (A := ∅) facts v₀
    (fun q hq => match q with | 0 => nomatch hq)
    (fun q _ => match q with | 0 => tileObl (held₁ m) facts hok)
    (fun q _ => match q with | 0 => SparseCore.Cfg.VecSplit.of_plain (vecSplit (held₁ m)))
    m ρ main (fun d => ghost (F := F) Finset.univ d) (fun d => held (SparseCore.T d) BUFS (END m d)) (u₀ (F := F)) (sep_elim_left.trans (hu₀ (held₁ m))) (main_run m ρ)
    (fun d s' => ∀ b ∈ BUFS, s'.mem.mem (d, b) = END m d b) (final m) (QC m) (fun _ h hz => ⟨h, hz⟩)

end Cert.Proof.Encoder

end
-- ==== Proof.Encoder.Plain.lean ====
/-
  The mathematics of the encoder, as functions of arrays over the extended reals: a 3x3 convolution of stride two with
  its bias and its cut at zero, and the rules by which both programs' sums are brought to it.
-/
module

public import Idealize.ShloMosaic.Lib.Pointwise
public import Idealize.ShloMosaic.PureOps.Ideal.Laws

@[expose] public section

noncomputable section

namespace Cert.Proof.Plain

open Idealize.ShloMosaic

/-- One output of a layer: nine taps of `C` channels each, weighted and summed, with a bias and a cut at zero. -/
def cell {C : ℕ} (x w : Fin 9 → Fin C → EReal) (b : EReal) : EReal := max (∑ t, ∑ c, x t c * w t c + b) 0

theorem cell_congr {C : ℕ} {x x' w w' : Fin 9 → Fin C → EReal} {b b' : EReal} (hx : ∀ t c, x t c = x' t c) (hw : ∀ t c, w t c = w' t c) (hb : b = b') :
    cell x w b = cell x' w' b' := by
  rw [show x = x' from funext fun t => funext (hx t), show w = w' from funext fun t => funext (hw t), hb]

/-- An array's entry, or zero outside of it. -/
def inside {C H : ℕ} (x : (⟨4, ![8, C, H, H]⟩ : Shape).Idx → EReal) (n : Fin 8) (c : Fin C) (a b : ℕ) : EReal :=
  if h : a < H ∧ b < H then x (ix4 n c ⟨a, h.1⟩ ⟨b, h.2⟩) else 0

/-- A 3x3 convolution of stride two from the top left corner, with bias and cut at zero. -/
def layer (C H O H' : ℕ) (x : (⟨4, ![8, C, H, H]⟩ : Shape).Idx → EReal) (w : (⟨4, ![O, C, 3, 3]⟩ : Shape).Idx → EReal) (b : (⟨1, ![O]⟩ : Shape).Idx → EReal) :
    (⟨4, ![8, O, H', H']⟩ : Shape).Idx → EReal := fun y =>
  cell (fun t c => inside x (y 0) c (2 * (y 2).val + t.val / 3) (2 * (y 3).val + t.val % 3))
    (fun t c => w (ix4 (y 1) c ⟨t.val / 3, by omega⟩ ⟨t.val % 3, by omega⟩)) (b (ix1 (y 1)))

/-- The distance by which a row `z` and a codebook row `e` are compared: `‖z‖² + ‖e‖² - 2 z·e`. -/
def dist (z e : Fin 256 → EReal) : EReal := ∑ x, z x * z x + ∑ x, e x * e x - Ideal.ofBits .f32 0x40000000#32 * ∑ x, z x * e x

/-- A sum over nine blocks of `C`, read from nine blocks laid one after the other, is a sum of nine sums. -/
theorem sum_ladder {C : ℕ} (w : Fin (9 * C) → EReal) (v : Fin 9 → Fin C → EReal) :
    ∑ x : Fin (9 * C), w x *
        (if h : x.val < C then v 0 ⟨x.val, h⟩ else if h : x.val - C < C then v 1 ⟨x.val - C, h⟩
          else if h : x.val - C - C < C then v 2 ⟨x.val - C - C, h⟩ else if h : x.val - C - C - C < C then v 3 ⟨x.val - C - C - C, h⟩
          else if h : x.val - C - C - C - C < C then v 4 ⟨x.val - C - C - C - C, h⟩ else if h : x.val - C - C - C - C - C < C then v 5 ⟨x.val - C - C - C - C - C, h⟩
          else if h : x.val - C - C - C - C - C - C < C then v 6 ⟨x.val - C - C - C - C - C - C, h⟩
          else if h : x.val - C - C - C - C - C - C - C < C then v 7 ⟨x.val - C - C - C - C - C - C - C, h⟩
          else v 8 ⟨x.val - C - C - C - C - C - C - C - C, by have := x.isLt; omega⟩)
      = ∑ t : Fin 9, ∑ c : Fin C, v t c * w ⟨C * t.val + c.val, by
          have h1 : C * t.val ≤ C * 8 := Nat.mul_le_mul_left _ (by omega)
          have := c.isLt; omega⟩ := by
  rw [← Equiv.sum_comp finProdFinEquiv, Fintype.sum_prod_type]
  refine Finset.sum_congr rfl fun t _ => Finset.sum_congr rfl fun c _ => ?_
  have hx : (finProdFinEquiv (t, c) : Fin (9 * C)).val = C * t.val + c.val := by rw [finProdFinEquiv_apply_val]; exact Nat.add_comm _ _
  have hw : (finProdFinEquiv (t, c) : Fin (9 * C)) = ⟨C * t.val + c.val, hx ▸ Fin.isLt _⟩ := Fin.ext hx
  have hc := c.isLt
  rw [hw, mul_comm]
  refine congrArg (· * _) ?_
  have hv : ∀ (u : Fin 9) (k : ℕ) (hk : k < C), u = t → k = c.val → v u ⟨k, hk⟩ = v t c := by rintro u k hk rfl rfl; rfl
  match t, hv with
  | 0, hv => rw [dif_pos (by simp only [Fin.val]; omega)]; exact hv _ _ _ rfl (by simp only [Fin.val]; omega)
  | 1, hv => rw [dif_neg (by simp only [Fin.val]; omega), dif_pos (by simp only [Fin.val]; omega)]; exact hv _ _ _ rfl (by simp only [Fin.val]; omega)
  | 2, hv => iterate 2 rw [dif_neg (by simp only [Fin.val]; omega)]
             rw [dif_pos (by simp only [Fin.val]; omega)]; exact hv _ _ _ rfl (by simp only [Fin.val]; omega)
  | 3, hv => iterate 3 rw [dif_neg (by simp only [Fin.val]; omega)]
             rw [dif_pos (by simp only [Fin.val]; omega)]; exact hv _ _ _ rfl (by simp only [Fin.val]; omega)
  | 4, hv => iterate 4 rw [dif_neg (by simp only [Fin.val]; omega)]
             rw [dif_pos (by simp only [Fin.val]; omega)]; exact hv _ _ _ rfl (by simp only [Fin.val]; omega)
  | 5, hv => iterate 5 rw [dif_neg (by simp only [Fin.val]; omega)]
             rw [dif_pos (by simp only [Fin.val]; omega)]; exact hv _ _ _ rfl (by simp only [Fin.val]; omega)
  | 6, hv => iterate 6 rw [dif_neg (by simp only [Fin.val]; omega)]
             rw [dif_pos (by simp only [Fin.val]; omega)]; exact hv _ _ _ rfl (by simp only [Fin.val]; omega)
  | 7, hv => iterate 7 rw [dif_neg (by simp only [Fin.val]; omega)]
             rw [dif_pos (by simp only [Fin.val]; omega)]; exact hv _ _ _ rfl (by simp only [Fin.val]; omega)
  | 8, hv => iterate 8 rw [dif_neg (by simp only [Fin.val]; omega)]
             exact hv _ _ _ rfl (by simp only [Fin.val]; omega)

/-- Nine sums added one after the other are the sum over the nine taps. -/
theorem sum_nine (f : Fin 9 → EReal) : f 0 + f 1 + f 2 + f 3 + f 4 + f 5 + f 6 + f 7 + f 8 = ∑ t, f t := by
  rw [Fin.sum_univ_castSucc, Fin.sum_univ_eight]; rfl

end Cert.Proof.Plain

end
-- ==== Proof.Encoder.Nearest.lean ====
/-
  The first place of the least of finitely many extended reals, and the two ways the programs find it: the least value and
  then the least place that holds it, and one pass over pairs of a value and its place.
-/
module

public import Idealize.ShloMosaic.Lib.Pointwise
public import Idealize.ShloMosaic.PureOps.Ideal.Laws
public import Idealize.ShloMosaic.Lib.SortNet.Extract

@[expose] public section

noncomputable section

namespace Cert.Proof.Plain

open Idealize.ShloMosaic

theorem exists_first (f : Fin 8192 → EReal) : ∃ k, (∀ j, f k ≤ f j) ∧ ∀ j, j < k → f k < f j := by
  obtain ⟨k₀, hk₀⟩ := Finite.exists_min f
  have hne : (Finset.univ.filter fun k => ∀ j, f k ≤ f j).Nonempty := ⟨k₀, Finset.mem_filter.mpr ⟨Finset.mem_univ _, hk₀⟩⟩
  obtain ⟨k, hk, hmin⟩ := Finset.exists_min_image _ id hne
  have hk' := (Finset.mem_filter.mp hk).2
  refine ⟨k, hk', fun j hj => lt_of_le_of_ne (hk' j) fun e => ?_⟩
  exact absurd (hmin j (Finset.mem_filter.mpr ⟨Finset.mem_univ _, fun i => e ▸ hk' i⟩)) (not_le.mpr hj)

/-- The first place of the least value. -/
def nearest (f : Fin 8192 → EReal) : Fin 8192 := (exists_first f).choose

theorem nearest_le (f : Fin 8192 → EReal) (j : Fin 8192) : f (nearest f) ≤ f j := (exists_first f).choose_spec.1 j
theorem nearest_lt (f : Fin 8192 → EReal) (j : Fin 8192) (h : j < nearest f) : f (nearest f) < f j := (exists_first f).choose_spec.2 j h

theorem word_toInt (k : Fin 8192) : (BitVec.ofNat 32 k.val).toInt = k.val := by
  rw [BitVec.toInt_eq_toNat_cond, BitVec.toNat_ofNat]; omega

/-- The least value first, then the least place that holds it. -/
theorem fold_places (f : Fin 8192 → EReal) :
    Finset.fold IntOp.minsi 2147483647#32
      (fun x => if f x = Finset.fold min (Ideal.ofBits FTy.f32 2139095040#32) f Finset.univ then BitVec.ofNat 32 x.val else 1073741824#32) Finset.univ
      = BitVec.ofNat 32 (nearest f).val := by
  have htop : Ideal.ofBits FTy.f32 2139095040#32 = ⊤ := by simp [Ideal.ofBits, Ideal.ieee]
  have hm : Finset.fold min (Ideal.ofBits FTy.f32 2139095040#32) f Finset.univ = f (nearest f) := by
    refine le_antisymm ((Finset.fold_min_le _).mpr (Or.inr ⟨_, Finset.mem_univ _, le_rfl⟩)) ?_
    rw [htop]
    exact (Finset.le_fold_min _).mpr ⟨le_top, fun x _ => nearest_le f x⟩
  rw [hm]
  apply BitVec.eq_of_toInt_eq
  rw [← Finset.fold_hom (op' := min) (m := BitVec.toInt) (fun a b => SortNet.toInt_minsi a b), word_toInt]
  refine le_antisymm ((Finset.fold_min_le _).mpr (Or.inr ⟨nearest f, Finset.mem_univ _, ?_⟩)) ((Finset.le_fold_min _).mpr ⟨?_, fun x _ => ?_⟩)
  · rw [if_pos rfl, word_toInt]
  · have := (nearest f).isLt
    rw [show (2147483647#32 : BitVec 32).toInt = 2147483647 by decide]; omega
  · split
    · next h =>
      rw [word_toInt]
      by_contra hlt
      exact absurd h (nearest_lt f x (by rw [Fin.lt_def]; omega)).ne'
    · have := (nearest f).isLt
      rw [show (1073741824#32 : BitVec 32).toInt = 1073741824 by decide]; omega

/-- Pair `p` comes no later than pair `q`: by value, and by place where the values agree. -/
def Before (p q : EReal × BitVec 32) : Prop := p.1 < q.1 ∨ p.1 = q.1 ∧ p.2.toInt ≤ q.2.toInt

theorem Before.refl (p : EReal × BitVec 32) : Before p p := Or.inr ⟨rfl, le_rfl⟩
theorem Before.trans {p q r : EReal × BitVec 32} (h : Before p q) (h' : Before q r) : Before p r := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- A pass that keeps the earlier of two pairs ends with one that comes no later than any. -/
theorem foldl_before (op : EReal × BitVec 32 → EReal × BitVec 32 → EReal × BitVec 32)
    (hop : ∀ a b, (op a b = a ∨ op a b = b) ∧ Before (op a b) a ∧ Before (op a b) b) (L : List (EReal × BitVec 32)) :
    ∀ i, (L.foldl op i = i ∨ L.foldl op i ∈ L) ∧ Before (L.foldl op i) i ∧ ∀ q ∈ L, Before (L.foldl op i) q := by
  induction L with
  | nil => exact fun i => ⟨Or.inl rfl, Before.refl i, fun _ h => nomatch h⟩
  | cons a L ih =>
    intro i
    obtain ⟨h1, h2, h3⟩ := ih (op i a)
    obtain ⟨g1, g2, g3⟩ := hop i a
    rw [List.foldl_cons]
    refine ⟨?_, h2.trans g2, fun q hq => ?_⟩
    · rcases h1 with h1 | h1
      · rcases g1 with g1 | g1
        · exact Or.inl (h1.trans g1)
        · exact Or.inr (List.mem_cons.mpr (Or.inl (h1.trans g1)))
      · exact Or.inr (List.mem_cons.mpr (Or.inr h1))
    · rcases List.mem_cons.mp hq with rfl | hq
      · exact h2.trans g3
      · exact h3 q hq

/-- One pass over the pairs of a value and its place, in whatever order, from the pair of the greatest value and place 0. -/
theorem foldl_places (op : EReal × BitVec 32 → EReal × BitVec 32 → EReal × BitVec 32)
    (hop : ∀ a b, (op a b = a ∨ op a b = b) ∧ Before (op a b) a ∧ Before (op a b) b) (f : Fin 8192 → EReal) (L : List (EReal × BitVec 32))
    (hL : ∀ q, q ∈ L ↔ ∃ k : Fin 8192, q = (f k, BitVec.ofNat 32 k.val)) :
    (L.foldl op (⊤, 0#32)).2 = BitVec.ofNat 32 (nearest f).val := by
  obtain ⟨h1, -, h3⟩ := foldl_before op hop L (⊤, 0#32)
  have hn := h3 _ ((hL _).mpr ⟨nearest f, rfl⟩)
  rcases h1 with h1 | h1
  · rw [h1] at hn ⊢
    have htop : f (nearest f) = ⊤ := by
      rcases hn with hn | hn
      · exact absurd hn (not_lt.mpr le_top)
      · exact hn.1.symm
    have h0 : (nearest f).val = 0 := by
      by_contra h
      exact absurd (nearest_lt f ⟨0, by decide⟩ (by rw [Fin.lt_def]; exact Nat.pos_of_ne_zero h)) (by rw [htop]; exact not_lt.mpr le_top)
    rw [h0]
  · obtain ⟨k, hk⟩ := (hL _).mp h1
    rw [hk] at hn ⊢
    rcases hn with hn | hn
    · exact absurd hn (not_lt.mpr (nearest_le f k))
    · have hle : k.val ≤ (nearest f).val := by
        have h2 : (BitVec.ofNat 32 k.val).toInt ≤ (BitVec.ofNat 32 (nearest f).val).toInt := hn.2
        rw [word_toInt, word_toInt] at h2; omega
      rcases Nat.lt_or_eq_of_le hle with h | h
      · exact absurd (nearest_lt f k h) (by rw [show f k = f (nearest f) from hn.1]; exact lt_irrefl _)
      · rw [show k = nearest f from Fin.ext h]

end Cert.Proof.Plain

end
-- ==== Proof.Encoder.Pay.lean ====
/-
  What the TensorCore calls' bodies compute, entry by entry, over the extended reals.
-/
module

public import proofs.«01_k».proof.Proof.Gen.EncoderIdeal.Skeleton
public import proofs.«01_k».proof.Proof.Encoder.Plain
public import proofs.«01_k».proof.Proof.Encoder.Nearest

@[expose] public section

set_option maxRecDepth 16384

noncomputable section

namespace Cert.Proof.Encoder

open Cert.EncoderIdeal Cert.EncoderIdeal.Gen
open Idealize.ShloMosaic Cert.Proof.Plain

/-- A layer's body: 64 channels from nine taps of 3. -/
theorem pay0 (v0 v2 v4 v6 v8 v10 v12 v14 v16 : Vec Ideal S1x3x12544 .f32) (v19 : Vec Ideal S64x27 .f32) (v22 : Vec Ideal S64x1 .f32) (o : Fin 64) (p : Fin 12544) :
    k0_pay1 (k0_pay2 v0 v2 v4 v6 v8 v10 v12 v14 v16 v19 v22) (Scalar.ofBits .f32 0x00000000#32) (ix3 0 o p)
      = cell (fun t c => (![v0, v2, v4, v6, v8, v10, v12, v14, v16] t) (ix3 0 c p)) (fun t c => v19 (ix2 o ⟨3 * t.val + c.val, by omega⟩)) (v22 (ix2 o 0)) := by
  pointwise [k0_pay1, k0_pay2]
  exact congrArg (fun s => max (s + v22 (ix2 o 0)) 0)
    (sum_ladder (C := 3) (fun x => v19 (ix2 o x)) fun t c => (![v0, v2, v4, v6, v8, v10, v12, v14, v16] t) (ix3 0 c p))

/-- A layer's body: 128 channels from nine taps of 64. -/
theorem pay1 (v0 v2 v4 v6 v8 v10 v12 v14 v16 : Vec Ideal S1x64x3136 .f32) (v19 : Vec Ideal S128x576 .f32) (v22 : Vec Ideal S128x1 .f32) (o : Fin 128) (p : Fin 3136) :
    k1_pay1 (k1_pay2 v0 v2 v4 v6 v8 v10 v12 v14 v16 v19 v22) (Scalar.ofBits .f32 0x00000000#32) (ix3 0 o p)
      = cell (fun t c => (![v0, v2, v4, v6, v8, v10, v12, v14, v16] t) (ix3 0 c p)) (fun t c => v19 (ix2 o ⟨64 * t.val + c.val, by omega⟩)) (v22 (ix2 o 0)) := by
  pointwise [k1_pay1, k1_pay2]
  exact congrArg (fun s => max (s + v22 (ix2 o 0)) 0)
    (sum_ladder (C := 64) (fun x => v19 (ix2 o x)) fun t c => (![v0, v2, v4, v6, v8, v10, v12, v14, v16] t) (ix3 0 c p))

/-- A layer's body: 256 channels from nine taps of 128. -/
theorem pay2 (v0 v2 v4 v6 v8 v10 v12 v14 v16 : Vec Ideal S1x128x784 .f32) (v19 : Vec Ideal S256x1152 .f32) (v22 : Vec Ideal S256x1 .f32) (o : Fin 256) (p : Fin 784) :
    k2_pay1 (k2_pay2 v0 v2 v4 v6 v8 v10 v12 v14 v16 v19 v22) (Scalar.ofBits .f32 0x00000000#32) (ix3 0 o p)
      = cell (fun t c => (![v0, v2, v4, v6, v8, v10, v12, v14, v16] t) (ix3 0 c p)) (fun t c => v19 (ix2 o ⟨128 * t.val + c.val, by omega⟩)) (v22 (ix2 o 0)) := by
  pointwise [k2_pay1, k2_pay2]
  exact congrArg (fun s => max (s + v22 (ix2 o 0)) 0)
    (sum_ladder (C := 128) (fun x => v19 (ix2 o x)) fun t c => (![v0, v2, v4, v6, v8, v10, v12, v14, v16] t) (ix3 0 c p))

/-- The 1x1 layer's body. -/
theorem pay3 (v0 : Vec Ideal S256x256 .f32) (v2 : Vec Ideal S1x256x784 .f32) (v5 : Vec Ideal S256x1 .f32) (o : Fin 256) (p : Fin 784) :
    k3_pay1 v0 v2 v5 (ix3 0 o p) = ∑ c : Fin 256, v0 (ix2 o c) * v2 (ix3 0 c p) + v5 (ix2 o 0) := by
  pointwise [k3_pay1]

/-- The search's body: for each row, the first codebook row at the least distance. -/
theorem pay4 (v0 : Vec Ideal S256x256 .f32) (v2 : Vec Ideal S256x8192 .f32) (r : Fin 256) :
    k4_pay1 v0 v2 (ix3 0 0 r) = BitVec.ofNat 32 (nearest fun k => dist (fun x => v0 (ix2 r x)) fun x => v2 (ix2 x k)).val := by
  pointwise [k4_pay1]
  exact fold_places fun k => dist (fun x => v0 (ix2 r x)) fun x => v2 (ix2 x k)

end Cert.Proof.Encoder

end
-- ==== Proof.Encoder.Blocks.lean ====
/-
  What each TensorCore call leaves in its output array, entry by entry, over the extended reals: a call's blocks tile the
  array, and a block is what the body computes from the blocks of the inputs at the same point.
-/
module

public import proofs.«01_k».proof.Proof.Gen.Own.EncoderIdeal.Calls
public import proofs.«01_k».proof.Proof.Encoder.Pay
public import Idealize.ShloMosaic.Lib.Pipeline.ValueKit

@[expose] public section

set_option maxRecDepth 16384

noncomputable section

namespace Cert.Proof.Encoder

open Cert.EncoderIdeal Cert.EncoderIdeal.Gen
open Idealize.ShloMosaic Idealize.ShloMosaic.TcCoe Cert.Proof.Plain Idealize.SL.RA

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix × Set (SemLoc sig × Ix))

theorem one_block {a b : ℕ} (y : (⟨3, ![1, a, b]⟩ : Shape).Idx) : ∃ (o : Fin a) (p : Fin b), y = ix3 0 o p :=
  ⟨y 1, y 2, funext fun k => match k with
    | ⟨0, _⟩ => Subsingleton.elim (α := Fin 1) _ _
    | ⟨1, _⟩ => rfl
    | ⟨2, _⟩ => rfl⟩

/-! ## Layer 1's call -/

/-- The layer's output array from the arrays of its taps, its weights and its bias. -/
def out0 (x : Fin 9 → S8x3x12544.Idx → EReal) (w : S64x27.Idx → EReal) (b : S64x1.Idx → EReal) : S8x64x12544.Idx → EReal := fun i =>
  cell (fun t c => x t (ix3 (i 0) c (i 2))) (fun t c => w (ix2 (i 1) ⟨3 * t.val + c.val, by omega⟩)) (b (ix2 (i 1) 0))

abbrev pt0 (t : Fin cfg0.N) : Fin 8 := ⟨t.val, Nat.lt_of_lt_of_eq t.isLt (by decide)⟩

theorem e0_0 : ∀ t : Fin cfg0.N, win0_0.index t = ![t.val, 0, 0] := by decide +kernel
theorem e0_1 : ∀ t : Fin cfg0.N, win0_1.index t = ![t.val, 0, 0] := by decide +kernel
theorem e0_2 : ∀ t : Fin cfg0.N, win0_2.index t = ![t.val, 0, 0] := by decide +kernel
theorem e0_3 : ∀ t : Fin cfg0.N, win0_3.index t = ![t.val, 0, 0] := by decide +kernel
theorem e0_4 : ∀ t : Fin cfg0.N, win0_4.index t = ![t.val, 0, 0] := by decide +kernel
theorem e0_5 : ∀ t : Fin cfg0.N, win0_5.index t = ![t.val, 0, 0] := by decide +kernel
theorem e0_6 : ∀ t : Fin cfg0.N, win0_6.index t = ![t.val, 0, 0] := by decide +kernel
theorem e0_7 : ∀ t : Fin cfg0.N, win0_7.index t = ![t.val, 0, 0] := by decide +kernel
theorem e0_8 : ∀ t : Fin cfg0.N, win0_8.index t = ![t.val, 0, 0] := by decide +kernel
theorem e0_9 : ∀ t : Fin cfg0.N, win0_9.index t = ![0, 0] := by decide +kernel
theorem e0_10 : ∀ t : Fin cfg0.N, win0_10.index t = ![0, 0] := by decide +kernel
theorem e0_11 : ∀ t : Fin cfg0.N, win0_11.index t = ![t.val, 0, 0] := by decide +kernel

theorem b0_0 (c : Dev nD) (t : Fin cfg0.N) (k : Fin 3) (p : Fin 12544) : Own.K0.iblk V c 0 t (ix3 0 k p) = V c main_v7 (ix3 (pt0 t) k p) := by
  blk_simp [Own.K0.iblk]; exact congrArg (V c main_v7) (by blk_ext [e0_0])
theorem b0_1 (c : Dev nD) (t : Fin cfg0.N) (k : Fin 3) (p : Fin 12544) : Own.K0.iblk V c 1 t (ix3 0 k p) = V c main_v9 (ix3 (pt0 t) k p) := by
  blk_simp [Own.K0.iblk]; exact congrArg (V c main_v9) (by blk_ext [e0_1])
theorem b0_2 (c : Dev nD) (t : Fin cfg0.N) (k : Fin 3) (p : Fin 12544) : Own.K0.iblk V c 2 t (ix3 0 k p) = V c main_v11 (ix3 (pt0 t) k p) := by
  blk_simp [Own.K0.iblk]; exact congrArg (V c main_v11) (by blk_ext [e0_2])
theorem b0_3 (c : Dev nD) (t : Fin cfg0.N) (k : Fin 3) (p : Fin 12544) : Own.K0.iblk V c 3 t (ix3 0 k p) = V c main_v13 (ix3 (pt0 t) k p) := by
  blk_simp [Own.K0.iblk]; exact congrArg (V c main_v13) (by blk_ext [e0_3])
theorem b0_4 (c : Dev nD) (t : Fin cfg0.N) (k : Fin 3) (p : Fin 12544) : Own.K0.iblk V c 4 t (ix3 0 k p) = V c main_v15 (ix3 (pt0 t) k p) := by
  blk_simp [Own.K0.iblk]; exact congrArg (V c main_v15) (by blk_ext [e0_4])
theorem b0_5 (c : Dev nD) (t : Fin cfg0.N) (k : Fin 3) (p : Fin 12544) : Own.K0.iblk V c 5 t (ix3 0 k p) = V c main_v17 (ix3 (pt0 t) k p) := by
  blk_simp [Own.K0.iblk]; exact congrArg (V c main_v17) (by blk_ext [e0_5])
theorem b0_6 (c : Dev nD) (t : Fin cfg0.N) (k : Fin 3) (p : Fin 12544) : Own.K0.iblk V c 6 t (ix3 0 k p) = V c main_v19 (ix3 (pt0 t) k p) := by
  blk_simp [Own.K0.iblk]; exact congrArg (V c main_v19) (by blk_ext [e0_6])
theorem b0_7 (c : Dev nD) (t : Fin cfg0.N) (k : Fin 3) (p : Fin 12544) : Own.K0.iblk V c 7 t (ix3 0 k p) = V c main_v21 (ix3 (pt0 t) k p) := by
  blk_simp [Own.K0.iblk]; exact congrArg (V c main_v21) (by blk_ext [e0_7])
theorem b0_8 (c : Dev nD) (t : Fin cfg0.N) (k : Fin 3) (p : Fin 12544) : Own.K0.iblk V c 8 t (ix3 0 k p) = V c main_v23 (ix3 (pt0 t) k p) := by
  blk_simp [Own.K0.iblk]; exact congrArg (V c main_v23) (by blk_ext [e0_8])
theorem b0_9 (c : Dev nD) (t : Fin cfg0.N) (o : Fin 64) (k : Fin 27) : Own.K0.iblk V c 9 t (ix2 o k) = V c main_v26 (ix2 o k) := by
  blk_simp [Own.K0.iblk]; exact congrArg (V c main_v26) (by blk_ext [e0_9])
theorem b0_10 (c : Dev nD) (t : Fin cfg0.N) (o : Fin 64) (k : Fin 1) : Own.K0.iblk V c 10 t (ix2 o k) = V c main_v27 (ix2 o k) := by
  blk_simp [Own.K0.iblk]; exact congrArg (V c main_v27) (by blk_ext [e0_10])
theorem b0_11 (t : Fin cfg0.N) (o : Fin 64) (p : Fin 12544) : ((View.whole main_v28).slice (win0_11.rect t)).emb (ix3 0 o p) = ix3 (pt0 t) o p := by
  blk_ext [e0_11]

theorem body0 (x0 x1 x2 x3 x4 x5 x6 x7 x8 : S1x3x12544.Idx → EReal) (w : S64x27.Idx → EReal) (b : S64x1.Idx → EReal)
    (y0 y1 y2 y3 y4 y5 y6 y7 y8 : S8x3x12544.Idx → EReal) (w' : S64x27.Idx → EReal) (b' : S64x1.Idx → EReal) (n : Fin 8)
    (h0 : ∀ k p, x0 (ix3 0 k p) = y0 (ix3 n k p))
    (h1 : ∀ k p, x1 (ix3 0 k p) = y1 (ix3 n k p))
    (h2 : ∀ k p, x2 (ix3 0 k p) = y2 (ix3 n k p))
    (h3 : ∀ k p, x3 (ix3 0 k p) = y3 (ix3 n k p))
    (h4 : ∀ k p, x4 (ix3 0 k p) = y4 (ix3 n k p))
    (h5 : ∀ k p, x5 (ix3 0 k p) = y5 (ix3 n k p))
    (h6 : ∀ k p, x6 (ix3 0 k p) = y6 (ix3 n k p))
    (h7 : ∀ k p, x7 (ix3 0 k p) = y7 (ix3 n k p))
    (h8 : ∀ k p, x8 (ix3 0 k p) = y8 (ix3 n k p))
    (hw : ∀ o k, w (ix2 o k) = w' (ix2 o k)) (hb : ∀ o k, b (ix2 o k) = b' (ix2 o k)) (o : Fin 64) (p : Fin 12544) :
    k0_pay1 (F := Ideal) (k0_pay2 x0 x1 x2 x3 x4 x5 x6 x7 x8 w b) (Scalar.ofBits .f32 0x00000000#32) (ix3 0 o p) = out0 ![y0, y1, y2, y3, y4, y5, y6, y7, y8] w' b' (ix3 n o p) := by
  rw [pay0]
  refine cell_congr (fun t c => ?_) (fun t c => hw o _) (hb o 0)
  match t with
  | 0 => exact h0 c p
  | 1 => exact h1 c p
  | 2 => exact h2 c p
  | 3 => exact h3 c p
  | 4 => exact h4 c p
  | 5 => exact h5 c p
  | 6 => exact h6 c p
  | 7 => exact h7 c p
  | 8 => exact h8 c p

set_option maxHeartbeats 2000000 in
theorem arr0 (c : Dev nD) :
    (Own.K0.dat (F := Ideal) (Ix := Ix) (U := U) (Lvl := Lvl) 𝒱₀ V D c).arrAt 11 cfg0.N
      = out0 (![V c main_v7, V c main_v9, V c main_v11, V c main_v13, V c main_v15, V c main_v17, V c main_v19, V c main_v21, V c main_v23]) (V c main_v26) (V c main_v27) := by
  refine Pipeline.Dat.arrAt_eq_of_covers _ 11 _ (by decide +kernel) fun t hf y => ?_
  blk_simp
  rw [Own.K0.after0_11]
  unfold Own.K0.outsAt0
  frame_out
  obtain ⟨o, p, rfl⟩ := one_block y
  rw [b0_11]
  exact body0 _ _ _ _ _ _ _ _ _ _ _ _ _ _ _ _ _ _ _ _ _ _ (pt0 t) (b0_0 V c t) (b0_1 V c t) (b0_2 V c t) (b0_3 V c t) (b0_4 V c t) (b0_5 V c t) (b0_6 V c t) (b0_7 V c t) (b0_8 V c t) (b0_9 V c t) (b0_10 V c t) o p

/-! ## Layer 2's call -/

/-- The layer's output array from the arrays of its taps, its weights and its bias. -/
def out1 (x : Fin 9 → S8x64x3136.Idx → EReal) (w : S128x576.Idx → EReal) (b : S128x1.Idx → EReal) : S8x128x3136.Idx → EReal := fun i =>
  cell (fun t c => x t (ix3 (i 0) c (i 2))) (fun t c => w (ix2 (i 1) ⟨64 * t.val + c.val, by omega⟩)) (b (ix2 (i 1) 0))

abbrev pt1 (t : Fin cfg1.N) : Fin 8 := ⟨t.val, Nat.lt_of_lt_of_eq t.isLt (by decide)⟩

theorem e1_0 : ∀ t : Fin cfg1.N, win1_0.index t = ![t.val, 0, 0] := by decide +kernel
theorem e1_1 : ∀ t : Fin cfg1.N, win1_1.index t = ![t.val, 0, 0] := by decide +kernel
theorem e1_2 : ∀ t : Fin cfg1.N, win1_2.index t = ![t.val, 0, 0] := by decide +kernel
theorem e1_3 : ∀ t : Fin cfg1.N, win1_3.index t = ![t.val, 0, 0] := by decide +kernel
theorem e1_4 : ∀ t : Fin cfg1.N, win1_4.index t = ![t.val, 0, 0] := by decide +kernel
theorem e1_5 : ∀ t : Fin cfg1.N, win1_5.index t = ![t.val, 0, 0] := by decide +kernel
theorem e1_6 : ∀ t : Fin cfg1.N, win1_6.index t = ![t.val, 0, 0] := by decide +kernel
theorem e1_7 : ∀ t : Fin cfg1.N, win1_7.index t = ![t.val, 0, 0] := by decide +kernel
theorem e1_8 : ∀ t : Fin cfg1.N, win1_8.index t = ![t.val, 0, 0] := by decide +kernel
theorem e1_9 : ∀ t : Fin cfg1.N, win1_9.index t = ![0, 0] := by decide +kernel
theorem e1_10 : ∀ t : Fin cfg1.N, win1_10.index t = ![0, 0] := by decide +kernel
theorem e1_11 : ∀ t : Fin cfg1.N, win1_11.index t = ![t.val, 0, 0] := by decide +kernel

theorem b1_0 (c : Dev nD) (t : Fin cfg1.N) (k : Fin 64) (p : Fin 3136) : Own.K1.iblk V c 0 t (ix3 0 k p) = V c main_v32 (ix3 (pt1 t) k p) := by
  blk_simp [Own.K1.iblk]; exact congrArg (V c main_v32) (by blk_ext [e1_0])
theorem b1_1 (c : Dev nD) (t : Fin cfg1.N) (k : Fin 64) (p : Fin 3136) : Own.K1.iblk V c 1 t (ix3 0 k p) = V c main_v34 (ix3 (pt1 t) k p) := by
  blk_simp [Own.K1.iblk]; exact congrArg (V c main_v34) (by blk_ext [e1_1])
theorem b1_2 (c : Dev nD) (t : Fin cfg1.N) (k : Fin 64) (p : Fin 3136) : Own.K1.iblk V c 2 t (ix3 0 k p) = V c main_v36 (ix3 (pt1 t) k p) := by
  blk_simp [Own.K1.iblk]; exact congrArg (V c main_v36) (by blk_ext [e1_2])
theorem b1_3 (c : Dev nD) (t : Fin cfg1.N) (k : Fin 64) (p : Fin 3136) : Own.K1.iblk V c 3 t (ix3 0 k p) = V c main_v38 (ix3 (pt1 t) k p) := by
  blk_simp [Own.K1.iblk]; exact congrArg (V c main_v38) (by blk_ext [e1_3])
theorem b1_4 (c : Dev nD) (t : Fin cfg1.N) (k : Fin 64) (p : Fin 3136) : Own.K1.iblk V c 4 t (ix3 0 k p) = V c main_v40 (ix3 (pt1 t) k p) := by
  blk_simp [Own.K1.iblk]; exact congrArg (V c main_v40) (by blk_ext [e1_4])
theorem b1_5 (c : Dev nD) (t : Fin cfg1.N) (k : Fin 64) (p : Fin 3136) : Own.K1.iblk V c 5 t (ix3 0 k p) = V c main_v42 (ix3 (pt1 t) k p) := by
  blk_simp [Own.K1.iblk]; exact congrArg (V c main_v42) (by blk_ext [e1_5])
theorem b1_6 (c : Dev nD) (t : Fin cfg1.N) (k : Fin 64) (p : Fin 3136) : Own.K1.iblk V c 6 t (ix3 0 k p) = V c main_v44 (ix3 (pt1 t) k p) := by
  blk_simp [Own.K1.iblk]; exact congrArg (V c main_v44) (by blk_ext [e1_6])
theorem b1_7 (c : Dev nD) (t : Fin cfg1.N) (k : Fin 64) (p : Fin 3136) : Own.K1.iblk V c 7 t (ix3 0 k p) = V c main_v46 (ix3 (pt1 t) k p) := by
  blk_simp [Own.K1.iblk]; exact congrArg (V c main_v46) (by blk_ext [e1_7])
theorem b1_8 (c : Dev nD) (t : Fin cfg1.N) (k : Fin 64) (p : Fin 3136) : Own.K1.iblk V c 8 t (ix3 0 k p) = V c main_v48 (ix3 (pt1 t) k p) := by
  blk_simp [Own.K1.iblk]; exact congrArg (V c main_v48) (by blk_ext [e1_8])
theorem b1_9 (c : Dev nD) (t : Fin cfg1.N) (o : Fin 128) (k : Fin 576) : Own.K1.iblk V c 9 t (ix2 o k) = V c main_v51 (ix2 o k) := by
  blk_simp [Own.K1.iblk]; exact congrArg (V c main_v51) (by blk_ext [e1_9])
theorem b1_10 (c : Dev nD) (t : Fin cfg1.N) (o : Fin 128) (k : Fin 1) : Own.K1.iblk V c 10 t (ix2 o k) = V c main_v52 (ix2 o k) := by
  blk_simp [Own.K1.iblk]; exact congrArg (V c main_v52) (by blk_ext [e1_10])
theorem b1_11 (t : Fin cfg1.N) (o : Fin 128) (p : Fin 3136) : ((View.whole main_v53).slice (win1_11.rect t)).emb (ix3 0 o p) = ix3 (pt1 t) o p := by
  blk_ext [e1_11]

theorem body1 (x0 x1 x2 x3 x4 x5 x6 x7 x8 : S1x64x3136.Idx → EReal) (w : S128x576.Idx → EReal) (b : S128x1.Idx → EReal)
    (y0 y1 y2 y3 y4 y5 y6 y7 y8 : S8x64x3136.Idx → EReal) (w' : S128x576.Idx → EReal) (b' : S128x1.Idx → EReal) (n : Fin 8)
    (h0 : ∀ k p, x0 (ix3 0 k p) = y0 (ix3 n k p))
    (h1 : ∀ k p, x1 (ix3 0 k p) = y1 (ix3 n k p))
    (h2 : ∀ k p, x2 (ix3 0 k p) = y2 (ix3 n k p))
    (h3 : ∀ k p, x3 (ix3 0 k p) = y3 (ix3 n k p))
    (h4 : ∀ k p, x4 (ix3 0 k p) = y4 (ix3 n k p))
    (h5 : ∀ k p, x5 (ix3 0 k p) = y5 (ix3 n k p))
    (h6 : ∀ k p, x6 (ix3 0 k p) = y6 (ix3 n k p))
    (h7 : ∀ k p, x7 (ix3 0 k p) = y7 (ix3 n k p))
    (h8 : ∀ k p, x8 (ix3 0 k p) = y8 (ix3 n k p))
    (hw : ∀ o k, w (ix2 o k) = w' (ix2 o k)) (hb : ∀ o k, b (ix2 o k) = b' (ix2 o k)) (o : Fin 128) (p : Fin 3136) :
    k1_pay1 (F := Ideal) (k1_pay2 x0 x1 x2 x3 x4 x5 x6 x7 x8 w b) (Scalar.ofBits .f32 0x00000000#32) (ix3 0 o p) = out1 ![y0, y1, y2, y3, y4, y5, y6, y7, y8] w' b' (ix3 n o p) := by
  rw [pay1]
  refine cell_congr (fun t c => ?_) (fun t c => hw o _) (hb o 0)
  match t with
  | 0 => exact h0 c p
  | 1 => exact h1 c p
  | 2 => exact h2 c p
  | 3 => exact h3 c p
  | 4 => exact h4 c p
  | 5 => exact h5 c p
  | 6 => exact h6 c p
  | 7 => exact h7 c p
  | 8 => exact h8 c p

set_option maxHeartbeats 2000000 in
theorem arr1 (c : Dev nD) :
    (Own.K1.dat (F := Ideal) (Ix := Ix) (U := U) (Lvl := Lvl) 𝒱₀ V D c).arrAt 11 cfg1.N
      = out1 (![V c main_v32, V c main_v34, V c main_v36, V c main_v38, V c main_v40, V c main_v42, V c main_v44, V c main_v46, V c main_v48]) (V c main_v51) (V c main_v52) := by
  refine Pipeline.Dat.arrAt_eq_of_covers _ 11 _ (by decide +kernel) fun t hf y => ?_
  blk_simp
  rw [Own.K1.after1_11]
  unfold Own.K1.outsAt1
  frame_out
  obtain ⟨o, p, rfl⟩ := one_block y
  rw [b1_11]
  exact body1 _ _ _ _ _ _ _ _ _ _ _ _ _ _ _ _ _ _ _ _ _ _ (pt1 t) (b1_0 V c t) (b1_1 V c t) (b1_2 V c t) (b1_3 V c t) (b1_4 V c t) (b1_5 V c t) (b1_6 V c t) (b1_7 V c t) (b1_8 V c t) (b1_9 V c t) (b1_10 V c t) o p

/-! ## Layer 3's call -/

/-- The layer's output array from the arrays of its taps, its weights and its bias. -/
def out2 (x : Fin 9 → S8x128x784.Idx → EReal) (w : S256x1152.Idx → EReal) (b : S256x1.Idx → EReal) : S8x256x784.Idx → EReal := fun i =>
  cell (fun t c => x t (ix3 (i 0) c (i 2))) (fun t c => w (ix2 (i 1) ⟨128 * t.val + c.val, by omega⟩)) (b (ix2 (i 1) 0))

abbrev pt2 (t : Fin cfg2.N) : Fin 8 := ⟨t.val, Nat.lt_of_lt_of_eq t.isLt (by decide)⟩

theorem e2_0 : ∀ t : Fin cfg2.N, win2_0.index t = ![t.val, 0, 0] := by decide +kernel
theorem e2_1 : ∀ t : Fin cfg2.N, win2_1.index t = ![t.val, 0, 0] := by decide +kernel
theorem e2_2 : ∀ t : Fin cfg2.N, win2_2.index t = ![t.val, 0, 0] := by decide +kernel
theorem e2_3 : ∀ t : Fin cfg2.N, win2_3.index t = ![t.val, 0, 0] := by decide +kernel
theorem e2_4 : ∀ t : Fin cfg2.N, win2_4.index t = ![t.val, 0, 0] := by decide +kernel
theorem e2_5 : ∀ t : Fin cfg2.N, win2_5.index t = ![t.val, 0, 0] := by decide +kernel
theorem e2_6 : ∀ t : Fin cfg2.N, win2_6.index t = ![t.val, 0, 0] := by decide +kernel
theorem e2_7 : ∀ t : Fin cfg2.N, win2_7.index t = ![t.val, 0, 0] := by decide +kernel
theorem e2_8 : ∀ t : Fin cfg2.N, win2_8.index t = ![t.val, 0, 0] := by decide +kernel
theorem e2_9 : ∀ t : Fin cfg2.N, win2_9.index t = ![0, 0] := by decide +kernel
theorem e2_10 : ∀ t : Fin cfg2.N, win2_10.index t = ![0, 0] := by decide +kernel
theorem e2_11 : ∀ t : Fin cfg2.N, win2_11.index t = ![t.val, 0, 0] := by decide +kernel

theorem b2_0 (c : Dev nD) (t : Fin cfg2.N) (k : Fin 128) (p : Fin 784) : Own.K2.iblk V c 0 t (ix3 0 k p) = V c main_v57 (ix3 (pt2 t) k p) := by
  blk_simp [Own.K2.iblk]; exact congrArg (V c main_v57) (by blk_ext [e2_0])
theorem b2_1 (c : Dev nD) (t : Fin cfg2.N) (k : Fin 128) (p : Fin 784) : Own.K2.iblk V c 1 t (ix3 0 k p) = V c main_v59 (ix3 (pt2 t) k p) := by
  blk_simp [Own.K2.iblk]; exact congrArg (V c main_v59) (by blk_ext [e2_1])
theorem b2_2 (c : Dev nD) (t : Fin cfg2.N) (k : Fin 128) (p : Fin 784) : Own.K2.iblk V c 2 t (ix3 0 k p) = V c main_v61 (ix3 (pt2 t) k p) := by
  blk_simp [Own.K2.iblk]; exact congrArg (V c main_v61) (by blk_ext [e2_2])
theorem b2_3 (c : Dev nD) (t : Fin cfg2.N) (k : Fin 128) (p : Fin 784) : Own.K2.iblk V c 3 t (ix3 0 k p) = V c main_v63 (ix3 (pt2 t) k p) := by
  blk_simp [Own.K2.iblk]; exact congrArg (V c main_v63) (by blk_ext [e2_3])
theorem b2_4 (c : Dev nD) (t : Fin cfg2.N) (k : Fin 128) (p : Fin 784) : Own.K2.iblk V c 4 t (ix3 0 k p) = V c main_v65 (ix3 (pt2 t) k p) := by
  blk_simp [Own.K2.iblk]; exact congrArg (V c main_v65) (by blk_ext [e2_4])
theorem b2_5 (c : Dev nD) (t : Fin cfg2.N) (k : Fin 128) (p : Fin 784) : Own.K2.iblk V c 5 t (ix3 0 k p) = V c main_v67 (ix3 (pt2 t) k p) := by
  blk_simp [Own.K2.iblk]; exact congrArg (V c main_v67) (by blk_ext [e2_5])
theorem b2_6 (c : Dev nD) (t : Fin cfg2.N) (k : Fin 128) (p : Fin 784) : Own.K2.iblk V c 6 t (ix3 0 k p) = V c main_v69 (ix3 (pt2 t) k p) := by
  blk_simp [Own.K2.iblk]; exact congrArg (V c main_v69) (by blk_ext [e2_6])
theorem b2_7 (c : Dev nD) (t : Fin cfg2.N) (k : Fin 128) (p : Fin 784) : Own.K2.iblk V c 7 t (ix3 0 k p) = V c main_v71 (ix3 (pt2 t) k p) := by
  blk_simp [Own.K2.iblk]; exact congrArg (V c main_v71) (by blk_ext [e2_7])
theorem b2_8 (c : Dev nD) (t : Fin cfg2.N) (k : Fin 128) (p : Fin 784) : Own.K2.iblk V c 8 t (ix3 0 k p) = V c main_v73 (ix3 (pt2 t) k p) := by
  blk_simp [Own.K2.iblk]; exact congrArg (V c main_v73) (by blk_ext [e2_8])
theorem b2_9 (c : Dev nD) (t : Fin cfg2.N) (o : Fin 256) (k : Fin 1152) : Own.K2.iblk V c 9 t (ix2 o k) = V c main_v76 (ix2 o k) := by
  blk_simp [Own.K2.iblk]; exact congrArg (V c main_v76) (by blk_ext [e2_9])
theorem b2_10 (c : Dev nD) (t : Fin cfg2.N) (o : Fin 256) (k : Fin 1) : Own.K2.iblk V c 10 t (ix2 o k) = V c main_v77 (ix2 o k) := by
  blk_simp [Own.K2.iblk]; exact congrArg (V c main_v77) (by blk_ext [e2_10])
theorem b2_11 (t : Fin cfg2.N) (o : Fin 256) (p : Fin 784) : ((View.whole main_v78).slice (win2_11.rect t)).emb (ix3 0 o p) = ix3 (pt2 t) o p := by
  blk_ext [e2_11]

theorem body2 (x0 x1 x2 x3 x4 x5 x6 x7 x8 : S1x128x784.Idx → EReal) (w : S256x1152.Idx → EReal) (b : S256x1.Idx → EReal)
    (y0 y1 y2 y3 y4 y5 y6 y7 y8 : S8x128x784.Idx → EReal) (w' : S256x1152.Idx → EReal) (b' : S256x1.Idx → EReal) (n : Fin 8)
    (h0 : ∀ k p, x0 (ix3 0 k p) = y0 (ix3 n k p))
    (h1 : ∀ k p, x1 (ix3 0 k p) = y1 (ix3 n k p))
    (h2 : ∀ k p, x2 (ix3 0 k p) = y2 (ix3 n k p))
    (h3 : ∀ k p, x3 (ix3 0 k p) = y3 (ix3 n k p))
    (h4 : ∀ k p, x4 (ix3 0 k p) = y4 (ix3 n k p))
    (h5 : ∀ k p, x5 (ix3 0 k p) = y5 (ix3 n k p))
    (h6 : ∀ k p, x6 (ix3 0 k p) = y6 (ix3 n k p))
    (h7 : ∀ k p, x7 (ix3 0 k p) = y7 (ix3 n k p))
    (h8 : ∀ k p, x8 (ix3 0 k p) = y8 (ix3 n k p))
    (hw : ∀ o k, w (ix2 o k) = w' (ix2 o k)) (hb : ∀ o k, b (ix2 o k) = b' (ix2 o k)) (o : Fin 256) (p : Fin 784) :
    k2_pay1 (F := Ideal) (k2_pay2 x0 x1 x2 x3 x4 x5 x6 x7 x8 w b) (Scalar.ofBits .f32 0x00000000#32) (ix3 0 o p) = out2 ![y0, y1, y2, y3, y4, y5, y6, y7, y8] w' b' (ix3 n o p) := by
  rw [pay2]
  refine cell_congr (fun t c => ?_) (fun t c => hw o _) (hb o 0)
  match t with
  | 0 => exact h0 c p
  | 1 => exact h1 c p
  | 2 => exact h2 c p
  | 3 => exact h3 c p
  | 4 => exact h4 c p
  | 5 => exact h5 c p
  | 6 => exact h6 c p
  | 7 => exact h7 c p
  | 8 => exact h8 c p

set_option maxHeartbeats 2000000 in
theorem arr2 (c : Dev nD) :
    (Own.K2.dat (F := Ideal) (Ix := Ix) (U := U) (Lvl := Lvl) 𝒱₀ V D c).arrAt 11 cfg2.N
      = out2 (![V c main_v57, V c main_v59, V c main_v61, V c main_v63, V c main_v65, V c main_v67, V c main_v69, V c main_v71, V c main_v73]) (V c main_v76) (V c main_v77) := by
  refine Pipeline.Dat.arrAt_eq_of_covers _ 11 _ (by decide +kernel) fun t hf y => ?_
  blk_simp
  rw [Own.K2.after2_11]
  unfold Own.K2.outsAt2
  frame_out
  obtain ⟨o, p, rfl⟩ := one_block y
  rw [b2_11]
  exact body2 _ _ _ _ _ _ _ _ _ _ _ _ _ _ _ _ _ _ _ _ _ _ (pt2 t) (b2_0 V c t) (b2_1 V c t) (b2_2 V c t) (b2_3 V c t) (b2_4 V c t) (b2_5 V c t) (b2_6 V c t) (b2_7 V c t) (b2_8 V c t) (b2_9 V c t) (b2_10 V c t) o p

/-! ## The 1x1 layer's call -/

def out3 (w : S256x256.Idx → EReal) (x : S8x256x784.Idx → EReal) (b : S256x1.Idx → EReal) : S8x256x784.Idx → EReal := fun i =>
  ∑ c : Fin 256, w (ix2 (i 1) c) * x (ix3 (i 0) c (i 2)) + b (ix2 (i 1) 0)

abbrev pt3 (t : Fin cfg3.N) : Fin 8 := ⟨t.val, Nat.lt_of_lt_of_eq t.isLt (by decide)⟩

theorem e3_0 : ∀ t : Fin cfg3.N, win3_0.index t = ![t.val, 0, 0] := by decide +kernel
theorem e3_1 : ∀ t : Fin cfg3.N, win3_1.index t = ![0, 0] := by decide +kernel
theorem e3_2 : ∀ t : Fin cfg3.N, win3_2.index t = ![0, 0] := by decide +kernel
theorem e3_3 : ∀ t : Fin cfg3.N, win3_3.index t = ![t.val, 0, 0] := by decide +kernel

theorem b3_0 (c : Dev nD) (t : Fin cfg3.N) (k : Fin 256) (p : Fin 784) : Own.K3.iblk V c 0 t (ix3 0 k p) = V c main_v80 (ix3 (pt3 t) k p) := by
  blk_simp [Own.K3.iblk]; exact congrArg (V c main_v80) (by blk_ext [e3_0])
theorem b3_1 (c : Dev nD) (t : Fin cfg3.N) (o k : Fin 256) : Own.K3.iblk V c 1 t (ix2 o k) = V c main_v81 (ix2 o k) := by
  blk_simp [Own.K3.iblk]; exact congrArg (V c main_v81) (by blk_ext [e3_1])
theorem b3_2 (c : Dev nD) (t : Fin cfg3.N) (o : Fin 256) (k : Fin 1) : Own.K3.iblk V c 2 t (ix2 o k) = V c main_v82 (ix2 o k) := by
  blk_simp [Own.K3.iblk]; exact congrArg (V c main_v82) (by blk_ext [e3_2])
theorem b3_3 (t : Fin cfg3.N) (o : Fin 256) (p : Fin 784) : ((View.whole main_v83).slice (win3_3.rect t)).emb (ix3 0 o p) = ix3 (pt3 t) o p := by
  blk_ext [e3_3]

theorem arr3 (c : Dev nD) :
    (Own.K3.dat (F := Ideal) (Ix := Ix) (U := U) (Lvl := Lvl) 𝒱₀ V D c).arrAt 3 cfg3.N = out3 (V c main_v81) (V c main_v80) (V c main_v82) := by
  refine Pipeline.Dat.arrAt_eq_of_covers _ 3 _ (by decide +kernel) fun t hf y => ?_
  blk_simp
  rw [Own.K3.after3_3]
  unfold Own.K3.outsAt3
  frame_out
  obtain ⟨o, p, rfl⟩ := one_block y
  rw [b3_3, pay3]
  exact Ideal.add_congr (Finset.sum_congr rfl fun k _ => Ideal.mul_congr (b3_1 V c t o k) (b3_0 V c t k p)) (b3_2 V c t o 0)

/-! ## The search's call -/

def out4 (z : S6400x256.Idx → EReal) (e : S256x8192.Idx → EReal) : S25x1x256.Idx → BitVec 32 := fun i =>
  BitVec.ofNat 32 (nearest fun k => dist (fun x => z (ix2 ⟨256 * (i 0).val + (i 2).val, by
    have h0 : (i 0).val < 25 := (i 0).isLt
    have h2 : (i 2).val < 256 := (i 2).isLt
    omega⟩ x)) fun x => e (ix2 x k)).val

abbrev pt4 (t : Fin cfg4.N) : Fin 25 := ⟨t.val, Nat.lt_of_lt_of_eq t.isLt (by decide)⟩

theorem e4_0 : ∀ t : Fin cfg4.N, win4_0.index t = ![t.val, 0] := by decide +kernel
theorem e4_1 : ∀ t : Fin cfg4.N, win4_1.index t = ![0, 0] := by decide +kernel
theorem e4_2 : ∀ t : Fin cfg4.N, win4_2.index t = ![t.val, 0, 0] := by decide +kernel

theorem b4_0 (c : Dev nD) (t : Fin cfg4.N) (r x : Fin 256) : Own.K4.iblk V c 0 t (ix2 r x) = V c main_v86 (ix2 ⟨256 * (pt4 t).val + r.val, by omega⟩ x) := by
  blk_simp [Own.K4.iblk]; exact congrArg (V c main_v86) (by blk_ext [e4_0])
theorem b4_1 (c : Dev nD) (t : Fin cfg4.N) (x : Fin 256) (k : Fin 8192) : Own.K4.iblk V c 1 t (ix2 x k) = V c main_v87 (ix2 x k) := by
  blk_simp [Own.K4.iblk]; exact congrArg (V c main_v87) (by blk_ext [e4_1])
theorem b4_2 (t : Fin cfg4.N) (o : Fin 1) (r : Fin 256) : ((View.whole main_v88).slice (win4_2.rect t)).emb (ix3 0 o r) = ix3 (pt4 t) o r := by
  blk_ext [e4_2]

theorem arr4 (c : Dev nD) :
    (Own.K4.dat (F := Ideal) (Ix := Ix) (U := U) (Lvl := Lvl) 𝒱₀ V D c).arrAt 2 cfg4.N = out4 (V c main_v86) (V c main_v87) := by
  refine Pipeline.Dat.arrAt_eq_of_covers _ 2 _ (by decide +kernel) fun t hf y => ?_
  blk_simp
  rw [Own.K4.after4_2]
  unfold Own.K4.outsAt4
  frame_out
  obtain ⟨o, r, rfl⟩ := one_block y
  obtain rfl : o = 0 := Subsingleton.elim _ _
  rw [b4_2, pay4]
  refine congrArg (fun f => BitVec.ofNat 32 (nearest f).val) (funext fun k => ?_)
  exact congrArg₂ dist (funext fun x => b4_0 V c t r x) (funext fun x => b4_1 V c t x k)

end Cert.Proof.Encoder

end
-- ==== Proof.Encoder.Calls.lean ====
/-
  The memory after each TensorCore call: the call's output array holds what `Blocks` says, and every other buffer what it
  held before.
-/
module

public import proofs.«01_k».proof.Proof.Encoder.Main
public import proofs.«01_k».proof.Proof.Encoder.Blocks
public import Idealize.ShloMosaic.Lib.Pipeline.RegionArraysS

@[expose] public section

set_option maxRecDepth 16384

noncomputable section

namespace Cert.Proof.Encoder

open Cert.EncoderIdeal Cert.EncoderIdeal.Gen
open Idealize.ShloMosaic Idealize.ShloMosaic.TcCoe Idealize.ShloMosaic.StableHlo Cert.Proof.Plain

variable (E : Dev nD → Valuation τ sig (Elt Ideal)) (d : Dev nD)

/-- A buffer's contents in the memory `E`. -/
abbrev at_ (r : Ref sig .tc) := E d (Proc.devRef .tc r)

theorem exit_out0 : exit 0 E d (Proc.devRef .tc main_v28)
    = out0 (![at_ E d main_v7, at_ E d main_v9, at_ E d main_v11, at_ E d main_v13, at_ E d main_v15, at_ E d main_v17, at_ E d main_v19, at_ E d main_v21, at_ E d main_v23]) (at_ E d main_v26) (at_ E d main_v27) :=
  (Pipeline.afterRegion_arr (dats (fun _ => E) 0 d) (E d) (arr_inj 0) (11 : Fin 12)).trans (arr0 𝒱₀ (fun c b => E c (Proc.devRef .tc b)) (debt (F := Ideal) 0) d)

theorem exit_out1 : exit 1 E d (Proc.devRef .tc main_v53)
    = out1 (![at_ E d main_v32, at_ E d main_v34, at_ E d main_v36, at_ E d main_v38, at_ E d main_v40, at_ E d main_v42, at_ E d main_v44, at_ E d main_v46, at_ E d main_v48]) (at_ E d main_v51) (at_ E d main_v52) :=
  (Pipeline.afterRegion_arr (dats (fun _ => E) 1 d) (E d) (arr_inj 1) (11 : Fin 12)).trans (arr1 𝒱₀ (fun c b => E c (Proc.devRef .tc b)) (debt (F := Ideal) 1) d)

theorem exit_out2 : exit 2 E d (Proc.devRef .tc main_v78)
    = out2 (![at_ E d main_v57, at_ E d main_v59, at_ E d main_v61, at_ E d main_v63, at_ E d main_v65, at_ E d main_v67, at_ E d main_v69, at_ E d main_v71, at_ E d main_v73]) (at_ E d main_v76) (at_ E d main_v77) :=
  (Pipeline.afterRegion_arr (dats (fun _ => E) 2 d) (E d) (arr_inj 2) (11 : Fin 12)).trans (arr2 𝒱₀ (fun c b => E c (Proc.devRef .tc b)) (debt (F := Ideal) 2) d)

theorem exit_out3 : exit 3 E d (Proc.devRef .tc main_v83) = out3 (at_ E d main_v81) (at_ E d main_v80) (at_ E d main_v82) :=
  (Pipeline.afterRegion_arr (dats (fun _ => E) 3 d) (E d) (arr_inj 3) (3 : Fin 4)).trans (arr3 𝒱₀ (fun c b => E c (Proc.devRef .tc b)) (debt (F := Ideal) 3) d)

theorem exit_out4 : exit 4 E d (Proc.devRef .tc main_v88) = out4 (at_ E d main_v86) (at_ E d main_v87) :=
  (Pipeline.afterRegion_arr (dats (fun _ => E) 4 d) (E d) (arr_inj 4) (2 : Fin 3)).trans (arr4 𝒱₀ (fun c b => E c (Proc.devRef .tc b)) (debt (F := Ideal) 4) d)

/-! ## What a call leaves alone -/

theorem exit_keeps0 (r : Ref sig .tc) (h : r ≠ main_v28) : exit 0 E d (Proc.devRef .tc r) = E d (Proc.devRef .tc r) :=
  Pipeline.afterRegion_keeps (dats (fun _ => E) 0 d) (E d) (arr_inj 0) (entry_eq (fun _ => E) 0 d) r fun w e => by
    revert e
    match w with
    | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ => exact fun _ => rfl
    | ⟨11, _⟩ => exact fun e => absurd e.symm h
theorem exit_keeps1 (r : Ref sig .tc) (h : r ≠ main_v53) : exit 1 E d (Proc.devRef .tc r) = E d (Proc.devRef .tc r) :=
  Pipeline.afterRegion_keeps (dats (fun _ => E) 1 d) (E d) (arr_inj 1) (entry_eq (fun _ => E) 1 d) r fun w e => by
    revert e
    match w with
    | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ => exact fun _ => rfl
    | ⟨11, _⟩ => exact fun e => absurd e.symm h
theorem exit_keeps2 (r : Ref sig .tc) (h : r ≠ main_v78) : exit 2 E d (Proc.devRef .tc r) = E d (Proc.devRef .tc r) :=
  Pipeline.afterRegion_keeps (dats (fun _ => E) 2 d) (E d) (arr_inj 2) (entry_eq (fun _ => E) 2 d) r fun w e => by
    revert e
    match w with
    | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ => exact fun _ => rfl
    | ⟨11, _⟩ => exact fun e => absurd e.symm h
theorem exit_keeps3 (r : Ref sig .tc) (h : r ≠ main_v83) : exit 3 E d (Proc.devRef .tc r) = E d (Proc.devRef .tc r) :=
  Pipeline.afterRegion_keeps (dats (fun _ => E) 3 d) (E d) (arr_inj 3) (entry_eq (fun _ => E) 3 d) r fun w e => by
    revert e
    match w with
    | ⟨0, _⟩ | ⟨1, _⟩ | ⟨2, _⟩ => exact fun _ => rfl
    | ⟨3, _⟩ => exact fun e => absurd e.symm h
theorem exit_keeps4 (r : Ref sig .tc) (h : r ≠ main_v88) : exit 4 E d (Proc.devRef .tc r) = E d (Proc.devRef .tc r) :=
  Pipeline.afterRegion_keeps (dats (fun _ => E) 4 d) (E d) (arr_inj 4) (entry_eq (fun _ => E) 4 d) r fun w e => by
    revert e
    match w with
    | ⟨0, _⟩ | ⟨1, _⟩ => exact fun _ => rfl
    | ⟨2, _⟩ => exact fun e => absurd e.symm h

end Cert.Proof.Encoder

end
-- ==== Proof.Encoder.Taps.lean ====
/-
  A tap of a 3x3 stride-two convolution: the entries of the padded array at every other place from an offset, which are
  the array's entries or zeros beyond its lower right edges.
-/
module

public import proofs.«01_k».proof.Proof.Encoder.Plain
public import proofs.«01_k».proof.Proof.Encoder.Nearest
public import Idealize.ShloMosaic.Lib.ValueLayout
public import Idealize.ShloMosaic.Lib.Pipeline.Value
public import Idealize.ShloMosaic.Lib.Pointwise

@[expose] public section

noncomputable section

namespace Cert.Proof.Plain

open Idealize.ShloMosaic

theorem tap_apply {C H Hp H' kh kw ph : ℕ} (x : (⟨4, ![8, C, H, H]⟩ : Shape).Idx → EReal) {u : Shape} (v : u.Idx → EReal) (hu : 0 < u.numel)
    (hv : v (Shape.Idx.first hu) = 0)
    (hp : Shape.Pads ⟨4, ![8, C, H, H]⟩ ![0, 0, 0, 0] ![0, 0, ph, ph] ![0, 0, 0, 0] ⟨4, ![8, C, Hp, Hp]⟩)
    (hs : Shape.SlicesBy ⟨4, ![8, C, Hp, Hp]⟩ ![0, 0, kh, kw] ![1, 1, 2, 2] ⟨4, ![8, C, H', H']⟩)
    (n : Fin 8) (c : Fin C) (a b : Fin H') :
    Host.slice ⟨4, ![8, C, H', H']⟩ ![0, 0, kh, kw] ![1, 1, 2, 2] (pad ⟨4, ![8, C, Hp, Hp]⟩ ![0, 0, 0, 0] ![0, 0, ph, ph] ![0, 0, 0, 0] x v hp hu) hs (ix4 n c a b)
      = inside x n c (2 * a.val + kh) (2 * b.val + kw) := by
  unfold inside
  rw [Host.slice_apply, pad_apply]
  by_cases h : 2 * a.val + kh < H ∧ 2 * b.val + kw < H
  · rw [dif_pos h, dif_pos (fun k => match k with
      | ⟨0, _⟩ => ⟨Nat.zero_le _, Nat.mod_one _, by show (0 + 1 * n.val - 0) / 1 < 8; have := n.isLt; omega⟩
      | ⟨1, _⟩ => ⟨Nat.zero_le _, Nat.mod_one _, by show (0 + 1 * c.val - 0) / 1 < C; have := c.isLt; omega⟩
      | ⟨2, _⟩ => ⟨Nat.zero_le _, Nat.mod_one _, by show (kh + 2 * a.val - 0) / 1 < H; omega⟩
      | ⟨3, _⟩ => ⟨Nat.zero_le _, Nat.mod_one _, by show (kw + 2 * b.val - 0) / 1 < H; omega⟩)]
    refine congrArg x (funext fun k => ?_)
    match k with
    | ⟨0, _⟩ => exact Fin.ext (by show (0 + 1 * n.val - 0) / 1 = n.val; omega)
    | ⟨1, _⟩ => exact Fin.ext (by show (0 + 1 * c.val - 0) / 1 = c.val; omega)
    | ⟨2, _⟩ => exact Fin.ext (by show (kh + 2 * a.val - 0) / 1 = 2 * a.val + kh; omega)
    | ⟨3, _⟩ => exact Fin.ext (by show (kw + 2 * b.val - 0) / 1 = 2 * b.val + kw; omega)
  · rw [dif_neg h, dif_neg (fun hk => h ⟨by
      have h2 : (kh + 2 * a.val - 0) / 1 < H := (hk (2 : Fin 4)).2.2
      omega, by
      have h3 : (kw + 2 * b.val - 0) / 1 < H := (hk (3 : Fin 4)).2.2
      omega⟩), hv]

/-- The same, with the tap's two spatial axes read as one. -/
theorem tap_flat {C H Hp H' P kh kw ph : ℕ} (hP : H' * H' = P) (x : (⟨4, ![8, C, H, H]⟩ : Shape).Idx → EReal) {u : Shape} (v : u.Idx → EReal) (hu : 0 < u.numel)
    (hv : v (Shape.Idx.first hu) = 0)
    (hp : Shape.Pads ⟨4, ![8, C, H, H]⟩ ![0, 0, 0, 0] ![0, 0, ph, ph] ![0, 0, 0, 0] ⟨4, ![8, C, Hp, Hp]⟩)
    (hs : Shape.SlicesBy ⟨4, ![8, C, Hp, Hp]⟩ ![0, 0, kh, kw] ![1, 1, 2, 2] ⟨4, ![8, C, H', H']⟩)
    (hc : Shape.ShapeCasts ⟨4, ![8, C, H', H']⟩ ⟨3, ![8, C, P]⟩)
    (n : Fin 8) (c : Fin C) (a b : Fin H') (p : Fin P) (e : p.val = H' * a.val + b.val) :
    shapeCast ⟨3, ![8, C, P]⟩ (Host.slice ⟨4, ![8, C, H', H']⟩ ![0, 0, kh, kw] ![1, 1, 2, 2] (pad ⟨4, ![8, C, Hp, Hp]⟩ ![0, 0, 0, 0] ![0, 0, ph, ph] ![0, 0, 0, 0] x v hp hu) hs) hc (ix3 n c p)
      = inside x n c (2 * a.val + kh) (2 * b.val + kw) := by
  refine (shapeCast_apply _ _ _ (ix4 n c a b) ?_).trans (tap_apply x v hu hv hp hs n c a b)
  rw [Shape.rowMajor_val_four, Shape.rowMajor_val_three]
  show ((n.val * C + c.val) * H' + a.val) * H' + b.val = (n.val * C + c.val) * P + p.val
  rw [e, ← hP]; ring

/-- The weights as the calls take them, one column per tap and channel. -/
theorem weights_apply {O C N : ℕ} (hN : N = 9 * C) (w : (⟨4, ![O, C, 3, 3]⟩ : Shape).Idx → EReal)
    (h1 : Shape.Transposes ⟨4, ![O, C, 3, 3]⟩ [2, 3, 1, 0] ⟨4, ![3, 3, C, O]⟩) (h2 : Shape.ShapeCasts ⟨4, ![3, 3, C, O]⟩ ⟨2, ![N, O]⟩)
    (h3 : Shape.Transposes ⟨2, ![N, O]⟩ [1, 0] ⟨2, ![O, N]⟩) (o : Fin O) (t : Fin 9) (c : Fin C) (k : Fin N) (hk : k.val = C * t.val + c.val) :
    transpose ⟨2, ![O, N]⟩ [1, 0] (shapeCast ⟨2, ![N, O]⟩ (transpose ⟨4, ![3, 3, C, O]⟩ [2, 3, 1, 0] w h1) h2) h3 (ix2 o k)
      = w (ix4 o c ⟨t.val / 3, by omega⟩ ⟨t.val % 3, by omega⟩) := by
  refine (transpose_apply _ _ _ _ (ix2 k o) fun b => ?_).trans ?_
  · match b with
    | ⟨0, _⟩ => rfl
    | ⟨1, _⟩ => rfl
  refine (shapeCast_apply _ _ _ (ix4 ⟨t.val / 3, by omega⟩ ⟨t.val % 3, by omega⟩ c o) ?_).trans ?_
  · rw [Shape.rowMajor_val_four, Shape.rowMajor_val_two]
    show ((t.val / 3 * 3 + t.val % 3) * C + c.val) * O + o.val = k.val * O + o.val
    rw [hk, Nat.div_add_mod', Nat.mul_comm C]
  exact transpose_apply _ _ _ _ _ fun b => by
    match b with
    | ⟨0, _⟩ => rfl
    | ⟨1, _⟩ => rfl
    | ⟨2, _⟩ => rfl
    | ⟨3, _⟩ => rfl

theorem bias_apply {O : ℕ} (b : (⟨1, ![O]⟩ : Shape).Idx → EReal) (h : Shape.ShapeCasts ⟨1, ![O]⟩ ⟨2, ![O, 1]⟩) (o : Fin O) :
    shapeCast ⟨2, ![O, 1]⟩ b h (ix2 o 0) = b (ix1 o) :=
  shapeCast_apply _ _ _ _ (by rw [Shape.rowMajor_val_two, Shape.rowMajor_val_one]; show o.val = o.val * 1 + 0; omega)

theorem square_apply (w : (⟨4, ![256, 256, 1, 1]⟩ : Shape).Idx → EReal) (h : Shape.ShapeCasts ⟨4, ![256, 256, 1, 1]⟩ ⟨2, ![256, 256]⟩) (o c : Fin 256) :
    shapeCast ⟨2, ![256, 256]⟩ w h (ix2 o c) = w (ix4 o c 0 0) :=
  shapeCast_apply _ _ _ _ (by rw [Shape.rowMajor_val_four, Shape.rowMajor_val_two]; show ((o.val * 256 + c.val) * 1 + 0) * 1 + 0 = o.val * 256 + c.val; omega)

/-- Two spatial axes read as one, and back. -/
theorem unflat_apply {C H P : ℕ} (hP : H * H = P) (x : (⟨3, ![8, C, P]⟩ : Shape).Idx → EReal) (h : Shape.ShapeCasts ⟨3, ![8, C, P]⟩ ⟨4, ![8, C, H, H]⟩)
    (n : Fin 8) (c : Fin C) (a b : Fin H) (p : Fin P) (e : p.val = H * a.val + b.val) : shapeCast ⟨4, ![8, C, H, H]⟩ x h (ix4 n c a b) = x (ix3 n c p) := by
  refine shapeCast_apply _ _ _ _ ?_
  rw [Shape.rowMajor_val_four, Shape.rowMajor_val_three]
  show (n.val * C + c.val) * P + p.val = ((n.val * C + c.val) * H + a.val) * H + b.val
  rw [e, ← hP]; ring

/-- The input as the layers take it: four frames of two clips in a row, each entry doubled and lowered by one. -/
def scaled (x : (⟨5, ![2, 4, 3, 224, 224]⟩ : Shape).Idx → EReal) : (⟨4, ![8, 3, 224, 224]⟩ : Shape).Idx → EReal := fun j =>
  x (ix5 ⟨(j 0).val / 4, by have h : (j 0).val < 8 := (j 0).isLt; omega⟩ ⟨(j 0).val % 4, by omega⟩ (j 1) (j 2) (j 3)) * Ideal.ofBits .f32 0x40000000#32 - Ideal.ofBits .f32 0x3F800000#32

/-- The 1x1 layer: every row of 256 channels weighted, with a bias. -/
def quant (w : (⟨4, ![256, 256, 1, 1]⟩ : Shape).Idx → EReal) (b : (⟨1, ![256]⟩ : Shape).Idx → EReal) (x : (⟨4, ![8, 256, 28, 28]⟩ : Shape).Idx → EReal) :
    (⟨4, ![8, 256, 28, 28]⟩ : Shape).Idx → EReal := fun y =>
  ∑ c : Fin 256, x (ix4 (y 0) c (y 2) (y 3)) * w (ix4 (y 1) c 0 0) + b (ix1 (y 1))

/-- Row `k` of the quantizer's input: the channels at one place of one frame. -/
def row (z : (⟨4, ![8, 256, 28, 28]⟩ : Shape).Idx → EReal) (k : Fin 6272) : Fin 256 → EReal := fun c =>
  z (ix4 ⟨k.val / 784, by omega⟩ c ⟨k.val % 784 / 28, by omega⟩ ⟨k.val % 28, by omega⟩)

/-- The token of row `k`: the number of the first codebook row at the least distance. -/
def token (z : (⟨4, ![8, 256, 28, 28]⟩ : Shape).Idx → EReal) (e : (⟨2, ![8192, 256]⟩ : Shape).Idx → EReal) (k : Fin 6272) : BitVec 32 :=
  BitVec.ofNat 32 (nearest fun j => dist (row z k) fun c => e (ix2 j c)).val

/-- The whole encoder: the quantizer's input, from the program's input and weights. -/
def encode (x : (⟨5, ![2, 4, 3, 224, 224]⟩ : Shape).Idx → EReal)
    (w1 : (⟨4, ![64, 3, 3, 3]⟩ : Shape).Idx → EReal) (b1 : (⟨1, ![64]⟩ : Shape).Idx → EReal)
    (w2 : (⟨4, ![128, 64, 3, 3]⟩ : Shape).Idx → EReal) (b2 : (⟨1, ![128]⟩ : Shape).Idx → EReal)
    (w3 : (⟨4, ![256, 128, 3, 3]⟩ : Shape).Idx → EReal) (b3 : (⟨1, ![256]⟩ : Shape).Idx → EReal)
    (wq : (⟨4, ![256, 256, 1, 1]⟩ : Shape).Idx → EReal) (bq : (⟨1, ![256]⟩ : Shape).Idx → EReal) : (⟨4, ![8, 256, 28, 28]⟩ : Shape).Idx → EReal :=
  quant wq bq (layer 128 56 256 28 (layer 64 112 128 56 (layer 3 224 64 112 (scaled x) w1 b1) w2 b2) w3 b3)

end Cert.Proof.Plain

end
-- ==== Proof.Encoder.Feed.lean ====
/-
  What the kernel's host operations hand to its calls and make of their outputs.
-/
module

public import proofs.«01_k».proof.Proof.Encoder.HostOps
public import proofs.«01_k».proof.Proof.Encoder.Taps
public import proofs.«01_k».proof.Proof.Encoder.Blocks

@[expose] public section

set_option maxRecDepth 16384

noncomputable section

namespace Cert.Proof.Encoder

open Cert.EncoderIdeal Cert.EncoderIdeal.Gen
open Idealize.ShloMosaic Idealize.ShloMosaic.TcCoe Idealize.ShloMosaic.StableHlo Cert.Proof.Plain

variable (W : Valuation τ sig (Elt Ideal))

theorem pad_zero : (sitofp (F := Ideal) .f32 (constantI S_ 32 0#32) : S_.Idx → EReal) (Shape.Idx.first h_S_) = 0 := by
  show (((0#32 : BitVec 32).toInt : ℝ) : EReal) = 0
  simp

theorem scaled_eq (x : S2x4x3x224x224.Idx → EReal) :
    (subf (F := Ideal) (mulf (F := Ideal) (shapeCast S8x3x224x224 x shapeCasts_S2x4x3x224x224_S8x3x224x224)
          (broadcastInDim S8x3x224x224 ![] bcast_S_S8x3x224x224 (constant (F := Ideal) S_ .f32 0x40000000#32)))
        (broadcastInDim S8x3x224x224 ![] bcast_S_S8x3x224x224 (constant (F := Ideal) S_ .f32 0x3F800000#32)) : S8x3x224x224.Idx → EReal) = scaled x := by
  funext j
  show shapeCast S8x3x224x224 x shapeCasts_S2x4x3x224x224_S8x3x224x224 j * Ideal.ofBits .f32 0x40000000#32 - Ideal.ofBits .f32 0x3F800000#32 = _
  unfold scaled
  refine congrArg (fun v => v * Ideal.ofBits .f32 0x40000000#32 - Ideal.ofBits .f32 0x3F800000#32) (shapeCast_apply _ _ _ _ ?_)
  rw [Shape.rowMajor_val_four, Shape.rowMajor_val_five]
  show ((((j 0).val / 4 * 4 + (j 0).val % 4) * 3 + (j 1).val) * 224 + (j 2).val) * 224 + (j 3).val = (((j 0).val * 3 + (j 1).val) * 224 + (j 2).val) * 224 + (j 3).val
  have := Nat.div_add_mod' (j 0).val 4
  rw [this]

/-! ## Layer 1 -/

theorem feedA_v7 (n : Fin 8) (c : Fin 3) (a b : Fin 112) (p : Fin 12544) (e : p.val = 112 * a.val + b.val) :
    (after opsA W (Proc.devRef (τ := τ) .tc main_v7) : S8x3x12544.Idx → EReal) (ix3 n c p)
      = inside (scaled (W (Proc.devRef (τ := τ) .tc main_arg0))) n c (2 * a.val + 0) (2 * b.val + 0) := by
  after_reads_simp
  simp only [TRef.toBuf, TRef.ofBuf, cast_eq]
  refine (tap_flat rfl _ _ h_S_ pad_zero _ _ _ n c a b p e).trans ?_
  exact congrArg (fun x => inside x n c _ _) (scaled_eq _)
theorem feedA_v9 (n : Fin 8) (c : Fin 3) (a b : Fin 112) (p : Fin 12544) (e : p.val = 112 * a.val + b.val) :
    (after opsA W (Proc.devRef (τ := τ) .tc main_v9) : S8x3x12544.Idx → EReal) (ix3 n c p)
      = inside (scaled (W (Proc.devRef (τ := τ) .tc main_arg0))) n c (2 * a.val + 0) (2 * b.val + 1) := by
  after_reads_simp
  simp only [TRef.toBuf, TRef.ofBuf, cast_eq]
  refine (tap_flat rfl _ _ h_S_ pad_zero _ _ _ n c a b p e).trans ?_
  exact congrArg (fun x => inside x n c _ _) (scaled_eq _)
theorem feedA_v11 (n : Fin 8) (c : Fin 3) (a b : Fin 112) (p : Fin 12544) (e : p.val = 112 * a.val + b.val) :
    (after opsA W (Proc.devRef (τ := τ) .tc main_v11) : S8x3x12544.Idx → EReal) (ix3 n c p)
      = inside (scaled (W (Proc.devRef (τ := τ) .tc main_arg0))) n c (2 * a.val + 0) (2 * b.val + 2) := by
  after_reads_simp
  simp only [TRef.toBuf, TRef.ofBuf, cast_eq]
  refine (tap_flat rfl _ _ h_S_ pad_zero _ _ _ n c a b p e).trans ?_
  exact congrArg (fun x => inside x n c _ _) (scaled_eq _)
theorem feedA_v13 (n : Fin 8) (c : Fin 3) (a b : Fin 112) (p : Fin 12544) (e : p.val = 112 * a.val + b.val) :
    (after opsA W (Proc.devRef (τ := τ) .tc main_v13) : S8x3x12544.Idx → EReal) (ix3 n c p)
      = inside (scaled (W (Proc.devRef (τ := τ) .tc main_arg0))) n c (2 * a.val + 1) (2 * b.val + 0) := by
  after_reads_simp
  simp only [TRef.toBuf, TRef.ofBuf, cast_eq]
  refine (tap_flat rfl _ _ h_S_ pad_zero _ _ _ n c a b p e).trans ?_
  exact congrArg (fun x => inside x n c _ _) (scaled_eq _)
theorem feedA_v15 (n : Fin 8) (c : Fin 3) (a b : Fin 112) (p : Fin 12544) (e : p.val = 112 * a.val + b.val) :
    (after opsA W (Proc.devRef (τ := τ) .tc main_v15) : S8x3x12544.Idx → EReal) (ix3 n c p)
      = inside (scaled (W (Proc.devRef (τ := τ) .tc main_arg0))) n c (2 * a.val + 1) (2 * b.val + 1) := by
  after_reads_simp
  simp only [TRef.toBuf, TRef.ofBuf, cast_eq]
  refine (tap_flat rfl _ _ h_S_ pad_zero _ _ _ n c a b p e).trans ?_
  exact congrArg (fun x => inside x n c _ _) (scaled_eq _)
theorem feedA_v17 (n : Fin 8) (c : Fin 3) (a b : Fin 112) (p : Fin 12544) (e : p.val = 112 * a.val + b.val) :
    (after opsA W (Proc.devRef (τ := τ) .tc main_v17) : S8x3x12544.Idx → EReal) (ix3 n c p)
      = inside (scaled (W (Proc.devRef (τ := τ) .tc main_arg0))) n c (2 * a.val + 1) (2 * b.val + 2) := by
  after_reads_simp
  simp only [TRef.toBuf, TRef.ofBuf, cast_eq]
  refine (tap_flat rfl _ _ h_S_ pad_zero _ _ _ n c a b p e).trans ?_
  exact congrArg (fun x => inside x n c _ _) (scaled_eq _)
theorem feedA_v19 (n : Fin 8) (c : Fin 3) (a b : Fin 112) (p : Fin 12544) (e : p.val = 112 * a.val + b.val) :
    (after opsA W (Proc.devRef (τ := τ) .tc main_v19) : S8x3x12544.Idx → EReal) (ix3 n c p)
      = inside (scaled (W (Proc.devRef (τ := τ) .tc main_arg0))) n c (2 * a.val + 2) (2 * b.val + 0) := by
  after_reads_simp
  simp only [TRef.toBuf, TRef.ofBuf, cast_eq]
  refine (tap_flat rfl _ _ h_S_ pad_zero _ _ _ n c a b p e).trans ?_
  exact congrArg (fun x => inside x n c _ _) (scaled_eq _)
theorem feedA_v21 (n : Fin 8) (c : Fin 3) (a b : Fin 112) (p : Fin 12544) (e : p.val = 112 * a.val + b.val) :
    (after opsA W (Proc.devRef (τ := τ) .tc main_v21) : S8x3x12544.Idx → EReal) (ix3 n c p)
      = inside (scaled (W (Proc.devRef (τ := τ) .tc main_arg0))) n c (2 * a.val + 2) (2 * b.val + 1) := by
  after_reads_simp
  simp only [TRef.toBuf, TRef.ofBuf, cast_eq]
  refine (tap_flat rfl _ _ h_S_ pad_zero _ _ _ n c a b p e).trans ?_
  exact congrArg (fun x => inside x n c _ _) (scaled_eq _)
theorem feedA_v23 (n : Fin 8) (c : Fin 3) (a b : Fin 112) (p : Fin 12544) (e : p.val = 112 * a.val + b.val) :
    (after opsA W (Proc.devRef (τ := τ) .tc main_v23) : S8x3x12544.Idx → EReal) (ix3 n c p)
      = inside (scaled (W (Proc.devRef (τ := τ) .tc main_arg0))) n c (2 * a.val + 2) (2 * b.val + 2) := by
  after_reads_simp
  simp only [TRef.toBuf, TRef.ofBuf, cast_eq]
  refine (tap_flat rfl _ _ h_S_ pad_zero _ _ _ n c a b p e).trans ?_
  exact congrArg (fun x => inside x n c _ _) (scaled_eq _)

theorem feedA_v26 (o : Fin 64) (t : Fin 9) (c : Fin 3) :
    (after opsA W (Proc.devRef (τ := τ) .tc main_v26) : S64x27.Idx → EReal) (ix2 o ⟨3 * t.val + c.val, by omega⟩)
      = (W (Proc.devRef (τ := τ) .tc main_arg2) : S64x3x3x3.Idx → EReal) (ix4 o c ⟨t.val / 3, by omega⟩ ⟨t.val % 3, by omega⟩) := by
  after_reads_simp
  exact weights_apply rfl _ _ _ _ o t c _ rfl

theorem feedA_v27 (o : Fin 64) :
    (after opsA W (Proc.devRef (τ := τ) .tc main_v27) : S64x1.Idx → EReal) (ix2 o 0) = (W (Proc.devRef (τ := τ) .tc main_arg3) : S64.Idx → EReal) (ix1 o) := by
  after_reads_simp
  exact bias_apply _ _ o

theorem layerA_of (y0 y1 y2 y3 y4 y5 y6 y7 y8 : S8x3x12544.Idx → EReal) (w' : S64x27.Idx → EReal) (b' : S64x1.Idx → EReal)
    (x : S8x3x224x224.Idx → EReal) (w : S64x3x3x3.Idx → EReal) (b : S64.Idx → EReal)
    (h0 : ∀ n c a b (p : Fin 12544), p.val = 112 * a.val + b.val → y0 (ix3 n c p) = inside x n c (2 * (a : Fin 112).val + 0) (2 * (b : Fin 112).val + 0))
    (h1 : ∀ n c a b (p : Fin 12544), p.val = 112 * a.val + b.val → y1 (ix3 n c p) = inside x n c (2 * (a : Fin 112).val + 0) (2 * (b : Fin 112).val + 1))
    (h2 : ∀ n c a b (p : Fin 12544), p.val = 112 * a.val + b.val → y2 (ix3 n c p) = inside x n c (2 * (a : Fin 112).val + 0) (2 * (b : Fin 112).val + 2))
    (h3 : ∀ n c a b (p : Fin 12544), p.val = 112 * a.val + b.val → y3 (ix3 n c p) = inside x n c (2 * (a : Fin 112).val + 1) (2 * (b : Fin 112).val + 0))
    (h4 : ∀ n c a b (p : Fin 12544), p.val = 112 * a.val + b.val → y4 (ix3 n c p) = inside x n c (2 * (a : Fin 112).val + 1) (2 * (b : Fin 112).val + 1))
    (h5 : ∀ n c a b (p : Fin 12544), p.val = 112 * a.val + b.val → y5 (ix3 n c p) = inside x n c (2 * (a : Fin 112).val + 1) (2 * (b : Fin 112).val + 2))
    (h6 : ∀ n c a b (p : Fin 12544), p.val = 112 * a.val + b.val → y6 (ix3 n c p) = inside x n c (2 * (a : Fin 112).val + 2) (2 * (b : Fin 112).val + 0))
    (h7 : ∀ n c a b (p : Fin 12544), p.val = 112 * a.val + b.val → y7 (ix3 n c p) = inside x n c (2 * (a : Fin 112).val + 2) (2 * (b : Fin 112).val + 1))
    (h8 : ∀ n c a b (p : Fin 12544), p.val = 112 * a.val + b.val → y8 (ix3 n c p) = inside x n c (2 * (a : Fin 112).val + 2) (2 * (b : Fin 112).val + 2))
    (hw : ∀ o (t : Fin 9) (c : Fin 3), w' (ix2 o ⟨3 * t.val + c.val, by omega⟩) = w (ix4 o c ⟨t.val / 3, by omega⟩ ⟨t.val % 3, by omega⟩))
    (hb : ∀ o, b' (ix2 o 0) = b (ix1 o)) (hc : Shape.ShapeCasts S8x64x12544 S8x64x112x112) :
    shapeCast S8x64x112x112 (out0 ![y0, y1, y2, y3, y4, y5, y6, y7, y8] w' b') hc = layer 3 224 64 112 x w b := by
  funext y
  obtain ⟨n, o, a, b, rfl⟩ : ∃ (n : Fin 8) (o : Fin 64) (a b : Fin 112), y = ix4 n o a b := ⟨y 0, y 1, y 2, y 3, ValueIdx.eq_ix4 y⟩
  refine (unflat_apply rfl _ _ n o a b ⟨112 * a.val + b.val, by omega⟩ rfl).trans ?_
  refine cell_congr (fun t c => ?_) (fun t c => hw o t c) (hb o)
  match t with
  | 0 => exact h0 n c a b ⟨112 * a.val + b.val, _⟩ rfl
  | 1 => exact h1 n c a b ⟨112 * a.val + b.val, _⟩ rfl
  | 2 => exact h2 n c a b ⟨112 * a.val + b.val, _⟩ rfl
  | 3 => exact h3 n c a b ⟨112 * a.val + b.val, _⟩ rfl
  | 4 => exact h4 n c a b ⟨112 * a.val + b.val, _⟩ rfl
  | 5 => exact h5 n c a b ⟨112 * a.val + b.val, _⟩ rfl
  | 6 => exact h6 n c a b ⟨112 * a.val + b.val, _⟩ rfl
  | 7 => exact h7 n c a b ⟨112 * a.val + b.val, _⟩ rfl
  | 8 => exact h8 n c a b ⟨112 * a.val + b.val, _⟩ rfl

theorem layerA (hc : Shape.ShapeCasts S8x64x12544 S8x64x112x112) :
    shapeCast S8x64x112x112 (out0 ![after opsA W (Proc.devRef (τ := τ) .tc main_v7), after opsA W (Proc.devRef (τ := τ) .tc main_v9), after opsA W (Proc.devRef (τ := τ) .tc main_v11), after opsA W (Proc.devRef (τ := τ) .tc main_v13), after opsA W (Proc.devRef (τ := τ) .tc main_v15), after opsA W (Proc.devRef (τ := τ) .tc main_v17), after opsA W (Proc.devRef (τ := τ) .tc main_v19), after opsA W (Proc.devRef (τ := τ) .tc main_v21), after opsA W (Proc.devRef (τ := τ) .tc main_v23)]
        (after opsA W (Proc.devRef (τ := τ) .tc main_v26)) (after opsA W (Proc.devRef (τ := τ) .tc main_v27))) hc
      = layer 3 224 64 112 (scaled (W (Proc.devRef (τ := τ) .tc main_arg0))) (W (Proc.devRef (τ := τ) .tc main_arg2)) (W (Proc.devRef (τ := τ) .tc main_arg3)) :=
  layerA_of _ _ _ _ _ _ _ _ _ _ _ _ _ _ (feedA_v7 W) (feedA_v9 W) (feedA_v11 W) (feedA_v13 W) (feedA_v15 W) (feedA_v17 W) (feedA_v19 W) (feedA_v21 W) (feedA_v23 W) (feedA_v26 W) (feedA_v27 W) hc

/-! ## Layer 2 -/

theorem feedB_v32 (n : Fin 8) (c : Fin 64) (a b : Fin 56) (p : Fin 3136) (e : p.val = 56 * a.val + b.val) :
    (after opsB W (Proc.devRef (τ := τ) .tc main_v32) : S8x64x3136.Idx → EReal) (ix3 n c p)
      = inside (shapeCast S8x64x112x112 (W (Proc.devRef (τ := τ) .tc main_v28) : S8x64x12544.Idx → EReal) shapeCasts_S8x64x12544_S8x64x112x112) n c (2 * a.val + 0) (2 * b.val + 0) := by
  after_reads_simp
  simp only [TRef.toBuf, TRef.ofBuf, cast_eq]
  exact tap_flat rfl _ _ h_S_ pad_zero _ _ _ n c a b p e
theorem feedB_v34 (n : Fin 8) (c : Fin 64) (a b : Fin 56) (p : Fin 3136) (e : p.val = 56 * a.val + b.val) :
    (after opsB W (Proc.devRef (τ := τ) .tc main_v34) : S8x64x3136.Idx → EReal) (ix3 n c p)
      = inside (shapeCast S8x64x112x112 (W (Proc.devRef (τ := τ) .tc main_v28) : S8x64x12544.Idx → EReal) shapeCasts_S8x64x12544_S8x64x112x112) n c (2 * a.val + 0) (2 * b.val + 1) := by
  after_reads_simp
  simp only [TRef.toBuf, TRef.ofBuf, cast_eq]
  exact tap_flat rfl _ _ h_S_ pad_zero _ _ _ n c a b p e
theorem feedB_v36 (n : Fin 8) (c : Fin 64) (a b : Fin 56) (p : Fin 3136) (e : p.val = 56 * a.val + b.val) :
    (after opsB W (Proc.devRef (τ := τ) .tc main_v36) : S8x64x3136.Idx → EReal) (ix3 n c p)
      = inside (shapeCast S8x64x112x112 (W (Proc.devRef (τ := τ) .tc main_v28) : S8x64x12544.Idx → EReal) shapeCasts_S8x64x12544_S8x64x112x112) n c (2 * a.val + 0) (2 * b.val + 2) := by
  after_reads_simp
  simp only [TRef.toBuf, TRef.ofBuf, cast_eq]
  exact tap_flat rfl _ _ h_S_ pad_zero _ _ _ n c a b p e
theorem feedB_v38 (n : Fin 8) (c : Fin 64) (a b : Fin 56) (p : Fin 3136) (e : p.val = 56 * a.val + b.val) :
    (after opsB W (Proc.devRef (τ := τ) .tc main_v38) : S8x64x3136.Idx → EReal) (ix3 n c p)
      = inside (shapeCast S8x64x112x112 (W (Proc.devRef (τ := τ) .tc main_v28) : S8x64x12544.Idx → EReal) shapeCasts_S8x64x12544_S8x64x112x112) n c (2 * a.val + 1) (2 * b.val + 0) := by
  after_reads_simp
  simp only [TRef.toBuf, TRef.ofBuf, cast_eq]
  exact tap_flat rfl _ _ h_S_ pad_zero _ _ _ n c a b p e
theorem feedB_v40 (n : Fin 8) (c : Fin 64) (a b : Fin 56) (p : Fin 3136) (e : p.val = 56 * a.val + b.val) :
    (after opsB W (Proc.devRef (τ := τ) .tc main_v40) : S8x64x3136.Idx → EReal) (ix3 n c p)
      = inside (shapeCast S8x64x112x112 (W (Proc.devRef (τ := τ) .tc main_v28) : S8x64x12544.Idx → EReal) shapeCasts_S8x64x12544_S8x64x112x112) n c (2 * a.val + 1) (2 * b.val + 1) := by
  after_reads_simp
  simp only [TRef.toBuf, TRef.ofBuf, cast_eq]
  exact tap_flat rfl _ _ h_S_ pad_zero _ _ _ n c a b p e
theorem feedB_v42 (n : Fin 8) (c : Fin 64) (a b : Fin 56) (p : Fin 3136) (e : p.val = 56 * a.val + b.val) :
    (after opsB W (Proc.devRef (τ := τ) .tc main_v42) : S8x64x3136.Idx → EReal) (ix3 n c p)
      = inside (shapeCast S8x64x112x112 (W (Proc.devRef (τ := τ) .tc main_v28) : S8x64x12544.Idx → EReal) shapeCasts_S8x64x12544_S8x64x112x112) n c (2 * a.val + 1) (2 * b.val + 2) := by
  after_reads_simp
  simp only [TRef.toBuf, TRef.ofBuf, cast_eq]
  exact tap_flat rfl _ _ h_S_ pad_zero _ _ _ n c a b p e
theorem feedB_v44 (n : Fin 8) (c : Fin 64) (a b : Fin 56) (p : Fin 3136) (e : p.val = 56 * a.val + b.val) :
    (after opsB W (Proc.devRef (τ := τ) .tc main_v44) : S8x64x3136.Idx → EReal) (ix3 n c p)
      = inside (shapeCast S8x64x112x112 (W (Proc.devRef (τ := τ) .tc main_v28) : S8x64x12544.Idx → EReal) shapeCasts_S8x64x12544_S8x64x112x112) n c (2 * a.val + 2) (2 * b.val + 0) := by
  after_reads_simp
  simp only [TRef.toBuf, TRef.ofBuf, cast_eq]
  exact tap_flat rfl _ _ h_S_ pad_zero _ _ _ n c a b p e
theorem feedB_v46 (n : Fin 8) (c : Fin 64) (a b : Fin 56) (p : Fin 3136) (e : p.val = 56 * a.val + b.val) :
    (after opsB W (Proc.devRef (τ := τ) .tc main_v46) : S8x64x3136.Idx → EReal) (ix3 n c p)
      = inside (shapeCast S8x64x112x112 (W (Proc.devRef (τ := τ) .tc main_v28) : S8x64x12544.Idx → EReal) shapeCasts_S8x64x12544_S8x64x112x112) n c (2 * a.val + 2) (2 * b.val + 1) := by
  after_reads_simp
  simp only [TRef.toBuf, TRef.ofBuf, cast_eq]
  exact tap_flat rfl _ _ h_S_ pad_zero _ _ _ n c a b p e
theorem feedB_v48 (n : Fin 8) (c : Fin 64) (a b : Fin 56) (p : Fin 3136) (e : p.val = 56 * a.val + b.val) :
    (after opsB W (Proc.devRef (τ := τ) .tc main_v48) : S8x64x3136.Idx → EReal) (ix3 n c p)
      = inside (shapeCast S8x64x112x112 (W (Proc.devRef (τ := τ) .tc main_v28) : S8x64x12544.Idx → EReal) shapeCasts_S8x64x12544_S8x64x112x112) n c (2 * a.val + 2) (2 * b.val + 2) := by
  after_reads_simp
  simp only [TRef.toBuf, TRef.ofBuf, cast_eq]
  exact tap_flat rfl _ _ h_S_ pad_zero _ _ _ n c a b p e

theorem feedB_v51 (o : Fin 128) (t : Fin 9) (c : Fin 64) :
    (after opsB W (Proc.devRef (τ := τ) .tc main_v51) : S128x576.Idx → EReal) (ix2 o ⟨64 * t.val + c.val, by omega⟩)
      = (W (Proc.devRef (τ := τ) .tc main_arg4) : S128x64x3x3.Idx → EReal) (ix4 o c ⟨t.val / 3, by omega⟩ ⟨t.val % 3, by omega⟩) := by
  after_reads_simp
  exact weights_apply rfl _ _ _ _ o t c _ rfl

theorem feedB_v52 (o : Fin 128) :
    (after opsB W (Proc.devRef (τ := τ) .tc main_v52) : S128x1.Idx → EReal) (ix2 o 0) = (W (Proc.devRef (τ := τ) .tc main_arg5) : S128.Idx → EReal) (ix1 o) := by
  after_reads_simp
  exact bias_apply _ _ o

theorem layerB_of (y0 y1 y2 y3 y4 y5 y6 y7 y8 : S8x64x3136.Idx → EReal) (w' : S128x576.Idx → EReal) (b' : S128x1.Idx → EReal)
    (x : S8x64x112x112.Idx → EReal) (w : S128x64x3x3.Idx → EReal) (b : S128.Idx → EReal)
    (h0 : ∀ n c a b (p : Fin 3136), p.val = 56 * a.val + b.val → y0 (ix3 n c p) = inside x n c (2 * (a : Fin 56).val + 0) (2 * (b : Fin 56).val + 0))
    (h1 : ∀ n c a b (p : Fin 3136), p.val = 56 * a.val + b.val → y1 (ix3 n c p) = inside x n c (2 * (a : Fin 56).val + 0) (2 * (b : Fin 56).val + 1))
    (h2 : ∀ n c a b (p : Fin 3136), p.val = 56 * a.val + b.val → y2 (ix3 n c p) = inside x n c (2 * (a : Fin 56).val + 0) (2 * (b : Fin 56).val + 2))
    (h3 : ∀ n c a b (p : Fin 3136), p.val = 56 * a.val + b.val → y3 (ix3 n c p) = inside x n c (2 * (a : Fin 56).val + 1) (2 * (b : Fin 56).val + 0))
    (h4 : ∀ n c a b (p : Fin 3136), p.val = 56 * a.val + b.val → y4 (ix3 n c p) = inside x n c (2 * (a : Fin 56).val + 1) (2 * (b : Fin 56).val + 1))
    (h5 : ∀ n c a b (p : Fin 3136), p.val = 56 * a.val + b.val → y5 (ix3 n c p) = inside x n c (2 * (a : Fin 56).val + 1) (2 * (b : Fin 56).val + 2))
    (h6 : ∀ n c a b (p : Fin 3136), p.val = 56 * a.val + b.val → y6 (ix3 n c p) = inside x n c (2 * (a : Fin 56).val + 2) (2 * (b : Fin 56).val + 0))
    (h7 : ∀ n c a b (p : Fin 3136), p.val = 56 * a.val + b.val → y7 (ix3 n c p) = inside x n c (2 * (a : Fin 56).val + 2) (2 * (b : Fin 56).val + 1))
    (h8 : ∀ n c a b (p : Fin 3136), p.val = 56 * a.val + b.val → y8 (ix3 n c p) = inside x n c (2 * (a : Fin 56).val + 2) (2 * (b : Fin 56).val + 2))
    (hw : ∀ o (t : Fin 9) (c : Fin 64), w' (ix2 o ⟨64 * t.val + c.val, by omega⟩) = w (ix4 o c ⟨t.val / 3, by omega⟩ ⟨t.val % 3, by omega⟩))
    (hb : ∀ o, b' (ix2 o 0) = b (ix1 o)) (hc : Shape.ShapeCasts S8x128x3136 S8x128x56x56) :
    shapeCast S8x128x56x56 (out1 ![y0, y1, y2, y3, y4, y5, y6, y7, y8] w' b') hc = layer 64 112 128 56 x w b := by
  funext y
  obtain ⟨n, o, a, b, rfl⟩ : ∃ (n : Fin 8) (o : Fin 128) (a b : Fin 56), y = ix4 n o a b := ⟨y 0, y 1, y 2, y 3, ValueIdx.eq_ix4 y⟩
  refine (unflat_apply rfl _ _ n o a b ⟨56 * a.val + b.val, by omega⟩ rfl).trans ?_
  refine cell_congr (fun t c => ?_) (fun t c => hw o t c) (hb o)
  match t with
  | 0 => exact h0 n c a b ⟨56 * a.val + b.val, _⟩ rfl
  | 1 => exact h1 n c a b ⟨56 * a.val + b.val, _⟩ rfl
  | 2 => exact h2 n c a b ⟨56 * a.val + b.val, _⟩ rfl
  | 3 => exact h3 n c a b ⟨56 * a.val + b.val, _⟩ rfl
  | 4 => exact h4 n c a b ⟨56 * a.val + b.val, _⟩ rfl
  | 5 => exact h5 n c a b ⟨56 * a.val + b.val, _⟩ rfl
  | 6 => exact h6 n c a b ⟨56 * a.val + b.val, _⟩ rfl
  | 7 => exact h7 n c a b ⟨56 * a.val + b.val, _⟩ rfl
  | 8 => exact h8 n c a b ⟨56 * a.val + b.val, _⟩ rfl

theorem layerB (hc : Shape.ShapeCasts S8x128x3136 S8x128x56x56) :
    shapeCast S8x128x56x56 (out1 ![after opsB W (Proc.devRef (τ := τ) .tc main_v32), after opsB W (Proc.devRef (τ := τ) .tc main_v34), after opsB W (Proc.devRef (τ := τ) .tc main_v36), after opsB W (Proc.devRef (τ := τ) .tc main_v38), after opsB W (Proc.devRef (τ := τ) .tc main_v40), after opsB W (Proc.devRef (τ := τ) .tc main_v42), after opsB W (Proc.devRef (τ := τ) .tc main_v44), after opsB W (Proc.devRef (τ := τ) .tc main_v46), after opsB W (Proc.devRef (τ := τ) .tc main_v48)]
        (after opsB W (Proc.devRef (τ := τ) .tc main_v51)) (after opsB W (Proc.devRef (τ := τ) .tc main_v52))) hc
      = layer 64 112 128 56 (shapeCast S8x64x112x112 (W (Proc.devRef (τ := τ) .tc main_v28) : S8x64x12544.Idx → EReal) shapeCasts_S8x64x12544_S8x64x112x112) (W (Proc.devRef (τ := τ) .tc main_arg4)) (W (Proc.devRef (τ := τ) .tc main_arg5)) :=
  layerB_of _ _ _ _ _ _ _ _ _ _ _ _ _ _ (feedB_v32 W) (feedB_v34 W) (feedB_v36 W) (feedB_v38 W) (feedB_v40 W) (feedB_v42 W) (feedB_v44 W) (feedB_v46 W) (feedB_v48 W) (feedB_v51 W) (feedB_v52 W) hc

/-! ## Layer 3 -/

theorem feedC_v57 (n : Fin 8) (c : Fin 128) (a b : Fin 28) (p : Fin 784) (e : p.val = 28 * a.val + b.val) :
    (after opsC W (Proc.devRef (τ := τ) .tc main_v57) : S8x128x784.Idx → EReal) (ix3 n c p)
      = inside (shapeCast S8x128x56x56 (W (Proc.devRef (τ := τ) .tc main_v53) : S8x128x3136.Idx → EReal) shapeCasts_S8x128x3136_S8x128x56x56) n c (2 * a.val + 0) (2 * b.val + 0) := by
  after_reads_simp
  simp only [TRef.toBuf, TRef.ofBuf, cast_eq]
  exact tap_flat rfl _ _ h_S_ pad_zero _ _ _ n c a b p e
theorem feedC_v59 (n : Fin 8) (c : Fin 128) (a b : Fin 28) (p : Fin 784) (e : p.val = 28 * a.val + b.val) :
    (after opsC W (Proc.devRef (τ := τ) .tc main_v59) : S8x128x784.Idx → EReal) (ix3 n c p)
      = inside (shapeCast S8x128x56x56 (W (Proc.devRef (τ := τ) .tc main_v53) : S8x128x3136.Idx → EReal) shapeCasts_S8x128x3136_S8x128x56x56) n c (2 * a.val + 0) (2 * b.val + 1) := by
  after_reads_simp
  simp only [TRef.toBuf, TRef.ofBuf, cast_eq]
  exact tap_flat rfl _ _ h_S_ pad_zero _ _ _ n c a b p e
theorem feedC_v61 (n : Fin 8) (c : Fin 128) (a b : Fin 28) (p : Fin 784) (e : p.val = 28 * a.val + b.val) :
    (after opsC W (Proc.devRef (τ := τ) .tc main_v61) : S8x128x784.Idx → EReal) (ix3 n c p)
      = inside (shapeCast S8x128x56x56 (W (Proc.devRef (τ := τ) .tc main_v53) : S8x128x3136.Idx → EReal) shapeCasts_S8x128x3136_S8x128x56x56) n c (2 * a.val + 0) (2 * b.val + 2) := by
  after_reads_simp
  simp only [TRef.toBuf, TRef.ofBuf, cast_eq]
  exact tap_flat rfl _ _ h_S_ pad_zero _ _ _ n c a b p e
theorem feedC_v63 (n : Fin 8) (c : Fin 128) (a b : Fin 28) (p : Fin 784) (e : p.val = 28 * a.val + b.val) :
    (after opsC W (Proc.devRef (τ := τ) .tc main_v63) : S8x128x784.Idx → EReal) (ix3 n c p)
      = inside (shapeCast S8x128x56x56 (W (Proc.devRef (τ := τ) .tc main_v53) : S8x128x3136.Idx → EReal) shapeCasts_S8x128x3136_S8x128x56x56) n c (2 * a.val + 1) (2 * b.val + 0) := by
  after_reads_simp
  simp only [TRef.toBuf, TRef.ofBuf, cast_eq]
  exact tap_flat rfl _ _ h_S_ pad_zero _ _ _ n c a b p e
theorem feedC_v65 (n : Fin 8) (c : Fin 128) (a b : Fin 28) (p : Fin 784) (e : p.val = 28 * a.val + b.val) :
    (after opsC W (Proc.devRef (τ := τ) .tc main_v65) : S8x128x784.Idx → EReal) (ix3 n c p)
      = inside (shapeCast S8x128x56x56 (W (Proc.devRef (τ := τ) .tc main_v53) : S8x128x3136.Idx → EReal) shapeCasts_S8x128x3136_S8x128x56x56) n c (2 * a.val + 1) (2 * b.val + 1) := by
  after_reads_simp
  simp only [TRef.toBuf, TRef.ofBuf, cast_eq]
  exact tap_flat rfl _ _ h_S_ pad_zero _ _ _ n c a b p e
theorem feedC_v67 (n : Fin 8) (c : Fin 128) (a b : Fin 28) (p : Fin 784) (e : p.val = 28 * a.val + b.val) :
    (after opsC W (Proc.devRef (τ := τ) .tc main_v67) : S8x128x784.Idx → EReal) (ix3 n c p)
      = inside (shapeCast S8x128x56x56 (W (Proc.devRef (τ := τ) .tc main_v53) : S8x128x3136.Idx → EReal) shapeCasts_S8x128x3136_S8x128x56x56) n c (2 * a.val + 1) (2 * b.val + 2) := by
  after_reads_simp
  simp only [TRef.toBuf, TRef.ofBuf, cast_eq]
  exact tap_flat rfl _ _ h_S_ pad_zero _ _ _ n c a b p e
theorem feedC_v69 (n : Fin 8) (c : Fin 128) (a b : Fin 28) (p : Fin 784) (e : p.val = 28 * a.val + b.val) :
    (after opsC W (Proc.devRef (τ := τ) .tc main_v69) : S8x128x784.Idx → EReal) (ix3 n c p)
      = inside (shapeCast S8x128x56x56 (W (Proc.devRef (τ := τ) .tc main_v53) : S8x128x3136.Idx → EReal) shapeCasts_S8x128x3136_S8x128x56x56) n c (2 * a.val + 2) (2 * b.val + 0) := by
  after_reads_simp
  simp only [TRef.toBuf, TRef.ofBuf, cast_eq]
  exact tap_flat rfl _ _ h_S_ pad_zero _ _ _ n c a b p e
theorem feedC_v71 (n : Fin 8) (c : Fin 128) (a b : Fin 28) (p : Fin 784) (e : p.val = 28 * a.val + b.val) :
    (after opsC W (Proc.devRef (τ := τ) .tc main_v71) : S8x128x784.Idx → EReal) (ix3 n c p)
      = inside (shapeCast S8x128x56x56 (W (Proc.devRef (τ := τ) .tc main_v53) : S8x128x3136.Idx → EReal) shapeCasts_S8x128x3136_S8x128x56x56) n c (2 * a.val + 2) (2 * b.val + 1) := by
  after_reads_simp
  simp only [TRef.toBuf, TRef.ofBuf, cast_eq]
  exact tap_flat rfl _ _ h_S_ pad_zero _ _ _ n c a b p e
theorem feedC_v73 (n : Fin 8) (c : Fin 128) (a b : Fin 28) (p : Fin 784) (e : p.val = 28 * a.val + b.val) :
    (after opsC W (Proc.devRef (τ := τ) .tc main_v73) : S8x128x784.Idx → EReal) (ix3 n c p)
      = inside (shapeCast S8x128x56x56 (W (Proc.devRef (τ := τ) .tc main_v53) : S8x128x3136.Idx → EReal) shapeCasts_S8x128x3136_S8x128x56x56) n c (2 * a.val + 2) (2 * b.val + 2) := by
  after_reads_simp
  simp only [TRef.toBuf, TRef.ofBuf, cast_eq]
  exact tap_flat rfl _ _ h_S_ pad_zero _ _ _ n c a b p e

theorem feedC_v76 (o : Fin 256) (t : Fin 9) (c : Fin 128) :
    (after opsC W (Proc.devRef (τ := τ) .tc main_v76) : S256x1152.Idx → EReal) (ix2 o ⟨128 * t.val + c.val, by omega⟩)
      = (W (Proc.devRef (τ := τ) .tc main_arg6) : S256x128x3x3.Idx → EReal) (ix4 o c ⟨t.val / 3, by omega⟩ ⟨t.val % 3, by omega⟩) := by
  after_reads_simp
  exact weights_apply rfl _ _ _ _ o t c _ rfl

theorem feedC_v77 (o : Fin 256) :
    (after opsC W (Proc.devRef (τ := τ) .tc main_v77) : S256x1.Idx → EReal) (ix2 o 0) = (W (Proc.devRef (τ := τ) .tc main_arg7) : S256.Idx → EReal) (ix1 o) := by
  after_reads_simp
  exact bias_apply _ _ o

theorem layerC_of (y0 y1 y2 y3 y4 y5 y6 y7 y8 : S8x128x784.Idx → EReal) (w' : S256x1152.Idx → EReal) (b' : S256x1.Idx → EReal)
    (x : S8x128x56x56.Idx → EReal) (w : S256x128x3x3.Idx → EReal) (b : S256.Idx → EReal)
    (h0 : ∀ n c a b (p : Fin 784), p.val = 28 * a.val + b.val → y0 (ix3 n c p) = inside x n c (2 * (a : Fin 28).val + 0) (2 * (b : Fin 28).val + 0))
    (h1 : ∀ n c a b (p : Fin 784), p.val = 28 * a.val + b.val → y1 (ix3 n c p) = inside x n c (2 * (a : Fin 28).val + 0) (2 * (b : Fin 28).val + 1))
    (h2 : ∀ n c a b (p : Fin 784), p.val = 28 * a.val + b.val → y2 (ix3 n c p) = inside x n c (2 * (a : Fin 28).val + 0) (2 * (b : Fin 28).val + 2))
    (h3 : ∀ n c a b (p : Fin 784), p.val = 28 * a.val + b.val → y3 (ix3 n c p) = inside x n c (2 * (a : Fin 28).val + 1) (2 * (b : Fin 28).val + 0))
    (h4 : ∀ n c a b (p : Fin 784), p.val = 28 * a.val + b.val → y4 (ix3 n c p) = inside x n c (2 * (a : Fin 28).val + 1) (2 * (b : Fin 28).val + 1))
    (h5 : ∀ n c a b (p : Fin 784), p.val = 28 * a.val + b.val → y5 (ix3 n c p) = inside x n c (2 * (a : Fin 28).val + 1) (2 * (b : Fin 28).val + 2))
    (h6 : ∀ n c a b (p : Fin 784), p.val = 28 * a.val + b.val → y6 (ix3 n c p) = inside x n c (2 * (a : Fin 28).val + 2) (2 * (b : Fin 28).val + 0))
    (h7 : ∀ n c a b (p : Fin 784), p.val = 28 * a.val + b.val → y7 (ix3 n c p) = inside x n c (2 * (a : Fin 28).val + 2) (2 * (b : Fin 28).val + 1))
    (h8 : ∀ n c a b (p : Fin 784), p.val = 28 * a.val + b.val → y8 (ix3 n c p) = inside x n c (2 * (a : Fin 28).val + 2) (2 * (b : Fin 28).val + 2))
    (hw : ∀ o (t : Fin 9) (c : Fin 128), w' (ix2 o ⟨128 * t.val + c.val, by omega⟩) = w (ix4 o c ⟨t.val / 3, by omega⟩ ⟨t.val % 3, by omega⟩))
    (hb : ∀ o, b' (ix2 o 0) = b (ix1 o)) (hc : Shape.ShapeCasts S8x256x784 S8x256x28x28) :
    shapeCast S8x256x28x28 (out2 ![y0, y1, y2, y3, y4, y5, y6, y7, y8] w' b') hc = layer 128 56 256 28 x w b := by
  funext y
  obtain ⟨n, o, a, b, rfl⟩ : ∃ (n : Fin 8) (o : Fin 256) (a b : Fin 28), y = ix4 n o a b := ⟨y 0, y 1, y 2, y 3, ValueIdx.eq_ix4 y⟩
  refine (unflat_apply rfl _ _ n o a b ⟨28 * a.val + b.val, by omega⟩ rfl).trans ?_
  refine cell_congr (fun t c => ?_) (fun t c => hw o t c) (hb o)
  match t with
  | 0 => exact h0 n c a b ⟨28 * a.val + b.val, _⟩ rfl
  | 1 => exact h1 n c a b ⟨28 * a.val + b.val, _⟩ rfl
  | 2 => exact h2 n c a b ⟨28 * a.val + b.val, _⟩ rfl
  | 3 => exact h3 n c a b ⟨28 * a.val + b.val, _⟩ rfl
  | 4 => exact h4 n c a b ⟨28 * a.val + b.val, _⟩ rfl
  | 5 => exact h5 n c a b ⟨28 * a.val + b.val, _⟩ rfl
  | 6 => exact h6 n c a b ⟨28 * a.val + b.val, _⟩ rfl
  | 7 => exact h7 n c a b ⟨28 * a.val + b.val, _⟩ rfl
  | 8 => exact h8 n c a b ⟨28 * a.val + b.val, _⟩ rfl

theorem layerC (hc : Shape.ShapeCasts S8x256x784 S8x256x28x28) :
    shapeCast S8x256x28x28 (out2 ![after opsC W (Proc.devRef (τ := τ) .tc main_v57), after opsC W (Proc.devRef (τ := τ) .tc main_v59), after opsC W (Proc.devRef (τ := τ) .tc main_v61), after opsC W (Proc.devRef (τ := τ) .tc main_v63), after opsC W (Proc.devRef (τ := τ) .tc main_v65), after opsC W (Proc.devRef (τ := τ) .tc main_v67), after opsC W (Proc.devRef (τ := τ) .tc main_v69), after opsC W (Proc.devRef (τ := τ) .tc main_v71), after opsC W (Proc.devRef (τ := τ) .tc main_v73)]
        (after opsC W (Proc.devRef (τ := τ) .tc main_v76)) (after opsC W (Proc.devRef (τ := τ) .tc main_v77))) hc
      = layer 128 56 256 28 (shapeCast S8x128x56x56 (W (Proc.devRef (τ := τ) .tc main_v53) : S8x128x3136.Idx → EReal) shapeCasts_S8x128x3136_S8x128x56x56) (W (Proc.devRef (τ := τ) .tc main_arg6)) (W (Proc.devRef (τ := τ) .tc main_arg7)) :=
  layerC_of _ _ _ _ _ _ _ _ _ _ _ _ _ _ (feedC_v57 W) (feedC_v59 W) (feedC_v61 W) (feedC_v63 W) (feedC_v65 W) (feedC_v67 W) (feedC_v69 W) (feedC_v71 W) (feedC_v73 W) (feedC_v76 W) (feedC_v77 W) hc

end Cert.Proof.Encoder

end
-- ==== Proof.Encoder.Tail.lean ====
/-
  The quantizer's side of the kernel: what the host operations around the 1x1 layer, the search and the gather compute.
-/
module

public import proofs.«01_k».proof.Proof.Encoder.Feed
public import proofs.«01_k».proof.Proof.Encoder.Tile
public import proofs.«01_k».proof.Proof.Rows

@[expose] public section

set_option maxRecDepth 16384

noncomputable section

namespace Cert.Proof.Encoder

open Cert.EncoderIdeal Cert.EncoderIdeal.Gen
open Idealize.ShloMosaic Idealize.ShloMosaic.TcCoe Idealize.ShloMosaic.StableHlo Cert.Proof.Plain

variable (W : Valuation τ sig (Elt Ideal))

theorem flat_apply (x : S8x256x28x28.Idx → EReal) (h : Shape.ShapeCasts S8x256x28x28 S8x256x784) (n : Fin 8) (c : Fin 256) (a b : Fin 28) (p : Fin 784) (e : p.val = 28 * a.val + b.val) :
    shapeCast S8x256x784 x h (ix3 n c p) = x (ix4 n c a b) := by
  refine shapeCast_apply _ _ _ _ ?_
  rw [Shape.rowMajor_val_four, Shape.rowMajor_val_three]
  show ((n.val * 256 + c.val) * 28 + a.val) * 28 + b.val = (n.val * 256 + c.val) * 784 + p.val
  omega

theorem quant_of (w' : S256x256.Idx → EReal) (x' : S8x256x784.Idx → EReal) (b' : S256x1.Idx → EReal)
    (w : S256x256x1x1.Idx → EReal) (x : S8x256x28x28.Idx → EReal) (b : S256.Idx → EReal)
    (hw : ∀ o c, w' (ix2 o c) = w (ix4 o c 0 0)) (hx : ∀ n c a a' (p : Fin 784), p.val = 28 * a.val + a'.val → x' (ix3 n c p) = x (ix4 n c a a')) (hb : ∀ o, b' (ix2 o 0) = b (ix1 o))
    (hc : Shape.ShapeCasts S8x256x784 S8x256x28x28) : shapeCast S8x256x28x28 (out3 w' x' b') hc = quant w b x := by
  funext y
  obtain ⟨n, o, a, a', rfl⟩ : ∃ (n : Fin 8) (o : Fin 256) (a a' : Fin 28), y = ix4 n o a a' := ⟨y 0, y 1, y 2, y 3, ValueIdx.eq_ix4 y⟩
  refine (unflat_apply rfl _ _ n o a a' ⟨28 * a.val + a'.val, by omega⟩ rfl).trans ?_
  refine congrArg₂ (· + ·) (Finset.sum_congr rfl fun c _ => ?_) (hb o)
  exact (congrArg₂ (· * ·) (hw o c) (hx n c a a' _ rfl)).trans (mul_comm _ _)

theorem quantE (hc : Shape.ShapeCasts S8x256x784 S8x256x28x28) :
    shapeCast S8x256x28x28 (out3 (after opsE W (Proc.devRef (τ := τ) .tc main_v81)) (after opsE W (Proc.devRef (τ := τ) .tc main_v80)) (after opsE W (Proc.devRef (τ := τ) .tc main_v82))) hc
      = quant (W (Proc.devRef (τ := τ) .tc main_arg8)) (W (Proc.devRef (τ := τ) .tc main_arg9))
          (shapeCast S8x256x28x28 (W (Proc.devRef (τ := τ) .tc main_v78) : S8x256x784.Idx → EReal) shapeCasts_S8x256x784_S8x256x28x28) := by
  refine quant_of _ _ _ _ _ _ (fun o c => ?_) (fun n c a a' p e => ?_) (fun o => ?_) hc
  · after_reads_simp; exact square_apply _ _ o c
  · after_reads_simp; exact flat_apply _ _ n c a a' p e
  · after_reads_simp; exact bias_apply _ _ o

/-- The rows the search meets are those of the quantizer's input; the rows added below are left aside. -/
theorem rowsG (k : Fin 6400) (hk : k.val < 6272) (c : Fin 256) (hc : Shape.ShapeCasts S8x256x784 S8x256x28x28) :
    (after opsG W (Proc.devRef (τ := τ) .tc main_v86) : S6400x256.Idx → EReal) (ix2 k c)
      = row (shapeCast S8x256x28x28 (W (Proc.devRef (τ := τ) .tc main_v83) : S8x256x784.Idx → EReal) hc) ⟨k.val, hk⟩ c := by
  after_reads_simp
  simp only [TRef.toBuf, TRef.ofBuf, cast_eq]
  rw [pad_apply, dif_pos (fun q => match q with
      | ⟨0, _⟩ => ⟨Nat.zero_le _, Nat.mod_one _, by show (k.val - 0) / 1 < 6272; omega⟩
      | ⟨1, _⟩ => ⟨Nat.zero_le _, Nat.mod_one _, by show (c.val - 0) / 1 < 256; have := c.isLt; omega⟩)]
  refine (shapeCast_apply _ _ _ (ix3 ⟨k.val / 784, by omega⟩ ⟨k.val % 784, by omega⟩ c) ?_).trans ?_
  · refine (Shape.rowMajor_val_three _).trans (Eq.trans ?_ (Shape.rowMajor_val_two _).symm)
    show (k.val / 784 * 784 + k.val % 784) * 256 + c.val = (k.val - 0) / 1 * 256 + (c.val - 0) / 1
    omega
  refine (transpose_apply _ _ _ _ (ix3 ⟨k.val / 784, by omega⟩ c ⟨k.val % 784, by omega⟩) fun q => ?_).trans ?_
  · match q with
    | ⟨0, _⟩ => rfl
    | ⟨1, _⟩ => rfl
    | ⟨2, _⟩ => rfl
  exact (unflat_apply rfl _ hc ⟨k.val / 784, by omega⟩ c ⟨k.val % 784 / 28, by omega⟩ ⟨k.val % 28, by omega⟩ ⟨k.val % 784, by omega⟩ (by
    show k.val % 784 = 28 * (k.val % 784 / 28) + k.val % 28
    omega)).symm

theorem codesG (c : Fin 256) (j : Fin 8192) :
    (after opsG W (Proc.devRef (τ := τ) .tc main_v87) : S256x8192.Idx → EReal) (ix2 c j) = (W (Proc.devRef (τ := τ) .tc main_arg1) : S8192x256.Idx → EReal) (ix2 j c) := by
  after_reads_simp
  exact transpose_apply _ _ _ _ _ fun q => by
    match q with
    | ⟨0, _⟩ => rfl
    | ⟨1, _⟩ => rfl

/-- Every number the search hands on names a codebook row. -/
theorem out4_lt (z : S6400x256.Idx → EReal) (e : S256x8192.Idx → EReal) (i : S25x1x256.Idx) : (out4 z e i).toNat < 8192 := by
  unfold out4
  rw [BitVec.toNat_ofNat]
  exact lt_of_le_of_lt (Nat.mod_le _ _) (Fin.isLt _)

theorem tokensH (v : S25x1x256.Idx → BitVec 32) (h : W (Proc.devRef (τ := τ) .tc main_v88) = v) (k : Fin 6400) :
    (after opsH W (Proc.devRef (τ := τ) .tc main_v89) : S6400.Idx → BitVec 32) (ix1 k) = v (ix3 ⟨k.val / 256, by omega⟩ 0 ⟨k.val % 256, by omega⟩) := by
  after_reads_simp
  rw [h]
  refine shapeCast_apply _ _ _ _ ?_
  refine (Shape.rowMajor_val_three _).trans (Eq.trans ?_ (Shape.rowMajor_val_one _).symm)
  show (k.val / 256 * 1 + 0) * 256 + k.val % 256 = k.val
  omega

theorem token_of (z' : S6400x256.Idx → EReal) (e' : S256x8192.Idx → EReal) (z : S8x256x28x28.Idx → EReal) (e : S8192x256.Idx → EReal)
    (hz : ∀ (k : Fin 6400) (hk : k.val < 6272) c, z' (ix2 k c) = row z ⟨k.val, hk⟩ c) (he : ∀ c j, e' (ix2 c j) = e (ix2 j c)) (k : Fin 6400) (hk : k.val < 6272) :
    out4 z' e' (ix3 ⟨k.val / 256, by omega⟩ 0 ⟨k.val % 256, by omega⟩) = token z e ⟨k.val, hk⟩ := by
  unfold out4 token
  refine congrArg (fun f => BitVec.ofNat 32 (nearest f).val) (funext fun j => congrArg₂ Plain.dist (funext fun c => ?_) (funext fun c => he c j))
  refine Eq.trans (congrArg z' ?_) (hz k hk c)
  refine congrArg (fun r => ix2 r c) (Fin.ext ?_)
  show 256 * (k.val / 256) + k.val % 256 = k.val
  omega

/-- The gathered rows, laid out. -/
theorem resultT (e : S8192x256.Idx → EReal) (ix : S6400.Idx → BitVec 32)
    (h : (W (Proc.devRef (τ := τ) .tc main_v91) : S6400x2x128.Idx → EReal) = rowsOf (F := Ideal) (shapeCast S8192x2x128 e shapeCasts_S8192x256_S8192x2x128) ix) :
    (after opsT W (Proc.devRef (τ := τ) .tc main_v99) : S2x4x256x28x28.Idx → EReal) = Rows.laid (F := Ideal) (Rows.plain (F := Ideal) e ix) := by
  after_reads_simp
  rw [h]
  refine Eq.trans ?_ (Rows.kernel_laid (F := Ideal) _)
  exact congrArg (fun G => shapeCast S2x4x256x28x28 (shapeCast S8x256x28x28 (transpose S8x256x784 [0, 2, 1] (shapeCast S8x784x256 G shapeCasts_S6272x256_S8x784x256) transposes_S8x784x256_S8x256x784_0_2_1)
      shapeCasts_S8x256x784_S8x256x28x28) shapeCasts_S8x256x28x28_S2x4x256x28x28) (Rows.kernel_rows (F := Ideal) e ix)

end Cert.Proof.Encoder

end
-- ==== Proof.Encoder.Answer.lean ====
/-
  The two results both programs reach: the quantizer's input in the layout of the frames, and the codebook rows that its
  tokens name in the same layout.
-/
module

public import proofs.«01_k».proof.Proof.Encoder.Taps
public import proofs.«01_k».proof.Proof.Rows

@[expose] public section

noncomputable section

namespace Cert.Proof.Plain

open Idealize.ShloMosaic

/-- The quantizer's input with the frames of a sequence on an axis of their own. -/
def spread (z : (⟨4, ![8, 256, 28, 28]⟩ : Shape).Idx → EReal) : (⟨5, ![2, 4, 256, 28, 28]⟩ : Shape).Idx → EReal :=
  shapeCast ⟨5, ![2, 4, 256, 28, 28]⟩ z Cert.ReferenceIdeal.Gen.facts.shapeCasts_S8x256x28x28_S2x4x256x28x28

/-- The tokens of the rows, and 0 past the last row. -/
def tokens (z : (⟨4, ![8, 256, 28, 28]⟩ : Shape).Idx → EReal) (e : (⟨2, ![8192, 256]⟩ : Shape).Idx → EReal) : Rows.Toks := fun j =>
  if h : (j 0).val < 6272 then token z e ⟨(j 0).val, h⟩ else 0#32

/-- The codebook rows that the tokens name, laid out. -/
def quantized (z : (⟨4, ![8, 256, 28, 28]⟩ : Shape).Idx → EReal) (e : (⟨2, ![8192, 256]⟩ : Shape).Idx → EReal) : (⟨5, ![2, 4, 256, 28, 28]⟩ : Shape).Idx → EReal :=
  Rows.laid (F := Ideal) (Rows.plain (F := Ideal) e (tokens z e))

theorem token_lt (z : (⟨4, ![8, 256, 28, 28]⟩ : Shape).Idx → EReal) (e : (⟨2, ![8192, 256]⟩ : Shape).Idx → EReal) (k : Fin 6272) : (token z e k).toNat < 8192 := by
  unfold token
  rw [BitVec.toNat_ofNat]
  exact lt_of_le_of_lt (Nat.mod_le _ _) (Fin.isLt _)

theorem tokens_lt (z : (⟨4, ![8, 256, 28, 28]⟩ : Shape).Idx → EReal) (e : (⟨2, ![8192, 256]⟩ : Shape).Idx → EReal) (j) : (tokens z e j).toNat < 8192 := by
  unfold tokens
  split
  · exact token_lt z e _
  · decide

theorem tokens_apply (z : (⟨4, ![8, 256, 28, 28]⟩ : Shape).Idx → EReal) (e : (⟨2, ![8192, 256]⟩ : Shape).Idx → EReal) (k : Fin 6400) (hk : k.val < 6272) :
    tokens z e (ix1 k) = token z e ⟨k.val, hk⟩ := dif_pos hk

/-- Only the tokens of the rows matter. -/
theorem quantized_of (z : (⟨4, ![8, 256, 28, 28]⟩ : Shape).Idx → EReal) (e : (⟨2, ![8192, 256]⟩ : Shape).Idx → EReal) (ix : Rows.Toks)
    (h : ∀ (k : Fin 6400) (hk : k.val < 6272), ix (ix1 k) = token z e ⟨k.val, hk⟩) :
    Rows.laid (F := Ideal) (Rows.plain (F := Ideal) e ix) = quantized z e := by
  refine congrArg (Rows.laid (F := Ideal)) (funext fun y => ?_)
  have hy : (y 0).val < 6272 := ValueIdx.idx2_lt0 y
  have hw : ix (ix1 ⟨(y 0).val, hy.trans (by decide)⟩) = tokens z e (ix1 ⟨(y 0).val, hy.trans (by decide)⟩) := (h _ hy).trans (tokens_apply z e _ hy).symm
  unfold Rows.plain
  exact congrArg (fun w : BitVec 32 => e (ix2 ⟨w.toNat % 8192, Nat.mod_lt _ (by decide)⟩ ⟨(y 1).val, ValueIdx.idx2_lt1 y⟩)) hw

end Cert.Proof.Plain

end
-- ==== Proof.Encoder.Values.lean ====
/-
  What the kernel's run leaves in its two result arrays, from its arguments, over the extended reals.
-/
module

public import proofs.«01_k».proof.Proof.Encoder.Calls
public import proofs.«01_k».proof.Proof.Encoder.Tail
public import proofs.«01_k».proof.Proof.Encoder.Answer

@[expose] public section

set_option maxRecDepth 16384

noncomputable section

namespace Cert.Proof.Encoder

open Cert.EncoderIdeal Cert.EncoderIdeal.Gen
open Idealize.ShloMosaic Idealize.ShloMosaic.TcCoe Idealize.ShloMosaic.StableHlo Cert.Proof.Plain

variable (m : (ℓ : Loc nD τ sig) → Buf (Elt Ideal) ℓ) (d : Dev nD)

/-! ## The arguments -/

abbrev args : List (Ref sig .tc) := [main_arg0, main_arg1, main_arg2, main_arg3, main_arg4, main_arg5, main_arg6, main_arg7, main_arg8, main_arg9]

theorem arg_lines : ∀ r ∈ args, r ∉ writesA ∧ r ∉ writesB ∧ r ∉ writesC ∧ r ∉ writesE ∧ r ∉ writesG ∧ r ∉ writesH ∧ r ∉ writesT := by decide
theorem arg_outs : ∀ r ∈ args, r ≠ main_v28 ∧ r ≠ main_v53 ∧ r ≠ main_v78 ∧ r ≠ main_v83 ∧ r ≠ main_v88 ∧ r ≠ main_v91 := by decide

variable {r : Ref sig .tc} (hr : r ∈ args)
include hr

theorem arg_X0 : X0 m d (Proc.devRef .tc r) = V0 m d (Proc.devRef .tc r) :=
  (exit_keeps0 (E0 m) d r (arg_outs r hr).1).trans (after_unwritten writesA wroteA (arg_lines r hr).1 (V0 m d))
theorem arg_X1 : X1 m d (Proc.devRef .tc r) = V0 m d (Proc.devRef .tc r) :=
  (exit_keeps1 (E1 m) d r (arg_outs r hr).2.1).trans ((after_unwritten writesB wroteB (arg_lines r hr).2.1 (X0 m d)).trans (arg_X0 m d hr))
theorem arg_X2 : X2 m d (Proc.devRef .tc r) = V0 m d (Proc.devRef .tc r) :=
  (exit_keeps2 (E2 m) d r (arg_outs r hr).2.2.1).trans ((after_unwritten writesC wroteC (arg_lines r hr).2.2.1 (X1 m d)).trans (arg_X1 m d hr))
theorem arg_X3 : X3 m d (Proc.devRef .tc r) = V0 m d (Proc.devRef .tc r) :=
  (exit_keeps3 (E3 m) d r (arg_outs r hr).2.2.2.1).trans ((after_unwritten writesE wroteE (arg_lines r hr).2.2.2.1 (X2 m d)).trans (arg_X2 m d hr))
theorem arg_X4 : X4 m d (Proc.devRef .tc r) = V0 m d (Proc.devRef .tc r) :=
  (exit_keeps4 (E4 m) d r (arg_outs r hr).2.2.2.2.1).trans ((after_unwritten writesG wroteG (arg_lines r hr).2.2.2.2.1 (X3 m d)).trans (arg_X3 m d hr))
theorem arg_X5 : X5 m d (Proc.devRef .tc r) = V0 m d (Proc.devRef .tc r) :=
  (Function.update_of_ne (fun e => (arg_outs r hr).2.2.2.2.2 (Proc.devRef_injective _ e)) _ _).trans
    ((after_unwritten writesH wroteH (arg_lines r hr).2.2.2.2.2.1 (X4 m d)).trans (arg_X4 m d hr))
theorem arg_END : END m d (Proc.devRef .tc r) = V0 m d (Proc.devRef .tc r) :=
  (after_unwritten writesT wroteT (arg_lines r hr).2.2.2.2.2.2 (X5 m d)).trans (arg_X5 m d hr)

omit hr

/-! ## The quantizer's input -/

/-- An argument's contents at the start. -/
abbrev arg (r : Ref sig .tc) := V0 m d (Proc.devRef .tc r)

/-- The quantizer's input, from the arguments. -/
def zOf : S8x256x28x28.Idx → EReal :=
  encode (arg m d main_arg0) (arg m d main_arg2) (arg m d main_arg3) (arg m d main_arg4) (arg m d main_arg5) (arg m d main_arg6) (arg m d main_arg7) (arg m d main_arg8) (arg m d main_arg9)

theorem after1 (hc : Shape.ShapeCasts S8x64x12544 S8x64x112x112) :
    shapeCast S8x64x112x112 (X0 m d (Proc.devRef .tc main_v28) : S8x64x12544.Idx → EReal) hc
      = layer 3 224 64 112 (scaled (arg m d main_arg0)) (arg m d main_arg2) (arg m d main_arg3) :=
  (congrArg (fun y => shapeCast S8x64x112x112 y hc) (exit_out0 (E0 m) d)).trans (layerA (V0 m d) hc)

theorem after2 (hc : Shape.ShapeCasts S8x128x3136 S8x128x56x56) :
    shapeCast S8x128x56x56 (X1 m d (Proc.devRef .tc main_v53) : S8x128x3136.Idx → EReal) hc
      = layer 64 112 128 56 (layer 3 224 64 112 (scaled (arg m d main_arg0)) (arg m d main_arg2) (arg m d main_arg3)) (arg m d main_arg4) (arg m d main_arg5) := by
  refine (congrArg (fun y => shapeCast S8x128x56x56 y hc) (exit_out1 (E1 m) d)).trans ((layerB (X0 m d) hc).trans ?_)
  rw [after1 m d, arg_X0 m d (r := main_arg4) (by decide), arg_X0 m d (r := main_arg5) (by decide)]

theorem after3 (hc : Shape.ShapeCasts S8x256x784 S8x256x28x28) :
    shapeCast S8x256x28x28 (X2 m d (Proc.devRef .tc main_v78) : S8x256x784.Idx → EReal) hc
      = layer 128 56 256 28 (layer 64 112 128 56 (layer 3 224 64 112 (scaled (arg m d main_arg0)) (arg m d main_arg2) (arg m d main_arg3)) (arg m d main_arg4) (arg m d main_arg5))
          (arg m d main_arg6) (arg m d main_arg7) := by
  refine (congrArg (fun y => shapeCast S8x256x28x28 y hc) (exit_out2 (E2 m) d)).trans ((layerC (X1 m d) hc).trans ?_)
  rw [after2 m d, arg_X1 m d (r := main_arg6) (by decide), arg_X1 m d (r := main_arg7) (by decide)]

theorem z_X3 (hc : Shape.ShapeCasts S8x256x784 S8x256x28x28) :
    shapeCast S8x256x28x28 (X3 m d (Proc.devRef .tc main_v83) : S8x256x784.Idx → EReal) hc = zOf m d := by
  refine (congrArg (fun y => shapeCast S8x256x28x28 y hc) (exit_out3 (E3 m) d)).trans ((quantE (X2 m d) hc).trans ?_)
  rw [after3 m d, arg_X2 m d (r := main_arg8) (by decide), arg_X2 m d (r := main_arg9) (by decide)]
  rfl

/-! ## The tokens -/

theorem toks_X4 : X4 m d (Proc.devRef .tc main_v88) = out4 (E4 m d (Proc.devRef .tc main_v86)) (E4 m d (Proc.devRef .tc main_v87)) :=
  exit_out4 (E4 m) d

theorem toks_lt (j : S6400.Idx) : ((E5 m d iRef : S6400.Idx → BitVec 32) j).toNat < 8192 := by
  obtain ⟨k, rfl⟩ : ∃ k : Fin 6400, j = ix1 k := ⟨j 0, funext fun q => by match q with | ⟨0, _⟩ => rfl⟩
  have h := tokensH (X4 m d) _ (toks_X4 m d) k
  exact lt_of_eq_of_lt (congrArg BitVec.toNat h) (out4_lt _ _ _)

theorem toks_ok : (held₁ m).OK := fun d j => toks_lt m d j

theorem toks_E5 (k : Fin 6400) (hk : k.val < 6272) :
    (E5 m d iRef : S6400.Idx → BitVec 32) (ix1 k) = token (zOf m d) (arg m d main_arg1) ⟨k.val, hk⟩ := by
  refine (tokensH (X4 m d) _ (toks_X4 m d) k).trans ?_
  exact token_of _ _ _ _ (fun k hk c => (rowsG (X3 m d) k hk c shapeCasts_S8x256x784_S8x256x28x28).trans (congrArg (fun z => row z ⟨k.val, hk⟩ c) (z_X3 m d _)))
    (fun c j => (codesG (X3 m d) c j).trans (congrFun (arg_X3 m d (r := main_arg1) (by decide)) (ix2 j c))) k hk

/-! ## The results -/

theorem table_E5 : (E5 m d tRef : S8192x2x128.Idx → EReal) = shapeCast S8192x2x128 (arg m d main_arg1 : S8192x256.Idx → EReal) shapeCasts_S8192x256_S8192x2x128 := by
  have h : (after opsH (X4 m d) (Proc.devRef .tc main_v90) : S8192x2x128.Idx → EReal) = shapeCast S8192x2x128 (X4 m d (Proc.devRef .tc main_arg1) : S8192x256.Idx → EReal) shapeCasts_S8192x256_S8192x2x128 := by
    after_reads_simp
    rfl
  exact h.trans (congrArg (fun e => shapeCast S8192x2x128 e shapeCasts_S8192x256_S8192x2x128) (arg_X4 m d (r := main_arg1) (by decide)))

theorem rows_X5 : (X5 m d (Proc.devRef .tc main_v91) : S6400x2x128.Idx → EReal)
    = rowsOf (F := Ideal) (shapeCast S8192x2x128 (arg m d main_arg1 : S8192x256.Idx → EReal) shapeCasts_S8192x256_S8192x2x128) (E5 m d iRef) :=
  (Function.update_self _ _ _).trans (congrArg (fun t => rowsOf (F := Ideal) t (E5 m d iRef)) (table_E5 m d))

theorem result_zq : (END m d (Proc.devRef .tc main_v99) : S2x4x256x28x28.Idx → EReal) = quantized (zOf m d) (arg m d main_arg1) :=
  (resultT (X5 m d) _ _ (rows_X5 m d)).trans (quantized_of _ _ _ (toks_E5 m d))

theorem z_X5 : X5 m d (Proc.devRef .tc main_v83) = X3 m d (Proc.devRef .tc main_v83) :=
  (Function.update_of_ne (fun e => absurd (Proc.devRef_injective _ e) (show main_v83 ≠ main_v91 by decide)) _ _).trans
    ((after_unwritten writesH wroteH (by decide) (X4 m d)).trans
      ((exit_keeps4 (E4 m) d main_v83 (by decide)).trans (after_unwritten writesG wroteG (by decide) (X3 m d))))

theorem result_z : (END m d (Proc.devRef .tc main_v98) : S2x4x256x28x28.Idx → EReal) = spread (zOf m d) := by
  have h (W : Valuation τ sig (Elt Ideal)) : (after opsT W (Proc.devRef .tc main_v98) : S2x4x256x28x28.Idx → EReal)
      = shapeCast S2x4x256x28x28 (shapeCast S8x256x28x28 (W (Proc.devRef .tc main_v83) : S8x256x784.Idx → EReal) shapeCasts_S8x256x784_S8x256x28x28) shapeCasts_S8x256x28x28_S2x4x256x28x28 := by
    after_reads_simp
    rfl
  refine (h (X5 m d)).trans (congrArg (fun z => shapeCast S2x4x256x28x28 z shapeCasts_S8x256x28x28_S2x4x256x28x28) ?_)
  exact (congrArg (fun y => shapeCast S8x256x28x28 y shapeCasts_S8x256x784_S8x256x28x28) (z_X5 m d)).trans (z_X3 m d _)

end Cert.Proof.Encoder

end
-- ==== Proof.Encoder.RefOps.lean ====
/-
  The reference of the encoder and quantizer: its program as eleven straight lines of host operations, its run, and the
  buffers each line writes.
-/
module

public import proofs.«01_k».proof.Proof.Gen.EncoderReferenceIdeal
public import Idealize.ShloMosaic.Lib.StableHlo.RunRead
public import Idealize.ShloMosaic.Lib.Pipeline.Frame

@[expose] public section

noncomputable section

namespace Cert.Proof.EncoderPlain

open Cert.EncoderReferenceIdeal Cert.EncoderReferenceIdeal.Gen
open Idealize.ShloMosaic Idealize.ShloMosaic.TcCoe Idealize.SL.Sem Idealize.ShloMosaic.StableHlo

variable {F : FTy → Type} [FloatOps F]

/-- The input scaled and padded. -/
abbrev opsP1 : List (HloOp τ sig (Elt F)) :=
  [ nullary main_cst (constant S_ .f32 0x40000000#32),
    unary main_cst main_v0 (broadcastInDim S2x4x3x224x224 ![] bcast_S_S2x4x3x224x224 : (⟨S_, .f32⟩ : BufTy).Contents (Elt F) → (⟨S2x4x3x224x224, .f32⟩ : BufTy).Contents (Elt F)),
    binary main_arg0 main_v0 main_v1 (mulf : (⟨S2x4x3x224x224, .f32⟩ : BufTy).Contents (Elt F) → (⟨S2x4x3x224x224, .f32⟩ : BufTy).Contents (Elt F) → (⟨S2x4x3x224x224, .f32⟩ : BufTy).Contents (Elt F)),
    nullary main_cst_0 (constant S_ .f32 0x3F800000#32),
    unary main_cst_0 main_v2 (broadcastInDim S2x4x3x224x224 ![] bcast_S_S2x4x3x224x224 : (⟨S_, .f32⟩ : BufTy).Contents (Elt F) → (⟨S2x4x3x224x224, .f32⟩ : BufTy).Contents (Elt F)),
    binary main_v1 main_v2 main_v3 (subf : (⟨S2x4x3x224x224, .f32⟩ : BufTy).Contents (Elt F) → (⟨S2x4x3x224x224, .f32⟩ : BufTy).Contents (Elt F) → (⟨S2x4x3x224x224, .f32⟩ : BufTy).Contents (Elt F)),
    reshape main_v3 main_v4 (rfl : (.f32 : EltTy) = .f32) shapeCasts_S2x4x3x224x224_S8x3x224x224,
    nullary main_c (constantI S_ 32 0#32),
    TRef.unary (TRef.of (T := ⟨S_, .i32⟩) main_c) (TRef.of (T := ⟨S_, .f32⟩) main_call0_v0) (sitofp .f32),
    TRef.binary (TRef.of (T := ⟨S8x3x224x224, .f32⟩) main_v4) (TRef.of (T := ⟨S_, .f32⟩) main_call0_v0) (TRef.of (T := ⟨S8x3x225x225, .f32⟩) main_v5) (fun x v => pad S8x3x225x225 ![0, 0, 0, 0] ![0, 0, 1, 1] ![0, 0, 0, 0] x v pads_S8x3x224x224_S8x3x225x225_000_000_010_010 h_S_) ]
/-- The buffers they write, in order. -/
abbrev writesP1 : List (Ref sig .tc) := [main_cst, main_v0, main_v1, main_cst_0, main_v2, main_v3, main_v4, main_c, main_call0_v0, main_v5]

/-- The first layer. -/
abbrev opsL1 : List (HloOp τ sig (Elt F)) :=
  [ unary main_v5 main_v6 ((Host.slice S8x3x112x112 ![0, 0, 0, 0] ![1, 1, 2, 2] · slicesBy_S8x3x225x225_S8x3x112x112_0s1_0s1_0s2_0s2) : (⟨S8x3x225x225, .f32⟩ : BufTy).Contents (Elt F) → (⟨S8x3x112x112, .f32⟩ : BufTy).Contents (Elt F)),
    unary main_arg2 main_v7 ((extractStridedSlice S64x3x1x1 ![0, 0, 0, 0] · slices_S64x3x3x3_S64x3x1x1_0_0_0_0) : (⟨S64x3x3x3, .f32⟩ : BufTy).Contents (Elt F) → (⟨S64x3x1x1, .f32⟩ : BufTy).Contents (Elt F)),
    reshape main_v7 main_v8 (rfl : (.f32 : EltTy) = .f32) shapeCasts_S64x3x1x1_S64x3,
    binary main_v6 main_v8 main_v9 ((fun l r => Host.dotGeneral dot_S8x3x112x112_S64x3_S8x112x112x64_1_1_023_0_n_n none l r) : (⟨S8x3x112x112, .f32⟩ : BufTy).Contents (Elt F) → (⟨S64x3, .f32⟩ : BufTy).Contents (Elt F) → (⟨S8x112x112x64, .f32⟩ : BufTy).Contents (Elt F)),
    unary main_v9 main_v10 ((transpose S8x64x112x112 [0, 3, 1, 2] · transposes_S8x112x112x64_S8x64x112x112_0_3_1_2) : (⟨S8x112x112x64, .f32⟩ : BufTy).Contents (Elt F) → (⟨S8x64x112x112, .f32⟩ : BufTy).Contents (Elt F)),
    unary main_v5 main_v11 ((Host.slice S8x3x112x112 ![0, 0, 0, 1] ![1, 1, 2, 2] · slicesBy_S8x3x225x225_S8x3x112x112_0s1_0s1_0s2_1s2) : (⟨S8x3x225x225, .f32⟩ : BufTy).Contents (Elt F) → (⟨S8x3x112x112, .f32⟩ : BufTy).Contents (Elt F)),
    unary main_arg2 main_v12 ((extractStridedSlice S64x3x1x1 ![0, 0, 0, 1] · slices_S64x3x3x3_S64x3x1x1_0_0_0_1) : (⟨S64x3x3x3, .f32⟩ : BufTy).Contents (Elt F) → (⟨S64x3x1x1, .f32⟩ : BufTy).Contents (Elt F)),
    reshape main_v12 main_v13 (rfl : (.f32 : EltTy) = .f32) shapeCasts_S64x3x1x1_S64x3,
    binary main_v11 main_v13 main_v14 ((fun l r => Host.dotGeneral dot_S8x3x112x112_S64x3_S8x112x112x64_1_1_023_0_n_n none l r) : (⟨S8x3x112x112, .f32⟩ : BufTy).Contents (Elt F) → (⟨S64x3, .f32⟩ : BufTy).Contents (Elt F) → (⟨S8x112x112x64, .f32⟩ : BufTy).Contents (Elt F)),
    unary main_v14 main_v15 ((transpose S8x64x112x112 [0, 3, 1, 2] · transposes_S8x112x112x64_S8x64x112x112_0_3_1_2) : (⟨S8x112x112x64, .f32⟩ : BufTy).Contents (Elt F) → (⟨S8x64x112x112, .f32⟩ : BufTy).Contents (Elt F)),
    binary main_v10 main_v15 main_v16 (addf : (⟨S8x64x112x112, .f32⟩ : BufTy).Contents (Elt F) → (⟨S8x64x112x112, .f32⟩ : BufTy).Contents (Elt F) → (⟨S8x64x112x112, .f32⟩ : BufTy).Contents (Elt F)),
    unary main_v5 main_v17 ((Host.slice S8x3x112x112 ![0, 0, 0, 2] ![1, 1, 2, 2] · slicesBy_S8x3x225x225_S8x3x112x112_0s1_0s1_0s2_2s2) : (⟨S8x3x225x225, .f32⟩ : BufTy).Contents (Elt F) → (⟨S8x3x112x112, .f32⟩ : BufTy).Contents (Elt F)),
    unary main_arg2 main_v18 ((extractStridedSlice S64x3x1x1 ![0, 0, 0, 2] · slices_S64x3x3x3_S64x3x1x1_0_0_0_2) : (⟨S64x3x3x3, .f32⟩ : BufTy).Contents (Elt F) → (⟨S64x3x1x1, .f32⟩ : BufTy).Contents (Elt F)),
    reshape main_v18 main_v19 (rfl : (.f32 : EltTy) = .f32) shapeCasts_S64x3x1x1_S64x3,
    binary main_v17 main_v19 main_v20 ((fun l r => Host.dotGeneral dot_S8x3x112x112_S64x3_S8x112x112x64_1_1_023_0_n_n none l r) : (⟨S8x3x112x112, .f32⟩ : BufTy).Contents (Elt F) → (⟨S64x3, .f32⟩ : BufTy).Contents (Elt F) → (⟨S8x112x112x64, .f32⟩ : BufTy).Contents (Elt F)),
    unary main_v20 main_v21 ((transpose S8x64x112x112 [0, 3, 1, 2] · transposes_S8x112x112x64_S8x64x112x112_0_3_1_2) : (⟨S8x112x112x64, .f32⟩ : BufTy).Contents (Elt F) → (⟨S8x64x112x112, .f32⟩ : BufTy).Contents (Elt F)),
    binary main_v16 main_v21 main_v22 (addf : (⟨S8x64x112x112, .f32⟩ : BufTy).Contents (Elt F) → (⟨S8x64x112x112, .f32⟩ : BufTy).Contents (Elt F) → (⟨S8x64x112x112, .f32⟩ : BufTy).Contents (Elt F)),
    unary main_v5 main_v23 ((Host.slice S8x3x112x112 ![0, 0, 1, 0] ![1, 1, 2, 2] · slicesBy_S8x3x225x225_S8x3x112x112_0s1_0s1_1s2_0s2) : (⟨S8x3x225x225, .f32⟩ : BufTy).Contents (Elt F) → (⟨S8x3x112x112, .f32⟩ : BufTy).Contents (Elt F)),
    unary main_arg2 main_v24 ((extractStridedSlice S64x3x1x1 ![0, 0, 1, 0] · slices_S64x3x3x3_S64x3x1x1_0_0_1_0) : (⟨S64x3x3x3, .f32⟩ : BufTy).Contents (Elt F) → (⟨S64x3x1x1, .f32⟩ : BufTy).Contents (Elt F)),
    reshape main_v24 main_v25 (rfl : (.f32 : EltTy) = .f32) shapeCasts_S64x3x1x1_S64x3,
    binary main_v23 main_v25 main_v26 ((fun l r => Host.dotGeneral dot_S8x3x112x112_S64x3_S8x112x112x64_1_1_023_0_n_n none l r) : (⟨S8x3x112x112, .f32⟩ : BufTy).Contents (Elt F) → (⟨S64x3, .f32⟩ : BufTy).Contents (Elt F) → (⟨S8x112x112x64, .f32⟩ : BufTy).Contents (Elt F)),
    unary main_v26 main_v27 ((transpose S8x64x112x112 [0, 3, 1, 2] · transposes_S8x112x112x64_S8x64x112x112_0_3_1_2) : (⟨S8x112x112x64, .f32⟩ : BufTy).Contents (Elt F) → (⟨S8x64x112x112, .f32⟩ : BufTy).Contents (Elt F)),
    binary main_v22 main_v27 main_v28 (addf : (⟨S8x64x112x112, .f32⟩ : BufTy).Contents (Elt F) → (⟨S8x64x112x112, .f32⟩ : BufTy).Contents (Elt F) → (⟨S8x64x112x112, .f32⟩ : BufTy).Contents (Elt F)),
    unary main_v5 main_v29 ((Host.slice S8x3x112x112 ![0, 0, 1, 1] ![1, 1, 2, 2] · slicesBy_S8x3x225x225_S8x3x112x112_0s1_0s1_1s2_1s2) : (⟨S8x3x225x225, .f32⟩ : BufTy).Contents (Elt F) → (⟨S8x3x112x112, .f32⟩ : BufTy).Contents (Elt F)),
    unary main_arg2 main_v30 ((extractStridedSlice S64x3x1x1 ![0, 0, 1, 1] · slices_S64x3x3x3_S64x3x1x1_0_0_1_1) : (⟨S64x3x3x3, .f32⟩ : BufTy).Contents (Elt F) → (⟨S64x3x1x1, .f32⟩ : BufTy).Contents (Elt F)),
    reshape main_v30 main_v31 (rfl : (.f32 : EltTy) = .f32) shapeCasts_S64x3x1x1_S64x3,
    binary main_v29 main_v31 main_v32 ((fun l r => Host.dotGeneral dot_S8x3x112x112_S64x3_S8x112x112x64_1_1_023_0_n_n none l r) : (⟨S8x3x112x112, .f32⟩ : BufTy).Contents (Elt F) → (⟨S64x3, .f32⟩ : BufTy).Contents (Elt F) → (⟨S8x112x112x64, .f32⟩ : BufTy).Contents (Elt F)),
    unary main_v32 main_v33 ((transpose S8x64x112x112 [0, 3, 1, 2] · transposes_S8x112x112x64_S8x64x112x112_0_3_1_2) : (⟨S8x112x112x64, .f32⟩ : BufTy).Contents (Elt F) → (⟨S8x64x112x112, .f32⟩ : BufTy).Contents (Elt F)),
    binary main_v28 main_v33 main_v34 (addf : (⟨S8x64x112x112, .f32⟩ : BufTy).Contents (Elt F) → (⟨S8x64x112x112, .f32⟩ : BufTy).Contents (Elt F) → (⟨S8x64x112x112, .f32⟩ : BufTy).Contents (Elt F)),
    unary main_v5 main_v35 ((Host.slice S8x3x112x112 ![0, 0, 1, 2] ![1, 1, 2, 2] · slicesBy_S8x3x225x225_S8x3x112x112_0s1_0s1_1s2_2s2) : (⟨S8x3x225x225, .f32⟩ : BufTy).Contents (Elt F) → (⟨S8x3x112x112, .f32⟩ : BufTy).Contents (Elt F)),
    unary main_arg2 main_v36 ((extractStridedSlice S64x3x1x1 ![0, 0, 1, 2] · slices_S64x3x3x3_S64x3x1x1_0_0_1_2) : (⟨S64x3x3x3, .f32⟩ : BufTy).Contents (Elt F) → (⟨S64x3x1x1, .f32⟩ : BufTy).Contents (Elt F)),
    reshape main_v36 main_v37 (rfl : (.f32 : EltTy) = .f32) shapeCasts_S64x3x1x1_S64x3,
    binary main_v35 main_v37 main_v38 ((fun l r => Host.dotGeneral dot_S8x3x112x112_S64x3_S8x112x112x64_1_1_023_0_n_n none l r) : (⟨S8x3x112x112, .f32⟩ : BufTy).Contents (Elt F) → (⟨S64x3, .f32⟩ : BufTy).Contents (Elt F) → (⟨S8x112x112x64, .f32⟩ : BufTy).Contents (Elt F)),
    unary main_v38 main_v39 ((transpose S8x64x112x112 [0, 3, 1, 2] · transposes_S8x112x112x64_S8x64x112x112_0_3_1_2) : (⟨S8x112x112x64, .f32⟩ : BufTy).Contents (Elt F) → (⟨S8x64x112x112, .f32⟩ : BufTy).Contents (Elt F)),
    binary main_v34 main_v39 main_v40 (addf : (⟨S8x64x112x112, .f32⟩ : BufTy).Contents (Elt F) → (⟨S8x64x112x112, .f32⟩ : BufTy).Contents (Elt F) → (⟨S8x64x112x112, .f32⟩ : BufTy).Contents (Elt F)),
    unary main_v5 main_v41 ((Host.slice S8x3x112x112 ![0, 0, 2, 0] ![1, 1, 2, 2] · slicesBy_S8x3x225x225_S8x3x112x112_0s1_0s1_2s2_0s2) : (⟨S8x3x225x225, .f32⟩ : BufTy).Contents (Elt F) → (⟨S8x3x112x112, .f32⟩ : BufTy).Contents (Elt F)),
    unary main_arg2 main_v42 ((extractStridedSlice S64x3x1x1 ![0, 0, 2, 0] · slices_S64x3x3x3_S64x3x1x1_0_0_2_0) : (⟨S64x3x3x3, .f32⟩ : BufTy).Contents (Elt F) → (⟨S64x3x1x1, .f32⟩ : BufTy).Contents (Elt F)),
    reshape main_v42 main_v43 (rfl : (.f32 : EltTy) = .f32) shapeCasts_S64x3x1x1_S64x3,
    binary main_v41 main_v43 main_v44 ((fun l r => Host.dotGeneral dot_S8x3x112x112_S64x3_S8x112x112x64_1_1_023_0_n_n none l r) : (⟨S8x3x112x112, .f32⟩ : BufTy).Contents (Elt F) → (⟨S64x3, .f32⟩ : BufTy).Contents (Elt F) → (⟨S8x112x112x64, .f32⟩ : BufTy).Contents (Elt F)),
    unary main_v44 main_v45 ((transpose S8x64x112x112 [0, 3, 1, 2] · transposes_S8x112x112x64_S8x64x112x112_0_3_1_2) : (⟨S8x112x112x64, .f32⟩ : BufTy).Contents (Elt F) → (⟨S8x64x112x112, .f32⟩ : BufTy).Contents (Elt F)),
    binary main_v40 main_v45 main_v46 (addf : (⟨S8x64x112x112, .f32⟩ : BufTy).Contents (Elt F) → (⟨S8x64x112x112, .f32⟩ : BufTy).Contents (Elt F) → (⟨S8x64x112x112, .f32⟩ : BufTy).Contents (Elt F)),
    unary main_v5 main_v47 ((Host.slice S8x3x112x112 ![0, 0, 2, 1] ![1, 1, 2, 2] · slicesBy_S8x3x225x225_S8x3x112x112_0s1_0s1_2s2_1s2) : (⟨S8x3x225x225, .f32⟩ : BufTy).Contents (Elt F) → (⟨S8x3x112x112, .f32⟩ : BufTy).Contents (Elt F)),
    unary main_arg2 main_v48 ((extractStridedSlice S64x3x1x1 ![0, 0, 2, 1] · slices_S64x3x3x3_S64x3x1x1_0_0_2_1) : (⟨S64x3x3x3, .f32⟩ : BufTy).Contents (Elt F) → (⟨S64x3x1x1, .f32⟩ : BufTy).Contents (Elt F)),
    reshape main_v48 main_v49 (rfl : (.f32 : EltTy) = .f32) shapeCasts_S64x3x1x1_S64x3,
    binary main_v47 main_v49 main_v50 ((fun l r => Host.dotGeneral dot_S8x3x112x112_S64x3_S8x112x112x64_1_1_023_0_n_n none l r) : (⟨S8x3x112x112, .f32⟩ : BufTy).Contents (Elt F) → (⟨S64x3, .f32⟩ : BufTy).Contents (Elt F) → (⟨S8x112x112x64, .f32⟩ : BufTy).Contents (Elt F)),
    unary main_v50 main_v51 ((transpose S8x64x112x112 [0, 3, 1, 2] · transposes_S8x112x112x64_S8x64x112x112_0_3_1_2) : (⟨S8x112x112x64, .f32⟩ : BufTy).Contents (Elt F) → (⟨S8x64x112x112, .f32⟩ : BufTy).Contents (Elt F)),
    binary main_v46 main_v51 main_v52 (addf : (⟨S8x64x112x112, .f32⟩ : BufTy).Contents (Elt F) → (⟨S8x64x112x112, .f32⟩ : BufTy).Contents (Elt F) → (⟨S8x64x112x112, .f32⟩ : BufTy).Contents (Elt F)),
    unary main_v5 main_v53 ((Host.slice S8x3x112x112 ![0, 0, 2, 2] ![1, 1, 2, 2] · slicesBy_S8x3x225x225_S8x3x112x112_0s1_0s1_2s2_2s2) : (⟨S8x3x225x225, .f32⟩ : BufTy).Contents (Elt F) → (⟨S8x3x112x112, .f32⟩ : BufTy).Contents (Elt F)),
    unary main_arg2 main_v54 ((extractStridedSlice S64x3x1x1 ![0, 0, 2, 2] · slices_S64x3x3x3_S64x3x1x1_0_0_2_2) : (⟨S64x3x3x3, .f32⟩ : BufTy).Contents (Elt F) → (⟨S64x3x1x1, .f32⟩ : BufTy).Contents (Elt F)),
    reshape main_v54 main_v55 (rfl : (.f32 : EltTy) = .f32) shapeCasts_S64x3x1x1_S64x3,
    binary main_v53 main_v55 main_v56 ((fun l r => Host.dotGeneral dot_S8x3x112x112_S64x3_S8x112x112x64_1_1_023_0_n_n none l r) : (⟨S8x3x112x112, .f32⟩ : BufTy).Contents (Elt F) → (⟨S64x3, .f32⟩ : BufTy).Contents (Elt F) → (⟨S8x112x112x64, .f32⟩ : BufTy).Contents (Elt F)),
    unary main_v56 main_v57 ((transpose S8x64x112x112 [0, 3, 1, 2] · transposes_S8x112x112x64_S8x64x112x112_0_3_1_2) : (⟨S8x112x112x64, .f32⟩ : BufTy).Contents (Elt F) → (⟨S8x64x112x112, .f32⟩ : BufTy).Contents (Elt F)),
    binary main_v52 main_v57 main_v58 (addf : (⟨S8x64x112x112, .f32⟩ : BufTy).Contents (Elt F) → (⟨S8x64x112x112, .f32⟩ : BufTy).Contents (Elt F) → (⟨S8x64x112x112, .f32⟩ : BufTy).Contents (Elt F)),
    unary main_arg3 main_v59 (broadcastInDim S1x64x1x1 ![1] bcast_S64_S1x64x1x1_1 : (⟨S64, .f32⟩ : BufTy).Contents (Elt F) → (⟨S1x64x1x1, .f32⟩ : BufTy).Contents (Elt F)),
    unary main_v59 main_v60 (broadcastInDim S8x64x112x112 ![0, 1, 2, 3] bcast_S1x64x1x1_S8x64x112x112_0_1_2_3 : (⟨S1x64x1x1, .f32⟩ : BufTy).Contents (Elt F) → (⟨S8x64x112x112, .f32⟩ : BufTy).Contents (Elt F)),
    binary main_v58 main_v60 main_v61 (addf : (⟨S8x64x112x112, .f32⟩ : BufTy).Contents (Elt F) → (⟨S8x64x112x112, .f32⟩ : BufTy).Contents (Elt F) → (⟨S8x64x112x112, .f32⟩ : BufTy).Contents (Elt F)),
    nullary main_cst_1 (constant S_ .f32 0x00000000#32),
    unary main_cst_1 main_v62 (broadcastInDim S8x64x112x112 ![] bcast_S_S8x64x112x112 : (⟨S_, .f32⟩ : BufTy).Contents (Elt F) → (⟨S8x64x112x112, .f32⟩ : BufTy).Contents (Elt F)),
    binary main_v61 main_v62 main_v63 (maximumf : (⟨S8x64x112x112, .f32⟩ : BufTy).Contents (Elt F) → (⟨S8x64x112x112, .f32⟩ : BufTy).Contents (Elt F) → (⟨S8x64x112x112, .f32⟩ : BufTy).Contents (Elt F)) ]
/-- The buffers they write, in order. -/
abbrev writesL1 : List (Ref sig .tc) := [main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_cst_1, main_v62, main_v63]

/-- Padded. -/
abbrev opsP2 : List (HloOp τ sig (Elt F)) :=
  [ nullary main_c_2 (constantI S_ 32 0#32),
    TRef.unary (TRef.of (T := ⟨S_, .i32⟩) main_c_2) (TRef.of (T := ⟨S_, .f32⟩) main_call1_v0) (sitofp .f32),
    TRef.binary (TRef.of (T := ⟨S8x64x112x112, .f32⟩) main_v63) (TRef.of (T := ⟨S_, .f32⟩) main_call1_v0) (TRef.of (T := ⟨S8x64x113x113, .f32⟩) main_v64) (fun x v => pad S8x64x113x113 ![0, 0, 0, 0] ![0, 0, 1, 1] ![0, 0, 0, 0] x v pads_S8x64x112x112_S8x64x113x113_000_000_010_010 h_S_) ]
/-- The buffers they write, in order. -/
abbrev writesP2 : List (Ref sig .tc) := [main_c_2, main_call1_v0, main_v64]

/-- The second layer. -/
abbrev opsL2 : List (HloOp τ sig (Elt F)) :=
  [ unary main_v64 main_v65 ((Host.slice S8x64x56x56 ![0, 0, 0, 0] ![1, 1, 2, 2] · slicesBy_S8x64x113x113_S8x64x56x56_0s1_0s1_0s2_0s2) : (⟨S8x64x113x113, .f32⟩ : BufTy).Contents (Elt F) → (⟨S8x64x56x56, .f32⟩ : BufTy).Contents (Elt F)),
    unary main_arg4 main_v66 ((extractStridedSlice S128x64x1x1 ![0, 0, 0, 0] · slices_S128x64x3x3_S128x64x1x1_0_0_0_0) : (⟨S128x64x3x3, .f32⟩ : BufTy).Contents (Elt F) → (⟨S128x64x1x1, .f32⟩ : BufTy).Contents (Elt F)),
    reshape main_v66 main_v67 (rfl : (.f32 : EltTy) = .f32) shapeCasts_S128x64x1x1_S128x64,
    binary main_v65 main_v67 main_v68 ((fun l r => Host.dotGeneral dot_S8x64x56x56_S128x64_S8x56x56x128_1_1_023_0_n_n none l r) : (⟨S8x64x56x56, .f32⟩ : BufTy).Contents (Elt F) → (⟨S128x64, .f32⟩ : BufTy).Contents (Elt F) → (⟨S8x56x56x128, .f32⟩ : BufTy).Contents (Elt F)),
    unary main_v68 main_v69 ((transpose S8x128x56x56 [0, 3, 1, 2] · transposes_S8x56x56x128_S8x128x56x56_0_3_1_2) : (⟨S8x56x56x128, .f32⟩ : BufTy).Contents (Elt F) → (⟨S8x128x56x56, .f32⟩ : BufTy).Contents (Elt F)),
    unary main_v64 main_v70 ((Host.slice S8x64x56x56 ![0, 0, 0, 1] ![1, 1, 2, 2] · slicesBy_S8x64x113x113_S8x64x56x56_0s1_0s1_0s2_1s2) : (⟨S8x64x113x113, .f32⟩ : BufTy).Contents (Elt F) → (⟨S8x64x56x56, .f32⟩ : BufTy).Contents (Elt F)),
    unary main_arg4 main_v71 ((extractStridedSlice S128x64x1x1 ![0, 0, 0, 1] · slices_S128x64x3x3_S128x64x1x1_0_0_0_1) : (⟨S128x64x3x3, .f32⟩ : BufTy).Contents (Elt F) → (⟨S128x64x1x1, .f32⟩ : BufTy).Contents (Elt F)),
    reshape main_v71 main_v72 (rfl : (.f32 : EltTy) = .f32) shapeCasts_S128x64x1x1_S128x64,
    binary main_v70 main_v72 main_v73 ((fun l r => Host.dotGeneral dot_S8x64x56x56_S128x64_S8x56x56x128_1_1_023_0_n_n none l r) : (⟨S8x64x56x56, .f32⟩ : BufTy).Contents (Elt F) → (⟨S128x64, .f32⟩ : BufTy).Contents (Elt F) → (⟨S8x56x56x128, .f32⟩ : BufTy).Contents (Elt F)),
    unary main_v73 main_v74 ((transpose S8x128x56x56 [0, 3, 1, 2] · transposes_S8x56x56x128_S8x128x56x56_0_3_1_2) : (⟨S8x56x56x128, .f32⟩ : BufTy).Contents (Elt F) → (⟨S8x128x56x56, .f32⟩ : BufTy).Contents (Elt F)),
    binary main_v69 main_v74 main_v75 (addf : (⟨S8x128x56x56, .f32⟩ : BufTy).Contents (Elt F) → (⟨S8x128x56x56, .f32⟩ : BufTy).Contents (Elt F) → (⟨S8x128x56x56, .f32⟩ : BufTy).Contents (Elt F)),
    unary main_v64 main_v76 ((Host.slice S8x64x56x56 ![0, 0, 0, 2] ![1, 1, 2, 2] · slicesBy_S8x64x113x113_S8x64x56x56_0s1_0s1_0s2_2s2) : (⟨S8x64x113x113, .f32⟩ : BufTy).Contents (Elt F) → (⟨S8x64x56x56, .f32⟩ : BufTy).Contents (Elt F)),
    unary main_arg4 main_v77 ((extractStridedSlice S128x64x1x1 ![0, 0, 0, 2] · slices_S128x64x3x3_S128x64x1x1_0_0_0_2) : (⟨S128x64x3x3, .f32⟩ : BufTy).Contents (Elt F) → (⟨S128x64x1x1, .f32⟩ : BufTy).Contents (Elt F)),
    reshape main_v77 main_v78 (rfl : (.f32 : EltTy) = .f32) shapeCasts_S128x64x1x1_S128x64,
    binary main_v76 main_v78 main_v79 ((fun l r => Host.dotGeneral dot_S8x64x56x56_S128x64_S8x56x56x128_1_1_023_0_n_n none l r) : (⟨S8x64x56x56, .f32⟩ : BufTy).Contents (Elt F) → (⟨S128x64, .f32⟩ : BufTy).Contents (Elt F) → (⟨S8x56x56x128, .f32⟩ : BufTy).Contents (Elt F)),
    unary main_v79 main_v80 ((transpose S8x128x56x56 [0, 3, 1, 2] · transposes_S8x56x56x128_S8x128x56x56_0_3_1_2) : (⟨S8x56x56x128, .f32⟩ : BufTy).Contents (Elt F) → (⟨S8x128x56x56, .f32⟩ : BufTy).Contents (Elt F)),
    binary main_v75 main_v80 main_v81 (addf : (⟨S8x128x56x56, .f32⟩ : BufTy).Contents (Elt F) → (⟨S8x128x56x56, .f32⟩ : BufTy).Contents (Elt F) → (⟨S8x128x56x56, .f32⟩ : BufTy).Contents (Elt F)),
    unary main_v64 main_v82 ((Host.slice S8x64x56x56 ![0, 0, 1, 0] ![1, 1, 2, 2] · slicesBy_S8x64x113x113_S8x64x56x56_0s1_0s1_1s2_0s2) : (⟨S8x64x113x113, .f32⟩ : BufTy).Contents (Elt F) → (⟨S8x64x56x56, .f32⟩ : BufTy).Contents (Elt F)),
    unary main_arg4 main_v83 ((extractStridedSlice S128x64x1x1 ![0, 0, 1, 0] · slices_S128x64x3x3_S128x64x1x1_0_0_1_0) : (⟨S128x64x3x3, .f32⟩ : BufTy).Contents (Elt F) → (⟨S128x64x1x1, .f32⟩ : BufTy).Contents (Elt F)),
    reshape main_v83 main_v84 (rfl : (.f32 : EltTy) = .f32) shapeCasts_S128x64x1x1_S128x64,
    binary main_v82 main_v84 main_v85 ((fun l r => Host.dotGeneral dot_S8x64x56x56_S128x64_S8x56x56x128_1_1_023_0_n_n none l r) : (⟨S8x64x56x56, .f32⟩ : BufTy).Contents (Elt F) → (⟨S128x64, .f32⟩ : BufTy).Contents (Elt F) → (⟨S8x56x56x128, .f32⟩ : BufTy).Contents (Elt F)),
    unary main_v85 main_v86 ((transpose S8x128x56x56 [0, 3, 1, 2] · transposes_S8x56x56x128_S8x128x56x56_0_3_1_2) : (⟨S8x56x56x128, .f32⟩ : BufTy).Contents (Elt F) → (⟨S8x128x56x56, .f32⟩ : BufTy).Contents (Elt F)),
    binary main_v81 main_v86 main_v87 (addf : (⟨S8x128x56x56, .f32⟩ : BufTy).Contents (Elt F) → (⟨S8x128x56x56, .f32⟩ : BufTy).Contents (Elt F) → (⟨S8x128x56x56, .f32⟩ : BufTy).Contents (Elt F)),
    unary main_v64 main_v88 ((Host.slice S8x64x56x56 ![0, 0, 1, 1] ![1, 1, 2, 2] · slicesBy_S8x64x113x113_S8x64x56x56_0s1_0s1_1s2_1s2) : (⟨S8x64x113x113, .f32⟩ : BufTy).Contents (Elt F) → (⟨S8x64x56x56, .f32⟩ : BufTy).Contents (Elt F)),
    unary main_arg4 main_v89 ((extractStridedSlice S128x64x1x1 ![0, 0, 1, 1] · slices_S128x64x3x3_S128x64x1x1_0_0_1_1) : (⟨S128x64x3x3, .f32⟩ : BufTy).Contents (Elt F) → (⟨S128x64x1x1, .f32⟩ : BufTy).Contents (Elt F)),
    reshape main_v89 main_v90 (rfl : (.f32 : EltTy) = .f32) shapeCasts_S128x64x1x1_S128x64,
    binary main_v88 main_v90 main_v91 ((fun l r => Host.dotGeneral dot_S8x64x56x56_S128x64_S8x56x56x128_1_1_023_0_n_n none l r) : (⟨S8x64x56x56, .f32⟩ : BufTy).Contents (Elt F) → (⟨S128x64, .f32⟩ : BufTy).Contents (Elt F) → (⟨S8x56x56x128, .f32⟩ : BufTy).Contents (Elt F)),
    unary main_v91 main_v92 ((transpose S8x128x56x56 [0, 3, 1, 2] · transposes_S8x56x56x128_S8x128x56x56_0_3_1_2) : (⟨S8x56x56x128, .f32⟩ : BufTy).Contents (Elt F) → (⟨S8x128x56x56, .f32⟩ : BufTy).Contents (Elt F)),
    binary main_v87 main_v92 main_v93 (addf : (⟨S8x128x56x56, .f32⟩ : BufTy).Contents (Elt F) → (⟨S8x128x56x56, .f32⟩ : BufTy).Contents (Elt F) → (⟨S8x128x56x56, .f32⟩ : BufTy).Contents (Elt F)),
    unary main_v64 main_v94 ((Host.slice S8x64x56x56 ![0, 0, 1, 2] ![1, 1, 2, 2] · slicesBy_S8x64x113x113_S8x64x56x56_0s1_0s1_1s2_2s2) : (⟨S8x64x113x113, .f32⟩ : BufTy).Contents (Elt F) → (⟨S8x64x56x56, .f32⟩ : BufTy).Contents (Elt F)),
    unary main_arg4 main_v95 ((extractStridedSlice S128x64x1x1 ![0, 0, 1, 2] · slices_S128x64x3x3_S128x64x1x1_0_0_1_2) : (⟨S128x64x3x3, .f32⟩ : BufTy).Contents (Elt F) → (⟨S128x64x1x1, .f32⟩ : BufTy).Contents (Elt F)),
    reshape main_v95 main_v96 (rfl : (.f32 : EltTy) = .f32) shapeCasts_S128x64x1x1_S128x64,
    binary main_v94 main_v96 main_v97 ((fun l r => Host.dotGeneral dot_S8x64x56x56_S128x64_S8x56x56x128_1_1_023_0_n_n none l r) : (⟨S8x64x56x56, .f32⟩ : BufTy).Contents (Elt F) → (⟨S128x64, .f32⟩ : BufTy).Contents (Elt F) → (⟨S8x56x56x128, .f32⟩ : BufTy).Contents (Elt F)),
    unary main_v97 main_v98 ((transpose S8x128x56x56 [0, 3, 1, 2] · transposes_S8x56x56x128_S8x128x56x56_0_3_1_2) : (⟨S8x56x56x128, .f32⟩ : BufTy).Contents (Elt F) → (⟨S8x128x56x56, .f32⟩ : BufTy).Contents (Elt F)),
    binary main_v93 main_v98 main_v99 (addf : (⟨S8x128x56x56, .f32⟩ : BufTy).Contents (Elt F) → (⟨S8x128x56x56, .f32⟩ : BufTy).Contents (Elt F) → (⟨S8x128x56x56, .f32⟩ : BufTy).Contents (Elt F)),
    unary main_v64 main_v100 ((Host.slice S8x64x56x56 ![0, 0, 2, 0] ![1, 1, 2, 2] · slicesBy_S8x64x113x113_S8x64x56x56_0s1_0s1_2s2_0s2) : (⟨S8x64x113x113, .f32⟩ : BufTy).Contents (Elt F) → (⟨S8x64x56x56, .f32⟩ : BufTy).Contents (Elt F)),
    unary main_arg4 main_v101 ((extractStridedSlice S128x64x1x1 ![0, 0, 2, 0] · slices_S128x64x3x3_S128x64x1x1_0_0_2_0) : (⟨S128x64x3x3, .f32⟩ : BufTy).Contents (Elt F) → (⟨S128x64x1x1, .f32⟩ : BufTy).Contents (Elt F)),
    reshape main_v101 main_v102 (rfl : (.f32 : EltTy) = .f32) shapeCasts_S128x64x1x1_S128x64,
    binary main_v100 main_v102 main_v103 ((fun l r => Host.dotGeneral dot_S8x64x56x56_S128x64_S8x56x56x128_1_1_023_0_n_n none l r) : (⟨S8x64x56x56, .f32⟩ : BufTy).Contents (Elt F) → (⟨S128x64, .f32⟩ : BufTy).Contents (Elt F) → (⟨S8x56x56x128, .f32⟩ : BufTy).Contents (Elt F)),
    unary main_v103 main_v104 ((transpose S8x128x56x56 [0, 3, 1, 2] · transposes_S8x56x56x128_S8x128x56x56_0_3_1_2) : (⟨S8x56x56x128, .f32⟩ : BufTy).Contents (Elt F) → (⟨S8x128x56x56, .f32⟩ : BufTy).Contents (Elt F)),
    binary main_v99 main_v104 main_v105 (addf : (⟨S8x128x56x56, .f32⟩ : BufTy).Contents (Elt F) → (⟨S8x128x56x56, .f32⟩ : BufTy).Contents (Elt F) → (⟨S8x128x56x56, .f32⟩ : BufTy).Contents (Elt F)),
    unary main_v64 main_v106 ((Host.slice S8x64x56x56 ![0, 0, 2, 1] ![1, 1, 2, 2] · slicesBy_S8x64x113x113_S8x64x56x56_0s1_0s1_2s2_1s2) : (⟨S8x64x113x113, .f32⟩ : BufTy).Contents (Elt F) → (⟨S8x64x56x56, .f32⟩ : BufTy).Contents (Elt F)),
    unary main_arg4 main_v107 ((extractStridedSlice S128x64x1x1 ![0, 0, 2, 1] · slices_S128x64x3x3_S128x64x1x1_0_0_2_1) : (⟨S128x64x3x3, .f32⟩ : BufTy).Contents (Elt F) → (⟨S128x64x1x1, .f32⟩ : BufTy).Contents (Elt F)),
    reshape main_v107 main_v108 (rfl : (.f32 : EltTy) = .f32) shapeCasts_S128x64x1x1_S128x64,
    binary main_v106 main_v108 main_v109 ((fun l r => Host.dotGeneral dot_S8x64x56x56_S128x64_S8x56x56x128_1_1_023_0_n_n none l r) : (⟨S8x64x56x56, .f32⟩ : BufTy).Contents (Elt F) → (⟨S128x64, .f32⟩ : BufTy).Contents (Elt F) → (⟨S8x56x56x128, .f32⟩ : BufTy).Contents (Elt F)),
    unary main_v109 main_v110 ((transpose S8x128x56x56 [0, 3, 1, 2] · transposes_S8x56x56x128_S8x128x56x56_0_3_1_2) : (⟨S8x56x56x128, .f32⟩ : BufTy).Contents (Elt F) → (⟨S8x128x56x56, .f32⟩ : BufTy).Contents (Elt F)),
    binary main_v105 main_v110 main_v111 (addf : (⟨S8x128x56x56, .f32⟩ : BufTy).Contents (Elt F) → (⟨S8x128x56x56, .f32⟩ : BufTy).Contents (Elt F) → (⟨S8x128x56x56, .f32⟩ : BufTy).Contents (Elt F)),
    unary main_v64 main_v112 ((Host.slice S8x64x56x56 ![0, 0, 2, 2] ![1, 1, 2, 2] · slicesBy_S8x64x113x113_S8x64x56x56_0s1_0s1_2s2_2s2) : (⟨S8x64x113x113, .f32⟩ : BufTy).Contents (Elt F) → (⟨S8x64x56x56, .f32⟩ : BufTy).Contents (Elt F)),
    unary main_arg4 main_v113 ((extractStridedSlice S128x64x1x1 ![0, 0, 2, 2] · slices_S128x64x3x3_S128x64x1x1_0_0_2_2) : (⟨S128x64x3x3, .f32⟩ : BufTy).Contents (Elt F) → (⟨S128x64x1x1, .f32⟩ : BufTy).Contents (Elt F)),
    reshape main_v113 main_v114 (rfl : (.f32 : EltTy) = .f32) shapeCasts_S128x64x1x1_S128x64,
    binary main_v112 main_v114 main_v115 ((fun l r => Host.dotGeneral dot_S8x64x56x56_S128x64_S8x56x56x128_1_1_023_0_n_n none l r) : (⟨S8x64x56x56, .f32⟩ : BufTy).Contents (Elt F) → (⟨S128x64, .f32⟩ : BufTy).Contents (Elt F) → (⟨S8x56x56x128, .f32⟩ : BufTy).Contents (Elt F)),
    unary main_v115 main_v116 ((transpose S8x128x56x56 [0, 3, 1, 2] · transposes_S8x56x56x128_S8x128x56x56_0_3_1_2) : (⟨S8x56x56x128, .f32⟩ : BufTy).Contents (Elt F) → (⟨S8x128x56x56, .f32⟩ : BufTy).Contents (Elt F)),
    binary main_v111 main_v116 main_v117 (addf : (⟨S8x128x56x56, .f32⟩ : BufTy).Contents (Elt F) → (⟨S8x128x56x56, .f32⟩ : BufTy).Contents (Elt F) → (⟨S8x128x56x56, .f32⟩ : BufTy).Contents (Elt F)),
    unary main_arg5 main_v118 (broadcastInDim S1x128x1x1 ![1] bcast_S128_S1x128x1x1_1 : (⟨S128, .f32⟩ : BufTy).Contents (Elt F) → (⟨S1x128x1x1, .f32⟩ : BufTy).Contents (Elt F)),
    unary main_v118 main_v119 (broadcastInDim S8x128x56x56 ![0, 1, 2, 3] bcast_S1x128x1x1_S8x128x56x56_0_1_2_3 : (⟨S1x128x1x1, .f32⟩ : BufTy).Contents (Elt F) → (⟨S8x128x56x56, .f32⟩ : BufTy).Contents (Elt F)),
    binary main_v117 main_v119 main_v120 (addf : (⟨S8x128x56x56, .f32⟩ : BufTy).Contents (Elt F) → (⟨S8x128x56x56, .f32⟩ : BufTy).Contents (Elt F) → (⟨S8x128x56x56, .f32⟩ : BufTy).Contents (Elt F)),
    nullary main_cst_3 (constant S_ .f32 0x00000000#32),
    unary main_cst_3 main_v121 (broadcastInDim S8x128x56x56 ![] bcast_S_S8x128x56x56 : (⟨S_, .f32⟩ : BufTy).Contents (Elt F) → (⟨S8x128x56x56, .f32⟩ : BufTy).Contents (Elt F)),
    binary main_v120 main_v121 main_v122 (maximumf : (⟨S8x128x56x56, .f32⟩ : BufTy).Contents (Elt F) → (⟨S8x128x56x56, .f32⟩ : BufTy).Contents (Elt F) → (⟨S8x128x56x56, .f32⟩ : BufTy).Contents (Elt F)) ]
/-- The buffers they write, in order. -/
abbrev writesL2 : List (Ref sig .tc) := [main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_cst_3, main_v121, main_v122]

/-- Padded. -/
abbrev opsP3 : List (HloOp τ sig (Elt F)) :=
  [ nullary main_c_4 (constantI S_ 32 0#32),
    TRef.unary (TRef.of (T := ⟨S_, .i32⟩) main_c_4) (TRef.of (T := ⟨S_, .f32⟩) main_call2_v0) (sitofp .f32),
    TRef.binary (TRef.of (T := ⟨S8x128x56x56, .f32⟩) main_v122) (TRef.of (T := ⟨S_, .f32⟩) main_call2_v0) (TRef.of (T := ⟨S8x128x57x57, .f32⟩) main_v123) (fun x v => pad S8x128x57x57 ![0, 0, 0, 0] ![0, 0, 1, 1] ![0, 0, 0, 0] x v pads_S8x128x56x56_S8x128x57x57_000_000_010_010 h_S_) ]
/-- The buffers they write, in order. -/
abbrev writesP3 : List (Ref sig .tc) := [main_c_4, main_call2_v0, main_v123]

/-- The third layer. -/
abbrev opsL3 : List (HloOp τ sig (Elt F)) :=
  [ unary main_v123 main_v124 ((Host.slice S8x128x28x28 ![0, 0, 0, 0] ![1, 1, 2, 2] · slicesBy_S8x128x57x57_S8x128x28x28_0s1_0s1_0s2_0s2) : (⟨S8x128x57x57, .f32⟩ : BufTy).Contents (Elt F) → (⟨S8x128x28x28, .f32⟩ : BufTy).Contents (Elt F)),
    unary main_arg6 main_v125 ((extractStridedSlice S256x128x1x1 ![0, 0, 0, 0] · slices_S256x128x3x3_S256x128x1x1_0_0_0_0) : (⟨S256x128x3x3, .f32⟩ : BufTy).Contents (Elt F) → (⟨S256x128x1x1, .f32⟩ : BufTy).Contents (Elt F)),
    reshape main_v125 main_v126 (rfl : (.f32 : EltTy) = .f32) shapeCasts_S256x128x1x1_S256x128,
    binary main_v124 main_v126 main_v127 ((fun l r => Host.dotGeneral dot_S8x128x28x28_S256x128_S8x28x28x256_1_1_023_0_n_n none l r) : (⟨S8x128x28x28, .f32⟩ : BufTy).Contents (Elt F) → (⟨S256x128, .f32⟩ : BufTy).Contents (Elt F) → (⟨S8x28x28x256, .f32⟩ : BufTy).Contents (Elt F)),
    unary main_v127 main_v128 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    unary main_v123 main_v129 ((Host.slice S8x128x28x28 ![0, 0, 0, 1] ![1, 1, 2, 2] · slicesBy_S8x128x57x57_S8x128x28x28_0s1_0s1_0s2_1s2) : (⟨S8x128x57x57, .f32⟩ : BufTy).Contents (Elt F) → (⟨S8x128x28x28, .f32⟩ : BufTy).Contents (Elt F)),
    unary main_arg6 main_v130 ((extractStridedSlice S256x128x1x1 ![0, 0, 0, 1] · slices_S256x128x3x3_S256x128x1x1_0_0_0_1) : (⟨S256x128x3x3, .f32⟩ : BufTy).Contents (Elt F) → (⟨S256x128x1x1, .f32⟩ : BufTy).Contents (Elt F)),
    reshape main_v130 main_v131 (rfl : (.f32 : EltTy) = .f32) shapeCasts_S256x128x1x1_S256x128,
    binary main_v129 main_v131 main_v132 ((fun l r => Host.dotGeneral dot_S8x128x28x28_S256x128_S8x28x28x256_1_1_023_0_n_n none l r) : (⟨S8x128x28x28, .f32⟩ : BufTy).Contents (Elt F) → (⟨S256x128, .f32⟩ : BufTy).Contents (Elt F) → (⟨S8x28x28x256, .f32⟩ : BufTy).Contents (Elt F)),
    unary main_v132 main_v133 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    binary main_v128 main_v133 main_v134 (addf : (⟨S8x256x28x28, .f32⟩ : BufTy).Contents (Elt F) → (⟨S8x256x28x28, .f32⟩ : BufTy).Contents (Elt F) → (⟨S8x256x28x28, .f32⟩ : BufTy).Contents (Elt F)),
    unary main_v123 main_v135 ((Host.slice S8x128x28x28 ![0, 0, 0, 2] ![1, 1, 2, 2] · slicesBy_S8x128x57x57_S8x128x28x28_0s1_0s1_0s2_2s2) : (⟨S8x128x57x57, .f32⟩ : BufTy).Contents (Elt F) → (⟨S8x128x28x28, .f32⟩ : BufTy).Contents (Elt F)),
    unary main_arg6 main_v136 ((extractStridedSlice S256x128x1x1 ![0, 0, 0, 2] · slices_S256x128x3x3_S256x128x1x1_0_0_0_2) : (⟨S256x128x3x3, .f32⟩ : BufTy).Contents (Elt F) → (⟨S256x128x1x1, .f32⟩ : BufTy).Contents (Elt F)),
    reshape main_v136 main_v137 (rfl : (.f32 : EltTy) = .f32) shapeCasts_S256x128x1x1_S256x128,
    binary main_v135 main_v137 main_v138 ((fun l r => Host.dotGeneral dot_S8x128x28x28_S256x128_S8x28x28x256_1_1_023_0_n_n none l r) : (⟨S8x128x28x28, .f32⟩ : BufTy).Contents (Elt F) → (⟨S256x128, .f32⟩ : BufTy).Contents (Elt F) → (⟨S8x28x28x256, .f32⟩ : BufTy).Contents (Elt F)),
    unary main_v138 main_v139 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    binary main_v134 main_v139 main_v140 (addf : (⟨S8x256x28x28, .f32⟩ : BufTy).Contents (Elt F) → (⟨S8x256x28x28, .f32⟩ : BufTy).Contents (Elt F) → (⟨S8x256x28x28, .f32⟩ : BufTy).Contents (Elt F)),
    unary main_v123 main_v141 ((Host.slice S8x128x28x28 ![0, 0, 1, 0] ![1, 1, 2, 2] · slicesBy_S8x128x57x57_S8x128x28x28_0s1_0s1_1s2_0s2) : (⟨S8x128x57x57, .f32⟩ : BufTy).Contents (Elt F) → (⟨S8x128x28x28, .f32⟩ : BufTy).Contents (Elt F)),
    unary main_arg6 main_v142 ((extractStridedSlice S256x128x1x1 ![0, 0, 1, 0] · slices_S256x128x3x3_S256x128x1x1_0_0_1_0) : (⟨S256x128x3x3, .f32⟩ : BufTy).Contents (Elt F) → (⟨S256x128x1x1, .f32⟩ : BufTy).Contents (Elt F)),
    reshape main_v142 main_v143 (rfl : (.f32 : EltTy) = .f32) shapeCasts_S256x128x1x1_S256x128,
    binary main_v141 main_v143 main_v144 ((fun l r => Host.dotGeneral dot_S8x128x28x28_S256x128_S8x28x28x256_1_1_023_0_n_n none l r) : (⟨S8x128x28x28, .f32⟩ : BufTy).Contents (Elt F) → (⟨S256x128, .f32⟩ : BufTy).Contents (Elt F) → (⟨S8x28x28x256, .f32⟩ : BufTy).Contents (Elt F)),
    unary main_v144 main_v145 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    binary main_v140 main_v145 main_v146 (addf : (⟨S8x256x28x28, .f32⟩ : BufTy).Contents (Elt F) → (⟨S8x256x28x28, .f32⟩ : BufTy).Contents (Elt F) → (⟨S8x256x28x28, .f32⟩ : BufTy).Contents (Elt F)),
    unary main_v123 main_v147 ((Host.slice S8x128x28x28 ![0, 0, 1, 1] ![1, 1, 2, 2] · slicesBy_S8x128x57x57_S8x128x28x28_0s1_0s1_1s2_1s2) : (⟨S8x128x57x57, .f32⟩ : BufTy).Contents (Elt F) → (⟨S8x128x28x28, .f32⟩ : BufTy).Contents (Elt F)),
    unary main_arg6 main_v148 ((extractStridedSlice S256x128x1x1 ![0, 0, 1, 1] · slices_S256x128x3x3_S256x128x1x1_0_0_1_1) : (⟨S256x128x3x3, .f32⟩ : BufTy).Contents (Elt F) → (⟨S256x128x1x1, .f32⟩ : BufTy).Contents (Elt F)),
    reshape main_v148 main_v149 (rfl : (.f32 : EltTy) = .f32) shapeCasts_S256x128x1x1_S256x128,
    binary main_v147 main_v149 main_v150 ((fun l r => Host.dotGeneral dot_S8x128x28x28_S256x128_S8x28x28x256_1_1_023_0_n_n none l r) : (⟨S8x128x28x28, .f32⟩ : BufTy).Contents (Elt F) → (⟨S256x128, .f32⟩ : BufTy).Contents (Elt F) → (⟨S8x28x28x256, .f32⟩ : BufTy).Contents (Elt F)),
    unary main_v150 main_v151 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    binary main_v146 main_v151 main_v152 (addf : (⟨S8x256x28x28, .f32⟩ : BufTy).Contents (Elt F) → (⟨S8x256x28x28, .f32⟩ : BufTy).Contents (Elt F) → (⟨S8x256x28x28, .f32⟩ : BufTy).Contents (Elt F)),
    unary main_v123 main_v153 ((Host.slice S8x128x28x28 ![0, 0, 1, 2] ![1, 1, 2, 2] · slicesBy_S8x128x57x57_S8x128x28x28_0s1_0s1_1s2_2s2) : (⟨S8x128x57x57, .f32⟩ : BufTy).Contents (Elt F) → (⟨S8x128x28x28, .f32⟩ : BufTy).Contents (Elt F)),
    unary main_arg6 main_v154 ((extractStridedSlice S256x128x1x1 ![0, 0, 1, 2] · slices_S256x128x3x3_S256x128x1x1_0_0_1_2) : (⟨S256x128x3x3, .f32⟩ : BufTy).Contents (Elt F) → (⟨S256x128x1x1, .f32⟩ : BufTy).Contents (Elt F)),
    reshape main_v154 main_v155 (rfl : (.f32 : EltTy) = .f32) shapeCasts_S256x128x1x1_S256x128,
    binary main_v153 main_v155 main_v156 ((fun l r => Host.dotGeneral dot_S8x128x28x28_S256x128_S8x28x28x256_1_1_023_0_n_n none l r) : (⟨S8x128x28x28, .f32⟩ : BufTy).Contents (Elt F) → (⟨S256x128, .f32⟩ : BufTy).Contents (Elt F) → (⟨S8x28x28x256, .f32⟩ : BufTy).Contents (Elt F)),
    unary main_v156 main_v157 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    binary main_v152 main_v157 main_v158 (addf : (⟨S8x256x28x28, .f32⟩ : BufTy).Contents (Elt F) → (⟨S8x256x28x28, .f32⟩ : BufTy).Contents (Elt F) → (⟨S8x256x28x28, .f32⟩ : BufTy).Contents (Elt F)),
    unary main_v123 main_v159 ((Host.slice S8x128x28x28 ![0, 0, 2, 0] ![1, 1, 2, 2] · slicesBy_S8x128x57x57_S8x128x28x28_0s1_0s1_2s2_0s2) : (⟨S8x128x57x57, .f32⟩ : BufTy).Contents (Elt F) → (⟨S8x128x28x28, .f32⟩ : BufTy).Contents (Elt F)),
    unary main_arg6 main_v160 ((extractStridedSlice S256x128x1x1 ![0, 0, 2, 0] · slices_S256x128x3x3_S256x128x1x1_0_0_2_0) : (⟨S256x128x3x3, .f32⟩ : BufTy).Contents (Elt F) → (⟨S256x128x1x1, .f32⟩ : BufTy).Contents (Elt F)),
    reshape main_v160 main_v161 (rfl : (.f32 : EltTy) = .f32) shapeCasts_S256x128x1x1_S256x128,
    binary main_v159 main_v161 main_v162 ((fun l r => Host.dotGeneral dot_S8x128x28x28_S256x128_S8x28x28x256_1_1_023_0_n_n none l r) : (⟨S8x128x28x28, .f32⟩ : BufTy).Contents (Elt F) → (⟨S256x128, .f32⟩ : BufTy).Contents (Elt F) → (⟨S8x28x28x256, .f32⟩ : BufTy).Contents (Elt F)),
    unary main_v162 main_v163 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    binary main_v158 main_v163 main_v164 (addf : (⟨S8x256x28x28, .f32⟩ : BufTy).Contents (Elt F) → (⟨S8x256x28x28, .f32⟩ : BufTy).Contents (Elt F) → (⟨S8x256x28x28, .f32⟩ : BufTy).Contents (Elt F)),
    unary main_v123 main_v165 ((Host.slice S8x128x28x28 ![0, 0, 2, 1] ![1, 1, 2, 2] · slicesBy_S8x128x57x57_S8x128x28x28_0s1_0s1_2s2_1s2) : (⟨S8x128x57x57, .f32⟩ : BufTy).Contents (Elt F) → (⟨S8x128x28x28, .f32⟩ : BufTy).Contents (Elt F)),
    unary main_arg6 main_v166 ((extractStridedSlice S256x128x1x1 ![0, 0, 2, 1] · slices_S256x128x3x3_S256x128x1x1_0_0_2_1) : (⟨S256x128x3x3, .f32⟩ : BufTy).Contents (Elt F) → (⟨S256x128x1x1, .f32⟩ : BufTy).Contents (Elt F)),
    reshape main_v166 main_v167 (rfl : (.f32 : EltTy) = .f32) shapeCasts_S256x128x1x1_S256x128,
    binary main_v165 main_v167 main_v168 ((fun l r => Host.dotGeneral dot_S8x128x28x28_S256x128_S8x28x28x256_1_1_023_0_n_n none l r) : (⟨S8x128x28x28, .f32⟩ : BufTy).Contents (Elt F) → (⟨S256x128, .f32⟩ : BufTy).Contents (Elt F) → (⟨S8x28x28x256, .f32⟩ : BufTy).Contents (Elt F)),
    unary main_v168 main_v169 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    binary main_v164 main_v169 main_v170 (addf : (⟨S8x256x28x28, .f32⟩ : BufTy).Contents (Elt F) → (⟨S8x256x28x28, .f32⟩ : BufTy).Contents (Elt F) → (⟨S8x256x28x28, .f32⟩ : BufTy).Contents (Elt F)),
    unary main_v123 main_v171 ((Host.slice S8x128x28x28 ![0, 0, 2, 2] ![1, 1, 2, 2] · slicesBy_S8x128x57x57_S8x128x28x28_0s1_0s1_2s2_2s2) : (⟨S8x128x57x57, .f32⟩ : BufTy).Contents (Elt F) → (⟨S8x128x28x28, .f32⟩ : BufTy).Contents (Elt F)),
    unary main_arg6 main_v172 ((extractStridedSlice S256x128x1x1 ![0, 0, 2, 2] · slices_S256x128x3x3_S256x128x1x1_0_0_2_2) : (⟨S256x128x3x3, .f32⟩ : BufTy).Contents (Elt F) → (⟨S256x128x1x1, .f32⟩ : BufTy).Contents (Elt F)),
    reshape main_v172 main_v173 (rfl : (.f32 : EltTy) = .f32) shapeCasts_S256x128x1x1_S256x128,
    binary main_v171 main_v173 main_v174 ((fun l r => Host.dotGeneral dot_S8x128x28x28_S256x128_S8x28x28x256_1_1_023_0_n_n none l r) : (⟨S8x128x28x28, .f32⟩ : BufTy).Contents (Elt F) → (⟨S256x128, .f32⟩ : BufTy).Contents (Elt F) → (⟨S8x28x28x256, .f32⟩ : BufTy).Contents (Elt F)),
    unary main_v174 main_v175 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    binary main_v170 main_v175 main_v176 (addf : (⟨S8x256x28x28, .f32⟩ : BufTy).Contents (Elt F) → (⟨S8x256x28x28, .f32⟩ : BufTy).Contents (Elt F) → (⟨S8x256x28x28, .f32⟩ : BufTy).Contents (Elt F)),
    unary main_arg7 main_v177 (broadcastInDim S1x256x1x1 ![1] bcast_S256_S1x256x1x1_1 : (⟨S256, .f32⟩ : BufTy).Contents (Elt F) → (⟨S1x256x1x1, .f32⟩ : BufTy).Contents (Elt F)),
    unary main_v177 main_v178 (broadcastInDim S8x256x28x28 ![0, 1, 2, 3] bcast_S1x256x1x1_S8x256x28x28_0_1_2_3 : (⟨S1x256x1x1, .f32⟩ : BufTy).Contents (Elt F) → (⟨S8x256x28x28, .f32⟩ : BufTy).Contents (Elt F)),
    binary main_v176 main_v178 main_v179 (addf : (⟨S8x256x28x28, .f32⟩ : BufTy).Contents (Elt F) → (⟨S8x256x28x28, .f32⟩ : BufTy).Contents (Elt F) → (⟨S8x256x28x28, .f32⟩ : BufTy).Contents (Elt F)),
    nullary main_cst_5 (constant S_ .f32 0x00000000#32),
    unary main_cst_5 main_v180 (broadcastInDim S8x256x28x28 ![] bcast_S_S8x256x28x28 : (⟨S_, .f32⟩ : BufTy).Contents (Elt F) → (⟨S8x256x28x28, .f32⟩ : BufTy).Contents (Elt F)),
    binary main_v179 main_v180 main_v181 (maximumf : (⟨S8x256x28x28, .f32⟩ : BufTy).Contents (Elt F) → (⟨S8x256x28x28, .f32⟩ : BufTy).Contents (Elt F) → (⟨S8x256x28x28, .f32⟩ : BufTy).Contents (Elt F)) ]
/-- The buffers they write, in order. -/
abbrev writesL3 : List (Ref sig .tc) := [main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_cst_5, main_v180, main_v181]

/-- The 1x1 layer. -/
abbrev opsQ : List (HloOp τ sig (Elt F)) :=
  [ reshape main_arg8 main_v182 (rfl : (.f32 : EltTy) = .f32) shapeCasts_S256x256x1x1_S256x256,
    binary main_v181 main_v182 main_v183 ((fun l r => Host.dotGeneral dot_S8x256x28x28_S256x256_S8x28x28x256_1_1_023_0_n_n none l r) : (⟨S8x256x28x28, .f32⟩ : BufTy).Contents (Elt F) → (⟨S256x256, .f32⟩ : BufTy).Contents (Elt F) → (⟨S8x28x28x256, .f32⟩ : BufTy).Contents (Elt F)),
    unary main_v183 main_v184 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    unary main_arg9 main_v185 (broadcastInDim S1x256x1x1 ![1] bcast_S256_S1x256x1x1_1 : (⟨S256, .f32⟩ : BufTy).Contents (Elt F) → (⟨S1x256x1x1, .f32⟩ : BufTy).Contents (Elt F)),
    unary main_v185 main_v186 (broadcastInDim S8x256x28x28 ![0, 1, 2, 3] bcast_S1x256x1x1_S8x256x28x28_0_1_2_3 : (⟨S1x256x1x1, .f32⟩ : BufTy).Contents (Elt F) → (⟨S8x256x28x28, .f32⟩ : BufTy).Contents (Elt F)),
    binary main_v184 main_v186 main_v187 (addf : (⟨S8x256x28x28, .f32⟩ : BufTy).Contents (Elt F) → (⟨S8x256x28x28, .f32⟩ : BufTy).Contents (Elt F) → (⟨S8x256x28x28, .f32⟩ : BufTy).Contents (Elt F)) ]
/-- The buffers they write, in order. -/
abbrev writesQ : List (Ref sig .tc) := [main_v182, main_v183, main_v184, main_v185, main_v186, main_v187]

/-- The squared distances of every row to every codebook row. -/
abbrev opsD : List (HloOp τ sig (Elt F)) :=
  [ unary main_v187 main_v188 ((transpose S8x28x28x256 [0, 2, 3, 1] · transposes_S8x256x28x28_S8x28x28x256_0_2_3_1) : (⟨S8x256x28x28, .f32⟩ : BufTy).Contents (Elt F) → (⟨S8x28x28x256, .f32⟩ : BufTy).Contents (Elt F)),
    reshape main_v188 main_v189 (rfl : (.f32 : EltTy) = .f32) shapeCasts_S8x28x28x256_S6272x256,
    binary main_v189 main_v189 main_v190 (mulf : (⟨S6272x256, .f32⟩ : BufTy).Contents (Elt F) → (⟨S6272x256, .f32⟩ : BufTy).Contents (Elt F) → (⟨S6272x256, .f32⟩ : BufTy).Contents (Elt F)),
    nullary main_cst_6 (constant S_ .f32 0x00000000#32),
    binary main_v190 main_cst_6 main_v191 ((fun x v => Host.reduceAdd x v reducesTo_S6272x256_S6272_d1 h_S_) : (⟨S6272x256, .f32⟩ : BufTy).Contents (Elt F) → (⟨S_, .f32⟩ : BufTy).Contents (Elt F) → (⟨S6272, .f32⟩ : BufTy).Contents (Elt F)),
    unary main_v191 main_v192 (broadcastInDim S6272x1 ![0] bcast_S6272_S6272x1_0 : (⟨S6272, .f32⟩ : BufTy).Contents (Elt F) → (⟨S6272x1, .f32⟩ : BufTy).Contents (Elt F)),
    binary main_arg1 main_arg1 main_v193 (mulf : (⟨S8192x256, .f32⟩ : BufTy).Contents (Elt F) → (⟨S8192x256, .f32⟩ : BufTy).Contents (Elt F) → (⟨S8192x256, .f32⟩ : BufTy).Contents (Elt F)),
    nullary main_cst_7 (constant S_ .f32 0x00000000#32),
    binary main_v193 main_cst_7 main_v194 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v194 main_v195 (broadcastInDim S1x8192 ![1] bcast_S8192_S1x8192_1 : (⟨S8192, .f32⟩ : BufTy).Contents (Elt F) → (⟨S1x8192, .f32⟩ : BufTy).Contents (Elt F)),
    unary main_v192 main_v196 (broadcastInDim S6272x8192 ![0, 1] bcast_S6272x1_S6272x8192_0_1 : (⟨S6272x1, .f32⟩ : BufTy).Contents (Elt F) → (⟨S6272x8192, .f32⟩ : BufTy).Contents (Elt F)),
    unary main_v195 main_v197 (broadcastInDim S6272x8192 ![0, 1] bcast_S1x8192_S6272x8192_0_1 : (⟨S1x8192, .f32⟩ : BufTy).Contents (Elt F) → (⟨S6272x8192, .f32⟩ : BufTy).Contents (Elt F)),
    binary main_v196 main_v197 main_v198 (addf : (⟨S6272x8192, .f32⟩ : BufTy).Contents (Elt F) → (⟨S6272x8192, .f32⟩ : BufTy).Contents (Elt F) → (⟨S6272x8192, .f32⟩ : BufTy).Contents (Elt F)),
    unary main_arg1 main_v199 ((transpose S256x8192 [1, 0] · transposes_S8192x256_S256x8192_1_0) : (⟨S8192x256, .f32⟩ : BufTy).Contents (Elt F) → (⟨S256x8192, .f32⟩ : BufTy).Contents (Elt F)),
    binary main_v189 main_v199 main_v200 ((fun l r => Host.dotGeneral dot_S6272x256_S256x8192_S6272x8192_1_0_0_1_n_n none l r) : (⟨S6272x256, .f32⟩ : BufTy).Contents (Elt F) → (⟨S256x8192, .f32⟩ : BufTy).Contents (Elt F) → (⟨S6272x8192, .f32⟩ : BufTy).Contents (Elt F)),
    nullary main_cst_8 (constant S_ .f32 0x40000000#32),
    unary main_cst_8 main_v201 (broadcastInDim S6272x8192 ![] bcast_S_S6272x8192 : (⟨S_, .f32⟩ : BufTy).Contents (Elt F) → (⟨S6272x8192, .f32⟩ : BufTy).Contents (Elt F)),
    binary main_v201 main_v200 main_v202 (mulf : (⟨S6272x8192, .f32⟩ : BufTy).Contents (Elt F) → (⟨S6272x8192, .f32⟩ : BufTy).Contents (Elt F) → (⟨S6272x8192, .f32⟩ : BufTy).Contents (Elt F)),
    binary main_v198 main_v202 main_v203 (subf : (⟨S6272x8192, .f32⟩ : BufTy).Contents (Elt F) → (⟨S6272x8192, .f32⟩ : BufTy).Contents (Elt F) → (⟨S6272x8192, .f32⟩ : BufTy).Contents (Elt F)) ]
/-- The buffers they write, in order. -/
abbrev writesD : List (Ref sig .tc) := [main_v188, main_v189, main_v190, main_cst_6, main_v191, main_v192, main_v193, main_cst_7, main_v194, main_v195, main_v196, main_v197, main_v198, main_v199, main_v200, main_cst_8, main_v201, main_v202, main_v203]

/-- The nearest codebook row's number. -/
abbrev opsA : List (HloOp τ sig (Elt F)) :=
  [ TRef.nullary (TRef.of (T := ⟨S6272x8192, .i32⟩) main_call3_v0) (iotaInDim S6272x8192 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S6272x8192, .f32⟩) main_v203) (TRef.of (T := ⟨S6272x8192, .i32⟩) main_call3_v0) (TRef.of (T := ⟨S_, .f32⟩) main_call3_cst) (TRef.of (T := ⟨S_, .i32⟩) main_call3_c) (TRef.of (T := ⟨S6272, .f32⟩) main_call3_v1_0) (fun x y u v j => (Host.argReduce reducer_argmin_f32_i32 x y u v reducesTo_S6272x8192_S6272_d1 h_S_ j).1),
    TRef.quaternary (TRef.of (T := ⟨S6272x8192, .f32⟩) main_v203) (TRef.of (T := ⟨S6272x8192, .i32⟩) main_call3_v0) (TRef.of (T := ⟨S_, .f32⟩) main_call3_cst) (TRef.of (T := ⟨S_, .i32⟩) main_call3_c) (TRef.of (T := ⟨S6272, .i32⟩) main_v204) (fun x y u v j => (Host.argReduce reducer_argmin_f32_i32 x y u v reducesTo_S6272x8192_S6272_d1 h_S_ j).2) ]
/-- The buffers they write, in order. -/
abbrev writesA : List (Ref sig .tc) := [main_call3_v0, main_call3_cst, main_call3_c, main_call3_v1_0, main_v204]

/-- The rows the numbers name. -/
abbrev opsK : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S6272, .i32⟩) main_call4_v0) (broadcastInDim S6272 ![] bcast_S_S6272),
    TRef.binary (TRef.of (T := ⟨S6272, .i32⟩) main_v204) (TRef.of (T := ⟨S6272, .i32⟩) main_call4_v0) (TRef.of (T := ⟨S6272, .i1⟩) main_call4_v1) (cmpi .slt),
    TRef.nullary (TRef.of (T := ⟨S_, .i32⟩) main_call4_c_0) (constantI S_ 32 8192#32),
    TRef.unary (TRef.of (T := ⟨S_, .i32⟩) main_call4_c_0) (TRef.of (T := ⟨S6272, .i32⟩) main_call4_v2) (broadcastInDim S6272 ![] bcast_S_S6272),
    TRef.binary (TRef.of (T := ⟨S6272, .i32⟩) main_v204) (TRef.of (T := ⟨S6272, .i32⟩) main_call4_v2) (TRef.of (T := ⟨S6272, .i32⟩) main_call4_v3) addi,
    TRef.ternary (TRef.of (T := ⟨S6272, .i1⟩) main_call4_v1) (TRef.of (T := ⟨S6272, .i32⟩) main_call4_v3) (TRef.of (T := ⟨S6272, .i32⟩) main_v204) (TRef.of (T := ⟨S6272, .i32⟩) main_call4_v4) select,
    TRef.unary (TRef.of (T := ⟨S6272, .i32⟩) main_call4_v4) (TRef.of (T := ⟨S6272x1, .i32⟩) main_call4_v5) (broadcastInDim S6272x1 ![0] bcast_S6272_S6272x1_0),
    TRef.nullary (TRef.of (T := ⟨S1, .i32⟩) main_call4_c_1) (constantI S1 32 8191#32),
    TRef.nullary (TRef.of (T := ⟨S_, .i32⟩) main_call4_c_2) (constantI S_ 32 0#32),
    TRef.unary (TRef.of (T := ⟨S_, .i32⟩) main_call4_c_2) (TRef.of (T := ⟨S6272x1, .i32⟩) main_call4_v6) (broadcastInDim S6272x1 ![] bcast_S_S6272x1),
    TRef.binary (TRef.of (T := ⟨S6272x1, .i32⟩) main_call4_v5) (TRef.of (T := ⟨S6272x1, .i32⟩) main_call4_v6) (TRef.of (T := ⟨S6272x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S6272x1, .i32⟩) main_call4_v9) (broadcastInDim S6272x1 ![0, 1] bcast_S1x1_S6272x1_0_1),
    TRef.binary (TRef.of (T := ⟨S6272x1, .i32⟩) main_call4_v5) (TRef.of (T := ⟨S6272x1, .i32⟩) main_call4_v9) (TRef.of (T := ⟨S6272x1, .i1⟩) main_call4_v10) (cmpi .sle),
    TRef.binary (TRef.of (T := ⟨S6272x1, .i1⟩) main_call4_v7) (TRef.of (T := ⟨S6272x1, .i1⟩) main_call4_v10) (TRef.of (T := ⟨S6272x1, .i1⟩) main_call4_v11) andi,
    TRef.nullary (TRef.of (T := ⟨S_, .i1⟩) main_call4_c_3) (constantI S_ 1 1#1),
    TRef.binary (TRef.of (T := ⟨S6272x1, .i1⟩) main_call4_v11) (TRef.of (T := ⟨S_, .i1⟩) main_call4_c_3) (TRef.of (T := ⟨S6272, .i1⟩) main_call4_v12) (fun x v => Host.reduce IntOp.andi x v reducesTo_S6272x1_S6272_d1 h_S_),
    TRef.binary (TRef.of (T := ⟨S8192x256, .f32⟩) main_arg1) (TRef.of (T := ⟨S6272x1, .i32⟩) main_call4_v5) (TRef.of (T := ⟨S6272x256, .f32⟩) main_call4_v13) (fun x i => Host.gather gather_S8192x256_S6272x1_S6272x256_1_0_n_n_0_1_1256 x i),
    TRef.unary (TRef.of (T := ⟨S6272, .i1⟩) main_call4_v12) (TRef.of (T := ⟨S6272x256, .i1⟩) main_call4_v14) (broadcastInDim S6272x256 ![0] bcast_S6272_S6272x256_0),
    TRef.nullary (TRef.of (T := ⟨S_, .f32⟩) main_call4_cst) (constant S_ .f32 0x7FC00000#32),
    TRef.unary (TRef.of (T := ⟨S_, .f32⟩) main_call4_cst) (TRef.of (T := ⟨S6272x256, .f32⟩) main_call4_v15) (broadcastInDim S6272x256 ![] bcast_S_S6272x256),
    TRef.ternary (TRef.of (T := ⟨S6272x256, .i1⟩) main_call4_v14) (TRef.of (T := ⟨S6272x256, .f32⟩) main_call4_v13) (TRef.of (T := ⟨S6272x256, .f32⟩) main_call4_v15) (TRef.of (T := ⟨S6272x256, .f32⟩) main_v205) select ]
/-- The buffers they write, in order. -/
abbrev writesK : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v205]

/-- The layout of the two results. -/
abbrev opsT : List (HloOp τ sig (Elt F)) :=
  [ reshape main_v205 main_v206 (rfl : (.f32 : EltTy) = .f32) shapeCasts_S6272x256_S8x28x28x256,
    unary main_v206 main_v207 ((transpose S8x256x28x28 [0, 3, 1, 2] · transposes_S8x28x28x256_S8x256x28x28_0_3_1_2) : (⟨S8x28x28x256, .f32⟩ : BufTy).Contents (Elt F) → (⟨S8x256x28x28, .f32⟩ : BufTy).Contents (Elt F)),
    reshape main_v187 main_v208 (rfl : (.f32 : EltTy) = .f32) shapeCasts_S8x256x28x28_S2x4x256x28x28,
    reshape main_v207 main_v209 (rfl : (.f32 : EltTy) = .f32) shapeCasts_S8x256x28x28_S2x4x256x28x28 ]
/-- The buffers they write, in order. -/
abbrev writesT : List (Ref sig .tc) := [main_v206, main_v207, main_v208, main_v209]

/-- The whole program. -/
abbrev ops : List (HloOp τ sig (Elt F)) := opsP1 ++ (opsL1 ++ (opsP2 ++ (opsL2 ++ (opsP3 ++ (opsL3 ++ (opsQ ++ (opsD ++ (opsA ++ (opsK ++ (opsT))))))))))

set_option maxRecDepth 16384 in
set_option maxHeartbeats 4000000 in
theorem main_eq (d : Dev nD) : main (F := F) d = seq ops := rfl

theorem scopedRefs_eq : (Finset.univ.filter fun b : Ref sig .tc => b.isScoped) = ∅ := by decide
theorem scopedSems_eq : (Finset.univ.filter fun sm : SemLoc sig => sm.isScoped .tc) = ∅ := by decide

theorem subP1 : (opsP1 : List (HloOp τ sig (Elt F))).Forall fun op => op.bufs ⊆ tcRefs τ sig :=
  ⟨nullary_bufs_sub .., unary_bufs_sub .., binary_bufs_sub .., nullary_bufs_sub .., unary_bufs_sub .., binary_bufs_sub .., reshape_bufs_sub .., nullary_bufs_sub .., unary_bufs_sub .., binary_bufs_sub ..⟩
theorem freshP1 : ∀ op ∈ (opsP1 : List (HloOp τ sig (Elt F))), op.fresh = ∅ := by
  intro _ h; (repeat (cases h with | head => rfl | tail _ h => ?_)); exact nomatch h
theorem wroteP1 : (opsP1 : List (HloOp τ sig (Elt F))).map HloOp.writes = writesP1.map fun w => {Proc.devRef (τ := τ) .tc w} := rfl

theorem subL1 : (opsL1 : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩
theorem freshL1 : ∀ op ∈ (opsL1 : List (HloOp τ sig (Elt F))), op.fresh = ∅ := by
  intro _ h; (repeat (cases h with | head => rfl | tail _ h => ?_)); exact nomatch h
theorem wroteL1 : (opsL1 : List (HloOp τ sig (Elt F))).map HloOp.writes = writesL1.map fun w => {Proc.devRef (τ := τ) .tc w} := rfl

theorem subP2 : (opsP2 : List (HloOp τ sig (Elt F))).Forall fun op => op.bufs ⊆ tcRefs τ sig :=
  ⟨nullary_bufs_sub .., unary_bufs_sub .., binary_bufs_sub ..⟩
theorem freshP2 : ∀ op ∈ (opsP2 : List (HloOp τ sig (Elt F))), op.fresh = ∅ := by
  intro _ h; (repeat (cases h with | head => rfl | tail _ h => ?_)); exact nomatch h
theorem wroteP2 : (opsP2 : List (HloOp τ sig (Elt F))).map HloOp.writes = writesP2.map fun w => {Proc.devRef (τ := τ) .tc w} := rfl

theorem subL2 : (opsL2 : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩
theorem freshL2 : ∀ op ∈ (opsL2 : List (HloOp τ sig (Elt F))), op.fresh = ∅ := by
  intro _ h; (repeat (cases h with | head => rfl | tail _ h => ?_)); exact nomatch h
theorem wroteL2 : (opsL2 : List (HloOp τ sig (Elt F))).map HloOp.writes = writesL2.map fun w => {Proc.devRef (τ := τ) .tc w} := rfl

theorem subP3 : (opsP3 : List (HloOp τ sig (Elt F))).Forall fun op => op.bufs ⊆ tcRefs τ sig :=
  ⟨nullary_bufs_sub .., unary_bufs_sub .., binary_bufs_sub ..⟩
theorem freshP3 : ∀ op ∈ (opsP3 : List (HloOp τ sig (Elt F))), op.fresh = ∅ := by
  intro _ h; (repeat (cases h with | head => rfl | tail _ h => ?_)); exact nomatch h
theorem wroteP3 : (opsP3 : List (HloOp τ sig (Elt F))).map HloOp.writes = writesP3.map fun w => {Proc.devRef (τ := τ) .tc w} := rfl

theorem subL3 : (opsL3 : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩
theorem freshL3 : ∀ op ∈ (opsL3 : List (HloOp τ sig (Elt F))), op.fresh = ∅ := by
  intro _ h; (repeat (cases h with | head => rfl | tail _ h => ?_)); exact nomatch h
theorem wroteL3 : (opsL3 : List (HloOp τ sig (Elt F))).map HloOp.writes = writesL3.map fun w => {Proc.devRef (τ := τ) .tc w} := rfl

theorem subQ : (opsQ : List (HloOp τ sig (Elt F))).Forall fun op => op.bufs ⊆ tcRefs τ sig :=
  ⟨reshape_bufs_sub .., binary_bufs_sub .., unary_bufs_sub .., unary_bufs_sub .., unary_bufs_sub .., binary_bufs_sub ..⟩
theorem freshQ : ∀ op ∈ (opsQ : List (HloOp τ sig (Elt F))), op.fresh = ∅ := by
  intro _ h; (repeat (cases h with | head => rfl | tail _ h => ?_)); exact nomatch h
theorem wroteQ : (opsQ : List (HloOp τ sig (Elt F))).map HloOp.writes = writesQ.map fun w => {Proc.devRef (τ := τ) .tc w} := rfl

theorem subD : (opsD : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
theorem freshD : ∀ op ∈ (opsD : List (HloOp τ sig (Elt F))), op.fresh = ∅ := by
  intro _ h; (repeat (cases h with | head => rfl | tail _ h => ?_)); exact nomatch h
theorem wroteD : (opsD : List (HloOp τ sig (Elt F))).map HloOp.writes = writesD.map fun w => {Proc.devRef (τ := τ) .tc w} := rfl

theorem subA : (opsA : List (HloOp τ sig (Elt F))).Forall fun op => op.bufs ⊆ tcRefs τ sig :=
  ⟨nullary_bufs_sub .., nullary_bufs_sub .., nullary_bufs_sub .., quaternary_bufs_sub .., quaternary_bufs_sub ..⟩
theorem freshA : ∀ op ∈ (opsA : List (HloOp τ sig (Elt F))), op.fresh = ∅ := by
  intro _ h; (repeat (cases h with | head => rfl | tail _ h => ?_)); exact nomatch h
theorem wroteA : (opsA : List (HloOp τ sig (Elt F))).map HloOp.writes = writesA.map fun w => {Proc.devRef (τ := τ) .tc w} := rfl

theorem subK : (opsK : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshK : ∀ op ∈ (opsK : List (HloOp τ sig (Elt F))), op.fresh = ∅ := by
  intro _ h; (repeat (cases h with | head => rfl | tail _ h => ?_)); exact nomatch h
theorem wroteK : (opsK : List (HloOp τ sig (Elt F))).map HloOp.writes = writesK.map fun w => {Proc.devRef (τ := τ) .tc w} := rfl

theorem subT : (opsT : List (HloOp τ sig (Elt F))).Forall fun op => op.bufs ⊆ tcRefs τ sig :=
  ⟨reshape_bufs_sub .., unary_bufs_sub .., reshape_bufs_sub .., reshape_bufs_sub ..⟩
theorem freshT : ∀ op ∈ (opsT : List (HloOp τ sig (Elt F))), op.fresh = ∅ := by
  intro _ h; (repeat (cases h with | head => rfl | tail _ h => ?_)); exact nomatch h
theorem wroteT : (opsT : List (HloOp τ sig (Elt F))).map HloOp.writes = writesT.map fun w => {Proc.devRef (τ := τ) .tc w} := rfl

theorem sub_append {a b : List (HloOp τ sig (Elt F))} (ha : a.Forall fun op => op.bufs ⊆ tcRefs τ sig) (hb : b.Forall fun op => op.bufs ⊆ tcRefs τ sig) :
    (a ++ b).Forall fun op => op.bufs ⊆ tcRefs τ sig :=
  List.forall_iff_forall_mem.mpr fun op h => (List.mem_append.mp h).elim (List.forall_iff_forall_mem.mp ha op) (List.forall_iff_forall_mem.mp hb op)
theorem fresh_append {a b : List (HloOp τ sig (Elt F))} (ha : ∀ op ∈ a, op.fresh = ∅) (hb : ∀ op ∈ b, op.fresh = ∅) : ∀ op ∈ a ++ b, op.fresh = ∅ :=
  fun op h => (List.mem_append.mp h).elim (ha op) (hb op)

theorem ops_sub : (ops : List (HloOp τ sig (Elt F))).Forall fun op => op.bufs ⊆ tcRefs τ sig :=
  sub_append subP1 (sub_append subL1 (sub_append subP2 (sub_append subL2 (sub_append subP3 (sub_append subL3 (sub_append subQ (sub_append subD (sub_append subA (sub_append subK subT)))))))))
theorem ops_fresh : ∀ op ∈ (ops : List (HloOp τ sig (Elt F))), op.fresh = ∅ :=
  fresh_append freshP1 (fresh_append freshL1 (fresh_append freshP2 (fresh_append freshL2 (fresh_append freshP3 (fresh_append freshL3 (fresh_append freshQ (fresh_append freshD (fresh_append freshA (fresh_append freshK freshT)))))))))

/-- The run: every buffer ends at what the operations make of the launch's memory. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.Proof.EncoderPlain

end
-- ==== Proof.Encoder.RefLayers.lean ====
/-
  The reference's layers and quantizer: what its straight lines compute, entry by entry, over the extended reals.
-/
module

public import proofs.«01_k».proof.Proof.Encoder.RefOps
public import proofs.«01_k».proof.Proof.Encoder.Taps

@[expose] public section

set_option maxRecDepth 16384

noncomputable section

namespace Cert.Proof.EncoderPlain

open Cert.EncoderReferenceIdeal Cert.EncoderReferenceIdeal.Gen
open Idealize.ShloMosaic Idealize.ShloMosaic.TcCoe Idealize.ShloMosaic.StableHlo Cert.Proof.Plain

variable (W : Valuation τ sig (Elt Ideal))

theorem add_at {s : Shape} (a b : s.Idx → EReal) (j : s.Idx) : (addf (F := Ideal) (φ := .f32) a b : s.Idx → EReal) j = a j + b j := rfl
theorem max_at {s : Shape} (a b : s.Idx → EReal) (j : s.Idx) : (maximumf (F := Ideal) (φ := .f32) a b : s.Idx → EReal) j = max (a j) (b j) := rfl

/-! ## Layer 1 -/

theorem dot1 (l : S8x3x112x112.Idx → EReal) (r : S64x3.Idx → EReal) (n : Fin 8) (o : Fin 64) (a b : Fin 112) :
    (Host.dotGeneral (F := Ideal) (φ₁ := .f32) (φ₂ := .f32) dot_S8x3x112x112_S64x3_S8x112x112x64_1_1_023_0_n_n none l r : S8x112x112x64.Idx → EReal) (ix4 n a b o)
      = ∑ c, l (ix4 n c a b) * r (ix2 o c) := by
  pointwise []

theorem term1 (x : S8x3x112x112.Idx → EReal) (w : S64x3x3x3.Idx → EReal) (kh kw : ℕ) (hh : kh < 3) (hw : kw < 3)
    (h : Shape.Slices S64x3x3x3 ![0, 0, kh, kw] S64x3x1x1) (n : Fin 8) (o : Fin 64) (a b : Fin 112) :
    transpose S8x64x112x112 [0, 3, 1, 2] (Host.dotGeneral (F := Ideal) (φ₁ := .f32) (φ₂ := .f32) dot_S8x3x112x112_S64x3_S8x112x112x64_1_1_023_0_n_n none x
        (shapeCast S64x3 (extractStridedSlice S64x3x1x1 ![0, 0, kh, kw] w h) shapeCasts_S64x3x1x1_S64x3) : S8x112x112x64.Idx → EReal)
      transposes_S8x112x112x64_S8x64x112x112_0_3_1_2 (ix4 n o a b) = ∑ c, x (ix4 n c a b) * w (ix4 o c ⟨kh, hh⟩ ⟨kw, hw⟩) := by
  refine (transpose_apply _ _ _ _ (ix4 n a b o) fun q => ?_).trans ?_
  · match q with
    | ⟨0, _⟩ => rfl
    | ⟨1, _⟩ => rfl
    | ⟨2, _⟩ => rfl
    | ⟨3, _⟩ => rfl
  rw [dot1]
  refine Finset.sum_congr rfl fun c _ => congrArg (x (ix4 n c a b) * ·) ?_
  refine (shapeCast_apply _ _ _ (ix4 o c (0 : Fin 1) (0 : Fin 1)) ?_).trans ?_
  · rw [Shape.rowMajor_val_four, Shape.rowMajor_val_two]
    show ((o.val * 3 + c.val) * 1 + 0) * 1 + 0 = o.val * 3 + c.val
    omega
  exact extractStridedSlice_apply _ _ _ _ _ fun q => by
    match q with
    | ⟨0, _⟩ => exact (Nat.zero_add _).symm
    | ⟨1, _⟩ => exact (Nat.zero_add _).symm
    | ⟨2, _⟩ => rfl
    | ⟨3, _⟩ => rfl

theorem bias1 (b : S64.Idx → EReal) (n : Fin 8) (o : Fin 64) (a a' : Fin 112) :
    broadcastInDim S8x64x112x112 ![0, 1, 2, 3] bcast_S1x64x1x1_S8x64x112x112_0_1_2_3 (broadcastInDim S1x64x1x1 ![1] bcast_S64_S1x64x1x1_1 b) (ix4 n o a a') = b (ix1 o) := by
  pointwise []

set_option maxHeartbeats 2000000 in
/-- The layer's output, from the array whose padding it reads. -/
theorem layer1 (x : S8x3x224x224.Idx → EReal) {u : Shape} (v : u.Idx → EReal) (hu : 0 < u.numel) (hv : v (Shape.Idx.first hu) = 0)
    (hp : Shape.Pads S8x3x224x224 ![0, 0, 0, 0] ![0, 0, 1, 1] ![0, 0, 0, 0] S8x3x225x225)
    (hx : (W (Proc.devRef (τ := τ) .tc main_v5) : S8x3x225x225.Idx → EReal) = pad S8x3x225x225 ![0, 0, 0, 0] ![0, 0, 1, 1] ![0, 0, 0, 0] x v hp hu) :
    (after opsL1 W (Proc.devRef (τ := τ) .tc main_v63) : S8x64x112x112.Idx → EReal)
      = layer 3 224 64 112 x (W (Proc.devRef (τ := τ) .tc main_arg2)) (W (Proc.devRef (τ := τ) .tc main_arg3)) := by
  after_reads_simp
  rw [hx]
  funext y
  obtain ⟨n, o, a, b, rfl⟩ : ∃ (n : Fin 8) (o : Fin 64) (a b : Fin 112), y = ix4 n o a b := ⟨y 0, y 1, y 2, y 3, ValueIdx.eq_ix4 y⟩
  have hT := fun (kh kw : ℕ) (hh : kh < 3) (hw : kw < 3) (h : Shape.Slices S64x3x3x3 ![0, 0, kh, kw] S64x3x1x1)
      (hs : Shape.SlicesBy S8x3x225x225 ![0, 0, kh, kw] ![1, 1, 2, 2] S8x3x112x112) =>
    (term1 (Host.slice S8x3x112x112 ![0, 0, kh, kw] ![1, 1, 2, 2] (pad S8x3x225x225 ![0, 0, 0, 0] ![0, 0, 1, 1] ![0, 0, 0, 0] x v hp hu) hs)
      (W (Proc.devRef (τ := τ) .tc main_arg2)) kh kw hh hw h n o a b).trans
      (Finset.sum_congr rfl fun c _ => congrArg (· * (W (Proc.devRef (τ := τ) .tc main_arg2) : S64x3x3x3.Idx → EReal) (ix4 o c ⟨kh, hh⟩ ⟨kw, hw⟩)) (tap_apply x v hu hv hp hs n c a b))
  unfold layer cell
  rw [← sum_nine]
  refine congrArg₂ max (congrArg₂ (· + ·) ?_ (bias1 _ n o a b)) (Ideal.ofBits_zero .f32)
  exact congrArg₂ (· + ·) (congrArg₂ (· + ·) (congrArg₂ (· + ·) (congrArg₂ (· + ·) (congrArg₂ (· + ·) (congrArg₂ (· + ·) (congrArg₂ (· + ·) (congrArg₂ (· + ·)
    (hT 0 0 (by decide) (by decide) _ _) (hT 0 1 (by decide) (by decide) _ _)) (hT 0 2 (by decide) (by decide) _ _)) (hT 1 0 (by decide) (by decide) _ _)) (hT 1 1 (by decide) (by decide) _ _))
    (hT 1 2 (by decide) (by decide) _ _)) (hT 2 0 (by decide) (by decide) _ _)) (hT 2 1 (by decide) (by decide) _ _)) (hT 2 2 (by decide) (by decide) _ _)

/-! ## Layer 2 -/

theorem dot2 (l : S8x64x56x56.Idx → EReal) (r : S128x64.Idx → EReal) (n : Fin 8) (o : Fin 128) (a b : Fin 56) :
    (Host.dotGeneral (F := Ideal) (φ₁ := .f32) (φ₂ := .f32) dot_S8x64x56x56_S128x64_S8x56x56x128_1_1_023_0_n_n none l r : S8x56x56x128.Idx → EReal) (ix4 n a b o)
      = ∑ c, l (ix4 n c a b) * r (ix2 o c) := by
  pointwise []

theorem term2 (x : S8x64x56x56.Idx → EReal) (w : S128x64x3x3.Idx → EReal) (kh kw : ℕ) (hh : kh < 3) (hw : kw < 3)
    (h : Shape.Slices S128x64x3x3 ![0, 0, kh, kw] S128x64x1x1) (n : Fin 8) (o : Fin 128) (a b : Fin 56) :
    transpose S8x128x56x56 [0, 3, 1, 2] (Host.dotGeneral (F := Ideal) (φ₁ := .f32) (φ₂ := .f32) dot_S8x64x56x56_S128x64_S8x56x56x128_1_1_023_0_n_n none x
        (shapeCast S128x64 (extractStridedSlice S128x64x1x1 ![0, 0, kh, kw] w h) shapeCasts_S128x64x1x1_S128x64) : S8x56x56x128.Idx → EReal)
      transposes_S8x56x56x128_S8x128x56x56_0_3_1_2 (ix4 n o a b) = ∑ c, x (ix4 n c a b) * w (ix4 o c ⟨kh, hh⟩ ⟨kw, hw⟩) := by
  refine (transpose_apply _ _ _ _ (ix4 n a b o) fun q => ?_).trans ?_
  · match q with
    | ⟨0, _⟩ => rfl
    | ⟨1, _⟩ => rfl
    | ⟨2, _⟩ => rfl
    | ⟨3, _⟩ => rfl
  rw [dot2]
  refine Finset.sum_congr rfl fun c _ => congrArg (x (ix4 n c a b) * ·) ?_
  refine (shapeCast_apply _ _ _ (ix4 o c (0 : Fin 1) (0 : Fin 1)) ?_).trans ?_
  · rw [Shape.rowMajor_val_four, Shape.rowMajor_val_two]
    show ((o.val * 64 + c.val) * 1 + 0) * 1 + 0 = o.val * 64 + c.val
    omega
  exact extractStridedSlice_apply _ _ _ _ _ fun q => by
    match q with
    | ⟨0, _⟩ => exact (Nat.zero_add _).symm
    | ⟨1, _⟩ => exact (Nat.zero_add _).symm
    | ⟨2, _⟩ => rfl
    | ⟨3, _⟩ => rfl

theorem bias2 (b : S128.Idx → EReal) (n : Fin 8) (o : Fin 128) (a a' : Fin 56) :
    broadcastInDim S8x128x56x56 ![0, 1, 2, 3] bcast_S1x128x1x1_S8x128x56x56_0_1_2_3 (broadcastInDim S1x128x1x1 ![1] bcast_S128_S1x128x1x1_1 b) (ix4 n o a a') = b (ix1 o) := by
  pointwise []

set_option maxHeartbeats 2000000 in
/-- The layer's output, from the array whose padding it reads. -/
theorem layer2 (x : S8x64x112x112.Idx → EReal) {u : Shape} (v : u.Idx → EReal) (hu : 0 < u.numel) (hv : v (Shape.Idx.first hu) = 0)
    (hp : Shape.Pads S8x64x112x112 ![0, 0, 0, 0] ![0, 0, 1, 1] ![0, 0, 0, 0] S8x64x113x113)
    (hx : (W (Proc.devRef (τ := τ) .tc main_v64) : S8x64x113x113.Idx → EReal) = pad S8x64x113x113 ![0, 0, 0, 0] ![0, 0, 1, 1] ![0, 0, 0, 0] x v hp hu) :
    (after opsL2 W (Proc.devRef (τ := τ) .tc main_v122) : S8x128x56x56.Idx → EReal)
      = layer 64 112 128 56 x (W (Proc.devRef (τ := τ) .tc main_arg4)) (W (Proc.devRef (τ := τ) .tc main_arg5)) := by
  after_reads_simp
  rw [hx]
  funext y
  obtain ⟨n, o, a, b, rfl⟩ : ∃ (n : Fin 8) (o : Fin 128) (a b : Fin 56), y = ix4 n o a b := ⟨y 0, y 1, y 2, y 3, ValueIdx.eq_ix4 y⟩
  have hT := fun (kh kw : ℕ) (hh : kh < 3) (hw : kw < 3) (h : Shape.Slices S128x64x3x3 ![0, 0, kh, kw] S128x64x1x1)
      (hs : Shape.SlicesBy S8x64x113x113 ![0, 0, kh, kw] ![1, 1, 2, 2] S8x64x56x56) =>
    (term2 (Host.slice S8x64x56x56 ![0, 0, kh, kw] ![1, 1, 2, 2] (pad S8x64x113x113 ![0, 0, 0, 0] ![0, 0, 1, 1] ![0, 0, 0, 0] x v hp hu) hs)
      (W (Proc.devRef (τ := τ) .tc main_arg4)) kh kw hh hw h n o a b).trans
      (Finset.sum_congr rfl fun c _ => congrArg (· * (W (Proc.devRef (τ := τ) .tc main_arg4) : S128x64x3x3.Idx → EReal) (ix4 o c ⟨kh, hh⟩ ⟨kw, hw⟩)) (tap_apply x v hu hv hp hs n c a b))
  unfold layer cell
  rw [← sum_nine]
  refine congrArg₂ max (congrArg₂ (· + ·) ?_ (bias2 _ n o a b)) (Ideal.ofBits_zero .f32)
  exact congrArg₂ (· + ·) (congrArg₂ (· + ·) (congrArg₂ (· + ·) (congrArg₂ (· + ·) (congrArg₂ (· + ·) (congrArg₂ (· + ·) (congrArg₂ (· + ·) (congrArg₂ (· + ·)
    (hT 0 0 (by decide) (by decide) _ _) (hT 0 1 (by decide) (by decide) _ _)) (hT 0 2 (by decide) (by decide) _ _)) (hT 1 0 (by decide) (by decide) _ _)) (hT 1 1 (by decide) (by decide) _ _))
    (hT 1 2 (by decide) (by decide) _ _)) (hT 2 0 (by decide) (by decide) _ _)) (hT 2 1 (by decide) (by decide) _ _)) (hT 2 2 (by decide) (by decide) _ _)

/-! ## Layer 3 -/

theorem dot3 (l : S8x128x28x28.Idx → EReal) (r : S256x128.Idx → EReal) (n : Fin 8) (o : Fin 256) (a b : Fin 28) :
    (Host.dotGeneral (F := Ideal) (φ₁ := .f32) (φ₂ := .f32) dot_S8x128x28x28_S256x128_S8x28x28x256_1_1_023_0_n_n none l r : S8x28x28x256.Idx → EReal) (ix4 n a b o)
      = ∑ c, l (ix4 n c a b) * r (ix2 o c) := by
  pointwise []

theorem term3 (x : S8x128x28x28.Idx → EReal) (w : S256x128x3x3.Idx → EReal) (kh kw : ℕ) (hh : kh < 3) (hw : kw < 3)
    (h : Shape.Slices S256x128x3x3 ![0, 0, kh, kw] S256x128x1x1) (n : Fin 8) (o : Fin 256) (a b : Fin 28) :
    transpose S8x256x28x28 [0, 3, 1, 2] (Host.dotGeneral (F := Ideal) (φ₁ := .f32) (φ₂ := .f32) dot_S8x128x28x28_S256x128_S8x28x28x256_1_1_023_0_n_n none x
        (shapeCast S256x128 (extractStridedSlice S256x128x1x1 ![0, 0, kh, kw] w h) shapeCasts_S256x128x1x1_S256x128) : S8x28x28x256.Idx → EReal)
      transposes_S8x28x28x256_S8x256x28x28_0_3_1_2 (ix4 n o a b) = ∑ c, x (ix4 n c a b) * w (ix4 o c ⟨kh, hh⟩ ⟨kw, hw⟩) := by
  refine (transpose_apply _ _ _ _ (ix4 n a b o) fun q => ?_).trans ?_
  · match q with
    | ⟨0, _⟩ => rfl
    | ⟨1, _⟩ => rfl
    | ⟨2, _⟩ => rfl
    | ⟨3, _⟩ => rfl
  rw [dot3]
  refine Finset.sum_congr rfl fun c _ => congrArg (x (ix4 n c a b) * ·) ?_
  refine (shapeCast_apply _ _ _ (ix4 o c (0 : Fin 1) (0 : Fin 1)) ?_).trans ?_
  · rw [Shape.rowMajor_val_four, Shape.rowMajor_val_two]
    show ((o.val * 128 + c.val) * 1 + 0) * 1 + 0 = o.val * 128 + c.val
    omega
  exact extractStridedSlice_apply _ _ _ _ _ fun q => by
    match q with
    | ⟨0, _⟩ => exact (Nat.zero_add _).symm
    | ⟨1, _⟩ => exact (Nat.zero_add _).symm
    | ⟨2, _⟩ => rfl
    | ⟨3, _⟩ => rfl

theorem bias3 (b : S256.Idx → EReal) (n : Fin 8) (o : Fin 256) (a a' : Fin 28) :
    broadcastInDim S8x256x28x28 ![0, 1, 2, 3] bcast_S1x256x1x1_S8x256x28x28_0_1_2_3 (broadcastInDim S1x256x1x1 ![1] bcast_S256_S1x256x1x1_1 b) (ix4 n o a a') = b (ix1 o) := by
  pointwise []

set_option maxHeartbeats 2000000 in
/-- The layer's output, from the array whose padding it reads. -/
theorem layer3 (x : S8x128x56x56.Idx → EReal) {u : Shape} (v : u.Idx → EReal) (hu : 0 < u.numel) (hv : v (Shape.Idx.first hu) = 0)
    (hp : Shape.Pads S8x128x56x56 ![0, 0, 0, 0] ![0, 0, 1, 1] ![0, 0, 0, 0] S8x128x57x57)
    (hx : (W (Proc.devRef (τ := τ) .tc main_v123) : S8x128x57x57.Idx → EReal) = pad S8x128x57x57 ![0, 0, 0, 0] ![0, 0, 1, 1] ![0, 0, 0, 0] x v hp hu) :
    (after opsL3 W (Proc.devRef (τ := τ) .tc main_v181) : S8x256x28x28.Idx → EReal)
      = layer 128 56 256 28 x (W (Proc.devRef (τ := τ) .tc main_arg6)) (W (Proc.devRef (τ := τ) .tc main_arg7)) := by
  after_reads_simp
  rw [hx]
  funext y
  obtain ⟨n, o, a, b, rfl⟩ : ∃ (n : Fin 8) (o : Fin 256) (a b : Fin 28), y = ix4 n o a b := ⟨y 0, y 1, y 2, y 3, ValueIdx.eq_ix4 y⟩
  have hT := fun (kh kw : ℕ) (hh : kh < 3) (hw : kw < 3) (h : Shape.Slices S256x128x3x3 ![0, 0, kh, kw] S256x128x1x1)
      (hs : Shape.SlicesBy S8x128x57x57 ![0, 0, kh, kw] ![1, 1, 2, 2] S8x128x28x28) =>
    (term3 (Host.slice S8x128x28x28 ![0, 0, kh, kw] ![1, 1, 2, 2] (pad S8x128x57x57 ![0, 0, 0, 0] ![0, 0, 1, 1] ![0, 0, 0, 0] x v hp hu) hs)
      (W (Proc.devRef (τ := τ) .tc main_arg6)) kh kw hh hw h n o a b).trans
      (Finset.sum_congr rfl fun c _ => congrArg (· * (W (Proc.devRef (τ := τ) .tc main_arg6) : S256x128x3x3.Idx → EReal) (ix4 o c ⟨kh, hh⟩ ⟨kw, hw⟩)) (tap_apply x v hu hv hp hs n c a b))
  unfold layer cell
  rw [← sum_nine]
  refine congrArg₂ max (congrArg₂ (· + ·) ?_ (bias3 _ n o a b)) (Ideal.ofBits_zero .f32)
  exact congrArg₂ (· + ·) (congrArg₂ (· + ·) (congrArg₂ (· + ·) (congrArg₂ (· + ·) (congrArg₂ (· + ·) (congrArg₂ (· + ·) (congrArg₂ (· + ·) (congrArg₂ (· + ·)
    (hT 0 0 (by decide) (by decide) _ _) (hT 0 1 (by decide) (by decide) _ _)) (hT 0 2 (by decide) (by decide) _ _)) (hT 1 0 (by decide) (by decide) _ _)) (hT 1 1 (by decide) (by decide) _ _))
    (hT 1 2 (by decide) (by decide) _ _)) (hT 2 0 (by decide) (by decide) _ _)) (hT 2 1 (by decide) (by decide) _ _)) (hT 2 2 (by decide) (by decide) _ _)

end Cert.Proof.EncoderPlain

end
-- ==== Proof.Encoder.RefQuant.lean ====
/-
  The reference's quantizer: the 1x1 layer, the distances, the tokens, and the two results.
-/
module

public import proofs.«01_k».proof.Proof.Encoder.RefLayers

@[expose] public section

set_option maxRecDepth 16384

noncomputable section

namespace Cert.Proof.EncoderPlain

open Cert.EncoderReferenceIdeal Cert.EncoderReferenceIdeal.Gen
open Idealize.ShloMosaic Idealize.ShloMosaic.TcCoe Idealize.ShloMosaic.StableHlo Cert.Proof.Plain

variable (W : Valuation τ sig (Elt Ideal))

theorem quant_dot (l : S8x256x28x28.Idx → EReal) (r : S256x256.Idx → EReal) (n : Fin 8) (o : Fin 256) (a b : Fin 28) :
    (Host.dotGeneral (F := Ideal) (φ₁ := .f32) (φ₂ := .f32) dot_S8x256x28x28_S256x256_S8x28x28x256_1_1_023_0_n_n none l r : S8x28x28x256.Idx → EReal) (ix4 n a b o)
      = ∑ c, l (ix4 n c a b) * r (ix2 o c) := by
  pointwise []

theorem quant_eq : (after opsQ W (Proc.devRef (τ := τ) .tc main_v187) : S8x256x28x28.Idx → EReal)
    = quant (W (Proc.devRef (τ := τ) .tc main_arg8)) (W (Proc.devRef (τ := τ) .tc main_arg9)) (W (Proc.devRef (τ := τ) .tc main_v181)) := by
  after_reads_simp
  funext y
  obtain ⟨n, o, a, b, rfl⟩ : ∃ (n : Fin 8) (o : Fin 256) (a b : Fin 28), y = ix4 n o a b := ⟨y 0, y 1, y 2, y 3, ValueIdx.eq_ix4 y⟩
  refine congrArg₂ (· + ·) ?_ (bias3 _ n o a b)
  refine (transpose_apply _ _ _ _ (ix4 n a b o) fun q => ?_).trans ?_
  · match q with
    | ⟨0, _⟩ => rfl
    | ⟨1, _⟩ => rfl
    | ⟨2, _⟩ => rfl
    | ⟨3, _⟩ => rfl
  refine (quant_dot _ _ n o a b).trans (Finset.sum_congr rfl fun c _ => congrArg₂ (· * ·) rfl (square_apply _ _ o c))

theorem row_eq (z : S8x256x28x28.Idx → EReal) (k : Fin 6272) (c : Fin 256) :
    shapeCast S6272x256 (transpose S8x28x28x256 [0, 2, 3, 1] z transposes_S8x256x28x28_S8x28x28x256_0_2_3_1) shapeCasts_S8x28x28x256_S6272x256 (ix2 k c) = row z k c := by
  refine (shapeCast_apply _ _ _ (ix4 ⟨k.val / 784, by omega⟩ ⟨k.val % 784 / 28, by omega⟩ ⟨k.val % 28, by omega⟩ c) ?_).trans ?_
  · rw [Shape.rowMajor_val_four, Shape.rowMajor_val_two]
    show ((k.val / 784 * 28 + k.val % 784 / 28) * 28 + k.val % 28) * 256 + c.val = k.val * 256 + c.val
    omega
  exact transpose_apply _ _ _ _ _ fun q => by
    match q with
    | ⟨0, _⟩ => rfl
    | ⟨1, _⟩ => rfl
    | ⟨2, _⟩ => rfl
    | ⟨3, _⟩ => rfl

theorem distance_eq (z : S6272x256.Idx → EReal) (e : S8192x256.Idx → EReal) (k : Fin 6272) (j : Fin 8192) :
    (subf (F := Ideal) (φ := .f32) (addf (F := Ideal) (φ := .f32)
          (broadcastInDim S6272x8192 ![0, 1] bcast_S6272x1_S6272x8192_0_1 (broadcastInDim S6272x1 ![0] bcast_S6272_S6272x1_0
            (Host.reduceAdd (F := Ideal) (φ := .f32) (mulf (F := Ideal) (φ := .f32) z z) (constant (F := Ideal) S_ .f32 0x00000000#32) reducesTo_S6272x256_S6272_d1 h_S_)))
          (broadcastInDim S6272x8192 ![0, 1] bcast_S1x8192_S6272x8192_0_1 (broadcastInDim S1x8192 ![1] bcast_S8192_S1x8192_1
            (Host.reduceAdd (F := Ideal) (φ := .f32) (mulf (F := Ideal) (φ := .f32) e e) (constant (F := Ideal) S_ .f32 0x00000000#32) reducesTo_S8192x256_S8192_d1 h_S_))))
        (mulf (F := Ideal) (φ := .f32) (broadcastInDim S6272x8192 ![] bcast_S_S6272x8192 (constant (F := Ideal) S_ .f32 0x40000000#32))
          (Host.dotGeneral (F := Ideal) (φ₁ := .f32) (φ₂ := .f32) dot_S6272x256_S256x8192_S6272x8192_1_0_0_1_n_n none z (transpose S256x8192 [1, 0] e transposes_S8192x256_S256x8192_1_0))) :
        S6272x8192.Idx → EReal) (ix2 k j) = dist (fun c => z (ix2 k c)) fun c => e (ix2 j c) := by
  unfold Plain.dist
  pointwise []

theorem distances_eq (k : Fin 6272) (j : Fin 8192) :
    (after opsD W (Proc.devRef (τ := τ) .tc main_v203) : S6272x8192.Idx → EReal) (ix2 k j)
      = dist (row (W (Proc.devRef (τ := τ) .tc main_v187)) k) fun c => (W (Proc.devRef (τ := τ) .tc main_arg1) : S8192x256.Idx → EReal) (ix2 j c) := by
  after_reads_simp
  refine (distance_eq _ _ k j).trans ?_
  exact congrArg₂ dist (funext fun c => row_eq _ k c) rfl

end Cert.Proof.EncoderPlain

end
-- ==== Proof.Encoder.RefSearch.lean ====
/-
  The reference's search: the number of the first codebook row at the least distance.
-/
module

public import proofs.«01_k».proof.Proof.Encoder.RefOps
public import proofs.«01_k».proof.Proof.Encoder.Taps

@[expose] public section

set_option maxRecDepth 16384

noncomputable section

namespace Cert.Proof.EncoderPlain

open Cert.EncoderReferenceIdeal Cert.EncoderReferenceIdeal.Gen
open Idealize.ShloMosaic Idealize.ShloMosaic.TcCoe Idealize.ShloMosaic.StableHlo Cert.Proof.Plain

variable (W : Valuation τ sig (Elt Ideal))

/-- The reducer keeps one of its two pairs, the one before the other: the lesser value, on equal values the lesser number. -/
theorem reducer_keeps (a b : Ideal .f32 × BitVec 32) :
    (reducer_argmin_f32_i32 a b = a ∨ reducer_argmin_f32_i32 a b = b) ∧ Before (reducer_argmin_f32_i32 a b) a ∧ Before (reducer_argmin_f32_i32 a b) b := by
  obtain ⟨x, i⟩ := a
  obtain ⟨y, j⟩ := b
  have hne : Ideal.cmp .une (x : EReal) x = 0#1 := by simp [Ideal.cmp]
  rcases lt_trichotomy (x : EReal) y with h | h | h
  · have e : reducer_argmin_f32_i32 (F := Ideal) (x, i) (y, j) = (x, i) := by
      have h1 : Ideal.cmp .olt (x : EReal) y = 1#1 := by simp [Ideal.cmp, h]
      have h2 : Ideal.cmp .oeq (x : EReal) y = 0#1 := by simp [Ideal.cmp, h.ne]
      simp [reducer_argmin_f32_i32, Ideal.cmpf_def, h1, h2, hne, IntOp.ori, IntOp.andi, Scalar.select]
    rw [e]
    exact ⟨Or.inl rfl, Before.refl _, Or.inl h⟩
  · subst h
    have h1 : Ideal.cmp .olt (x : EReal) x = 0#1 := by simp [Ideal.cmp]
    have h2 : Ideal.cmp .oeq (x : EReal) x = 1#1 := by simp [Ideal.cmp]
    by_cases hij : i.toInt < j.toInt
    · have h3 : IntOp.cmpi .slt i j = 1#1 := by simp [IntOp.cmpi, BitVec.slt_eq_decide, hij]
      have e : reducer_argmin_f32_i32 (F := Ideal) (x, i) (x, j) = (x, i) := by
        simp [reducer_argmin_f32_i32, Ideal.cmpf_def, h1, h2, h3, hne, IntOp.ori, IntOp.andi, Scalar.select]
      rw [e]
      exact ⟨Or.inl rfl, Before.refl _, Or.inr ⟨rfl, hij.le⟩⟩
    · have h3 : IntOp.cmpi .slt i j = 0#1 := by simp [IntOp.cmpi, BitVec.slt_eq_decide, hij]
      have e : reducer_argmin_f32_i32 (F := Ideal) (x, i) (x, j) = (x, j) := by
        simp [reducer_argmin_f32_i32, Ideal.cmpf_def, h1, h2, h3, hne, IntOp.ori, IntOp.andi, Scalar.select]
      rw [e]
      exact ⟨Or.inr rfl, Or.inr ⟨rfl, not_lt.mp hij⟩, Before.refl _⟩
  · have e : reducer_argmin_f32_i32 (F := Ideal) (x, i) (y, j) = (y, j) := by
      have h1 : Ideal.cmp .olt (x : EReal) y = 0#1 := by simp [Ideal.cmp, not_lt.mpr (le_of_lt h)]
      have h2 : Ideal.cmp .oeq (x : EReal) y = 0#1 := by simp [Ideal.cmp, h.ne']
      simp [reducer_argmin_f32_i32, Ideal.cmpf_def, h1, h2, hne, IntOp.ori, IntOp.andi, Scalar.select]
    rw [e]
    exact ⟨Or.inr rfl, Or.inl h, Before.refl _⟩

theorem mem_fiber {s t : Shape} {axes : List (Fin s.rank)} {α β : Type} (x : s.Idx → α) (y : s.Idx → β) (h : s.ReducesTo axes t) (j : t.Idx) (q : α × β) :
    q ∈ Host.argReduceFiber x y h j ↔ ∃ i : s.Idx, h.drop i = j ∧ q = (x i, y i) := by
  unfold Host.argReduceFiber
  rw [List.mem_map]
  constructor
  · rintro ⟨n, hn, rfl⟩
    exact ⟨s.rowMajor.symm n, of_decide_eq_true (List.mem_filter.mp hn).2, rfl⟩
  · rintro ⟨i, hi, rfl⟩
    refine ⟨s.rowMajor i, List.mem_filter.mpr ⟨List.mem_finRange _, decide_eq_true ?_⟩, ?_⟩ <;> rw [Equiv.symm_apply_apply]
    exact hi

theorem drop_eq (k : Fin 6272) (j : Fin 8192) : (reducesTo_S6272x8192_S6272_d1 : Shape.ReducesTo S6272x8192 [1] S6272).drop (ix2 k j) = ix1 k := by
  funext q
  match q with
  | ⟨0, _⟩ => rfl

/-- The pairs the reducer meets for row `k`: every column's value with the column's number. -/
theorem mem_pairs (x : S6272x8192.Idx → EReal) (k : Fin 6272) (q : EReal × BitVec 32) :
    q ∈ Host.argReduceFiber x (iotaInDim S6272x8192 32 1) reducesTo_S6272x8192_S6272_d1 (ix1 k) ↔ ∃ j : Fin 8192, q = (x (ix2 k j), BitVec.ofNat 32 j.val) := by
  rw [mem_fiber]
  constructor
  · rintro ⟨i, hi, rfl⟩
    obtain ⟨r, j, rfl⟩ : ∃ (r : Fin 6272) (j : Fin 8192), i = ix2 r j := ⟨i 0, i 1, ValueIdx.eq_ix2 i⟩
    rw [drop_eq] at hi
    obtain rfl : r = k := congrFun hi 0
    exact ⟨j, rfl⟩
  · rintro ⟨j, rfl⟩
    exact ⟨ix2 k j, drop_eq k j, rfl⟩

theorem argmin_eq (x : S6272x8192.Idx → EReal) (u : S_.Idx → EReal) (v : S_.Idx → BitVec 32) (hu : u (Shape.Idx.first h_S_) = ⊤) (hv : v (Shape.Idx.first h_S_) = 0#32)
    (k : Fin 6272) :
    (Host.argReduce (F := Ideal) (φ := .f32) (β := BitVec 32) reducer_argmin_f32_i32 x (iotaInDim S6272x8192 32 1) u v reducesTo_S6272x8192_S6272_d1 h_S_ (ix1 k)).2
      = BitVec.ofNat 32 (nearest fun j => x (ix2 k j)).val := by
  rw [Ideal.argReduce_eq_reduce2, Host.reduce2_eq_foldl_fiber, hu, hv]
  have h := mem_pairs x k
  generalize Host.argReduceFiber x (iotaInDim S6272x8192 32 1) reducesTo_S6272x8192_S6272_d1 (ix1 k) = L at h ⊢
  exact foldl_places (reducer_argmin_f32_i32 (F := Ideal)) reducer_keeps (fun j => x (ix2 k j)) L h

theorem top_eq : (constant (F := Ideal) S_ .f32 0x7F800000#32 : S_.Idx → EReal) (Shape.Idx.first h_S_) = ⊤ := by
  show Ideal.ofBits .f32 0x7F800000#32 = ⊤
  simp [Ideal.ofBits, Ideal.ieee]

/-- The search's five operations read at the numbers they leave, over any two functions in the last two places. -/
theorem search_read (g : (S6272x8192.Idx → Ideal .f32) → (S6272x8192.Idx → BitVec 32) → (S_.Idx → Ideal .f32) → (S_.Idx → BitVec 32) → S6272.Idx → Ideal .f32)
    (f : (S6272x8192.Idx → Ideal .f32) → (S6272x8192.Idx → BitVec 32) → (S_.Idx → Ideal .f32) → (S_.Idx → BitVec 32) → S6272.Idx → BitVec 32) :
    after [ TRef.nullary (TRef.of (T := ⟨S6272x8192, .i32⟩) main_call3_v0) (iotaInDim S6272x8192 32 1),
        TRef.nullary (TRef.of (T := ⟨S_, .f32⟩) main_call3_cst) (constant (F := Ideal) S_ .f32 0x7F800000#32),
        TRef.nullary (TRef.of (T := ⟨S_, .i32⟩) main_call3_c) (constantI S_ 32 0#32),
        TRef.quaternary (TRef.of (T := ⟨S6272x8192, .f32⟩) main_v203) (TRef.of (T := ⟨S6272x8192, .i32⟩) main_call3_v0) (TRef.of (T := ⟨S_, .f32⟩) main_call3_cst) (TRef.of (T := ⟨S_, .i32⟩) main_call3_c) (TRef.of (T := ⟨S6272, .f32⟩) main_call3_v1_0) g,
        TRef.quaternary (TRef.of (T := ⟨S6272x8192, .f32⟩) main_v203) (TRef.of (T := ⟨S6272x8192, .i32⟩) main_call3_v0) (TRef.of (T := ⟨S_, .f32⟩) main_call3_cst) (TRef.of (T := ⟨S_, .i32⟩) main_call3_c) (TRef.of (T := ⟨S6272, .i32⟩) main_v204) f ]
        W (Proc.devRef (τ := τ) .tc main_v204)
      = f (W (Proc.devRef (τ := τ) .tc main_v203)) (iotaInDim S6272x8192 32 1) (constant (F := Ideal) S_ .f32 0x7F800000#32) (constantI S_ 32 0#32) := by
  after_reads_simp
  rfl

theorem tokens_eq (k : Fin 6272) :
    (after opsA W (Proc.devRef (τ := τ) .tc main_v204) : S6272.Idx → BitVec 32) (ix1 k)
      = BitVec.ofNat 32 (nearest fun j => (W (Proc.devRef (τ := τ) .tc main_v203) : S6272x8192.Idx → EReal) (ix2 k j)).val :=
  (congrFun (search_read W
      (fun x y u v j => (Host.argReduce reducer_argmin_f32_i32 x y u v reducesTo_S6272x8192_S6272_d1 h_S_ j).1)
      (fun x y u v j => (Host.argReduce reducer_argmin_f32_i32 x y u v reducesTo_S6272x8192_S6272_d1 h_S_ j).2)) (ix1 k)).trans
    (argmin_eq _ _ _ top_eq rfl k)

end Cert.Proof.EncoderPlain

end
-- ==== Proof.Encoder.RefValues.lean ====
/-
  What the reference's run leaves in its two result arrays, from its arguments, over the extended reals.
-/
module

public import proofs.«01_k».proof.Proof.Encoder.RefLayers
public import proofs.«01_k».proof.Proof.Encoder.RefQuant
public import proofs.«01_k».proof.Proof.Encoder.RefSearch
public import proofs.«01_k».proof.Proof.Encoder.Answer

@[expose] public section

set_option maxRecDepth 16384

noncomputable section

namespace Cert.Proof.EncoderPlain

open Cert.EncoderReferenceIdeal Cert.EncoderReferenceIdeal.Gen
open Idealize.ShloMosaic Idealize.ShloMosaic.TcCoe Idealize.ShloMosaic.StableHlo Cert.Proof.Plain

variable (W : Valuation τ sig (Elt Ideal))

/-! ## The paddings -/

/-- The number a padding writes. -/
abbrev padWord : S_.Idx → EReal := sitofp (F := Ideal) .f32 (constantI S_ 32 0#32)

theorem pad_zero : padWord (Shape.Idx.first h_S_) = 0 := by
  show (((0#32 : BitVec 32).toInt : ℝ) : EReal) = 0
  simp

theorem scaled_eq (x : S2x4x3x224x224.Idx → EReal) (h : Shape.ShapeCasts S2x4x3x224x224 S8x3x224x224) (h' : Shape.BroadcastsInDim S_ S2x4x3x224x224 ![]) :
    shapeCast S8x3x224x224 (subf (F := Ideal) (φ := .f32) (mulf (F := Ideal) (φ := .f32) x (broadcastInDim S2x4x3x224x224 ![] h' (constant (F := Ideal) S_ .f32 0x40000000#32)))
        (broadcastInDim S2x4x3x224x224 ![] h' (constant (F := Ideal) S_ .f32 0x3F800000#32)) : S2x4x3x224x224.Idx → EReal) h = scaled x := by
  funext j
  have h0 : (j 0).val < 8 := (j 0).isLt
  refine (shapeCast_apply _ _ _ (ix5 ⟨(j 0).val / 4, by omega⟩ ⟨(j 0).val % 4, by omega⟩ (j 1) (j 2) (j 3)) ?_).trans rfl
  rw [Shape.rowMajor_val_four, Shape.rowMajor_val_five]
  show ((((j 0).val / 4 * 4 + (j 0).val % 4) * 3 + (j 1).val) * 224 + (j 2).val) * 224 + (j 3).val = (((j 0).val * 3 + (j 1).val) * 224 + (j 2).val) * 224 + (j 3).val
  rw [Nat.div_add_mod' (j 0).val 4]

theorem padded1 : (after opsP1 W (Proc.devRef (τ := τ) .tc main_v5) : S8x3x225x225.Idx → EReal)
    = pad S8x3x225x225 ![0, 0, 0, 0] ![0, 0, 1, 1] ![0, 0, 0, 0] (scaled (W (Proc.devRef (τ := τ) .tc main_arg0))) padWord pads_S8x3x224x224_S8x3x225x225_000_000_010_010 h_S_ := by
  after_reads_simp
  simp only [TRef.toBuf, TRef.ofBuf, cast_eq]
  exact congrArg (fun x => pad S8x3x225x225 ![0, 0, 0, 0] ![0, 0, 1, 1] ![0, 0, 0, 0] x padWord pads_S8x3x224x224_S8x3x225x225_000_000_010_010 h_S_) (scaled_eq _ _ _)
theorem padded2 : (after opsP2 W (Proc.devRef (τ := τ) .tc main_v64) : S8x64x113x113.Idx → EReal)
    = pad S8x64x113x113 ![0, 0, 0, 0] ![0, 0, 1, 1] ![0, 0, 0, 0] (W (Proc.devRef (τ := τ) .tc main_v63)) padWord pads_S8x64x112x112_S8x64x113x113_000_000_010_010 h_S_ := by
  after_reads_simp
  rfl
theorem padded3 : (after opsP3 W (Proc.devRef (τ := τ) .tc main_v123) : S8x128x57x57.Idx → EReal)
    = pad S8x128x57x57 ![0, 0, 0, 0] ![0, 0, 1, 1] ![0, 0, 0, 0] (W (Proc.devRef (τ := τ) .tc main_v122)) padWord pads_S8x128x56x56_S8x128x57x57_000_000_010_010 h_S_ := by
  after_reads_simp
  rfl

/-! ## The rows -/

/-- The tokens, with 0 past the last row. -/
def stretch (t : S6272.Idx → BitVec 32) : Rows.Toks := fun j => if h : (j 0).val < 6272 then t (ix1 ⟨(j 0).val, h⟩) else 0#32

theorem stretch_slice (t : S6272.Idx → BitVec 32) (h : Shape.Slices Cert.ReferenceIdeal.S6400 ![0] Cert.ReferenceIdeal.S6272) :
    extractStridedSlice Cert.ReferenceIdeal.S6272 ![0] (stretch t) h = t := by
  funext j
  obtain ⟨k, rfl⟩ : ∃ k : Fin 6272, j = ix1 k := ⟨j 0, funext fun q => by match q with | ⟨0, _⟩ => rfl⟩
  refine (extractStridedSlice_apply _ _ _ _ (ix1 ⟨k.val, by omega⟩) fun a => ?_).trans (dif_pos k.isLt)
  match a with
  | ⟨0, _⟩ => show k.val = 0 + k.val; omega

theorem taken (t : S6272.Idx → BitVec 32) (ht : W (Proc.devRef (τ := τ) .tc main_v204) = t) (hlt : ∀ j, (stretch t j).toNat < 8192) :
    (after opsK W (Proc.devRef (τ := τ) .tc main_v205) : S6272x256.Idx → EReal) = Rows.plain (F := Ideal) (W (Proc.devRef (τ := τ) .tc main_arg1)) (stretch t) := by
  have h := Rows.reference_rows (F := Ideal) (W (Proc.devRef (τ := τ) .tc main_arg1)) (stretch t) hlt
  unfold Rows.words at h
  rw [stretch_slice] at h
  after_reads_simp
  simp only [TRef.toBuf, TRef.ofBuf, cast_eq]
  rw [ht]
  exact h

theorem laid_out : (after opsT W (Proc.devRef (τ := τ) .tc main_v209) : S2x4x256x28x28.Idx → EReal) = Rows.laid (F := Ideal) (W (Proc.devRef (τ := τ) .tc main_v205)) := by
  after_reads_simp
  exact Rows.reference_laid (F := Ideal) _

theorem spread_out : (after opsT W (Proc.devRef (τ := τ) .tc main_v208) : S2x4x256x28x28.Idx → EReal) = spread (W (Proc.devRef (τ := τ) .tc main_v187)) := by
  after_reads_simp
  rfl

/-! ## The arguments -/

abbrev args : List (Ref sig .tc) := [main_arg0, main_arg1, main_arg2, main_arg3, main_arg4, main_arg5, main_arg6, main_arg7, main_arg8, main_arg9]

theorem arg_lines : ∀ r ∈ args, r ∉ writesP1 ∧ r ∉ writesL1 ∧ r ∉ writesP2 ∧ r ∉ writesL2 ∧ r ∉ writesP3 ∧ r ∉ writesL3 ∧ r ∉ writesQ ∧ r ∉ writesD ∧ r ∉ writesA ∧ r ∉ writesK ∧ r ∉ writesT := by decide

/-- The memory after the first line, after the second, … -/
def U1 := after opsP1 W
def U2 := after opsL1 (U1 W)
def U3 := after opsP2 (U2 W)
def U4 := after opsL2 (U3 W)
def U5 := after opsP3 (U4 W)
def U6 := after opsL3 (U5 W)
def U7 := after opsQ (U6 W)
def U8 := after opsD (U7 W)
def U9 := after opsA (U8 W)
def U10 := after opsK (U9 W)
def U11 := after opsT (U10 W)

theorem after_ops : after ops W = U11 W := by
  simp only [after_append]
  rfl

variable {r : Ref sig .tc} (hr : r ∈ args)
include hr

theorem arg_U1 : U1 W (Proc.devRef .tc r) = W (Proc.devRef .tc r) := after_unwritten writesP1 wroteP1 (arg_lines r hr).1 W
theorem arg_U2 : U2 W (Proc.devRef .tc r) = W (Proc.devRef .tc r) := (after_unwritten writesL1 wroteL1 (arg_lines r hr).2.1 (U1 W)).trans (arg_U1 W hr)
theorem arg_U3 : U3 W (Proc.devRef .tc r) = W (Proc.devRef .tc r) := (after_unwritten writesP2 wroteP2 (arg_lines r hr).2.2.1 (U2 W)).trans (arg_U2 W hr)
theorem arg_U4 : U4 W (Proc.devRef .tc r) = W (Proc.devRef .tc r) := (after_unwritten writesL2 wroteL2 (arg_lines r hr).2.2.2.1 (U3 W)).trans (arg_U3 W hr)
theorem arg_U5 : U5 W (Proc.devRef .tc r) = W (Proc.devRef .tc r) := (after_unwritten writesP3 wroteP3 (arg_lines r hr).2.2.2.2.1 (U4 W)).trans (arg_U4 W hr)
theorem arg_U6 : U6 W (Proc.devRef .tc r) = W (Proc.devRef .tc r) := (after_unwritten writesL3 wroteL3 (arg_lines r hr).2.2.2.2.2.1 (U5 W)).trans (arg_U5 W hr)
theorem arg_U7 : U7 W (Proc.devRef .tc r) = W (Proc.devRef .tc r) := (after_unwritten writesQ wroteQ (arg_lines r hr).2.2.2.2.2.2.1 (U6 W)).trans (arg_U6 W hr)
theorem arg_U8 : U8 W (Proc.devRef .tc r) = W (Proc.devRef .tc r) := (after_unwritten writesD wroteD (arg_lines r hr).2.2.2.2.2.2.2.1 (U7 W)).trans (arg_U7 W hr)
theorem arg_U9 : U9 W (Proc.devRef .tc r) = W (Proc.devRef .tc r) := (after_unwritten writesA wroteA (arg_lines r hr).2.2.2.2.2.2.2.2.1 (U8 W)).trans (arg_U8 W hr)
theorem arg_U10 : U10 W (Proc.devRef .tc r) = W (Proc.devRef .tc r) := (after_unwritten writesK wroteK (arg_lines r hr).2.2.2.2.2.2.2.2.2.1 (U9 W)).trans (arg_U9 W hr)
theorem arg_U11 : U11 W (Proc.devRef .tc r) = W (Proc.devRef .tc r) := (after_unwritten writesT wroteT (arg_lines r hr).2.2.2.2.2.2.2.2.2.2 (U10 W)).trans (arg_U10 W hr)

omit hr

/-! ## The results -/

/-- An argument's contents at the start. -/
abbrev arg (r : Ref sig .tc) := W (Proc.devRef .tc r)

/-- The quantizer's input, from the arguments. -/
def zOf : S8x256x28x28.Idx → EReal :=
  encode (arg W main_arg0) (arg W main_arg2) (arg W main_arg3) (arg W main_arg4) (arg W main_arg5) (arg W main_arg6) (arg W main_arg7) (arg W main_arg8) (arg W main_arg9)

theorem after1 : (U2 W (Proc.devRef .tc main_v63) : S8x64x112x112.Idx → EReal) = layer 3 224 64 112 (scaled (arg W main_arg0)) (arg W main_arg2) (arg W main_arg3) := by
  refine (layer1 (U1 W) _ _ _ pad_zero _ (padded1 W)).trans ?_
  rw [arg_U1 W (r := main_arg2) (by decide), arg_U1 W (r := main_arg3) (by decide)]

theorem after2 : (U4 W (Proc.devRef .tc main_v122) : S8x128x56x56.Idx → EReal)
    = layer 64 112 128 56 (layer 3 224 64 112 (scaled (arg W main_arg0)) (arg W main_arg2) (arg W main_arg3)) (arg W main_arg4) (arg W main_arg5) := by
  refine (layer2 (U3 W) _ _ _ pad_zero _ (padded2 (U2 W))).trans ?_
  rw [after1 W, arg_U3 W (r := main_arg4) (by decide), arg_U3 W (r := main_arg5) (by decide)]

theorem after3 : (U6 W (Proc.devRef .tc main_v181) : S8x256x28x28.Idx → EReal)
    = layer 128 56 256 28 (layer 64 112 128 56 (layer 3 224 64 112 (scaled (arg W main_arg0)) (arg W main_arg2) (arg W main_arg3)) (arg W main_arg4) (arg W main_arg5))
        (arg W main_arg6) (arg W main_arg7) := by
  refine (layer3 (U5 W) _ _ _ pad_zero _ (padded3 (U4 W))).trans ?_
  rw [after2 W, arg_U5 W (r := main_arg6) (by decide), arg_U5 W (r := main_arg7) (by decide)]

theorem z_U7 : (U7 W (Proc.devRef .tc main_v187) : S8x256x28x28.Idx → EReal) = zOf W := by
  refine (quant_eq (U6 W)).trans ?_
  rw [after3 W, arg_U6 W (r := main_arg8) (by decide), arg_U6 W (r := main_arg9) (by decide)]
  rfl

theorem toks_U9 (k : Fin 6272) : (U9 W (Proc.devRef .tc main_v204) : S6272.Idx → BitVec 32) (ix1 k) = token (zOf W) (arg W main_arg1) k := by
  refine (tokens_eq (U8 W) k).trans ?_
  refine congrArg (fun f => BitVec.ofNat 32 (nearest f).val) (funext fun j => (distances_eq (U7 W) k j).trans ?_)
  rw [z_U7 W, arg_U7 W (r := main_arg1) (by decide)]

theorem stretch_apply (t : S6272.Idx → BitVec 32) (k : Fin 6400) (hk : k.val < 6272) : stretch t (ix1 k) = t (ix1 ⟨k.val, hk⟩) := dif_pos hk

theorem stretch_lt (j) : (stretch (U9 W (Proc.devRef .tc main_v204)) j).toNat < 8192 := by
  unfold stretch
  split
  · exact lt_of_eq_of_lt (congrArg BitVec.toNat (toks_U9 W _)) (token_lt _ _ _)
  · decide

theorem result_zq : (U11 W (Proc.devRef .tc main_v209) : S2x4x256x28x28.Idx → EReal) = quantized (zOf W) (arg W main_arg1) := by
  refine (laid_out (U10 W)).trans ?_
  refine (congrArg (Rows.laid (F := Ideal)) (taken (U9 W) _ rfl (stretch_lt W))).trans ?_
  rw [arg_U9 W (r := main_arg1) (by decide)]
  exact quantized_of _ _ _ fun k hk => (stretch_apply _ k hk).trans (toks_U9 W ⟨k.val, hk⟩)

theorem z_U10 : U10 W (Proc.devRef .tc main_v187) = U7 W (Proc.devRef .tc main_v187) :=
  (after_unwritten writesK wroteK (by decide) (U9 W)).trans ((after_unwritten writesA wroteA (by decide) (U8 W)).trans (after_unwritten writesD wroteD (by decide) (U7 W)))

theorem result_z : (U11 W (Proc.devRef .tc main_v208) : S2x4x256x28x28.Idx → EReal) = spread (zOf W) :=
  (spread_out (U10 W)).trans (congrArg spread ((z_U10 W).trans (z_U7 W)))

end Cert.Proof.EncoderPlain

end
-- ==== Proof.Encoder.Claims.lean ====
/-
  The claims about the encoder's program and its reference.
-/
module

public import proofs.«01_k».proof.Defs
public import proofs.«01_k».proof.Proof.Encoder.Values
public import proofs.«01_k».proof.Proof.Encoder.RefValues
public import Idealize.ShloMosaic.Init

@[expose] public section

noncomputable section

namespace Cert.Proof

open Idealize.ShloMosaic Idealize.SL.Sem

section Kernel
open Cert.EncoderIdeal Cert.EncoderIdeal.Gen

/-- What the kernel's run leaves in the buffer `b`. -/
theorem encoder_at {m : (ℓ : Loc nD τ sig) → Buf (Elt Ideal) ℓ} {r : PUnit × MemSt nD τ sig (Elt Ideal)} (h : Encoder.QC m r) (c : Dev nD) (b : Ref sig .tc)
    (hb : (Proc.devRef .tc b : DevRef τ sig) ∈ Encoder.BUFS) : r.2.mem ((c.tc : Thread nD τ).loc b) = Encoder.END m c (Proc.devRef .tc b) :=
  h.1 c _ hb

theorem encoder_arg {m : (ℓ : Loc nD τ sig) → Buf (Elt Ideal) ℓ} {r : PUnit × MemSt nD τ sig (Elt Ideal)} (h : Encoder.QC m r) (c : Dev nD) {b : Ref sig .tc}
    (hb : (Proc.devRef .tc b : DevRef τ sig) ∈ Encoder.BUFS) (ha : b ∈ Encoder.args) : r.2.mem ((c.tc : Thread nD τ).loc b) = m ((c.tc : Thread nD τ).loc b) :=
  (encoder_at h c b hb).trans (Encoder.arg_END m c ha)

theorem encoder_args {m : (ℓ : Loc nD τ sig) → Buf (Elt Ideal) ℓ} {r : PUnit × MemSt nD τ sig (Elt Ideal)} (h : Encoder.QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨encoder_arg h c (by decide) (by decide), encoder_arg h c (by decide) (by decide), encoder_arg h c (by decide) (by decide), encoder_arg h c (by decide) (by decide),
    encoder_arg h c (by decide) (by decide), encoder_arg h c (by decide) (by decide), encoder_arg h c (by decide) (by decide), encoder_arg h c (by decide) (by decide),
    encoder_arg h c (by decide) (by decide), encoder_arg h c (by decide) (by decide)⟩

theorem encoder_frame : Cert.quiescent_EncoderIdeal := fun m ρ _ =>
  (θ_run Cert.EncoderIdeal.defs _ _).mono (fun _ h => ⟨fun c => encoder_args h c, h.2⟩) (Encoder.run_main (F := Ideal) m ρ (Encoder.toks_ok m))

end Kernel

section Reference
open Cert.EncoderReferenceIdeal Cert.EncoderReferenceIdeal.Gen

/-- What the reference's run leaves: its arguments as they were. -/
theorem plain_args {m : (ℓ : Loc nD τ sig) → Buf (Elt Ideal) ℓ} {r : PUnit × MemSt nD τ sig (Elt Ideal)}
    (h : ∀ (d : Dev nD) (b : Ref sig .tc), r.2.mem ((d.tc : Thread nD τ).loc b) = StableHlo.after EncoderPlain.ops (StableHlo.launchContents m d) (Proc.devRef .tc b)) (c : Dev nD)
    {b : Ref sig .tc} (ha : b ∈ EncoderPlain.args) : r.2.mem ((c.tc : Thread nD τ).loc b) = m ((c.tc : Thread nD τ).loc b) :=
  (h c b).trans ((congrFun (EncoderPlain.after_ops (StableHlo.launchContents m c)) _).trans (EncoderPlain.arg_U11 (StableHlo.launchContents m c) ha))

theorem reference_args {m : (ℓ : Loc nD τ sig) → Buf (Elt Ideal) ℓ} {r : PUnit × MemSt nD τ sig (Elt Ideal)}
    (h : ∀ (d : Dev nD) (b : Ref sig .tc), r.2.mem ((d.tc : Thread nD τ).loc b) = StableHlo.after EncoderPlain.ops (StableHlo.launchContents m d) (Proc.devRef .tc b)) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨plain_args h c (by decide), plain_args h c (by decide), plain_args h c (by decide), plain_args h c (by decide), plain_args h c (by decide),
    plain_args h c (by decide), plain_args h c (by decide), plain_args h c (by decide), plain_args h c (by decide), plain_args h c (by decide)⟩

theorem encoder_reference_frame : Cert.quiescent_EncoderReferenceIdeal := fun m ρ _ =>
  (θ_run Cert.EncoderReferenceIdeal.defs _ _).mono (fun r h => ⟨fun c => reference_args h c, sem_eq_zero_of_no_sems (by decide) r.2⟩)
    (EncoderPlain.run_main (F := Ideal) m ρ)

end Reference

/-- On equal arguments the two programs encode alike. -/
theorem encoded (m : (ℓ : Loc Cert.EncoderIdeal.nD Cert.EncoderIdeal.τ Cert.EncoderIdeal.sig) → Buf (Elt Ideal) ℓ) (c : Dev Cert.EncoderIdeal.nD)
    (W : Valuation Cert.EncoderReferenceIdeal.τ Cert.EncoderReferenceIdeal.sig (Elt Ideal))
    (h0 : EncoderPlain.arg W Cert.EncoderReferenceIdeal.main_arg0 = Encoder.arg m c Cert.EncoderIdeal.main_arg0)
    (h2 : EncoderPlain.arg W Cert.EncoderReferenceIdeal.main_arg2 = Encoder.arg m c Cert.EncoderIdeal.main_arg2)
    (h3 : EncoderPlain.arg W Cert.EncoderReferenceIdeal.main_arg3 = Encoder.arg m c Cert.EncoderIdeal.main_arg3)
    (h4 : EncoderPlain.arg W Cert.EncoderReferenceIdeal.main_arg4 = Encoder.arg m c Cert.EncoderIdeal.main_arg4)
    (h5 : EncoderPlain.arg W Cert.EncoderReferenceIdeal.main_arg5 = Encoder.arg m c Cert.EncoderIdeal.main_arg5)
    (h6 : EncoderPlain.arg W Cert.EncoderReferenceIdeal.main_arg6 = Encoder.arg m c Cert.EncoderIdeal.main_arg6)
    (h7 : EncoderPlain.arg W Cert.EncoderReferenceIdeal.main_arg7 = Encoder.arg m c Cert.EncoderIdeal.main_arg7)
    (h8 : EncoderPlain.arg W Cert.EncoderReferenceIdeal.main_arg8 = Encoder.arg m c Cert.EncoderIdeal.main_arg8)
    (h9 : EncoderPlain.arg W Cert.EncoderReferenceIdeal.main_arg9 = Encoder.arg m c Cert.EncoderIdeal.main_arg9) : EncoderPlain.zOf W = Encoder.zOf m c := by
  unfold EncoderPlain.zOf Encoder.zOf
  rw [h0, h2, h3, h4, h5, h6, h7, h8, h9]

theorem encoder_value : Cert.algebraic_EncoderIdeal_EncoderReferenceIdeal := fun m ρ m' ρ' _ hagree =>
  ⟨fun c => Plain.spread (Encoder.zOf m c), fun c => Plain.quantized (Encoder.zOf m c) (Encoder.arg m c Cert.EncoderIdeal.main_arg1),
    (θ_run Cert.EncoderIdeal.defs _ _).mono (fun _ h c => ⟨(encoder_at h c Cert.EncoderIdeal.main_v98 (by decide)).trans (Encoder.result_z m c),
        (encoder_at h c Cert.EncoderIdeal.main_v99 (by decide)).trans (Encoder.result_zq m c), encoder_args h c⟩)
      (Encoder.run_main (F := Ideal) m ρ (Encoder.toks_ok m)),
    (θ_run Cert.EncoderReferenceIdeal.defs _ _).mono (fun _ h c => by
        have hz : EncoderPlain.zOf (StableHlo.launchContents m' c) = Encoder.zOf m c :=
          encoded m c _ (hagree c).1 (hagree c).2.2.1 (hagree c).2.2.2.1 (hagree c).2.2.2.2.1 (hagree c).2.2.2.2.2.1 (hagree c).2.2.2.2.2.2.1
            (hagree c).2.2.2.2.2.2.2.1 (hagree c).2.2.2.2.2.2.2.2.1 (hagree c).2.2.2.2.2.2.2.2.2
        refine ⟨((h c _).trans (congrFun (EncoderPlain.after_ops (StableHlo.launchContents m' c)) _)).trans ((EncoderPlain.result_z (StableHlo.launchContents m' c)).trans (congrArg Plain.spread hz)), ?_, reference_args h c⟩
        exact ((h c _).trans (congrFun (EncoderPlain.after_ops (StableHlo.launchContents m' c)) _)).trans
          ((EncoderPlain.result_zq (StableHlo.launchContents m' c)).trans (congrArg₂ Plain.quantized hz (hagree c).2.1)))
      (EncoderPlain.run_main (F := Ideal) m' ρ')⟩

end Cert.Proof

end
-- ==== Proof.Decoder.Run.lean ====
/-
  The decoder's program run from any memory: every buffer the TensorCore holds ends at the contents the program's segments,
  taken one after another, leave there.
-/
module

public import proofs.«01_k».proof.Proof.Gen.DecoderIdeal.Frame

@[expose] public section

set_option maxRecDepth 16384

noncomputable section

namespace Cert.Proof.Decoder

open Cert.DecoderIdeal Cert.DecoderIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The tokens the pipelines' cells start with. -/
abbrev tokens : UR sig nD τ := Rounds.initOf (Pipeline.cells cfgs cellOf_inj) (Pipeline.launchToks cfgs cellOf_inj)

set_option backward.isDefEq.respectTransparency.types false in
/-- The run's end, at every buffer. -/
theorem run_main (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := tokens)
    (hu₀ := by
      iintro Hu; imodintro
      isplitl [Hu]
      · iapply (show (ownU (tokens) : sProp 𝕄) ⊢ BI.own (emb₁ tokens) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W15 m ρ c b)
    (hfin := fun c s' => by
      iintro ⟨⟨Hh, -⟩, HSI⟩
      unfold StableHlo.held
      imodintro
      iapply (pointsTo_read_all (Pipeline.ucRefs τ sig) (fun b => ((c : Thread nD τ).1, b)) (W15 m ρ c) s')
      isplitl [Hh] <;> iassumption)
    (hQ := fun _ h _ => h)

end Cert.Proof.Decoder

end
-- ==== Proof.Decoder.Pay.lean ====
/-
  What the bodies of the decoder's calls compute, entry by entry, over the extended reals.
-/
module

public import proofs.«01_k».proof.Proof.Gen.DecoderIdeal.Skeleton
public import Idealize.ShloMosaic.Lib.Pointwise
public import Idealize.ShloMosaic.PureOps.Ideal.Laws

@[expose] public section

set_option maxRecDepth 16384

noncomputable section

namespace Cert.Proof.Decoder

open Cert.DecoderIdeal Cert.DecoderIdeal.Gen
open Idealize.ShloMosaic

/-- The 1x1 layer's body. -/
theorem pay0 (v0 : Vec Ideal S256x256 .f32) (v2 : Vec Ideal S1x256x784 .f32) (v5 : Vec Ideal S256x1 .f32) (o : Fin 256) (p : Fin 784) :
    k0_pay1 v0 v2 v5 (ix3 0 o p) = ∑ c : Fin 256, v0 (ix2 o c) * v2 (ix3 0 c p) + v5 (ix2 o 0) := by
  pointwise [k0_pay1]

/-! ## 256 channels to 128 -/

theorem pay1_6 (b : Vec Ideal S128x1 .f32) (w0 : Vec Ideal S1x128x256 .f32) (x0 : Vec Ideal S1x256x784 .f32) (w1 : Vec Ideal S1x128x256 .f32) (x1 : Vec Ideal S1x256x784 .f32) (w2 : Vec Ideal S1x128x256 .f32) (x2 : Vec Ideal S1x256x784 .f32) (w3 : Vec Ideal S1x128x256 .f32) (x3 : Vec Ideal S1x256x784 .f32) (o : Fin 128) (p : Fin 784) :
    k1_pay6 (k1_pay4 b w0 x0 w1 x1 w2 x2 w3 x3) k1_pay5 (ix3 0 o p)
      = max ((∑ c : Fin 256, w0 (ix3 0 o c) * x0 (ix3 0 c p)) + (∑ c : Fin 256, w1 (ix3 0 o c) * x1 (ix3 0 c p)) + (∑ c : Fin 256, w2 (ix3 0 o c) * x2 (ix3 0 c p)) + (∑ c : Fin 256, w3 (ix3 0 o c) * x3 (ix3 0 c p)) + b (ix2 o 0)) 0 := by
  pointwise [k1_pay6, k1_pay5, k1_pay4, k1_pay3]
theorem pay1_7 (b : Vec Ideal S128x1 .f32) (w0 : Vec Ideal S1x128x256 .f32) (x0 : Vec Ideal S1x256x784 .f32) (w1 : Vec Ideal S1x128x256 .f32) (x1 : Vec Ideal S1x256x784 .f32) (o : Fin 128) (p : Fin 784) :
    k1_pay7 (k1_pay3 b) w0 x0 w1 x1 (ix3 0 o p) = max ((∑ c : Fin 256, w0 (ix3 0 o c) * x0 (ix3 0 c p)) + (∑ c : Fin 256, w1 (ix3 0 o c) * x1 (ix3 0 c p)) + b (ix2 o 0)) 0 := by
  pointwise [k1_pay7, k1_pay3]
theorem pay1_8 (b : Vec Ideal S128x1 .f32) (w0 : Vec Ideal S1x128x256 .f32) (x0 : Vec Ideal S1x256x784 .f32) (w1 : Vec Ideal S1x128x256 .f32) (x1 : Vec Ideal S1x256x784 .f32) (o : Fin 128) (p : Fin 784) :
    k1_pay1 (k1_pay3 b) (k1_pay8 w0 x0) w1 x1 (ix3 0 o p) = max ((∑ c : Fin 256, w0 (ix3 0 o c) * x0 (ix3 0 c p)) + (∑ c : Fin 256, w1 (ix3 0 o c) * x1 (ix3 0 c p)) + b (ix2 o 0)) 0 := by
  pointwise [k1_pay1, k1_pay8, k1_pay3]
theorem pay1_9 (b : Vec Ideal S128x1 .f32) (w0 : Vec Ideal S1x128x256 .f32) (x0 : Vec Ideal S1x256x784 .f32) (o : Fin 128) (p : Fin 784) :
    k1_pay2 (k1_pay3 b) w0 x0 (ix3 0 o p) = max ((∑ c : Fin 256, w0 (ix3 0 o c) * x0 (ix3 0 c p)) + b (ix2 o 0)) 0 := by
  pointwise [k1_pay2, k1_pay3]

/-! ## 128 channels to 64 -/

theorem pay2_6 (b : Vec Ideal S64x1 .f32) (w0 : Vec Ideal S1x64x128 .f32) (x0 : Vec Ideal S1x128x3136 .f32) (w1 : Vec Ideal S1x64x128 .f32) (x1 : Vec Ideal S1x128x3136 .f32) (w2 : Vec Ideal S1x64x128 .f32) (x2 : Vec Ideal S1x128x3136 .f32) (w3 : Vec Ideal S1x64x128 .f32) (x3 : Vec Ideal S1x128x3136 .f32) (o : Fin 64) (p : Fin 3136) :
    k2_pay6 (k2_pay4 b w0 x0 w1 x1 w2 x2 w3 x3) k2_pay5 (ix3 0 o p)
      = max ((∑ c : Fin 128, w0 (ix3 0 o c) * x0 (ix3 0 c p)) + (∑ c : Fin 128, w1 (ix3 0 o c) * x1 (ix3 0 c p)) + (∑ c : Fin 128, w2 (ix3 0 o c) * x2 (ix3 0 c p)) + (∑ c : Fin 128, w3 (ix3 0 o c) * x3 (ix3 0 c p)) + b (ix2 o 0)) 0 := by
  pointwise [k2_pay6, k2_pay5, k2_pay4, k2_pay3]
theorem pay2_7 (b : Vec Ideal S64x1 .f32) (w0 : Vec Ideal S1x64x128 .f32) (x0 : Vec Ideal S1x128x3136 .f32) (w1 : Vec Ideal S1x64x128 .f32) (x1 : Vec Ideal S1x128x3136 .f32) (o : Fin 64) (p : Fin 3136) :
    k2_pay7 (k2_pay3 b) w0 x0 w1 x1 (ix3 0 o p) = max ((∑ c : Fin 128, w0 (ix3 0 o c) * x0 (ix3 0 c p)) + (∑ c : Fin 128, w1 (ix3 0 o c) * x1 (ix3 0 c p)) + b (ix2 o 0)) 0 := by
  pointwise [k2_pay7, k2_pay3]
theorem pay2_8 (b : Vec Ideal S64x1 .f32) (w0 : Vec Ideal S1x64x128 .f32) (x0 : Vec Ideal S1x128x3136 .f32) (w1 : Vec Ideal S1x64x128 .f32) (x1 : Vec Ideal S1x128x3136 .f32) (o : Fin 64) (p : Fin 3136) :
    k2_pay1 (k2_pay3 b) (k2_pay8 w0 x0) w1 x1 (ix3 0 o p) = max ((∑ c : Fin 128, w0 (ix3 0 o c) * x0 (ix3 0 c p)) + (∑ c : Fin 128, w1 (ix3 0 o c) * x1 (ix3 0 c p)) + b (ix2 o 0)) 0 := by
  pointwise [k2_pay1, k2_pay8, k2_pay3]
theorem pay2_9 (b : Vec Ideal S64x1 .f32) (w0 : Vec Ideal S1x64x128 .f32) (x0 : Vec Ideal S1x128x3136 .f32) (o : Fin 64) (p : Fin 3136) :
    k2_pay2 (k2_pay3 b) w0 x0 (ix3 0 o p) = max ((∑ c : Fin 128, w0 (ix3 0 o c) * x0 (ix3 0 c p)) + b (ix2 o 0)) 0 := by
  pointwise [k2_pay2, k2_pay3]

/-! ## 64 channels to 3 -/

theorem pay3_6 (b : Vec Ideal S3x1 .f32) (w0 : Vec Ideal S1x3x64 .f32) (x0 : Vec Ideal S1x64x12544 .f32) (w1 : Vec Ideal S1x3x64 .f32) (x1 : Vec Ideal S1x64x12544 .f32) (w2 : Vec Ideal S1x3x64 .f32) (x2 : Vec Ideal S1x64x12544 .f32) (w3 : Vec Ideal S1x3x64 .f32) (x3 : Vec Ideal S1x64x12544 .f32) (o : Fin 3) (p : Fin 12544) :
    k3_pay5 (k3_pay4 b w0 x0 w1 x1 w2 x2 w3 x3) (ix3 0 o p)
      = (∑ c : Fin 64, w0 (ix3 0 o c) * x0 (ix3 0 c p)) + (∑ c : Fin 64, w1 (ix3 0 o c) * x1 (ix3 0 c p)) + (∑ c : Fin 64, w2 (ix3 0 o c) * x2 (ix3 0 c p)) + (∑ c : Fin 64, w3 (ix3 0 o c) * x3 (ix3 0 c p)) + b (ix2 o 0) := by
  pointwise [k3_pay5, k3_pay4, k3_pay3]
theorem pay3_7 (b : Vec Ideal S3x1 .f32) (w0 : Vec Ideal S1x3x64 .f32) (x0 : Vec Ideal S1x64x12544 .f32) (w1 : Vec Ideal S1x3x64 .f32) (x1 : Vec Ideal S1x64x12544 .f32) (o : Fin 3) (p : Fin 12544) :
    k3_pay6 (k3_pay3 b) w0 x0 w1 x1 (ix3 0 o p) = (∑ c : Fin 64, w0 (ix3 0 o c) * x0 (ix3 0 c p)) + (∑ c : Fin 64, w1 (ix3 0 o c) * x1 (ix3 0 c p)) + b (ix2 o 0) := by
  pointwise [k3_pay6, k3_pay3]
theorem pay3_8 (b : Vec Ideal S3x1 .f32) (w0 : Vec Ideal S1x3x64 .f32) (x0 : Vec Ideal S1x64x12544 .f32) (w1 : Vec Ideal S1x3x64 .f32) (x1 : Vec Ideal S1x64x12544 .f32) (o : Fin 3) (p : Fin 12544) :
    k3_pay1 (k3_pay3 b) (k3_pay7 w0 x0) (k3_pay8 w1) x1 (ix3 0 o p) = (∑ c : Fin 64, w0 (ix3 0 o c) * x0 (ix3 0 c p)) + (∑ c : Fin 64, w1 (ix3 0 o c) * x1 (ix3 0 c p)) + b (ix2 o 0) := by
  pointwise [k3_pay1, k3_pay7, k3_pay8, k3_pay3]
theorem pay3_9 (b : Vec Ideal S3x1 .f32) (w0 : Vec Ideal S1x3x64 .f32) (x0 : Vec Ideal S1x64x12544 .f32) (o : Fin 3) (p : Fin 12544) :
    k3_pay2 (k3_pay3 b) w0 x0 (ix3 0 o p) = (∑ c : Fin 64, w0 (ix3 0 o c) * x0 (ix3 0 c p)) + b (ix2 o 0) := by
  pointwise [k3_pay2, k3_pay3]

end Cert.Proof.Decoder

end
-- ==== Proof.Decoder.Plain.lean ====
/-
  The mathematics of the decoder, as functions of arrays over the extended reals: a transposed 3x3 convolution of stride
  two, which is a 3x3 convolution of the array with a zero between any two entries, and its four quarters, which take only
  the taps that meet an entry.
-/
module

public import proofs.«01_k».proof.Proof.Encoder.Taps
public import Idealize.ShloMosaic.Lib.ValueIdxRank6

@[expose] public section

noncomputable section

namespace Cert.Proof.Plain

open Idealize.ShloMosaic

/-- The array's entries at the even places from 2 on, and zeros elsewhere. -/
def spaced {C H : ℕ} (x : (⟨4, ![8, C, H, H]⟩ : Shape).Idx → EReal) (n : Fin 8) (c : Fin C) (p q : ℕ) : EReal :=
  if h : (2 ≤ p ∧ p % 2 = 0 ∧ (p - 2) / 2 < H) ∧ (2 ≤ q ∧ q % 2 = 0 ∧ (q - 2) / 2 < H) then x (ix4 n c ⟨(p - 2) / 2, h.1.2.2⟩ ⟨(q - 2) / 2, h.2.2.2⟩) else 0

theorem spaced_odd_row {C H : ℕ} (x : (⟨4, ![8, C, H, H]⟩ : Shape).Idx → EReal) (n : Fin 8) (c : Fin C) (p q : ℕ) (h : p % 2 = 1) : spaced x n c p q = 0 :=
  dif_neg fun k => by omega
theorem spaced_odd_col {C H : ℕ} (x : (⟨4, ![8, C, H, H]⟩ : Shape).Idx → EReal) (n : Fin 8) (c : Fin C) (p q : ℕ) (h : q % 2 = 1) : spaced x n c p q = 0 :=
  dif_neg fun k => by omega

/-- The sum of one tap over the channels. -/
def upTap {C H O : ℕ} (x : (⟨4, ![8, C, H, H]⟩ : Shape).Idx → EReal) (w : (⟨4, ![O, C, 3, 3]⟩ : Shape).Idx → EReal) (n : Fin 8) (o : Fin O) (i j : ℕ) (t : Fin 9) : EReal :=
  ∑ c : Fin C, spaced x n c (i + t.val / 3) (j + t.val % 3) * w (ix4 o c ⟨t.val / 3, by omega⟩ ⟨t.val % 3, by omega⟩)

/-- A transposed 3x3 convolution of stride two, with bias. -/
def up (C H O H' : ℕ) (x : (⟨4, ![8, C, H, H]⟩ : Shape).Idx → EReal) (w : (⟨4, ![O, C, 3, 3]⟩ : Shape).Idx → EReal) (b : (⟨1, ![O]⟩ : Shape).Idx → EReal) :
    (⟨4, ![8, O, H', H']⟩ : Shape).Idx → EReal := fun y =>
  ∑ t, upTap x w (y 0) (y 1) (y 2).val (y 3).val t + b (ix1 (y 1))

/-- An array cut at zero. -/
def cut {s : Shape} (x : s.Idx → EReal) : s.Idx → EReal := fun y => max (x y) 0

/-- The whole decoder from its quantized input. -/
def decode (x : (⟨4, ![8, 256, 28, 28]⟩ : Shape).Idx → EReal)
    (wp : (⟨4, ![256, 256, 1, 1]⟩ : Shape).Idx → EReal) (bp : (⟨1, ![256]⟩ : Shape).Idx → EReal)
    (w1 : (⟨4, ![128, 256, 3, 3]⟩ : Shape).Idx → EReal) (b1 : (⟨1, ![128]⟩ : Shape).Idx → EReal)
    (w2 : (⟨4, ![64, 128, 3, 3]⟩ : Shape).Idx → EReal) (b2 : (⟨1, ![64]⟩ : Shape).Idx → EReal)
    (w3 : (⟨4, ![3, 64, 3, 3]⟩ : Shape).Idx → EReal) (b3 : (⟨1, ![3]⟩ : Shape).Idx → EReal) : (⟨4, ![8, 3, 224, 224]⟩ : Shape).Idx → EReal :=
  up 64 112 3 224 (cut (up 128 56 64 112 (cut (up 256 28 128 56 (quant wp bp x) w1 b1)) w2 b2)) w3 b3

/-! ## A tap read from the padded array -/

/-- The entries of the padded and spread array from an offset. -/
theorem spread_tap {C H Hp H' kh kw : ℕ} (x : (⟨4, ![8, C, H, H]⟩ : Shape).Idx → EReal) {u : Shape} (v : u.Idx → EReal) (hu : 0 < u.numel)
    (hv : v (Shape.Idx.first hu) = 0)
    (hp : Shape.Pads ⟨4, ![8, C, H, H]⟩ ![0, 0, 2, 2] ![0, 0, 1, 1] ![0, 0, 1, 1] ⟨4, ![8, C, Hp, Hp]⟩)
    (hs : Shape.Slices ⟨4, ![8, C, Hp, Hp]⟩ ![0, 0, kh, kw] ⟨4, ![8, C, H', H']⟩)
    (n : Fin 8) (c : Fin C) (a b : Fin H') :
    extractStridedSlice ⟨4, ![8, C, H', H']⟩ ![0, 0, kh, kw] (pad ⟨4, ![8, C, Hp, Hp]⟩ ![0, 0, 2, 2] ![0, 0, 1, 1] ![0, 0, 1, 1] x v hp hu) hs (ix4 n c a b)
      = spaced x n c (a.val + kh) (b.val + kw) := by
  have ha : kh + a.val < Hp := Nat.lt_of_lt_of_le (Nat.add_lt_add_left a.isLt kh) (hs.2 (2 : Fin 4))
  have hb : kw + b.val < Hp := Nat.lt_of_lt_of_le (Nat.add_lt_add_left b.isLt kw) (hs.2 (3 : Fin 4))
  refine (extractStridedSlice_apply _ _ _ _ (ix4 n c ⟨kh + a.val, ha⟩ ⟨kw + b.val, hb⟩) fun q => ?_).trans ?_
  · match q with
    | ⟨0, _⟩ => exact (Nat.zero_add _).symm
    | ⟨1, _⟩ => exact (Nat.zero_add _).symm
    | ⟨2, _⟩ => rfl
    | ⟨3, _⟩ => rfl
  unfold spaced
  rw [pad_apply]
  by_cases h : (2 ≤ a.val + kh ∧ (a.val + kh) % 2 = 0 ∧ (a.val + kh - 2) / 2 < H) ∧ (2 ≤ b.val + kw ∧ (b.val + kw) % 2 = 0 ∧ (b.val + kw - 2) / 2 < H)
  · rw [dif_pos h, dif_pos (fun k => match k with
      | ⟨0, _⟩ => ⟨Nat.zero_le _, Nat.mod_one _, by show (n.val - 0) / 1 < 8; have := n.isLt; omega⟩
      | ⟨1, _⟩ => ⟨Nat.zero_le _, Nat.mod_one _, by show (c.val - 0) / 1 < C; have := c.isLt; omega⟩
      | ⟨2, _⟩ => ⟨by show 2 ≤ kh + a.val; omega, by show (kh + a.val - 2) % 2 = 0; omega, by show (kh + a.val - 2) / 2 < H; rw [Nat.add_comm]; exact h.1.2.2⟩
      | ⟨3, _⟩ => ⟨by show 2 ≤ kw + b.val; omega, by show (kw + b.val - 2) % 2 = 0; omega, by show (kw + b.val - 2) / 2 < H; rw [Nat.add_comm]; exact h.2.2.2⟩)]
    refine congrArg x (funext fun k => ?_)
    match k with
    | ⟨0, _⟩ => exact Fin.ext (by show (n.val - 0) / 1 = n.val; omega)
    | ⟨1, _⟩ => exact Fin.ext (by show (c.val - 0) / 1 = c.val; omega)
    | ⟨2, _⟩ => exact Fin.ext (by show (kh + a.val - 2) / 2 = (a.val + kh - 2) / 2; rw [Nat.add_comm])
    | ⟨3, _⟩ => exact Fin.ext (by show (kw + b.val - 2) / 2 = (b.val + kw - 2) / 2; rw [Nat.add_comm])
  · rw [dif_neg h, dif_neg (fun hk => h ⟨by
      have h2 : 2 ≤ kh + a.val ∧ (kh + a.val - 2) % 2 = 0 ∧ (kh + a.val - 2) / 2 < H := hk (2 : Fin 4)
      rw [Nat.add_comm a.val]; omega, by
      have h3 : 2 ≤ kw + b.val ∧ (kw + b.val - 2) % 2 = 0 ∧ (kw + b.val - 2) / 2 < H := hk (3 : Fin 4)
      rw [Nat.add_comm b.val]; omega⟩), hv]

/-- The entries of the array padded by one row and column at the top left, from an offset, with the two spatial axes read as one. -/
theorem edge_flat {C H Hp P dh dw : ℕ} (hP : H * H = P) (x : (⟨4, ![8, C, H, H]⟩ : Shape).Idx → EReal) {u : Shape} (v : u.Idx → EReal) (hu : 0 < u.numel)
    (hv : v (Shape.Idx.first hu) = 0)
    (hp : Shape.Pads ⟨4, ![8, C, H, H]⟩ ![0, 0, 1, 1] ![0, 0, 0, 0] ![0, 0, 0, 0] ⟨4, ![8, C, Hp, Hp]⟩)
    (hs : Shape.Slices ⟨4, ![8, C, Hp, Hp]⟩ ![0, 0, dh, dw] ⟨4, ![8, C, H, H]⟩)
    (hc : Shape.ShapeCasts ⟨4, ![8, C, H, H]⟩ ⟨3, ![8, C, P]⟩)
    (n : Fin 8) (c : Fin C) (a b : Fin H) (p : Fin P) (e : p.val = H * a.val + b.val) :
    shapeCast ⟨3, ![8, C, P]⟩ (extractStridedSlice ⟨4, ![8, C, H, H]⟩ ![0, 0, dh, dw] (pad ⟨4, ![8, C, Hp, Hp]⟩ ![0, 0, 1, 1] ![0, 0, 0, 0] ![0, 0, 0, 0] x v hp hu) hs) hc (ix3 n c p)
      = spaced x n c (2 * a.val + 2 * dh) (2 * b.val + 2 * dw) := by
  have ha : dh + a.val < Hp := Nat.lt_of_lt_of_le (Nat.add_lt_add_left a.isLt dh) (hs.2 (2 : Fin 4))
  have hb : dw + b.val < Hp := Nat.lt_of_lt_of_le (Nat.add_lt_add_left b.isLt dw) (hs.2 (3 : Fin 4))
  refine (shapeCast_apply _ _ _ (ix4 n c a b) ?_).trans ?_
  · rw [Shape.rowMajor_val_four, Shape.rowMajor_val_three]
    show ((n.val * C + c.val) * H + a.val) * H + b.val = (n.val * C + c.val) * P + p.val
    rw [e, ← hP]; ring
  refine (extractStridedSlice_apply _ _ _ _ (ix4 n c ⟨dh + a.val, ha⟩ ⟨dw + b.val, hb⟩) fun q => ?_).trans ?_
  · match q with
    | ⟨0, _⟩ => exact (Nat.zero_add _).symm
    | ⟨1, _⟩ => exact (Nat.zero_add _).symm
    | ⟨2, _⟩ => rfl
    | ⟨3, _⟩ => rfl
  unfold spaced
  rw [pad_apply]
  by_cases h : (1 ≤ dh + a.val ∧ dh + a.val - 1 < H) ∧ (1 ≤ dw + b.val ∧ dw + b.val - 1 < H)
  · rw [dif_pos (show (2 ≤ 2 * a.val + 2 * dh ∧ (2 * a.val + 2 * dh) % 2 = 0 ∧ (2 * a.val + 2 * dh - 2) / 2 < H) ∧ (2 ≤ 2 * b.val + 2 * dw ∧ (2 * b.val + 2 * dw) % 2 = 0 ∧ (2 * b.val + 2 * dw - 2) / 2 < H)
        from by omega), dif_pos (fun k => match k with
      | ⟨0, _⟩ => ⟨Nat.zero_le _, Nat.mod_one _, by show (n.val - 0) / 1 < 8; have := n.isLt; omega⟩
      | ⟨1, _⟩ => ⟨Nat.zero_le _, Nat.mod_one _, by show (c.val - 0) / 1 < C; have := c.isLt; omega⟩
      | ⟨2, _⟩ => ⟨by show 1 ≤ dh + a.val; omega, Nat.mod_one _, by show (dh + a.val - 1) / 1 < H; omega⟩
      | ⟨3, _⟩ => ⟨by show 1 ≤ dw + b.val; omega, Nat.mod_one _, by show (dw + b.val - 1) / 1 < H; omega⟩)]
    refine congrArg x (funext fun k => ?_)
    match k with
    | ⟨0, _⟩ => exact Fin.ext (by show (n.val - 0) / 1 = n.val; omega)
    | ⟨1, _⟩ => exact Fin.ext (by show (c.val - 0) / 1 = c.val; omega)
    | ⟨2, _⟩ => exact Fin.ext (by show (dh + a.val - 1) / 1 = (2 * a.val + 2 * dh - 2) / 2; omega)
    | ⟨3, _⟩ => exact Fin.ext (by show (dw + b.val - 1) / 1 = (2 * b.val + 2 * dw - 2) / 2; omega)
  · rw [dif_neg (show ¬ ((2 ≤ 2 * a.val + 2 * dh ∧ (2 * a.val + 2 * dh) % 2 = 0 ∧ (2 * a.val + 2 * dh - 2) / 2 < H) ∧ (2 ≤ 2 * b.val + 2 * dw ∧ (2 * b.val + 2 * dw) % 2 = 0 ∧ (2 * b.val + 2 * dw - 2) / 2 < H))
        from fun k => h (by omega)), dif_neg (fun hk => h ⟨by
      have h2 : 1 ≤ dh + a.val ∧ (dh + a.val - 1) % 1 = 0 ∧ (dh + a.val - 1) / 1 < H := hk (2 : Fin 4)
      omega, by
      have h3 : 1 ≤ dw + b.val ∧ (dw + b.val - 1) % 1 = 0 ∧ (dw + b.val - 1) / 1 < H := hk (3 : Fin 4)
      omega⟩), hv]

/-- The weights as the calls take them, one matrix per tap. -/
theorem matrices_apply {O C : ℕ} (w : (⟨4, ![O, C, 3, 3]⟩ : Shape).Idx → EReal)
    (h1 : Shape.Transposes ⟨4, ![O, C, 3, 3]⟩ [2, 3, 1, 0] ⟨4, ![3, 3, C, O]⟩) (h2 : Shape.ShapeCasts ⟨4, ![3, 3, C, O]⟩ ⟨3, ![9, C, O]⟩)
    (h3 : Shape.Transposes ⟨3, ![9, C, O]⟩ [0, 2, 1] ⟨3, ![9, O, C]⟩) (t : Fin 9) (o : Fin O) (c : Fin C) :
    transpose ⟨3, ![9, O, C]⟩ [0, 2, 1] (shapeCast ⟨3, ![9, C, O]⟩ (transpose ⟨4, ![3, 3, C, O]⟩ [2, 3, 1, 0] w h1) h2) h3 (ix3 t o c)
      = w (ix4 o c ⟨t.val / 3, by omega⟩ ⟨t.val % 3, by omega⟩) := by
  refine (transpose_apply _ _ _ _ (ix3 t c o) fun b => ?_).trans ?_
  · match b with
    | ⟨0, _⟩ => rfl
    | ⟨1, _⟩ => rfl
    | ⟨2, _⟩ => rfl
  refine (shapeCast_apply _ _ _ (ix4 ⟨t.val / 3, by omega⟩ ⟨t.val % 3, by omega⟩ c o) ?_).trans ?_
  · rw [Shape.rowMajor_val_four, Shape.rowMajor_val_three]
    show ((t.val / 3 * 3 + t.val % 3) * C + c.val) * O + o.val = (t.val * C + c.val) * O + o.val
    rw [Nat.div_add_mod']
  exact transpose_apply _ _ _ _ _ fun b => by
    match b with
    | ⟨0, _⟩ => rfl
    | ⟨1, _⟩ => rfl
    | ⟨2, _⟩ => rfl
    | ⟨3, _⟩ => rfl

/-! ## The four quarters -/

/-- One tap's matrix applied to an array of rows. -/
def tapSum {C O P : ℕ} (w : (⟨3, ![9, O, C]⟩ : Shape).Idx → EReal) (x : (⟨3, ![8, C, P]⟩ : Shape).Idx → EReal) (t : Fin 9) (n : Fin 8) (o : Fin O) (p : Fin P) : EReal :=
  ∑ c : Fin C, w (ix3 t o c) * x (ix3 n c p)

section Quarters
variable {C O P : ℕ} (x0 xh xw xhw : (⟨3, ![8, C, P]⟩ : Shape).Idx → EReal) (w : (⟨3, ![9, O, C]⟩ : Shape).Idx → EReal) (b : (⟨2, ![O, 1]⟩ : Shape).Idx → EReal)

/-- The outputs at even rows and even columns. -/
def quarter0 : (⟨3, ![8, O, P]⟩ : Shape).Idx → EReal := fun i =>
  tapSum w xhw 0 (i 0) (i 1) (i 2) + tapSum w xh 2 (i 0) (i 1) (i 2) + tapSum w xw 6 (i 0) (i 1) (i 2) + tapSum w x0 8 (i 0) (i 1) (i 2) + b (ix2 (i 1) 0)
/-- The outputs at even rows and odd columns. -/
def quarter1 : (⟨3, ![8, O, P]⟩ : Shape).Idx → EReal := fun i =>
  tapSum w xh 1 (i 0) (i 1) (i 2) + tapSum w x0 7 (i 0) (i 1) (i 2) + b (ix2 (i 1) 0)
/-- The outputs at odd rows and even columns. -/
def quarter2 : (⟨3, ![8, O, P]⟩ : Shape).Idx → EReal := fun i =>
  tapSum w xw 3 (i 0) (i 1) (i 2) + tapSum w x0 5 (i 0) (i 1) (i 2) + b (ix2 (i 1) 0)
/-- The outputs at odd rows and odd columns. -/
def quarter3 : (⟨3, ![8, O, P]⟩ : Shape).Idx → EReal := fun i =>
  tapSum w x0 4 (i 0) (i 1) (i 2) + b (ix2 (i 1) 0)

end Quarters

section Up
variable {C O H H' P : ℕ} (x : (⟨4, ![8, C, H, H]⟩ : Shape).Idx → EReal) (W : (⟨4, ![O, C, 3, 3]⟩ : Shape).Idx → EReal) (B : (⟨1, ![O]⟩ : Shape).Idx → EReal)
    (x0 xh xw xhw : (⟨3, ![8, C, P]⟩ : Shape).Idx → EReal) (w : (⟨3, ![9, O, C]⟩ : Shape).Idx → EReal) (b : (⟨2, ![O, 1]⟩ : Shape).Idx → EReal)

/-- What the quarters' inputs are, in terms of the layer's. -/
structure Fed : Prop where
  h0 : ∀ (n : Fin 8) (c : Fin C) (a a' : Fin H) (p : Fin P), p.val = H * a.val + a'.val → x0 (ix3 n c p) = spaced x n c (2 * a.val + 2 * 1) (2 * a'.val + 2 * 1)
  hh : ∀ (n : Fin 8) (c : Fin C) (a a' : Fin H) (p : Fin P), p.val = H * a.val + a'.val → xh (ix3 n c p) = spaced x n c (2 * a.val + 2 * 0) (2 * a'.val + 2 * 1)
  hw : ∀ (n : Fin 8) (c : Fin C) (a a' : Fin H) (p : Fin P), p.val = H * a.val + a'.val → xw (ix3 n c p) = spaced x n c (2 * a.val + 2 * 1) (2 * a'.val + 2 * 0)
  hhw : ∀ (n : Fin 8) (c : Fin C) (a a' : Fin H) (p : Fin P), p.val = H * a.val + a'.val → xhw (ix3 n c p) = spaced x n c (2 * a.val + 2 * 0) (2 * a'.val + 2 * 0)
  weights : ∀ (t : Fin 9) (o : Fin O) (c : Fin C), w (ix3 t o c) = W (ix4 o c ⟨t.val / 3, by omega⟩ ⟨t.val % 3, by omega⟩)
  bias : ∀ o : Fin O, b (ix2 o 0) = B (ix1 o)

variable {x W B x0 xh xw xhw w b}

theorem upTap_odd_row (n : Fin 8) (o : Fin O) (i j : ℕ) (t : Fin 9) (h : (i + t.val / 3) % 2 = 1) : upTap x W n o i j t = 0 :=
  Finset.sum_eq_zero fun c _ => by rw [spaced_odd_row x n c _ _ h, zero_mul]
theorem upTap_odd_col (n : Fin 8) (o : Fin O) (i j : ℕ) (t : Fin 9) (h : (j + t.val % 3) % 2 = 1) : upTap x W n o i j t = 0 :=
  Finset.sum_eq_zero fun c _ => by rw [spaced_odd_col x n c _ _ h, zero_mul]

theorem tapSum_eq {y : (⟨3, ![8, C, P]⟩ : Shape).Idx → EReal} {dh dw : ℕ}
    (hy : ∀ (n : Fin 8) (c : Fin C) (a a' : Fin H) (p : Fin P), p.val = H * a.val + a'.val → y (ix3 n c p) = spaced x n c (2 * a.val + 2 * dh) (2 * a'.val + 2 * dw))
    (hwt : ∀ (t : Fin 9) (o : Fin O) (c : Fin C), w (ix3 t o c) = W (ix4 o c ⟨t.val / 3, by omega⟩ ⟨t.val % 3, by omega⟩))
    (t : Fin 9) (n : Fin 8) (o : Fin O) (a a' : Fin H) (p : Fin P) (e : p.val = H * a.val + a'.val) (i j : ℕ)
    (hi : i + t.val / 3 = 2 * a.val + 2 * dh) (hj : j + t.val % 3 = 2 * a'.val + 2 * dw) :
    tapSum w y t n o p = upTap x W n o i j t := by
  unfold tapSum upTap
  refine Finset.sum_congr rfl fun c _ => ?_
  rw [hwt, hy n c a a' p e, hi, hj, mul_comm]

theorem quarter0_eq (F : Fed x W B x0 xh xw xhw w b) (n : Fin 8) (o : Fin O) (a a' : Fin H) (p : Fin P) (e : p.val = H * a.val + a'.val)
    (i j : Fin H') (hi : i.val = 2 * a.val) (hj : j.val = 2 * a'.val) : quarter0 x0 xh xw xhw w b (ix3 n o p) = up C H O H' x W B (ix4 n o i j) := by
  show tapSum w xhw 0 n o p + tapSum w xh 2 n o p + tapSum w xw 6 n o p + tapSum w x0 8 n o p + b (ix2 o 0) = ∑ t, upTap x W n o i.val j.val t + B (ix1 o)
  rw [← sum_nine, F.bias,
    tapSum_eq F.hhw F.weights 0 n o a a' p e i.val j.val (by rw [hi]; rfl) (by rw [hj]; rfl), tapSum_eq F.hh F.weights 2 n o a a' p e i.val j.val (by rw [hi]; rfl) (by rw [hj]; rfl),
    tapSum_eq F.hw F.weights 6 n o a a' p e i.val j.val (by rw [hi]; rfl) (by rw [hj]; rfl), tapSum_eq F.h0 F.weights 8 n o a a' p e i.val j.val (by rw [hi]; rfl) (by rw [hj]; rfl),
    upTap_odd_col n o i.val j.val 1 (by rw [hj]; show (2 * a'.val + 1) % 2 = 1; omega),
    upTap_odd_row n o i.val j.val 3 (by rw [hi]; show (2 * a.val + 1) % 2 = 1; omega),
    upTap_odd_row n o i.val j.val 4 (by rw [hi]; show (2 * a.val + 1) % 2 = 1; omega),
    upTap_odd_row n o i.val j.val 5 (by rw [hi]; show (2 * a.val + 1) % 2 = 1; omega),
    upTap_odd_col n o i.val j.val 7 (by rw [hj]; show (2 * a'.val + 1) % 2 = 1; omega)]
  simp only [add_zero]

theorem quarter1_eq (F : Fed x W B x0 xh xw xhw w b) (n : Fin 8) (o : Fin O) (a a' : Fin H) (p : Fin P) (e : p.val = H * a.val + a'.val)
    (i j : Fin H') (hi : i.val = 2 * a.val) (hj : j.val = 2 * a'.val + 1) : quarter1 x0 xh w b (ix3 n o p) = up C H O H' x W B (ix4 n o i j) := by
  show tapSum w xh 1 n o p + tapSum w x0 7 n o p + b (ix2 o 0) = ∑ t, upTap x W n o i.val j.val t + B (ix1 o)
  rw [← sum_nine, F.bias,
    tapSum_eq F.hh F.weights 1 n o a a' p e i.val j.val (by rw [hi]; rfl) (by rw [hj]; rfl), tapSum_eq F.h0 F.weights 7 n o a a' p e i.val j.val (by rw [hi]; rfl) (by rw [hj]; rfl),
    upTap_odd_col n o i.val j.val 0 (by rw [hj]; show (2 * a'.val + 1 + 0) % 2 = 1; omega),
    upTap_odd_col n o i.val j.val 2 (by rw [hj]; show (2 * a'.val + 1 + 2) % 2 = 1; omega),
    upTap_odd_row n o i.val j.val 3 (by rw [hi]; show (2 * a.val + 1) % 2 = 1; omega),
    upTap_odd_row n o i.val j.val 4 (by rw [hi]; show (2 * a.val + 1) % 2 = 1; omega),
    upTap_odd_row n o i.val j.val 5 (by rw [hi]; show (2 * a.val + 1) % 2 = 1; omega),
    upTap_odd_col n o i.val j.val 6 (by rw [hj]; show (2 * a'.val + 1 + 0) % 2 = 1; omega),
    upTap_odd_col n o i.val j.val 8 (by rw [hj]; show (2 * a'.val + 1 + 2) % 2 = 1; omega)]
  simp only [add_zero, zero_add]

theorem quarter2_eq (F : Fed x W B x0 xh xw xhw w b) (n : Fin 8) (o : Fin O) (a a' : Fin H) (p : Fin P) (e : p.val = H * a.val + a'.val)
    (i j : Fin H') (hi : i.val = 2 * a.val + 1) (hj : j.val = 2 * a'.val) : quarter2 x0 xw w b (ix3 n o p) = up C H O H' x W B (ix4 n o i j) := by
  show tapSum w xw 3 n o p + tapSum w x0 5 n o p + b (ix2 o 0) = ∑ t, upTap x W n o i.val j.val t + B (ix1 o)
  rw [← sum_nine, F.bias,
    tapSum_eq F.hw F.weights 3 n o a a' p e i.val j.val (by rw [hi]; rfl) (by rw [hj]; rfl), tapSum_eq F.h0 F.weights 5 n o a a' p e i.val j.val (by rw [hi]; rfl) (by rw [hj]; rfl),
    upTap_odd_row n o i.val j.val 0 (by rw [hi]; show (2 * a.val + 1 + 0) % 2 = 1; omega),
    upTap_odd_row n o i.val j.val 1 (by rw [hi]; show (2 * a.val + 1 + 0) % 2 = 1; omega),
    upTap_odd_row n o i.val j.val 2 (by rw [hi]; show (2 * a.val + 1 + 0) % 2 = 1; omega),
    upTap_odd_col n o i.val j.val 4 (by rw [hj]; show (2 * a'.val + 1) % 2 = 1; omega),
    upTap_odd_row n o i.val j.val 6 (by rw [hi]; show (2 * a.val + 1 + 2) % 2 = 1; omega),
    upTap_odd_row n o i.val j.val 7 (by rw [hi]; show (2 * a.val + 1 + 2) % 2 = 1; omega),
    upTap_odd_row n o i.val j.val 8 (by rw [hi]; show (2 * a.val + 1 + 2) % 2 = 1; omega)]
  simp only [add_zero, zero_add]

theorem quarter3_eq (F : Fed x W B x0 xh xw xhw w b) (n : Fin 8) (o : Fin O) (a a' : Fin H) (p : Fin P) (e : p.val = H * a.val + a'.val)
    (i j : Fin H') (hi : i.val = 2 * a.val + 1) (hj : j.val = 2 * a'.val + 1) : quarter3 x0 w b (ix3 n o p) = up C H O H' x W B (ix4 n o i j) := by
  show tapSum w x0 4 n o p + b (ix2 o 0) = ∑ t, upTap x W n o i.val j.val t + B (ix1 o)
  rw [← sum_nine, F.bias,
    tapSum_eq F.h0 F.weights 4 n o a a' p e i.val j.val (by rw [hi]; rfl) (by rw [hj]; rfl),
    upTap_odd_row n o i.val j.val 0 (by rw [hi]; show (2 * a.val + 1 + 0) % 2 = 1; omega),
    upTap_odd_row n o i.val j.val 1 (by rw [hi]; show (2 * a.val + 1 + 0) % 2 = 1; omega),
    upTap_odd_row n o i.val j.val 2 (by rw [hi]; show (2 * a.val + 1 + 0) % 2 = 1; omega),
    upTap_odd_col n o i.val j.val 3 (by rw [hj]; show (2 * a'.val + 1 + 0) % 2 = 1; omega),
    upTap_odd_col n o i.val j.val 5 (by rw [hj]; show (2 * a'.val + 1 + 2) % 2 = 1; omega),
    upTap_odd_row n o i.val j.val 6 (by rw [hi]; show (2 * a.val + 1 + 2) % 2 = 1; omega),
    upTap_odd_row n o i.val j.val 7 (by rw [hi]; show (2 * a.val + 1 + 2) % 2 = 1; omega),
    upTap_odd_row n o i.val j.val 8 (by rw [hi]; show (2 * a.val + 1 + 2) % 2 = 1; omega)]
  simp only [add_zero, zero_add]

end Up

/-! ## The quarters put together -/

theorem lead_apply {O P : ℕ} (q : (⟨3, ![8, O, P]⟩ : Shape).Idx → EReal) (hb : Shape.BroadcastsInDim ⟨3, ![8, O, P]⟩ ⟨4, ![1, 8, O, P]⟩ ![1, 2, 3])
    (n : Fin 8) (o : Fin O) (p : Fin P) : broadcastInDim ⟨4, ![1, 8, O, P]⟩ ![1, 2, 3] hb q (ix4 (0 : Fin 1) n o p) = q (ix3 n o p) :=
  broadcastInDim_apply _ _ _ _ _ fun a => by
    match a with
    | ⟨0, _⟩ => rfl
    | ⟨1, _⟩ =>
      show o.val = if O = 1 then 0 else o.val
      have := o.isLt
      split <;> omega
    | ⟨2, _⟩ =>
      show p.val = if P = 1 then 0 else p.val
      have := p.isLt
      split <;> omega

/-- Four arrays, each with a leading axis of size one. -/
abbrev slabs {O P : ℕ} (q : Fin 4 → (⟨3, ![8, O, P]⟩ : Shape).Idx → EReal) (hb : Shape.BroadcastsInDim ⟨3, ![8, O, P]⟩ ⟨4, ![1, 8, O, P]⟩ ![1, 2, 3]) : List ((s : Shape) × (s.Idx → EReal)) :=
  [⟨⟨4, ![1, 8, O, P]⟩, broadcastInDim ⟨4, ![1, 8, O, P]⟩ ![1, 2, 3] hb (q 0)⟩, ⟨⟨4, ![1, 8, O, P]⟩, broadcastInDim ⟨4, ![1, 8, O, P]⟩ ![1, 2, 3] hb (q 1)⟩,
    ⟨⟨4, ![1, 8, O, P]⟩, broadcastInDim ⟨4, ![1, 8, O, P]⟩ ![1, 2, 3] hb (q 2)⟩, ⟨⟨4, ![1, 8, O, P]⟩, broadcastInDim ⟨4, ![1, 8, O, P]⟩ ![1, 2, 3] hb (q 3)⟩]

theorem stack_apply {O P : ℕ} (q : Fin 4 → (⟨3, ![8, O, P]⟩ : Shape).Idx → EReal) (hb : Shape.BroadcastsInDim ⟨3, ![8, O, P]⟩ ⟨4, ![1, 8, O, P]⟩ ![1, 2, 3])
    (h : Shape.Concatenates [⟨4, ![1, 8, O, P]⟩, ⟨4, ![1, 8, O, P]⟩, ⟨4, ![1, 8, O, P]⟩, ⟨4, ![1, 8, O, P]⟩] ⟨4, ![4, 8, O, P]⟩ 0) (k : Fin 4) (n : Fin 8) (o : Fin O) (p : Fin P) :
    concatenate ⟨4, ![4, 8, O, P]⟩ 0 [⟨⟨4, ![1, 8, O, P]⟩, broadcastInDim ⟨4, ![1, 8, O, P]⟩ ![1, 2, 3] hb (q 0)⟩, ⟨⟨4, ![1, 8, O, P]⟩, broadcastInDim ⟨4, ![1, 8, O, P]⟩ ![1, 2, 3] hb (q 1)⟩,
      ⟨⟨4, ![1, 8, O, P]⟩, broadcastInDim ⟨4, ![1, 8, O, P]⟩ ![1, 2, 3] hb (q 2)⟩, ⟨⟨4, ![1, 8, O, P]⟩, broadcastInDim ⟨4, ![1, 8, O, P]⟩ ![1, 2, 3] hb (q 3)⟩] h (ix4 k n o p) = q k (ix3 n o p) := by
  have side : ∀ b : Fin 4, b.cast rfl ≠ (0 : Fin 4) → ((ix4 (0 : Fin 1) n o p : (⟨4, ![1, 8, O, P]⟩ : Shape).Idx) b).val = ((ix4 k n o p : (⟨4, ![4, 8, O, P]⟩ : Shape).Idx) b).val := fun b hb => by
    match b with
    | ⟨0, _⟩ => exact absurd rfl hb
    | ⟨1, _⟩ => rfl
    | ⟨2, _⟩ => rfl
    | ⟨3, _⟩ => rfl
  match k, side with
  | 0, side => exact (concatenate_apply_piece (t := ⟨4, ![4, 8, O, P]⟩) 0 (slabs q hb) h (ix4 (0 : Fin 4) n o p) 0 (show 0 < 4 by decide) ⟨4, ![1, 8, O, P]⟩ (broadcastInDim ⟨4, ![1, 8, O, P]⟩ ![1, 2, 3] hb (q 0)) rfl rfl 0 rfl (ix4 (0 : Fin 1) n o p) side rfl).trans (lead_apply (q 0) hb n o p)
  | 1, side => exact (concatenate_apply_piece (t := ⟨4, ![4, 8, O, P]⟩) 0 (slabs q hb) h (ix4 (1 : Fin 4) n o p) 1 (show 1 < 4 by decide) ⟨4, ![1, 8, O, P]⟩ (broadcastInDim ⟨4, ![1, 8, O, P]⟩ ![1, 2, 3] hb (q 1)) rfl rfl 1 rfl (ix4 (0 : Fin 1) n o p) side rfl).trans (lead_apply (q 1) hb n o p)
  | 2, side => exact (concatenate_apply_piece (t := ⟨4, ![4, 8, O, P]⟩) 0 (slabs q hb) h (ix4 (2 : Fin 4) n o p) 2 (show 2 < 4 by decide) ⟨4, ![1, 8, O, P]⟩ (broadcastInDim ⟨4, ![1, 8, O, P]⟩ ![1, 2, 3] hb (q 2)) rfl rfl 2 rfl (ix4 (0 : Fin 1) n o p) side rfl).trans (lead_apply (q 2) hb n o p)
  | 3, side => exact (concatenate_apply_piece (t := ⟨4, ![4, 8, O, P]⟩) 0 (slabs q hb) h (ix4 (3 : Fin 4) n o p) 3 (show 3 < 4 by decide) ⟨4, ![1, 8, O, P]⟩ (broadcastInDim ⟨4, ![1, 8, O, P]⟩ ![1, 2, 3] hb (q 3)) rfl rfl 3 rfl (ix4 (0 : Fin 1) n o p) side rfl).trans (lead_apply (q 3) hb n o p)

theorem weave_apply {O H H' P : ℕ} (hP : H * H = P) (hH : H' = 2 * H) (q : (⟨4, ![4, 8, O, P]⟩ : Shape).Idx → EReal)
    (h1 : Shape.ShapeCasts ⟨4, ![4, 8, O, P]⟩ ⟨6, ![2, 2, 8, O, H, H]⟩) (h2 : Shape.Transposes ⟨6, ![2, 2, 8, O, H, H]⟩ [2, 3, 4, 0, 5, 1] ⟨6, ![8, O, H, 2, H, 2]⟩)
    (h3 : Shape.ShapeCasts ⟨6, ![8, O, H, 2, H, 2]⟩ ⟨4, ![8, O, H', H']⟩)
    (n : Fin 8) (o : Fin O) (i j : Fin H') (a b : Fin H) (r s : Fin 2) (hi : i.val = 2 * a.val + r.val) (hj : j.val = 2 * b.val + s.val)
    (k : Fin 4) (hk : k.val = 2 * r.val + s.val) (p : Fin P) (hp : p.val = H * a.val + b.val) :
    shapeCast ⟨4, ![8, O, H', H']⟩ (transpose ⟨6, ![8, O, H, 2, H, 2]⟩ [2, 3, 4, 0, 5, 1] (shapeCast ⟨6, ![2, 2, 8, O, H, H]⟩ q h1) h2) h3 (ix4 n o i j) = q (ix4 k n o p) := by
  refine (shapeCast_apply _ _ _ (ix6 n o a r b s) ?_).trans ?_
  · rw [Shape.rowMajor_val_six, Shape.rowMajor_val_four]
    show ((((n.val * O + o.val) * H + a.val) * 2 + r.val) * H + b.val) * 2 + s.val = ((n.val * O + o.val) * H' + i.val) * H' + j.val
    rw [hi, hj, hH]; ring
  refine (transpose_apply _ _ _ _ (ix6 r s n o a b) fun b => ?_).trans ?_
  · match b with
    | ⟨0, _⟩ => rfl
    | ⟨1, _⟩ => rfl
    | ⟨2, _⟩ => rfl
    | ⟨3, _⟩ => rfl
    | ⟨4, _⟩ => rfl
    | ⟨5, _⟩ => rfl
  refine shapeCast_apply _ _ _ _ ?_
  rw [Shape.rowMajor_val_six, Shape.rowMajor_val_four]
  show ((k.val * 8 + n.val) * O + o.val) * P + p.val = ((((r.val * 2 + s.val) * 8 + n.val) * O + o.val) * H + a.val) * H + b.val
  rw [hk, hp, ← hP]; ring

/-- An output array of which every quarter is one of four arrays of rows. -/
theorem weave_eq {O H H' P : ℕ} (hP : H * H = P) (hH : H' = 2 * H) (q : Fin 4 → (⟨3, ![8, O, P]⟩ : Shape).Idx → EReal) (y : (⟨4, ![8, O, H', H']⟩ : Shape).Idx → EReal)
    (hb : Shape.BroadcastsInDim ⟨3, ![8, O, P]⟩ ⟨4, ![1, 8, O, P]⟩ ![1, 2, 3])
    (h : Shape.Concatenates [⟨4, ![1, 8, O, P]⟩, ⟨4, ![1, 8, O, P]⟩, ⟨4, ![1, 8, O, P]⟩, ⟨4, ![1, 8, O, P]⟩] ⟨4, ![4, 8, O, P]⟩ 0)
    (h1 : Shape.ShapeCasts ⟨4, ![4, 8, O, P]⟩ ⟨6, ![2, 2, 8, O, H, H]⟩) (h2 : Shape.Transposes ⟨6, ![2, 2, 8, O, H, H]⟩ [2, 3, 4, 0, 5, 1] ⟨6, ![8, O, H, 2, H, 2]⟩)
    (h3 : Shape.ShapeCasts ⟨6, ![8, O, H, 2, H, 2]⟩ ⟨4, ![8, O, H', H']⟩)
    (hq : ∀ (r s : Fin 2) (n : Fin 8) (o : Fin O) (a b : Fin H) (p : Fin P), p.val = H * a.val + b.val → ∀ i j : Fin H', i.val = 2 * a.val + r.val → j.val = 2 * b.val + s.val →
      q ⟨2 * r.val + s.val, by omega⟩ (ix3 n o p) = y (ix4 n o i j)) :
    shapeCast ⟨4, ![8, O, H', H']⟩ (transpose ⟨6, ![8, O, H, 2, H, 2]⟩ [2, 3, 4, 0, 5, 1] (shapeCast ⟨6, ![2, 2, 8, O, H, H]⟩
      (concatenate ⟨4, ![4, 8, O, P]⟩ 0 [⟨⟨4, ![1, 8, O, P]⟩, broadcastInDim ⟨4, ![1, 8, O, P]⟩ ![1, 2, 3] hb (q 0)⟩, ⟨⟨4, ![1, 8, O, P]⟩, broadcastInDim ⟨4, ![1, 8, O, P]⟩ ![1, 2, 3] hb (q 1)⟩,
        ⟨⟨4, ![1, 8, O, P]⟩, broadcastInDim ⟨4, ![1, 8, O, P]⟩ ![1, 2, 3] hb (q 2)⟩, ⟨⟨4, ![1, 8, O, P]⟩, broadcastInDim ⟨4, ![1, 8, O, P]⟩ ![1, 2, 3] hb (q 3)⟩] h) h1) h2) h3 = y := by
  funext z
  obtain ⟨n, o, i, j, rfl⟩ : ∃ (n : Fin 8) (o : Fin O) (i j : Fin H'), z = ix4 n o i j := ⟨z 0, z 1, z 2, z 3, ValueIdx.eq_ix4 z⟩
  have hi := i.isLt
  have hj := j.isLt
  have hlt : H * (i.val / 2) + j.val / 2 < P := by
    have h1 : i.val / 2 + 1 ≤ H := by omega
    have h2 : H * (i.val / 2 + 1) ≤ H * H := Nat.mul_le_mul_left _ h1
    rw [Nat.mul_add, Nat.mul_one, hP] at h2
    omega
  refine (weave_apply hP hH _ h1 h2 h3 n o i j ⟨i.val / 2, by omega⟩ ⟨j.val / 2, by omega⟩ ⟨i.val % 2, by omega⟩ ⟨j.val % 2, by omega⟩ (by show i.val = 2 * (i.val / 2) + i.val % 2; omega)
    (by show j.val = 2 * (j.val / 2) + j.val % 2; omega) ⟨2 * (i.val % 2) + j.val % 2, by omega⟩ rfl ⟨H * (i.val / 2) + j.val / 2, hlt⟩ rfl).trans ?_
  refine (stack_apply q hb h _ n o _).trans ?_
  exact hq ⟨i.val % 2, by omega⟩ ⟨j.val % 2, by omega⟩ n o ⟨i.val / 2, by omega⟩ ⟨j.val / 2, by omega⟩ _ rfl i j (by show i.val = 2 * (i.val / 2) + i.val % 2; omega)
    (by show j.val = 2 * (j.val / 2) + j.val % 2; omega)

/-- The four quarters put together are the transposed convolution. -/
theorem quarters_eq {C O H H' P : ℕ} {x : (⟨4, ![8, C, H, H]⟩ : Shape).Idx → EReal} {W : (⟨4, ![O, C, 3, 3]⟩ : Shape).Idx → EReal} {B : (⟨1, ![O]⟩ : Shape).Idx → EReal}
    {x0 xh xw xhw : (⟨3, ![8, C, P]⟩ : Shape).Idx → EReal} {w : (⟨3, ![9, O, C]⟩ : Shape).Idx → EReal} {b : (⟨2, ![O, 1]⟩ : Shape).Idx → EReal}
    (F : Fed x W B x0 xh xw xhw w b) (r s : Fin 2) (n : Fin 8) (o : Fin O) (a a' : Fin H) (p : Fin P) (e : p.val = H * a.val + a'.val)
    (i j : Fin H') (hi : i.val = 2 * a.val + r.val) (hj : j.val = 2 * a'.val + s.val) :
    (![quarter0 x0 xh xw xhw w b, quarter1 x0 xh w b, quarter2 x0 xw w b, quarter3 x0 w b] : Fin 4 → (⟨3, ![8, O, P]⟩ : Shape).Idx → EReal) ⟨2 * r.val + s.val, by omega⟩ (ix3 n o p)
      = up C H O H' x W B (ix4 n o i j) := by
  match r, s with
  | 0, 0 => exact quarter0_eq F n o a a' p e i j hi hj
  | 0, 1 => exact quarter1_eq F n o a a' p e i j hi hj
  | 1, 0 => exact quarter2_eq F n o a a' p e i j hi hj
  | 1, 1 => exact quarter3_eq F n o a a' p e i j hi hj

end Cert.Proof.Plain

end
-- ==== Proof.Decoder.Blocks.lean ====
/-
  What the decoder's calls leave in their output arrays, entry by entry, over the extended reals.
-/
module

public import proofs.«01_k».proof.Proof.Gen.DecoderIdeal.Frame
public import proofs.«01_k».proof.Proof.Decoder.Pay
public import proofs.«01_k».proof.Proof.Decoder.Plain
public import Idealize.ShloMosaic.Lib.Pipeline.ValueKit

@[expose] public section

set_option maxRecDepth 16384

noncomputable section

namespace Cert.Proof.Decoder

open Cert.DecoderIdeal Cert.DecoderIdeal.Gen
open Idealize.ShloMosaic Idealize.ShloMosaic.TcCoe Cert.Proof.Plain

variable (V : (c : Dev nD) → (b : Ref sig .tc) → Buf (Elt Ideal) ((c : Thread nD τ).loc b))

theorem single_block {a b : ℕ} (y : (⟨3, ![1, a, b]⟩ : Shape).Idx) : ∃ (o : Fin a) (p : Fin b), y = ix3 0 o p :=
  ⟨y 1, y 2, funext fun k => match k with
    | ⟨0, _⟩ => Subsingleton.elim (α := Fin 1) _ _
    | ⟨1, _⟩ => rfl
    | ⟨2, _⟩ => rfl⟩

/-- One matrix loaded from the nine. -/
theorem ld_tap {O C : ℕ} (X : (⟨3, ![9, O, C]⟩ : Shape).Idx → EReal) (t : Fin 9) (inb) (o : Fin O) (c : Fin C) :
    View.ld (Val := Elt Ideal) (e' := .f32) X (Rect.unit (s := ⟨3, ![9, O, C]⟩) ![t.val, 0, 0] ![1, O, C] inb) (ix3 0 o c) = X (ix3 t o c) :=
  View.ld_unit_apply_of (Val := Elt Ideal) (e := .f32) X _ _ _ _ (ix3 t o c) fun a => match a with
    | ⟨0, _⟩ => rfl
    | ⟨1, _⟩ => (Nat.zero_add _).symm
    | ⟨2, _⟩ => (Nat.zero_add _).symm

theorem tap_of {O C P : ℕ} {v : (⟨3, ![1, O, C]⟩ : Shape).Idx → EReal} {x : (⟨3, ![1, C, P]⟩ : Shape).Idx → EReal} {w : (⟨3, ![9, O, C]⟩ : Shape).Idx → EReal}
    {y : (⟨3, ![8, C, P]⟩ : Shape).Idx → EReal} {t : Fin 9} {n : Fin 8} (hv : ∀ o c, v (ix3 0 o c) = w (ix3 t o c)) (hx : ∀ c p, x (ix3 0 c p) = y (ix3 n c p)) (o : Fin O) (p : Fin P) :
    ∑ c : Fin C, v (ix3 0 o c) * x (ix3 0 c p) = tapSum w y t n o p :=
  Finset.sum_congr rfl fun c _ => by rw [hv, hx]

/-! ## The 1x1 layer's call -/

/-- The layer on arrays of rows. -/
def rows (x : S8x256x784.Idx → EReal) (w : S256x256.Idx → EReal) (b : S256x1.Idx → EReal) : S8x256x784.Idx → EReal := fun i =>
  ∑ c : Fin 256, w (ix2 (i 1) c) * x (ix3 (i 0) c (i 2)) + b (ix2 (i 1) 0)

abbrev pt0 (t : Fin cfg0.N) : Fin 8 := ⟨t.val, Nat.lt_of_lt_of_eq t.isLt (by decide)⟩

theorem e0_0 : ∀ t : Fin cfg0.N, win0_0.index t = ![t.val, 0, 0] := by decide +kernel
theorem e0_1 : ∀ t : Fin cfg0.N, win0_1.index t = ![0, 0] := by decide +kernel
theorem e0_2 : ∀ t : Fin cfg0.N, win0_2.index t = ![0, 0] := by decide +kernel
theorem e0_3 : ∀ t : Fin cfg0.N, win0_3.index t = ![t.val, 0, 0] := by decide +kernel

theorem b0_0 (c : Dev nD) (t : Fin cfg0.N) (k : Fin 256) (p : Fin 784) : iblk0 V c 0 t (ix3 0 k p) = V c main_v0 (ix3 (pt0 t) k p) := by
  blk_simp [iblk0]; exact congrArg (V c main_v0) (by blk_ext [e0_0])
theorem b0_1 (c : Dev nD) (t : Fin cfg0.N) (o k : Fin 256) : iblk0 V c 1 t (ix2 o k) = V c main_v1 (ix2 o k) := by
  blk_simp [iblk0]; exact congrArg (V c main_v1) (by blk_ext [e0_1])
theorem b0_2 (c : Dev nD) (t : Fin cfg0.N) (o : Fin 256) (k : Fin 1) : iblk0 V c 2 t (ix2 o k) = V c main_v2 (ix2 o k) := by
  blk_simp [iblk0]; exact congrArg (V c main_v2) (by blk_ext [e0_2])
theorem b0_3 (t : Fin cfg0.N) (o : Fin 256) (p : Fin 784) : ((View.whole main_v3).slice (win0_3.rect t)).emb (ix3 0 o p) = ix3 (pt0 t) o p := by
  blk_ext [e0_3]

theorem body0 {x : S1x256x784.Idx → EReal} {w : S256x256.Idx → EReal} {b : S256x1.Idx → EReal} {y : S8x256x784.Idx → EReal} {w' : S256x256.Idx → EReal} {b' : S256x1.Idx → EReal} {n : Fin 8}
    (hx : ∀ k p, x (ix3 0 k p) = y (ix3 n k p)) (hw : ∀ o k, w (ix2 o k) = w' (ix2 o k)) (hb : ∀ o k, b (ix2 o k) = b' (ix2 o k)) (o : Fin 256) (p : Fin 784) :
    k0_pay1 (F := Ideal) w x b (ix3 0 o p) = rows y w' b' (ix3 n o p) := by
  rw [pay0]
  exact congrArg₂ (· + ·) (Finset.sum_congr rfl fun c _ => congrArg₂ (· * ·) (hw o c) (hx c p)) (hb o 0)

set_option maxHeartbeats 2000000 in
theorem arr0 (c : Dev nD) : (dat0 (F := Ideal) V c).arrAt 3 cfg0.N = rows (V c main_v0) (V c main_v1) (V c main_v2) := by
  refine Pipeline.Dat.arrAt_eq_of_covers _ 3 _ (by decide +kernel) fun t hf y => ?_
  blk_simp
  rw [after0_3]
  unfold out0_3
  frame_out
  obtain ⟨o, p, rfl⟩ := single_block y
  rw [b0_3]
  exact body0 (b0_0 V c t) (b0_1 V c t) (b0_2 V c t) o p

/-! ## 256 channels to 128 -/

abbrev pt1 (t : Fin cfg1.N) : Fin 8 := ⟨t.val, Nat.lt_of_lt_of_eq t.isLt (by decide)⟩

theorem e1_0 : ∀ t : Fin cfg1.N, win1_0.index t = ![t.val, 0, 0] := by decide +kernel
theorem e1_1 : ∀ t : Fin cfg1.N, win1_1.index t = ![t.val, 0, 0] := by decide +kernel
theorem e1_2 : ∀ t : Fin cfg1.N, win1_2.index t = ![t.val, 0, 0] := by decide +kernel
theorem e1_3 : ∀ t : Fin cfg1.N, win1_3.index t = ![t.val, 0, 0] := by decide +kernel
theorem e1_4 : ∀ t : Fin cfg1.N, win1_4.index t = ![0, 0, 0] := by decide +kernel
theorem e1_5 : ∀ t : Fin cfg1.N, win1_5.index t = ![0, 0] := by decide +kernel
theorem e1_6 : ∀ t : Fin cfg1.N, win1_6.index t = ![t.val, 0, 0] := by decide +kernel
theorem e1_7 : ∀ t : Fin cfg1.N, win1_7.index t = ![t.val, 0, 0] := by decide +kernel
theorem e1_8 : ∀ t : Fin cfg1.N, win1_8.index t = ![t.val, 0, 0] := by decide +kernel
theorem e1_9 : ∀ t : Fin cfg1.N, win1_9.index t = ![t.val, 0, 0] := by decide +kernel

theorem b1_0 (c : Dev nD) (t : Fin cfg1.N) (k : Fin 256) (p : Fin 784) : iblk1 V c 0 t (ix3 0 k p) = V c main_v7 (ix3 (pt1 t) k p) := by
  blk_simp [iblk1]; exact congrArg (V c main_v7) (by blk_ext [e1_0])
theorem b1_1 (c : Dev nD) (t : Fin cfg1.N) (k : Fin 256) (p : Fin 784) : iblk1 V c 1 t (ix3 0 k p) = V c main_v9 (ix3 (pt1 t) k p) := by
  blk_simp [iblk1]; exact congrArg (V c main_v9) (by blk_ext [e1_1])
theorem b1_2 (c : Dev nD) (t : Fin cfg1.N) (k : Fin 256) (p : Fin 784) : iblk1 V c 2 t (ix3 0 k p) = V c main_v11 (ix3 (pt1 t) k p) := by
  blk_simp [iblk1]; exact congrArg (V c main_v11) (by blk_ext [e1_2])
theorem b1_3 (c : Dev nD) (t : Fin cfg1.N) (k : Fin 256) (p : Fin 784) : iblk1 V c 3 t (ix3 0 k p) = V c main_v13 (ix3 (pt1 t) k p) := by
  blk_simp [iblk1]; exact congrArg (V c main_v13) (by blk_ext [e1_3])
theorem b1_4 (c : Dev nD) (t : Fin cfg1.N) (a : Fin 9) (o : Fin 128) (k : Fin 256) : iblk1 V c 4 t (ix3 a o k) = V c main_v16 (ix3 a o k) := by
  blk_simp [iblk1]; exact congrArg (V c main_v16) (by blk_ext [e1_4])
theorem b1_5 (c : Dev nD) (t : Fin cfg1.N) (o : Fin 128) (k : Fin 1) : iblk1 V c 5 t (ix2 o k) = V c main_v17 (ix2 o k) := by
  blk_simp [iblk1]; exact congrArg (V c main_v17) (by blk_ext [e1_5])
theorem b1_6 (t : Fin cfg1.N) (o : Fin 128) (p : Fin 784) : ((View.whole main_v18_0).slice (win1_6.rect t)).emb (ix3 0 o p) = ix3 (pt1 t) o p := by
  blk_ext [e1_6]
theorem b1_7 (t : Fin cfg1.N) (o : Fin 128) (p : Fin 784) : ((View.whole main_v18_1).slice (win1_7.rect t)).emb (ix3 0 o p) = ix3 (pt1 t) o p := by
  blk_ext [e1_7]
theorem b1_8 (t : Fin cfg1.N) (o : Fin 128) (p : Fin 784) : ((View.whole main_v18_2).slice (win1_8.rect t)).emb (ix3 0 o p) = ix3 (pt1 t) o p := by
  blk_ext [e1_8]
theorem b1_9 (t : Fin cfg1.N) (o : Fin 128) (p : Fin 784) : ((View.whole main_v18_3).slice (win1_9.rect t)).emb (ix3 0 o p) = ix3 (pt1 t) o p := by
  blk_ext [e1_9]

section
variable {x0 x1 x2 x3 : S1x256x784.Idx → EReal} {w : S9x128x256.Idx → EReal} {b : S128x1.Idx → EReal} {y0 y1 y2 y3 : S8x256x784.Idx → EReal} {w' : S9x128x256.Idx → EReal} {b' : S128x1.Idx → EReal} {n : Fin 8}

theorem body1_6 (h0 : ∀ k p, x0 (ix3 0 k p) = y0 (ix3 n k p)) (h1 : ∀ k p, x1 (ix3 0 k p) = y1 (ix3 n k p)) (h2 : ∀ k p, x2 (ix3 0 k p) = y2 (ix3 n k p)) (h3 : ∀ k p, x3 (ix3 0 k p) = y3 (ix3 n k p)) (hw : ∀ t o k, w (ix3 t o k) = w' (ix3 t o k)) (hb : ∀ o k, b (ix2 o k) = b' (ix2 o k)) (o : Fin 128) (p : Fin 784) :
    k1_pay6 (F := Ideal) (k1_pay4 b (View.ld (Val := Elt Ideal) (e' := .f32) w r1_1) x3 (View.ld (Val := Elt Ideal) (e' := .f32) w r1_3) x1 (View.ld (Val := Elt Ideal) (e' := .f32) w r1_4) x2 (View.ld (Val := Elt Ideal) (e' := .f32) w r1_5) x0) k1_pay5 (ix3 0 o p) = (cut (quarter0 y0 y1 y2 y3 w' b')) (ix3 n o p) := by
  rw [pay1_6]
  exact congrArg (fun z : EReal => max z 0) (congrArg₂ (· + ·) (congrArg₂ (· + ·) (congrArg₂ (· + ·) (congrArg₂ (· + ·) (tap_of (fun o c => (ld_tap w 0 _ o c).trans (hw 0 o c)) h3 o p)
    (tap_of (fun o c => (ld_tap w 2 _ o c).trans (hw 2 o c)) h1 o p))
    (tap_of (fun o c => (ld_tap w 6 _ o c).trans (hw 6 o c)) h2 o p))
    (tap_of (fun o c => (ld_tap w 8 _ o c).trans (hw 8 o c)) h0 o p)) (hb o 0))

theorem body1_7 (h0 : ∀ k p, x0 (ix3 0 k p) = y0 (ix3 n k p)) (h1 : ∀ k p, x1 (ix3 0 k p) = y1 (ix3 n k p)) (hw : ∀ t o k, w (ix3 t o k) = w' (ix3 t o k)) (hb : ∀ o k, b (ix2 o k) = b' (ix2 o k)) (o : Fin 128) (p : Fin 784) :
    k1_pay7 (F := Ideal) (k1_pay3 b) (View.ld (Val := Elt Ideal) (e' := .f32) w r1_7) x1 (View.ld (Val := Elt Ideal) (e' := .f32) w r1_8) x0 (ix3 0 o p) = (cut (quarter1 y0 y1 w' b')) (ix3 n o p) := by
  rw [pay1_7]
  exact congrArg (fun z : EReal => max z 0) (congrArg₂ (· + ·) (congrArg₂ (· + ·) (tap_of (fun o c => (ld_tap w 1 _ o c).trans (hw 1 o c)) h1 o p)
    (tap_of (fun o c => (ld_tap w 7 _ o c).trans (hw 7 o c)) h0 o p)) (hb o 0))

theorem body1_8 (h0 : ∀ k p, x0 (ix3 0 k p) = y0 (ix3 n k p)) (h2 : ∀ k p, x2 (ix3 0 k p) = y2 (ix3 n k p)) (hw : ∀ t o k, w (ix3 t o k) = w' (ix3 t o k)) (hb : ∀ o k, b (ix2 o k) = b' (ix2 o k)) (o : Fin 128) (p : Fin 784) :
    k1_pay1 (F := Ideal) (k1_pay3 b) (k1_pay8 (View.ld (Val := Elt Ideal) (e' := .f32) w r1_9) x2) (View.ld (Val := Elt Ideal) (e' := .f32) w r1_10) x0 (ix3 0 o p) = (cut (quarter2 y0 y2 w' b')) (ix3 n o p) := by
  rw [pay1_8]
  exact congrArg (fun z : EReal => max z 0) (congrArg₂ (· + ·) (congrArg₂ (· + ·) (tap_of (fun o c => (ld_tap w 3 _ o c).trans (hw 3 o c)) h2 o p)
    (tap_of (fun o c => (ld_tap w 5 _ o c).trans (hw 5 o c)) h0 o p)) (hb o 0))

theorem body1_9 (h0 : ∀ k p, x0 (ix3 0 k p) = y0 (ix3 n k p)) (hw : ∀ t o k, w (ix3 t o k) = w' (ix3 t o k)) (hb : ∀ o k, b (ix2 o k) = b' (ix2 o k)) (o : Fin 128) (p : Fin 784) :
    k1_pay2 (F := Ideal) (k1_pay3 b) (View.ld (Val := Elt Ideal) (e' := .f32) w r1_11) x0 (ix3 0 o p) = (cut (quarter3 y0 w' b')) (ix3 n o p) := by
  rw [pay1_9]
  exact congrArg (fun z : EReal => max z 0) (congrArg₂ (· + ·) (tap_of (fun o c => (ld_tap w 4 _ o c).trans (hw 4 o c)) h0 o p) (hb o 0))

end

set_option maxHeartbeats 2000000 in
theorem arr1_6 (c : Dev nD) : (dat1 (F := Ideal) V c).arrAt 6 cfg1.N = cut (quarter0 (V c main_v7) (V c main_v9) (V c main_v11) (V c main_v13) (V c main_v16) (V c main_v17)) := by
  refine Pipeline.Dat.arrAt_eq_of_covers _ 6 _ (by decide +kernel) fun t hf y => ?_
  blk_simp
  rw [after1_6]
  unfold_out out1_6
  frame_out
  obtain ⟨o, p, rfl⟩ := single_block y
  rw [b1_6]
  exact body1_6 (b1_0 V c t) (b1_1 V c t) (b1_2 V c t) (b1_3 V c t) (b1_4 V c t) (b1_5 V c t) o p

set_option maxHeartbeats 2000000 in
theorem arr1_7 (c : Dev nD) : (dat1 (F := Ideal) V c).arrAt 7 cfg1.N = cut (quarter1 (V c main_v7) (V c main_v9) (V c main_v16) (V c main_v17)) := by
  refine Pipeline.Dat.arrAt_eq_of_covers _ 7 _ (by decide +kernel) fun t hf y => ?_
  blk_simp
  rw [after1_7]
  unfold_out out1_7
  frame_out
  obtain ⟨o, p, rfl⟩ := single_block y
  rw [b1_7]
  exact body1_7 (b1_0 V c t) (b1_1 V c t) (b1_4 V c t) (b1_5 V c t) o p

set_option maxHeartbeats 2000000 in
theorem arr1_8 (c : Dev nD) : (dat1 (F := Ideal) V c).arrAt 8 cfg1.N = cut (quarter2 (V c main_v7) (V c main_v11) (V c main_v16) (V c main_v17)) := by
  refine Pipeline.Dat.arrAt_eq_of_covers _ 8 _ (by decide +kernel) fun t hf y => ?_
  blk_simp
  rw [after1_8]
  unfold_out out1_8
  frame_out
  obtain ⟨o, p, rfl⟩ := single_block y
  rw [b1_8]
  exact body1_8 (b1_0 V c t) (b1_2 V c t) (b1_4 V c t) (b1_5 V c t) o p

set_option maxHeartbeats 2000000 in
theorem arr1_9 (c : Dev nD) : (dat1 (F := Ideal) V c).arrAt 9 cfg1.N = cut (quarter3 (V c main_v7) (V c main_v16) (V c main_v17)) := by
  refine Pipeline.Dat.arrAt_eq_of_covers _ 9 _ (by decide +kernel) fun t hf y => ?_
  blk_simp
  rw [after1_9]
  unfold_out out1_9
  frame_out
  obtain ⟨o, p, rfl⟩ := single_block y
  rw [b1_9]
  exact body1_9 (b1_0 V c t) (b1_4 V c t) (b1_5 V c t) o p

end Cert.Proof.Decoder

end
-- ==== Proof.Decoder.Blocks2.lean ====
/-
  What the decoder's calls leave in their output arrays, entry by entry, over the extended reals.
-/
module

public import proofs.«01_k».proof.Proof.Gen.DecoderIdeal.Frame
public import proofs.«01_k».proof.Proof.Decoder.Pay
public import proofs.«01_k».proof.Proof.Decoder.Plain
public import proofs.«01_k».proof.Proof.Decoder.Blocks
public import Idealize.ShloMosaic.Lib.Pipeline.ValueKit

@[expose] public section

set_option maxRecDepth 16384

noncomputable section

namespace Cert.Proof.Decoder

open Cert.DecoderIdeal Cert.DecoderIdeal.Gen
open Idealize.ShloMosaic Idealize.ShloMosaic.TcCoe Cert.Proof.Plain

variable (V : (c : Dev nD) → (b : Ref sig .tc) → Buf (Elt Ideal) ((c : Thread nD τ).loc b))

/-! ## 128 channels to 64 -/

abbrev pt2 (t : Fin cfg2.N) : Fin 8 := ⟨t.val, Nat.lt_of_lt_of_eq t.isLt (by decide)⟩

theorem e2_0 : ∀ t : Fin cfg2.N, win2_0.index t = ![t.val, 0, 0] := by decide +kernel
theorem e2_1 : ∀ t : Fin cfg2.N, win2_1.index t = ![t.val, 0, 0] := by decide +kernel
theorem e2_2 : ∀ t : Fin cfg2.N, win2_2.index t = ![t.val, 0, 0] := by decide +kernel
theorem e2_3 : ∀ t : Fin cfg2.N, win2_3.index t = ![t.val, 0, 0] := by decide +kernel
theorem e2_4 : ∀ t : Fin cfg2.N, win2_4.index t = ![0, 0, 0] := by decide +kernel
theorem e2_5 : ∀ t : Fin cfg2.N, win2_5.index t = ![0, 0] := by decide +kernel
theorem e2_6 : ∀ t : Fin cfg2.N, win2_6.index t = ![t.val, 0, 0] := by decide +kernel
theorem e2_7 : ∀ t : Fin cfg2.N, win2_7.index t = ![t.val, 0, 0] := by decide +kernel
theorem e2_8 : ∀ t : Fin cfg2.N, win2_8.index t = ![t.val, 0, 0] := by decide +kernel
theorem e2_9 : ∀ t : Fin cfg2.N, win2_9.index t = ![t.val, 0, 0] := by decide +kernel

theorem b2_0 (c : Dev nD) (t : Fin cfg2.N) (k : Fin 128) (p : Fin 3136) : iblk2 V c 0 t (ix3 0 k p) = V c main_v29 (ix3 (pt2 t) k p) := by
  blk_simp [iblk2]; exact congrArg (V c main_v29) (by blk_ext [e2_0])
theorem b2_1 (c : Dev nD) (t : Fin cfg2.N) (k : Fin 128) (p : Fin 3136) : iblk2 V c 1 t (ix3 0 k p) = V c main_v31 (ix3 (pt2 t) k p) := by
  blk_simp [iblk2]; exact congrArg (V c main_v31) (by blk_ext [e2_1])
theorem b2_2 (c : Dev nD) (t : Fin cfg2.N) (k : Fin 128) (p : Fin 3136) : iblk2 V c 2 t (ix3 0 k p) = V c main_v33 (ix3 (pt2 t) k p) := by
  blk_simp [iblk2]; exact congrArg (V c main_v33) (by blk_ext [e2_2])
theorem b2_3 (c : Dev nD) (t : Fin cfg2.N) (k : Fin 128) (p : Fin 3136) : iblk2 V c 3 t (ix3 0 k p) = V c main_v35 (ix3 (pt2 t) k p) := by
  blk_simp [iblk2]; exact congrArg (V c main_v35) (by blk_ext [e2_3])
theorem b2_4 (c : Dev nD) (t : Fin cfg2.N) (a : Fin 9) (o : Fin 64) (k : Fin 128) : iblk2 V c 4 t (ix3 a o k) = V c main_v38 (ix3 a o k) := by
  blk_simp [iblk2]; exact congrArg (V c main_v38) (by blk_ext [e2_4])
theorem b2_5 (c : Dev nD) (t : Fin cfg2.N) (o : Fin 64) (k : Fin 1) : iblk2 V c 5 t (ix2 o k) = V c main_v39 (ix2 o k) := by
  blk_simp [iblk2]; exact congrArg (V c main_v39) (by blk_ext [e2_5])
theorem b2_6 (t : Fin cfg2.N) (o : Fin 64) (p : Fin 3136) : ((View.whole main_v40_0).slice (win2_6.rect t)).emb (ix3 0 o p) = ix3 (pt2 t) o p := by
  blk_ext [e2_6]
theorem b2_7 (t : Fin cfg2.N) (o : Fin 64) (p : Fin 3136) : ((View.whole main_v40_1).slice (win2_7.rect t)).emb (ix3 0 o p) = ix3 (pt2 t) o p := by
  blk_ext [e2_7]
theorem b2_8 (t : Fin cfg2.N) (o : Fin 64) (p : Fin 3136) : ((View.whole main_v40_2).slice (win2_8.rect t)).emb (ix3 0 o p) = ix3 (pt2 t) o p := by
  blk_ext [e2_8]
theorem b2_9 (t : Fin cfg2.N) (o : Fin 64) (p : Fin 3136) : ((View.whole main_v40_3).slice (win2_9.rect t)).emb (ix3 0 o p) = ix3 (pt2 t) o p := by
  blk_ext [e2_9]

section
variable {x0 x1 x2 x3 : S1x128x3136.Idx → EReal} {w : S9x64x128.Idx → EReal} {b : S64x1.Idx → EReal} {y0 y1 y2 y3 : S8x128x3136.Idx → EReal} {w' : S9x64x128.Idx → EReal} {b' : S64x1.Idx → EReal} {n : Fin 8}

theorem body2_6 (h0 : ∀ k p, x0 (ix3 0 k p) = y0 (ix3 n k p)) (h1 : ∀ k p, x1 (ix3 0 k p) = y1 (ix3 n k p)) (h2 : ∀ k p, x2 (ix3 0 k p) = y2 (ix3 n k p)) (h3 : ∀ k p, x3 (ix3 0 k p) = y3 (ix3 n k p)) (hw : ∀ t o k, w (ix3 t o k) = w' (ix3 t o k)) (hb : ∀ o k, b (ix2 o k) = b' (ix2 o k)) (o : Fin 64) (p : Fin 3136) :
    k2_pay6 (F := Ideal) (k2_pay4 b (View.ld (Val := Elt Ideal) (e' := .f32) w r2_1) x3 (View.ld (Val := Elt Ideal) (e' := .f32) w r2_3) x1 (View.ld (Val := Elt Ideal) (e' := .f32) w r2_4) x2 (View.ld (Val := Elt Ideal) (e' := .f32) w r2_5) x0) k2_pay5 (ix3 0 o p) = (cut (quarter0 y0 y1 y2 y3 w' b')) (ix3 n o p) := by
  rw [pay2_6]
  exact congrArg (fun z : EReal => max z 0) (congrArg₂ (· + ·) (congrArg₂ (· + ·) (congrArg₂ (· + ·) (congrArg₂ (· + ·) (tap_of (fun o c => (ld_tap w 0 _ o c).trans (hw 0 o c)) h3 o p)
    (tap_of (fun o c => (ld_tap w 2 _ o c).trans (hw 2 o c)) h1 o p))
    (tap_of (fun o c => (ld_tap w 6 _ o c).trans (hw 6 o c)) h2 o p))
    (tap_of (fun o c => (ld_tap w 8 _ o c).trans (hw 8 o c)) h0 o p)) (hb o 0))

theorem body2_7 (h0 : ∀ k p, x0 (ix3 0 k p) = y0 (ix3 n k p)) (h1 : ∀ k p, x1 (ix3 0 k p) = y1 (ix3 n k p)) (hw : ∀ t o k, w (ix3 t o k) = w' (ix3 t o k)) (hb : ∀ o k, b (ix2 o k) = b' (ix2 o k)) (o : Fin 64) (p : Fin 3136) :
    k2_pay7 (F := Ideal) (k2_pay3 b) (View.ld (Val := Elt Ideal) (e' := .f32) w r2_7) x1 (View.ld (Val := Elt Ideal) (e' := .f32) w r2_8) x0 (ix3 0 o p) = (cut (quarter1 y0 y1 w' b')) (ix3 n o p) := by
  rw [pay2_7]
  exact congrArg (fun z : EReal => max z 0) (congrArg₂ (· + ·) (congrArg₂ (· + ·) (tap_of (fun o c => (ld_tap w 1 _ o c).trans (hw 1 o c)) h1 o p)
    (tap_of (fun o c => (ld_tap w 7 _ o c).trans (hw 7 o c)) h0 o p)) (hb o 0))

theorem body2_8 (h0 : ∀ k p, x0 (ix3 0 k p) = y0 (ix3 n k p)) (h2 : ∀ k p, x2 (ix3 0 k p) = y2 (ix3 n k p)) (hw : ∀ t o k, w (ix3 t o k) = w' (ix3 t o k)) (hb : ∀ o k, b (ix2 o k) = b' (ix2 o k)) (o : Fin 64) (p : Fin 3136) :
    k2_pay1 (F := Ideal) (k2_pay3 b) (k2_pay8 (View.ld (Val := Elt Ideal) (e' := .f32) w r2_9) x2) (View.ld (Val := Elt Ideal) (e' := .f32) w r2_10) x0 (ix3 0 o p) = (cut (quarter2 y0 y2 w' b')) (ix3 n o p) := by
  rw [pay2_8]
  exact congrArg (fun z : EReal => max z 0) (congrArg₂ (· + ·) (congrArg₂ (· + ·) (tap_of (fun o c => (ld_tap w 3 _ o c).trans (hw 3 o c)) h2 o p)
    (tap_of (fun o c => (ld_tap w 5 _ o c).trans (hw 5 o c)) h0 o p)) (hb o 0))

theorem body2_9 (h0 : ∀ k p, x0 (ix3 0 k p) = y0 (ix3 n k p)) (hw : ∀ t o k, w (ix3 t o k) = w' (ix3 t o k)) (hb : ∀ o k, b (ix2 o k) = b' (ix2 o k)) (o : Fin 64) (p : Fin 3136) :
    k2_pay2 (F := Ideal) (k2_pay3 b) (View.ld (Val := Elt Ideal) (e' := .f32) w r2_11) x0 (ix3 0 o p) = (cut (quarter3 y0 w' b')) (ix3 n o p) := by
  rw [pay2_9]
  exact congrArg (fun z : EReal => max z 0) (congrArg₂ (· + ·) (tap_of (fun o c => (ld_tap w 4 _ o c).trans (hw 4 o c)) h0 o p) (hb o 0))

end

set_option maxHeartbeats 2000000 in
theorem arr2_6 (c : Dev nD) : (dat2 (F := Ideal) V c).arrAt 6 cfg2.N = cut (quarter0 (V c main_v29) (V c main_v31) (V c main_v33) (V c main_v35) (V c main_v38) (V c main_v39)) := by
  refine Pipeline.Dat.arrAt_eq_of_covers _ 6 _ (by decide +kernel) fun t hf y => ?_
  blk_simp
  rw [after2_6]
  unfold_out out2_6
  frame_out
  obtain ⟨o, p, rfl⟩ := single_block y
  rw [b2_6]
  exact body2_6 (b2_0 V c t) (b2_1 V c t) (b2_2 V c t) (b2_3 V c t) (b2_4 V c t) (b2_5 V c t) o p

set_option maxHeartbeats 2000000 in
theorem arr2_7 (c : Dev nD) : (dat2 (F := Ideal) V c).arrAt 7 cfg2.N = cut (quarter1 (V c main_v29) (V c main_v31) (V c main_v38) (V c main_v39)) := by
  refine Pipeline.Dat.arrAt_eq_of_covers _ 7 _ (by decide +kernel) fun t hf y => ?_
  blk_simp
  rw [after2_7]
  unfold_out out2_7
  frame_out
  obtain ⟨o, p, rfl⟩ := single_block y
  rw [b2_7]
  exact body2_7 (b2_0 V c t) (b2_1 V c t) (b2_4 V c t) (b2_5 V c t) o p

set_option maxHeartbeats 2000000 in
theorem arr2_8 (c : Dev nD) : (dat2 (F := Ideal) V c).arrAt 8 cfg2.N = cut (quarter2 (V c main_v29) (V c main_v33) (V c main_v38) (V c main_v39)) := by
  refine Pipeline.Dat.arrAt_eq_of_covers _ 8 _ (by decide +kernel) fun t hf y => ?_
  blk_simp
  rw [after2_8]
  unfold_out out2_8
  frame_out
  obtain ⟨o, p, rfl⟩ := single_block y
  rw [b2_8]
  exact body2_8 (b2_0 V c t) (b2_2 V c t) (b2_4 V c t) (b2_5 V c t) o p

set_option maxHeartbeats 2000000 in
theorem arr2_9 (c : Dev nD) : (dat2 (F := Ideal) V c).arrAt 9 cfg2.N = cut (quarter3 (V c main_v29) (V c main_v38) (V c main_v39)) := by
  refine Pipeline.Dat.arrAt_eq_of_covers _ 9 _ (by decide +kernel) fun t hf y => ?_
  blk_simp
  rw [after2_9]
  unfold_out out2_9
  frame_out
  obtain ⟨o, p, rfl⟩ := single_block y
  rw [b2_9]
  exact body2_9 (b2_0 V c t) (b2_4 V c t) (b2_5 V c t) o p

end Cert.Proof.Decoder

end
-- ==== Proof.Decoder.Blocks3.lean ====
/-
  What the decoder's calls leave in their output arrays, entry by entry, over the extended reals.
-/
module

public import proofs.«01_k».proof.Proof.Gen.DecoderIdeal.Frame
public import proofs.«01_k».proof.Proof.Decoder.Pay
public import proofs.«01_k».proof.Proof.Decoder.Plain
public import proofs.«01_k».proof.Proof.Decoder.Blocks
public import Idealize.ShloMosaic.Lib.Pipeline.ValueKit

@[expose] public section

set_option maxRecDepth 16384

noncomputable section

namespace Cert.Proof.Decoder

open Cert.DecoderIdeal Cert.DecoderIdeal.Gen
open Idealize.ShloMosaic Idealize.ShloMosaic.TcCoe Cert.Proof.Plain

variable (V : (c : Dev nD) → (b : Ref sig .tc) → Buf (Elt Ideal) ((c : Thread nD τ).loc b))

/-! ## 64 channels to 3 -/

abbrev pt3 (t : Fin cfg3.N) : Fin 8 := ⟨t.val, Nat.lt_of_lt_of_eq t.isLt (by decide)⟩

theorem e3_0 : ∀ t : Fin cfg3.N, win3_0.index t = ![t.val, 0, 0] := by decide +kernel
theorem e3_1 : ∀ t : Fin cfg3.N, win3_1.index t = ![t.val, 0, 0] := by decide +kernel
theorem e3_2 : ∀ t : Fin cfg3.N, win3_2.index t = ![t.val, 0, 0] := by decide +kernel
theorem e3_3 : ∀ t : Fin cfg3.N, win3_3.index t = ![t.val, 0, 0] := by decide +kernel
theorem e3_4 : ∀ t : Fin cfg3.N, win3_4.index t = ![0, 0, 0] := by decide +kernel
theorem e3_5 : ∀ t : Fin cfg3.N, win3_5.index t = ![0, 0] := by decide +kernel
theorem e3_6 : ∀ t : Fin cfg3.N, win3_6.index t = ![t.val, 0, 0] := by decide +kernel
theorem e3_7 : ∀ t : Fin cfg3.N, win3_7.index t = ![t.val, 0, 0] := by decide +kernel
theorem e3_8 : ∀ t : Fin cfg3.N, win3_8.index t = ![t.val, 0, 0] := by decide +kernel
theorem e3_9 : ∀ t : Fin cfg3.N, win3_9.index t = ![t.val, 0, 0] := by decide +kernel

theorem b3_0 (c : Dev nD) (t : Fin cfg3.N) (k : Fin 64) (p : Fin 12544) : iblk3 V c 0 t (ix3 0 k p) = V c main_v51 (ix3 (pt3 t) k p) := by
  blk_simp [iblk3]; exact congrArg (V c main_v51) (by blk_ext [e3_0])
theorem b3_1 (c : Dev nD) (t : Fin cfg3.N) (k : Fin 64) (p : Fin 12544) : iblk3 V c 1 t (ix3 0 k p) = V c main_v53 (ix3 (pt3 t) k p) := by
  blk_simp [iblk3]; exact congrArg (V c main_v53) (by blk_ext [e3_1])
theorem b3_2 (c : Dev nD) (t : Fin cfg3.N) (k : Fin 64) (p : Fin 12544) : iblk3 V c 2 t (ix3 0 k p) = V c main_v55 (ix3 (pt3 t) k p) := by
  blk_simp [iblk3]; exact congrArg (V c main_v55) (by blk_ext [e3_2])
theorem b3_3 (c : Dev nD) (t : Fin cfg3.N) (k : Fin 64) (p : Fin 12544) : iblk3 V c 3 t (ix3 0 k p) = V c main_v57 (ix3 (pt3 t) k p) := by
  blk_simp [iblk3]; exact congrArg (V c main_v57) (by blk_ext [e3_3])
theorem b3_4 (c : Dev nD) (t : Fin cfg3.N) (a : Fin 9) (o : Fin 3) (k : Fin 64) : iblk3 V c 4 t (ix3 a o k) = V c main_v60 (ix3 a o k) := by
  blk_simp [iblk3]; exact congrArg (V c main_v60) (by blk_ext [e3_4])
theorem b3_5 (c : Dev nD) (t : Fin cfg3.N) (o : Fin 3) (k : Fin 1) : iblk3 V c 5 t (ix2 o k) = V c main_v61 (ix2 o k) := by
  blk_simp [iblk3]; exact congrArg (V c main_v61) (by blk_ext [e3_5])
theorem b3_6 (t : Fin cfg3.N) (o : Fin 3) (p : Fin 12544) : ((View.whole main_v62_0).slice (win3_6.rect t)).emb (ix3 0 o p) = ix3 (pt3 t) o p := by
  blk_ext [e3_6]
theorem b3_7 (t : Fin cfg3.N) (o : Fin 3) (p : Fin 12544) : ((View.whole main_v62_1).slice (win3_7.rect t)).emb (ix3 0 o p) = ix3 (pt3 t) o p := by
  blk_ext [e3_7]
theorem b3_8 (t : Fin cfg3.N) (o : Fin 3) (p : Fin 12544) : ((View.whole main_v62_2).slice (win3_8.rect t)).emb (ix3 0 o p) = ix3 (pt3 t) o p := by
  blk_ext [e3_8]
theorem b3_9 (t : Fin cfg3.N) (o : Fin 3) (p : Fin 12544) : ((View.whole main_v62_3).slice (win3_9.rect t)).emb (ix3 0 o p) = ix3 (pt3 t) o p := by
  blk_ext [e3_9]

section
variable {x0 x1 x2 x3 : S1x64x12544.Idx → EReal} {w : S9x3x64.Idx → EReal} {b : S3x1.Idx → EReal} {y0 y1 y2 y3 : S8x64x12544.Idx → EReal} {w' : S9x3x64.Idx → EReal} {b' : S3x1.Idx → EReal} {n : Fin 8}

theorem body3_6 (h0 : ∀ k p, x0 (ix3 0 k p) = y0 (ix3 n k p)) (h1 : ∀ k p, x1 (ix3 0 k p) = y1 (ix3 n k p)) (h2 : ∀ k p, x2 (ix3 0 k p) = y2 (ix3 n k p)) (h3 : ∀ k p, x3 (ix3 0 k p) = y3 (ix3 n k p)) (hw : ∀ t o k, w (ix3 t o k) = w' (ix3 t o k)) (hb : ∀ o k, b (ix2 o k) = b' (ix2 o k)) (o : Fin 3) (p : Fin 12544) :
    k3_pay5 (F := Ideal) (k3_pay4 b (View.ld (Val := Elt Ideal) (e' := .f32) w r3_1) x3 (View.ld (Val := Elt Ideal) (e' := .f32) w r3_3) x1 (View.ld (Val := Elt Ideal) (e' := .f32) w r3_4) x2 (View.ld (Val := Elt Ideal) (e' := .f32) w r3_5) x0) (ix3 0 o p) = (quarter0 y0 y1 y2 y3 w' b') (ix3 n o p) := by
  rw [pay3_6]
  exact (congrArg₂ (· + ·) (congrArg₂ (· + ·) (congrArg₂ (· + ·) (congrArg₂ (· + ·) (tap_of (fun o c => (ld_tap w 0 _ o c).trans (hw 0 o c)) h3 o p)
    (tap_of (fun o c => (ld_tap w 2 _ o c).trans (hw 2 o c)) h1 o p))
    (tap_of (fun o c => (ld_tap w 6 _ o c).trans (hw 6 o c)) h2 o p))
    (tap_of (fun o c => (ld_tap w 8 _ o c).trans (hw 8 o c)) h0 o p)) (hb o 0))

theorem body3_7 (h0 : ∀ k p, x0 (ix3 0 k p) = y0 (ix3 n k p)) (h1 : ∀ k p, x1 (ix3 0 k p) = y1 (ix3 n k p)) (hw : ∀ t o k, w (ix3 t o k) = w' (ix3 t o k)) (hb : ∀ o k, b (ix2 o k) = b' (ix2 o k)) (o : Fin 3) (p : Fin 12544) :
    k3_pay6 (F := Ideal) (k3_pay3 b) (View.ld (Val := Elt Ideal) (e' := .f32) w r3_7) x1 (View.ld (Val := Elt Ideal) (e' := .f32) w r3_8) x0 (ix3 0 o p) = (quarter1 y0 y1 w' b') (ix3 n o p) := by
  rw [pay3_7]
  exact (congrArg₂ (· + ·) (congrArg₂ (· + ·) (tap_of (fun o c => (ld_tap w 1 _ o c).trans (hw 1 o c)) h1 o p)
    (tap_of (fun o c => (ld_tap w 7 _ o c).trans (hw 7 o c)) h0 o p)) (hb o 0))

theorem body3_8 (h0 : ∀ k p, x0 (ix3 0 k p) = y0 (ix3 n k p)) (h2 : ∀ k p, x2 (ix3 0 k p) = y2 (ix3 n k p)) (hw : ∀ t o k, w (ix3 t o k) = w' (ix3 t o k)) (hb : ∀ o k, b (ix2 o k) = b' (ix2 o k)) (o : Fin 3) (p : Fin 12544) :
    k3_pay1 (F := Ideal) (k3_pay3 b) (k3_pay7 (View.ld (Val := Elt Ideal) (e' := .f32) w r3_9) x2) (k3_pay8 (View.ld (Val := Elt Ideal) (e' := .f32) w r3_10)) x0 (ix3 0 o p) = (quarter2 y0 y2 w' b') (ix3 n o p) := by
  rw [pay3_8]
  exact (congrArg₂ (· + ·) (congrArg₂ (· + ·) (tap_of (fun o c => (ld_tap w 3 _ o c).trans (hw 3 o c)) h2 o p)
    (tap_of (fun o c => (ld_tap w 5 _ o c).trans (hw 5 o c)) h0 o p)) (hb o 0))

theorem body3_9 (h0 : ∀ k p, x0 (ix3 0 k p) = y0 (ix3 n k p)) (hw : ∀ t o k, w (ix3 t o k) = w' (ix3 t o k)) (hb : ∀ o k, b (ix2 o k) = b' (ix2 o k)) (o : Fin 3) (p : Fin 12544) :
    k3_pay2 (F := Ideal) (k3_pay3 b) (View.ld (Val := Elt Ideal) (e' := .f32) w r3_11) x0 (ix3 0 o p) = (quarter3 y0 w' b') (ix3 n o p) := by
  rw [pay3_9]
  exact (congrArg₂ (· + ·) (tap_of (fun o c => (ld_tap w 4 _ o c).trans (hw 4 o c)) h0 o p) (hb o 0))

end

set_option maxHeartbeats 2000000 in
theorem arr3_6 (c : Dev nD) : (dat3 (F := Ideal) V c).arrAt 6 cfg3.N = quarter0 (V c main_v51) (V c main_v53) (V c main_v55) (V c main_v57) (V c main_v60) (V c main_v61) := by
  refine Pipeline.Dat.arrAt_eq_of_covers _ 6 _ (by decide +kernel) fun t hf y => ?_
  blk_simp
  rw [after3_6]
  unfold_out out3_6
  frame_out
  obtain ⟨o, p, rfl⟩ := single_block y
  rw [b3_6]
  exact body3_6 (b3_0 V c t) (b3_1 V c t) (b3_2 V c t) (b3_3 V c t) (b3_4 V c t) (b3_5 V c t) o p

set_option maxHeartbeats 2000000 in
theorem arr3_7 (c : Dev nD) : (dat3 (F := Ideal) V c).arrAt 7 cfg3.N = quarter1 (V c main_v51) (V c main_v53) (V c main_v60) (V c main_v61) := by
  refine Pipeline.Dat.arrAt_eq_of_covers _ 7 _ (by decide +kernel) fun t hf y => ?_
  blk_simp
  rw [after3_7]
  unfold_out out3_7
  frame_out
  obtain ⟨o, p, rfl⟩ := single_block y
  rw [b3_7]
  exact body3_7 (b3_0 V c t) (b3_1 V c t) (b3_4 V c t) (b3_5 V c t) o p

set_option maxHeartbeats 2000000 in
theorem arr3_8 (c : Dev nD) : (dat3 (F := Ideal) V c).arrAt 8 cfg3.N = quarter2 (V c main_v51) (V c main_v55) (V c main_v60) (V c main_v61) := by
  refine Pipeline.Dat.arrAt_eq_of_covers _ 8 _ (by decide +kernel) fun t hf y => ?_
  blk_simp
  rw [after3_8]
  unfold_out out3_8
  frame_out
  obtain ⟨o, p, rfl⟩ := single_block y
  rw [b3_8]
  exact body3_8 (b3_0 V c t) (b3_2 V c t) (b3_4 V c t) (b3_5 V c t) o p

set_option maxHeartbeats 2000000 in
theorem arr3_9 (c : Dev nD) : (dat3 (F := Ideal) V c).arrAt 9 cfg3.N = quarter3 (V c main_v51) (V c main_v60) (V c main_v61) := by
  refine Pipeline.Dat.arrAt_eq_of_covers _ 9 _ (by decide +kernel) fun t hf y => ?_
  blk_simp
  rw [after3_9]
  unfold_out out3_9
  frame_out
  obtain ⟨o, p, rfl⟩ := single_block y
  rw [b3_9]
  exact body3_9 (b3_0 V c t) (b3_4 V c t) (b3_5 V c t) o p

end Cert.Proof.Decoder

end
-- ==== Proof.Decoder.Feed.lean ====
/-
  What the host operations of the decoder's program hand to its calls and make of their outputs.
-/
module

public import proofs.«01_k».proof.Proof.Gen.DecoderIdeal.Launch
public import proofs.«01_k».proof.Proof.Decoder.Plain
public import Idealize.ShloMosaic.Lib.StableHlo.RunRead

@[expose] public section

set_option maxRecDepth 16384

noncomputable section

namespace Cert.Proof.Decoder

open Cert.DecoderIdeal Cert.DecoderIdeal.Gen
open Idealize.ShloMosaic Idealize.ShloMosaic.TcCoe Idealize.ShloMosaic.StableHlo Cert.Proof.Plain

variable (W : Valuation τ sig (Elt Ideal))

theorem pad_zero : (sitofp (F := Ideal) .f32 (constantI S_ 32 0#32) : S_.Idx → EReal) (Shape.Idx.first h_S_) = 0 := by
  show (((0#32 : BitVec 32).toInt : ℝ) : EReal) = 0
  simp

/-- The same with everything cut at zero. -/
theorem cut_quarters_eq {C O H H' P : ℕ} {x : (⟨4, ![8, C, H, H]⟩ : Shape).Idx → EReal} {W : (⟨4, ![O, C, 3, 3]⟩ : Shape).Idx → EReal} {B : (⟨1, ![O]⟩ : Shape).Idx → EReal}
    {x0 xh xw xhw : (⟨3, ![8, C, P]⟩ : Shape).Idx → EReal} {w : (⟨3, ![9, O, C]⟩ : Shape).Idx → EReal} {b : (⟨2, ![O, 1]⟩ : Shape).Idx → EReal}
    (F : Fed x W B x0 xh xw xhw w b) (r s : Fin 2) (n : Fin 8) (o : Fin O) (a a' : Fin H) (p : Fin P) (e : p.val = H * a.val + a'.val)
    (i j : Fin H') (hi : i.val = 2 * a.val + r.val) (hj : j.val = 2 * a'.val + s.val) :
    (![cut (quarter0 x0 xh xw xhw w b), cut (quarter1 x0 xh w b), cut (quarter2 x0 xw w b), cut (quarter3 x0 w b)] : Fin 4 → (⟨3, ![8, O, P]⟩ : Shape).Idx → EReal)
      ⟨2 * r.val + s.val, by omega⟩ (ix3 n o p) = cut (up C H O H' x W B) (ix4 n o i j) := by
  match r, s with
  | 0, 0 => exact congrArg (fun z : EReal => max z 0) (quarter0_eq F n o a a' p e i j hi hj)
  | 0, 1 => exact congrArg (fun z : EReal => max z 0) (quarter1_eq F n o a a' p e i j hi hj)
  | 1, 0 => exact congrArg (fun z : EReal => max z 0) (quarter2_eq F n o a a' p e i j hi hj)
  | 1, 1 => exact congrArg (fun z : EReal => max z 0) (quarter3_eq F n o a a' p e i j hi hj)

/-! ## 256 channels to 128 -/

/-- The operations before the call, from the padding on. -/
abbrev entry1 : Valuation τ sig (Elt Ideal) := after hostOps1_2 (after hostOps1_1 W)

theorem entry1_v7 (hc : (W (Proc.devRef (τ := τ) .tc main_c) : S_.Idx → BitVec 32) = constantI S_ 32 0#32) (n : Fin 8) (c : Fin 256) (a b : Fin 28) (p : Fin 784) (e : p.val = 28 * a.val + b.val) :
    (entry1 W (Proc.devRef (τ := τ) .tc main_v7) : S8x256x784.Idx → EReal) (ix3 n c p)
      = spaced (W (Proc.devRef (τ := τ) .tc main_v4) : S8x256x28x28.Idx → EReal) n c (2 * a.val + 2 * 1) (2 * b.val + 2 * 1) := by
  after_reads_simp
  simp only [TRef.toBuf, TRef.ofBuf, cast_eq]
  refine edge_flat rfl _ _ h_S_ ?_ _ _ _ n c a b p e
  rw [hc]; exact pad_zero
theorem entry1_v9 (hc : (W (Proc.devRef (τ := τ) .tc main_c) : S_.Idx → BitVec 32) = constantI S_ 32 0#32) (n : Fin 8) (c : Fin 256) (a b : Fin 28) (p : Fin 784) (e : p.val = 28 * a.val + b.val) :
    (entry1 W (Proc.devRef (τ := τ) .tc main_v9) : S8x256x784.Idx → EReal) (ix3 n c p)
      = spaced (W (Proc.devRef (τ := τ) .tc main_v4) : S8x256x28x28.Idx → EReal) n c (2 * a.val + 2 * 0) (2 * b.val + 2 * 1) := by
  after_reads_simp
  simp only [TRef.toBuf, TRef.ofBuf, cast_eq]
  refine edge_flat rfl _ _ h_S_ ?_ _ _ _ n c a b p e
  rw [hc]; exact pad_zero
theorem entry1_v11 (hc : (W (Proc.devRef (τ := τ) .tc main_c) : S_.Idx → BitVec 32) = constantI S_ 32 0#32) (n : Fin 8) (c : Fin 256) (a b : Fin 28) (p : Fin 784) (e : p.val = 28 * a.val + b.val) :
    (entry1 W (Proc.devRef (τ := τ) .tc main_v11) : S8x256x784.Idx → EReal) (ix3 n c p)
      = spaced (W (Proc.devRef (τ := τ) .tc main_v4) : S8x256x28x28.Idx → EReal) n c (2 * a.val + 2 * 1) (2 * b.val + 2 * 0) := by
  after_reads_simp
  simp only [TRef.toBuf, TRef.ofBuf, cast_eq]
  refine edge_flat rfl _ _ h_S_ ?_ _ _ _ n c a b p e
  rw [hc]; exact pad_zero
theorem entry1_v13 (hc : (W (Proc.devRef (τ := τ) .tc main_c) : S_.Idx → BitVec 32) = constantI S_ 32 0#32) (n : Fin 8) (c : Fin 256) (a b : Fin 28) (p : Fin 784) (e : p.val = 28 * a.val + b.val) :
    (entry1 W (Proc.devRef (τ := τ) .tc main_v13) : S8x256x784.Idx → EReal) (ix3 n c p)
      = spaced (W (Proc.devRef (τ := τ) .tc main_v4) : S8x256x28x28.Idx → EReal) n c (2 * a.val + 2 * 0) (2 * b.val + 2 * 0) := by
  after_reads_simp
  simp only [TRef.toBuf, TRef.ofBuf, cast_eq]
  refine edge_flat rfl _ _ h_S_ ?_ _ _ _ n c a b p e
  rw [hc]; exact pad_zero
theorem entry1_weights (t : Fin 9) (o : Fin 128) (c : Fin 256) :
    (entry1 W (Proc.devRef (τ := τ) .tc main_v16) : S9x128x256.Idx → EReal) (ix3 t o c) = (W (Proc.devRef (τ := τ) .tc main_arg4) : S128x256x3x3.Idx → EReal) (ix4 o c ⟨t.val / 3, by omega⟩ ⟨t.val % 3, by omega⟩) := by
  after_reads_simp
  exact matrices_apply _ _ _ _ t o c
theorem entry1_bias (o : Fin 128) :
    (entry1 W (Proc.devRef (τ := τ) .tc main_v17) : S128x1.Idx → EReal) (ix2 o 0) = (W (Proc.devRef (τ := τ) .tc main_arg5) : S128.Idx → EReal) (ix1 o) := by
  after_reads_simp
  exact bias_apply _ _ o

theorem fed1 (hc : (W (Proc.devRef (τ := τ) .tc main_c) : S_.Idx → BitVec 32) = constantI S_ 32 0#32) :
    Fed (H := 28) (W (Proc.devRef (τ := τ) .tc main_v4) : S8x256x28x28.Idx → EReal) (W (Proc.devRef (τ := τ) .tc main_arg4) : S128x256x3x3.Idx → EReal) (W (Proc.devRef (τ := τ) .tc main_arg5) : S128.Idx → EReal)
      (entry1 W (Proc.devRef (τ := τ) .tc main_v7) : S8x256x784.Idx → EReal) (entry1 W (Proc.devRef (τ := τ) .tc main_v9)) (entry1 W (Proc.devRef (τ := τ) .tc main_v11)) (entry1 W (Proc.devRef (τ := τ) .tc main_v13))
      (entry1 W (Proc.devRef (τ := τ) .tc main_v16)) (entry1 W (Proc.devRef (τ := τ) .tc main_v17)) :=
  ⟨entry1_v7 W hc, entry1_v9 W hc, entry1_v11 W hc, entry1_v13 W hc, entry1_weights W, entry1_bias W⟩

theorem joined1 (q : Fin 4 → S8x128x784.Idx → EReal) (h0 : W (Proc.devRef (τ := τ) .tc main_v18_0) = q 0) (h1 : W (Proc.devRef (τ := τ) .tc main_v18_1) = q 1) (h2 : W (Proc.devRef (τ := τ) .tc main_v18_2) = q 2) (h3 : W (Proc.devRef (τ := τ) .tc main_v18_3) = q 3)
    (y : S8x128x56x56.Idx → EReal)
    (hq : ∀ (r s : Fin 2) (n : Fin 8) (o : Fin 128) (a b : Fin 28) (p : Fin 784), p.val = 28 * a.val + b.val → ∀ i j : Fin 56, i.val = 2 * a.val + r.val → j.val = 2 * b.val + s.val →
      q ⟨2 * r.val + s.val, by omega⟩ (ix3 n o p) = y (ix4 n o i j)) :
    (after hostOps2 W (Proc.devRef (τ := τ) .tc main_v26) : S8x128x56x56.Idx → EReal) = y := by
  after_reads_simp
  simp only [Matrix.cons_val]
  rw [show upto hostOps2 W 4 (Proc.devRef (τ := τ) .tc main_v19) = _ from by after_reads_simp; rw [h0], show upto hostOps2 W 4 (Proc.devRef (τ := τ) .tc main_v20) = _ from by after_reads_simp; rw [h1],
    show upto hostOps2 W 4 (Proc.devRef (τ := τ) .tc main_v21) = _ from by after_reads_simp; rw [h2], show upto hostOps2 W 4 (Proc.devRef (τ := τ) .tc main_v22) = _ from by after_reads_simp; rw [h3]]
  exact weave_eq (O := 128) (H := 28) (H' := 56) (P := 784) rfl rfl q y _ _ _ _ _ hq

/-! ## 128 channels to 64 -/

/-- The operations before the call, from the padding on. -/
abbrev entry2 : Valuation τ sig (Elt Ideal) := after hostOps2_2 (after hostOps2_1 W)

theorem entry2_v29 (hc : (W (Proc.devRef (τ := τ) .tc main_c_0) : S_.Idx → BitVec 32) = constantI S_ 32 0#32) (n : Fin 8) (c : Fin 128) (a b : Fin 56) (p : Fin 3136) (e : p.val = 56 * a.val + b.val) :
    (entry2 W (Proc.devRef (τ := τ) .tc main_v29) : S8x128x3136.Idx → EReal) (ix3 n c p)
      = spaced (W (Proc.devRef (τ := τ) .tc main_v26) : S8x128x56x56.Idx → EReal) n c (2 * a.val + 2 * 1) (2 * b.val + 2 * 1) := by
  after_reads_simp
  simp only [TRef.toBuf, TRef.ofBuf, cast_eq]
  refine edge_flat rfl _ _ h_S_ ?_ _ _ _ n c a b p e
  rw [hc]; exact pad_zero
theorem entry2_v31 (hc : (W (Proc.devRef (τ := τ) .tc main_c_0) : S_.Idx → BitVec 32) = constantI S_ 32 0#32) (n : Fin 8) (c : Fin 128) (a b : Fin 56) (p : Fin 3136) (e : p.val = 56 * a.val + b.val) :
    (entry2 W (Proc.devRef (τ := τ) .tc main_v31) : S8x128x3136.Idx → EReal) (ix3 n c p)
      = spaced (W (Proc.devRef (τ := τ) .tc main_v26) : S8x128x56x56.Idx → EReal) n c (2 * a.val + 2 * 0) (2 * b.val + 2 * 1) := by
  after_reads_simp
  simp only [TRef.toBuf, TRef.ofBuf, cast_eq]
  refine edge_flat rfl _ _ h_S_ ?_ _ _ _ n c a b p e
  rw [hc]; exact pad_zero
theorem entry2_v33 (hc : (W (Proc.devRef (τ := τ) .tc main_c_0) : S_.Idx → BitVec 32) = constantI S_ 32 0#32) (n : Fin 8) (c : Fin 128) (a b : Fin 56) (p : Fin 3136) (e : p.val = 56 * a.val + b.val) :
    (entry2 W (Proc.devRef (τ := τ) .tc main_v33) : S8x128x3136.Idx → EReal) (ix3 n c p)
      = spaced (W (Proc.devRef (τ := τ) .tc main_v26) : S8x128x56x56.Idx → EReal) n c (2 * a.val + 2 * 1) (2 * b.val + 2 * 0) := by
  after_reads_simp
  simp only [TRef.toBuf, TRef.ofBuf, cast_eq]
  refine edge_flat rfl _ _ h_S_ ?_ _ _ _ n c a b p e
  rw [hc]; exact pad_zero
theorem entry2_v35 (hc : (W (Proc.devRef (τ := τ) .tc main_c_0) : S_.Idx → BitVec 32) = constantI S_ 32 0#32) (n : Fin 8) (c : Fin 128) (a b : Fin 56) (p : Fin 3136) (e : p.val = 56 * a.val + b.val) :
    (entry2 W (Proc.devRef (τ := τ) .tc main_v35) : S8x128x3136.Idx → EReal) (ix3 n c p)
      = spaced (W (Proc.devRef (τ := τ) .tc main_v26) : S8x128x56x56.Idx → EReal) n c (2 * a.val + 2 * 0) (2 * b.val + 2 * 0) := by
  after_reads_simp
  simp only [TRef.toBuf, TRef.ofBuf, cast_eq]
  refine edge_flat rfl _ _ h_S_ ?_ _ _ _ n c a b p e
  rw [hc]; exact pad_zero
theorem entry2_weights (t : Fin 9) (o : Fin 64) (c : Fin 128) :
    (entry2 W (Proc.devRef (τ := τ) .tc main_v38) : S9x64x128.Idx → EReal) (ix3 t o c) = (W (Proc.devRef (τ := τ) .tc main_arg6) : S64x128x3x3.Idx → EReal) (ix4 o c ⟨t.val / 3, by omega⟩ ⟨t.val % 3, by omega⟩) := by
  after_reads_simp
  exact matrices_apply _ _ _ _ t o c
theorem entry2_bias (o : Fin 64) :
    (entry2 W (Proc.devRef (τ := τ) .tc main_v39) : S64x1.Idx → EReal) (ix2 o 0) = (W (Proc.devRef (τ := τ) .tc main_arg7) : S64.Idx → EReal) (ix1 o) := by
  after_reads_simp
  exact bias_apply _ _ o

theorem fed2 (hc : (W (Proc.devRef (τ := τ) .tc main_c_0) : S_.Idx → BitVec 32) = constantI S_ 32 0#32) :
    Fed (H := 56) (W (Proc.devRef (τ := τ) .tc main_v26) : S8x128x56x56.Idx → EReal) (W (Proc.devRef (τ := τ) .tc main_arg6) : S64x128x3x3.Idx → EReal) (W (Proc.devRef (τ := τ) .tc main_arg7) : S64.Idx → EReal)
      (entry2 W (Proc.devRef (τ := τ) .tc main_v29) : S8x128x3136.Idx → EReal) (entry2 W (Proc.devRef (τ := τ) .tc main_v31)) (entry2 W (Proc.devRef (τ := τ) .tc main_v33)) (entry2 W (Proc.devRef (τ := τ) .tc main_v35))
      (entry2 W (Proc.devRef (τ := τ) .tc main_v38)) (entry2 W (Proc.devRef (τ := τ) .tc main_v39)) :=
  ⟨entry2_v29 W hc, entry2_v31 W hc, entry2_v33 W hc, entry2_v35 W hc, entry2_weights W, entry2_bias W⟩

theorem joined2 (q : Fin 4 → S8x64x3136.Idx → EReal) (h0 : W (Proc.devRef (τ := τ) .tc main_v40_0) = q 0) (h1 : W (Proc.devRef (τ := τ) .tc main_v40_1) = q 1) (h2 : W (Proc.devRef (τ := τ) .tc main_v40_2) = q 2) (h3 : W (Proc.devRef (τ := τ) .tc main_v40_3) = q 3)
    (y : S8x64x112x112.Idx → EReal)
    (hq : ∀ (r s : Fin 2) (n : Fin 8) (o : Fin 64) (a b : Fin 56) (p : Fin 3136), p.val = 56 * a.val + b.val → ∀ i j : Fin 112, i.val = 2 * a.val + r.val → j.val = 2 * b.val + s.val →
      q ⟨2 * r.val + s.val, by omega⟩ (ix3 n o p) = y (ix4 n o i j)) :
    (after hostOps3 W (Proc.devRef (τ := τ) .tc main_v48) : S8x64x112x112.Idx → EReal) = y := by
  after_reads_simp
  simp only [Matrix.cons_val]
  rw [show upto hostOps3 W 4 (Proc.devRef (τ := τ) .tc main_v41) = _ from by after_reads_simp; rw [h0], show upto hostOps3 W 4 (Proc.devRef (τ := τ) .tc main_v42) = _ from by after_reads_simp; rw [h1],
    show upto hostOps3 W 4 (Proc.devRef (τ := τ) .tc main_v43) = _ from by after_reads_simp; rw [h2], show upto hostOps3 W 4 (Proc.devRef (τ := τ) .tc main_v44) = _ from by after_reads_simp; rw [h3]]
  exact weave_eq (O := 64) (H := 56) (H' := 112) (P := 3136) rfl rfl q y _ _ _ _ _ hq

/-! ## 64 channels to 3 -/

/-- The operations before the call, from the padding on. -/
abbrev entry3 : Valuation τ sig (Elt Ideal) := after hostOps3_2 (after hostOps3_1 W)

theorem entry3_v51 (hc : (W (Proc.devRef (τ := τ) .tc main_c_1) : S_.Idx → BitVec 32) = constantI S_ 32 0#32) (n : Fin 8) (c : Fin 64) (a b : Fin 112) (p : Fin 12544) (e : p.val = 112 * a.val + b.val) :
    (entry3 W (Proc.devRef (τ := τ) .tc main_v51) : S8x64x12544.Idx → EReal) (ix3 n c p)
      = spaced (W (Proc.devRef (τ := τ) .tc main_v48) : S8x64x112x112.Idx → EReal) n c (2 * a.val + 2 * 1) (2 * b.val + 2 * 1) := by
  after_reads_simp
  simp only [TRef.toBuf, TRef.ofBuf, cast_eq]
  refine edge_flat rfl _ _ h_S_ ?_ _ _ _ n c a b p e
  rw [hc]; exact pad_zero
theorem entry3_v53 (hc : (W (Proc.devRef (τ := τ) .tc main_c_1) : S_.Idx → BitVec 32) = constantI S_ 32 0#32) (n : Fin 8) (c : Fin 64) (a b : Fin 112) (p : Fin 12544) (e : p.val = 112 * a.val + b.val) :
    (entry3 W (Proc.devRef (τ := τ) .tc main_v53) : S8x64x12544.Idx → EReal) (ix3 n c p)
      = spaced (W (Proc.devRef (τ := τ) .tc main_v48) : S8x64x112x112.Idx → EReal) n c (2 * a.val + 2 * 0) (2 * b.val + 2 * 1) := by
  after_reads_simp
  simp only [TRef.toBuf, TRef.ofBuf, cast_eq]
  refine edge_flat rfl _ _ h_S_ ?_ _ _ _ n c a b p e
  rw [hc]; exact pad_zero
theorem entry3_v55 (hc : (W (Proc.devRef (τ := τ) .tc main_c_1) : S_.Idx → BitVec 32) = constantI S_ 32 0#32) (n : Fin 8) (c : Fin 64) (a b : Fin 112) (p : Fin 12544) (e : p.val = 112 * a.val + b.val) :
    (entry3 W (Proc.devRef (τ := τ) .tc main_v55) : S8x64x12544.Idx → EReal) (ix3 n c p)
      = spaced (W (Proc.devRef (τ := τ) .tc main_v48) : S8x64x112x112.Idx → EReal) n c (2 * a.val + 2 * 1) (2 * b.val + 2 * 0) := by
  after_reads_simp
  simp only [TRef.toBuf, TRef.ofBuf, cast_eq]
  refine edge_flat rfl _ _ h_S_ ?_ _ _ _ n c a b p e
  rw [hc]; exact pad_zero
theorem entry3_v57 (hc : (W (Proc.devRef (τ := τ) .tc main_c_1) : S_.Idx → BitVec 32) = constantI S_ 32 0#32) (n : Fin 8) (c : Fin 64) (a b : Fin 112) (p : Fin 12544) (e : p.val = 112 * a.val + b.val) :
    (entry3 W (Proc.devRef (τ := τ) .tc main_v57) : S8x64x12544.Idx → EReal) (ix3 n c p)
      = spaced (W (Proc.devRef (τ := τ) .tc main_v48) : S8x64x112x112.Idx → EReal) n c (2 * a.val + 2 * 0) (2 * b.val + 2 * 0) := by
  after_reads_simp
  simp only [TRef.toBuf, TRef.ofBuf, cast_eq]
  refine edge_flat rfl _ _ h_S_ ?_ _ _ _ n c a b p e
  rw [hc]; exact pad_zero
theorem entry3_weights (t : Fin 9) (o : Fin 3) (c : Fin 64) :
    (entry3 W (Proc.devRef (τ := τ) .tc main_v60) : S9x3x64.Idx → EReal) (ix3 t o c) = (W (Proc.devRef (τ := τ) .tc main_arg8) : S3x64x3x3.Idx → EReal) (ix4 o c ⟨t.val / 3, by omega⟩ ⟨t.val % 3, by omega⟩) := by
  after_reads_simp
  exact matrices_apply _ _ _ _ t o c
theorem entry3_bias (o : Fin 3) :
    (entry3 W (Proc.devRef (τ := τ) .tc main_v61) : S3x1.Idx → EReal) (ix2 o 0) = (W (Proc.devRef (τ := τ) .tc main_arg9) : S3.Idx → EReal) (ix1 o) := by
  after_reads_simp
  exact bias_apply _ _ o

theorem fed3 (hc : (W (Proc.devRef (τ := τ) .tc main_c_1) : S_.Idx → BitVec 32) = constantI S_ 32 0#32) :
    Fed (H := 112) (W (Proc.devRef (τ := τ) .tc main_v48) : S8x64x112x112.Idx → EReal) (W (Proc.devRef (τ := τ) .tc main_arg8) : S3x64x3x3.Idx → EReal) (W (Proc.devRef (τ := τ) .tc main_arg9) : S3.Idx → EReal)
      (entry3 W (Proc.devRef (τ := τ) .tc main_v51) : S8x64x12544.Idx → EReal) (entry3 W (Proc.devRef (τ := τ) .tc main_v53)) (entry3 W (Proc.devRef (τ := τ) .tc main_v55)) (entry3 W (Proc.devRef (τ := τ) .tc main_v57))
      (entry3 W (Proc.devRef (τ := τ) .tc main_v60)) (entry3 W (Proc.devRef (τ := τ) .tc main_v61)) :=
  ⟨entry3_v51 W hc, entry3_v53 W hc, entry3_v55 W hc, entry3_v57 W hc, entry3_weights W, entry3_bias W⟩

theorem joined3 (q : Fin 4 → S8x3x12544.Idx → EReal) (h0 : W (Proc.devRef (τ := τ) .tc main_v62_0) = q 0) (h1 : W (Proc.devRef (τ := τ) .tc main_v62_1) = q 1) (h2 : W (Proc.devRef (τ := τ) .tc main_v62_2) = q 2) (h3 : W (Proc.devRef (τ := τ) .tc main_v62_3) = q 3)
    (y : S8x3x224x224.Idx → EReal)
    (hq : ∀ (r s : Fin 2) (n : Fin 8) (o : Fin 3) (a b : Fin 112) (p : Fin 12544), p.val = 112 * a.val + b.val → ∀ i j : Fin 224, i.val = 2 * a.val + r.val → j.val = 2 * b.val + s.val →
      q ⟨2 * r.val + s.val, by omega⟩ (ix3 n o p) = y (ix4 n o i j)) :
    (after hostOps4 W (Proc.devRef (τ := τ) .tc main_v70) : S8x3x224x224.Idx → EReal) = y := by
  after_reads_simp
  simp only [Matrix.cons_val]
  rw [show upto hostOps4 W 4 (Proc.devRef (τ := τ) .tc main_v63) = _ from by after_reads_simp; rw [h0], show upto hostOps4 W 4 (Proc.devRef (τ := τ) .tc main_v64) = _ from by after_reads_simp; rw [h1],
    show upto hostOps4 W 4 (Proc.devRef (τ := τ) .tc main_v65) = _ from by after_reads_simp; rw [h2], show upto hostOps4 W 4 (Proc.devRef (τ := τ) .tc main_v66) = _ from by after_reads_simp; rw [h3]]
  exact weave_eq (O := 3) (H := 112) (H' := 224) (P := 12544) rfl rfl q y _ _ _ _ _ hq

/-! ## The 1x1 layer -/

theorem zero1 : (after hostOps1 W (Proc.devRef (τ := τ) .tc main_c) : S_.Idx → BitVec 32) = constantI S_ 32 0#32 := by after_reads_simp
theorem zero2 : (after hostOps2 W (Proc.devRef (τ := τ) .tc main_c_0) : S_.Idx → BitVec 32) = constantI S_ 32 0#32 := by after_reads_simp
theorem zero3 : (after hostOps3 W (Proc.devRef (τ := τ) .tc main_c_1) : S_.Idx → BitVec 32) = constantI S_ 32 0#32 := by after_reads_simp

/-- Two leading axes read as one. -/
def frames (x : S2x4x256x28x28.Idx → EReal) : S8x256x28x28.Idx → EReal := fun i =>
  x (ix5 ⟨(i 0).val / 4, Nat.div_lt_of_lt_mul (i 0).isLt⟩ ⟨(i 0).val % 4, Nat.mod_lt _ (by decide)⟩ (i 1) (i 2) (i 3))

theorem entry0_x (n : Fin 8) (c : Fin 256) (a b : Fin 28) (p : Fin 784) (e : p.val = 28 * a.val + b.val) :
    (after hostOps0 W (Proc.devRef (τ := τ) .tc main_v0) : S8x256x784.Idx → EReal) (ix3 n c p) = frames (W (Proc.devRef (τ := τ) .tc main_arg1) : S2x4x256x28x28.Idx → EReal) (ix4 n c a b) := by
  after_reads_simp
  refine shapeCast_apply _ _ _ (ix5 ⟨n.val / 4, by omega⟩ ⟨n.val % 4, by omega⟩ c a b) ?_
  rw [Shape.rowMajor_val_five]
  refine Eq.trans ?_ (Shape.rowMajor_val_three _).symm
  show (((n.val / 4 * 4 + n.val % 4) * 256 + c.val) * 28 + a.val) * 28 + b.val = (n.val * 256 + c.val) * 784 + p.val
  rw [e]; omega
theorem entry0_w (o c : Fin 256) :
    (after hostOps0 W (Proc.devRef (τ := τ) .tc main_v1) : S256x256.Idx → EReal) (ix2 o c) = (W (Proc.devRef (τ := τ) .tc main_arg2) : S256x256x1x1.Idx → EReal) (ix4 o c 0 0) := by
  after_reads_simp
  exact square_apply _ _ o c
theorem entry0_b (o : Fin 256) :
    (after hostOps0 W (Proc.devRef (τ := τ) .tc main_v2) : S256x1.Idx → EReal) (ix2 o 0) = (W (Proc.devRef (τ := τ) .tc main_arg3) : S256.Idx → EReal) (ix1 o) := by
  after_reads_simp
  exact bias_apply _ _ o

theorem back1 (h : Shape.ShapeCasts S8x256x784 S8x256x28x28) :
    (after hostOps1 W (Proc.devRef (τ := τ) .tc main_v4) : S8x256x28x28.Idx → EReal) = shapeCast S8x256x28x28 (W (Proc.devRef (τ := τ) .tc main_v3) : S8x256x784.Idx → EReal) h := by
  after_reads_simp
  rfl

theorem joined_last (y : S8x3x224x224.Idx → EReal) (h : (after hostOps4 W (Proc.devRef (τ := τ) .tc main_v70) : S8x3x224x224.Idx → EReal) = y) :
    (after hostOps4 W (Proc.devRef (τ := τ) .tc main_v71) : S2x4x3x224x224.Idx → EReal) = shapeCast S2x4x3x224x224 y shapeCasts_S8x3x224x224_S2x4x3x224x224 := by
  subst h
  after_reads_simp
  rfl

end Cert.Proof.Decoder

end
-- ==== Proof.Decoder.Values.lean ====
/-
  What the run of the decoder's program leaves in its result array, from its arguments, over the extended reals.
-/
module

public import proofs.«01_k».proof.Proof.Decoder.Blocks
public import proofs.«01_k».proof.Proof.Decoder.Blocks2
public import proofs.«01_k».proof.Proof.Decoder.Blocks3
public import proofs.«01_k».proof.Proof.Decoder.Feed

@[expose] public section

set_option maxRecDepth 16384

noncomputable section

namespace Cert.Proof.Decoder

open Cert.DecoderIdeal Cert.DecoderIdeal.Gen
open Idealize.ShloMosaic Idealize.ShloMosaic.TcCoe Idealize.ShloMosaic.StableHlo Cert.Proof.Plain

variable (m : (ℓ : Loc nD τ sig) → Buf (Elt Ideal) ℓ) (ρ : Dev nD → PrngReg) (d : Dev nD)

/-- An argument's contents at the start. -/
abbrev arg (r : Ref sig .tc) := W0 m ρ d (Proc.devRef .tc r)

/-! ## Between the calls -/

/-- The first transposed convolution's input. -/
def in1 : S8x256x28x28.Idx → EReal := quant (arg m ρ d main_arg2) (arg m ρ d main_arg3) (frames (arg m ρ d main_arg1))
/-- The second's. -/
def in2 : S8x128x56x56.Idx → EReal := cut (up 256 28 128 56 (in1 m ρ d) (arg m ρ d main_arg4) (arg m ρ d main_arg5))
/-- The third's. -/
def in3 : S8x64x112x112.Idx → EReal := cut (up 128 56 64 112 (in2 m ρ d) (arg m ρ d main_arg6) (arg m ρ d main_arg7))
/-- The frames of the result. -/
def out : S8x3x224x224.Idx → EReal := up 64 112 3 224 (in3 m ρ d) (arg m ρ d main_arg8) (arg m ρ d main_arg9)

theorem out_eq : out m ρ d = decode (frames (arg m ρ d main_arg1)) (arg m ρ d main_arg2) (arg m ρ d main_arg3) (arg m ρ d main_arg4) (arg m ρ d main_arg5)
    (arg m ρ d main_arg6) (arg m ρ d main_arg7) (arg m ρ d main_arg8) (arg m ρ d main_arg9) := rfl

theorem rows_eq (x : S8x256x784.Idx → EReal) (w : S256x256.Idx → EReal) (b : S256x1.Idx → EReal) (x' : S8x256x28x28.Idx → EReal) (w' : S256x256x1x1.Idx → EReal) (b' : S256.Idx → EReal)
    (hx : ∀ (n : Fin 8) (c : Fin 256) (a a' : Fin 28) (p : Fin 784), p.val = 28 * a.val + a'.val → x (ix3 n c p) = x' (ix4 n c a a'))
    (hw : ∀ o c, w (ix2 o c) = w' (ix4 o c 0 0)) (hb : ∀ o, b (ix2 o 0) = b' (ix1 o)) (h : Shape.ShapeCasts S8x256x784 S8x256x28x28) :
    shapeCast S8x256x28x28 (rows x w b) h = quant w' b' x' := by
  funext y
  obtain ⟨n, o, a, a', rfl⟩ : ∃ (n : Fin 8) (o : Fin 256) (a b : Fin 28), y = ix4 n o a b := ⟨y 0, y 1, y 2, y 3, ValueIdx.eq_ix4 y⟩
  refine (unflat_apply rfl _ _ n o a a' ⟨28 * a.val + a'.val, by omega⟩ rfl).trans ?_
  refine congrArg₂ (· + ·) (Finset.sum_congr rfl fun c _ => ?_) (hb o)
  exact (congrArg₂ (· * ·) (hw o c) (hx n c a a' ⟨28 * a.val + a'.val, by omega⟩ rfl)).trans (mul_comm _ _)

theorem step1 : (W3 m ρ d (Proc.devRef .tc main_v4) : S8x256x28x28.Idx → EReal) = in1 m ρ d := by
  refine (back1 (W2 m ρ d) shapeCasts_S8x256x784_S8x256x28x28).trans ?_
  refine (congrArg (fun y : S8x256x784.Idx → EReal => shapeCast S8x256x28x28 y shapeCasts_S8x256x784_S8x256x28x28) ((W2_arr m ρ d 3).trans (arr0 (V1 m ρ) d))).trans ?_
  exact rows_eq _ _ _ _ _ _ (entry0_x (W0 m ρ d)) (entry0_w (W0 m ρ d)) (entry0_b (W0 m ρ d)) _

theorem step2 : (W7 m ρ d (Proc.devRef .tc main_v26) : S8x128x56x56.Idx → EReal) = in2 m ρ d := by
  refine (joined1 (W6 m ρ d) _ ((W6_arr m ρ d 6).trans (arr1_6 (V5 m ρ) d)) ((W6_arr m ρ d 7).trans (arr1_7 (V5 m ρ) d)) ((W6_arr m ρ d 8).trans (arr1_8 (V5 m ρ) d))
    ((W6_arr m ρ d 9).trans (arr1_9 (V5 m ρ) d)) _ (cut_quarters_eq (fed1 (W3 m ρ d) (zero1 (W2 m ρ d))))).trans ?_
  rw [step1, W3_args m ρ d main_arg4 (by decide), W3_args m ρ d main_arg5 (by decide)]
  rfl

theorem step3 : (W11 m ρ d (Proc.devRef .tc main_v48) : S8x64x112x112.Idx → EReal) = in3 m ρ d := by
  refine (joined2 (W10 m ρ d) _ ((W10_arr m ρ d 6).trans (arr2_6 (V9 m ρ) d)) ((W10_arr m ρ d 7).trans (arr2_7 (V9 m ρ) d)) ((W10_arr m ρ d 8).trans (arr2_8 (V9 m ρ) d))
    ((W10_arr m ρ d 9).trans (arr2_9 (V9 m ρ) d)) _ (cut_quarters_eq (fed2 (W7 m ρ d) (zero2 (W6 m ρ d))))).trans ?_
  rw [step2, W7_args m ρ d main_arg6 (by decide), W7_args m ρ d main_arg7 (by decide)]
  rfl

theorem step4 : (W15 m ρ d (Proc.devRef .tc main_v71) : S2x4x3x224x224.Idx → EReal) = shapeCast S2x4x3x224x224 (out m ρ d) shapeCasts_S8x3x224x224_S2x4x3x224x224 := by
  refine joined_last (W14 m ρ d) _ ?_
  refine (joined3 (W14 m ρ d) _ ((W14_arr m ρ d 6).trans (arr3_6 (V13 m ρ) d)) ((W14_arr m ρ d 7).trans (arr3_7 (V13 m ρ) d)) ((W14_arr m ρ d 8).trans (arr3_8 (V13 m ρ) d))
    ((W14_arr m ρ d 9).trans (arr3_9 (V13 m ρ) d)) _ (quarters_eq (fed3 (W11 m ρ d) (zero3 (W10 m ρ d))))).trans ?_
  rw [step3, W11_args m ρ d main_arg8 (by decide), W11_args m ρ d main_arg9 (by decide)]
  rfl

end Cert.Proof.Decoder

end
-- ==== Proof.Decoder.RefLayers.lean ====
/-
  The decoder's reference: what its results are, entry by entry, over the extended reals.
-/
module

public import proofs.«01_k».proof.Proof.Gen.DecoderReferenceIdeal.Run
public import proofs.«01_k».proof.Proof.Decoder.Plain
public import Idealize.ShloMosaic.Lib.Pointwise
public import Idealize.ShloMosaic.PureOps.Ideal.Laws

@[expose] public section

set_option maxRecDepth 16384

noncomputable section

namespace Cert.Proof.DecoderPlain

open Cert.DecoderReferenceIdeal Cert.DecoderReferenceIdeal.Gen Cert.DecoderReferenceIdeal.Value
open Idealize.ShloMosaic Idealize.ShloMosaic.TcCoe Idealize.ShloMosaic.StableHlo Cert.Proof.Plain

variable (W : Valuation τ sig (Elt Ideal))

theorem zero_first : (constant (F := Ideal) S_ .f32 0x00000000#32 : S_.Idx → EReal) (Shape.Idx.first h_S_) = 0 := Ideal.ofBits_zero .f32

/-- The array cut at zero, as the reference writes it. -/
theorem cut_of {s : Shape} (x y : s.Idx → EReal) (h : Shape.BroadcastsInDim S_ s ![]) (e : x = y) :
    (maximumf (F := Ideal) (φ := .f32) x (broadcastInDim s ![] h (constant (F := Ideal) S_ .f32 0x00000000#32)) : s.Idx → EReal) = cut y := by
  subst e
  exact funext fun j => congrArg (max (x j)) (Ideal.ofBits_zero .f32)

/-! ## 256 channels to 128 -/

theorem dot1 (l : S8x256x56x56.Idx → EReal) (r : S128x256.Idx → EReal) (n : Fin 8) (o : Fin 128) (a b : Fin 56) :
    (Host.dotGeneral (F := Ideal) (φ₁ := .f32) (φ₂ := .f32) dot_S8x256x56x56_S128x256_S8x56x56x128_1_1_023_0_n_n none l r : S8x56x56x128.Idx → EReal) (ix4 n a b o)
      = ∑ c, l (ix4 n c a b) * r (ix2 o c) := by
  pointwise []

theorem term1 (x : S8x256x56x56.Idx → EReal) (w : S128x256x3x3.Idx → EReal) (kh kw : ℕ) (hh : kh < 3) (hw : kw < 3)
    (h : Shape.Slices S128x256x3x3 ![0, 0, kh, kw] S128x256x1x1) (n : Fin 8) (o : Fin 128) (a b : Fin 56) :
    transpose S8x128x56x56 [0, 3, 1, 2] (Host.dotGeneral (F := Ideal) (φ₁ := .f32) (φ₂ := .f32) dot_S8x256x56x56_S128x256_S8x56x56x128_1_1_023_0_n_n none x
        (shapeCast S128x256 (extractStridedSlice S128x256x1x1 ![0, 0, kh, kw] w h) shapeCasts_S128x256x1x1_S128x256) : S8x56x56x128.Idx → EReal)
      transposes_S8x56x56x128_S8x128x56x56_0_3_1_2 (ix4 n o a b) = ∑ c, x (ix4 n c a b) * w (ix4 o c ⟨kh, hh⟩ ⟨kw, hw⟩) := by
  refine (transpose_apply _ _ _ _ (ix4 n a b o) fun q => ?_).trans ?_
  · match q with
    | ⟨0, _⟩ => rfl
    | ⟨1, _⟩ => rfl
    | ⟨2, _⟩ => rfl
    | ⟨3, _⟩ => rfl
  rw [dot1]
  refine Finset.sum_congr rfl fun c _ => congrArg (x (ix4 n c a b) * ·) ?_
  refine (shapeCast_apply _ _ _ (ix4 o c (0 : Fin 1) (0 : Fin 1)) ?_).trans ?_
  · rw [Shape.rowMajor_val_four, Shape.rowMajor_val_two]
    show ((o.val * 256 + c.val) * 1 + 0) * 1 + 0 = o.val * 256 + c.val
    omega
  exact extractStridedSlice_apply _ _ _ _ _ fun q => by
    match q with
    | ⟨0, _⟩ => exact (Nat.zero_add _).symm
    | ⟨1, _⟩ => exact (Nat.zero_add _).symm
    | ⟨2, _⟩ => rfl
    | ⟨3, _⟩ => rfl

theorem bias1 (b : S128.Idx → EReal) (n : Fin 8) (o : Fin 128) (a a' : Fin 56) :
    broadcastInDim S8x128x56x56 ![0, 1, 2, 3] bcast_S1x128x1x1_S8x128x56x56_0_1_2_3 (broadcastInDim S1x128x1x1 ![1] bcast_S128_S1x128x1x1_1 b) (ix4 n o a a') = b (ix1 o) := by
  pointwise []

set_option maxHeartbeats 2000000 in
/-- The layer's output, from the array whose padding it reads. -/
theorem layer1 (x : S8x256x28x28.Idx → EReal)
    (hx : (res_main_v10 W : S8x256x58x58.Idx → EReal)
      = pad S8x256x58x58 ![0, 0, 2, 2] ![0, 0, 1, 1] ![0, 0, 1, 1] x (constant (F := Ideal) S_ .f32 0x00000000#32 : S_.Idx → EReal) pads_S8x256x28x28_S8x256x58x58_000_000_211_211 h_S_) :
    (res_main_v66 W : S8x128x56x56.Idx → EReal)
      = up 256 28 128 56 x (W (Proc.devRef (τ := τ) .tc main_arg4)) (W (Proc.devRef (τ := τ) .tc main_arg5)) := by
  unfold res_main_v66
  rw [hx]
  funext y
  obtain ⟨n, o, a, b, rfl⟩ : ∃ (n : Fin 8) (o : Fin 128) (a b : Fin 56), y = ix4 n o a b := ⟨y 0, y 1, y 2, y 3, ValueIdx.eq_ix4 y⟩
  have hT := fun (kh kw : ℕ) (hh : kh < 3) (hw : kw < 3) (h : Shape.Slices S128x256x3x3 ![0, 0, kh, kw] S128x256x1x1)
      (hs : Shape.Slices S8x256x58x58 ![0, 0, kh, kw] S8x256x56x56) =>
    (term1 (extractStridedSlice S8x256x56x56 ![0, 0, kh, kw] (pad S8x256x58x58 ![0, 0, 2, 2] ![0, 0, 1, 1] ![0, 0, 1, 1] x (constant (F := Ideal) S_ .f32 0x00000000#32 : S_.Idx → EReal) pads_S8x256x28x28_S8x256x58x58_000_000_211_211 h_S_) hs)
      (W (Proc.devRef (τ := τ) .tc main_arg4)) kh kw hh hw h n o a b).trans
      (Finset.sum_congr rfl fun c _ => congrArg (· * (W (Proc.devRef (τ := τ) .tc main_arg4) : S128x256x3x3.Idx → EReal) (ix4 o c ⟨kh, hh⟩ ⟨kw, hw⟩)) (spread_tap x _ h_S_ zero_first pads_S8x256x28x28_S8x256x58x58_000_000_211_211 hs n c a b))
  unfold up
  rw [← sum_nine]
  refine congrArg₂ (· + ·) ?_ (bias1 _ n o a b)
  exact congrArg₂ (· + ·) (congrArg₂ (· + ·) (congrArg₂ (· + ·) (congrArg₂ (· + ·) (congrArg₂ (· + ·) (congrArg₂ (· + ·) (congrArg₂ (· + ·) (congrArg₂ (· + ·) (hT 0 0 (by decide) (by decide) _ _) (hT 0 1 (by decide) (by decide) _ _)) (hT 0 2 (by decide) (by decide) _ _)) (hT 1 0 (by decide) (by decide) _ _)) (hT 1 1 (by decide) (by decide) _ _)) (hT 1 2 (by decide) (by decide) _ _)) (hT 2 0 (by decide) (by decide) _ _)) (hT 2 1 (by decide) (by decide) _ _)) (hT 2 2 (by decide) (by decide) _ _)

/-! ## 128 channels to 64 -/

theorem dot2 (l : S8x128x112x112.Idx → EReal) (r : S64x128.Idx → EReal) (n : Fin 8) (o : Fin 64) (a b : Fin 112) :
    (Host.dotGeneral (F := Ideal) (φ₁ := .f32) (φ₂ := .f32) dot_S8x128x112x112_S64x128_S8x112x112x64_1_1_023_0_n_n none l r : S8x112x112x64.Idx → EReal) (ix4 n a b o)
      = ∑ c, l (ix4 n c a b) * r (ix2 o c) := by
  pointwise []

theorem term2 (x : S8x128x112x112.Idx → EReal) (w : S64x128x3x3.Idx → EReal) (kh kw : ℕ) (hh : kh < 3) (hw : kw < 3)
    (h : Shape.Slices S64x128x3x3 ![0, 0, kh, kw] S64x128x1x1) (n : Fin 8) (o : Fin 64) (a b : Fin 112) :
    transpose S8x64x112x112 [0, 3, 1, 2] (Host.dotGeneral (F := Ideal) (φ₁ := .f32) (φ₂ := .f32) dot_S8x128x112x112_S64x128_S8x112x112x64_1_1_023_0_n_n none x
        (shapeCast S64x128 (extractStridedSlice S64x128x1x1 ![0, 0, kh, kw] w h) shapeCasts_S64x128x1x1_S64x128) : S8x112x112x64.Idx → EReal)
      transposes_S8x112x112x64_S8x64x112x112_0_3_1_2 (ix4 n o a b) = ∑ c, x (ix4 n c a b) * w (ix4 o c ⟨kh, hh⟩ ⟨kw, hw⟩) := by
  refine (transpose_apply _ _ _ _ (ix4 n a b o) fun q => ?_).trans ?_
  · match q with
    | ⟨0, _⟩ => rfl
    | ⟨1, _⟩ => rfl
    | ⟨2, _⟩ => rfl
    | ⟨3, _⟩ => rfl
  rw [dot2]
  refine Finset.sum_congr rfl fun c _ => congrArg (x (ix4 n c a b) * ·) ?_
  refine (shapeCast_apply _ _ _ (ix4 o c (0 : Fin 1) (0 : Fin 1)) ?_).trans ?_
  · rw [Shape.rowMajor_val_four, Shape.rowMajor_val_two]
    show ((o.val * 128 + c.val) * 1 + 0) * 1 + 0 = o.val * 128 + c.val
    omega
  exact extractStridedSlice_apply _ _ _ _ _ fun q => by
    match q with
    | ⟨0, _⟩ => exact (Nat.zero_add _).symm
    | ⟨1, _⟩ => exact (Nat.zero_add _).symm
    | ⟨2, _⟩ => rfl
    | ⟨3, _⟩ => rfl

theorem bias2 (b : S64.Idx → EReal) (n : Fin 8) (o : Fin 64) (a a' : Fin 112) :
    broadcastInDim S8x64x112x112 ![0, 1, 2, 3] bcast_S1x64x1x1_S8x64x112x112_0_1_2_3 (broadcastInDim S1x64x1x1 ![1] bcast_S64_S1x64x1x1_1 b) (ix4 n o a a') = b (ix1 o) := by
  pointwise []

set_option maxHeartbeats 2000000 in
/-- The layer's output, from the array whose padding it reads. -/
theorem layer2 (x : S8x128x56x56.Idx → EReal)
    (hx : (res_main_v69 W : S8x128x114x114.Idx → EReal)
      = pad S8x128x114x114 ![0, 0, 2, 2] ![0, 0, 1, 1] ![0, 0, 1, 1] x (constant (F := Ideal) S_ .f32 0x00000000#32 : S_.Idx → EReal) pads_S8x128x56x56_S8x128x114x114_000_000_211_211 h_S_) :
    (addf (F := Ideal) (φ := .f32) (res_main_v122 W : S8x64x112x112.Idx → EReal) (broadcastInDim S8x64x112x112 ![0, 1, 2, 3] bcast_S1x64x1x1_S8x64x112x112_0_1_2_3 (broadcastInDim S1x64x1x1 ![1] bcast_S64_S1x64x1x1_1 (W (Proc.devRef (τ := τ) .tc main_arg7)))) : S8x64x112x112.Idx → EReal)
      = up 128 56 64 112 x (W (Proc.devRef (τ := τ) .tc main_arg6)) (W (Proc.devRef (τ := τ) .tc main_arg7)) := by
  unfold res_main_v122
  rw [hx]
  funext y
  obtain ⟨n, o, a, b, rfl⟩ : ∃ (n : Fin 8) (o : Fin 64) (a b : Fin 112), y = ix4 n o a b := ⟨y 0, y 1, y 2, y 3, ValueIdx.eq_ix4 y⟩
  have hT := fun (kh kw : ℕ) (hh : kh < 3) (hw : kw < 3) (h : Shape.Slices S64x128x3x3 ![0, 0, kh, kw] S64x128x1x1)
      (hs : Shape.Slices S8x128x114x114 ![0, 0, kh, kw] S8x128x112x112) =>
    (term2 (extractStridedSlice S8x128x112x112 ![0, 0, kh, kw] (pad S8x128x114x114 ![0, 0, 2, 2] ![0, 0, 1, 1] ![0, 0, 1, 1] x (constant (F := Ideal) S_ .f32 0x00000000#32 : S_.Idx → EReal) pads_S8x128x56x56_S8x128x114x114_000_000_211_211 h_S_) hs)
      (W (Proc.devRef (τ := τ) .tc main_arg6)) kh kw hh hw h n o a b).trans
      (Finset.sum_congr rfl fun c _ => congrArg (· * (W (Proc.devRef (τ := τ) .tc main_arg6) : S64x128x3x3.Idx → EReal) (ix4 o c ⟨kh, hh⟩ ⟨kw, hw⟩)) (spread_tap x _ h_S_ zero_first pads_S8x128x56x56_S8x128x114x114_000_000_211_211 hs n c a b))
  unfold up
  rw [← sum_nine]
  refine congrArg₂ (· + ·) ?_ (bias2 _ n o a b)
  exact congrArg₂ (· + ·) (congrArg₂ (· + ·) (congrArg₂ (· + ·) (congrArg₂ (· + ·) (congrArg₂ (· + ·) (congrArg₂ (· + ·) (congrArg₂ (· + ·) (congrArg₂ (· + ·) (hT 0 0 (by decide) (by decide) _ _) (hT 0 1 (by decide) (by decide) _ _)) (hT 0 2 (by decide) (by decide) _ _)) (hT 1 0 (by decide) (by decide) _ _)) (hT 1 1 (by decide) (by decide) _ _)) (hT 1 2 (by decide) (by decide) _ _)) (hT 2 0 (by decide) (by decide) _ _)) (hT 2 1 (by decide) (by decide) _ _)) (hT 2 2 (by decide) (by decide) _ _)

/-! ## 64 channels to 3 -/

theorem dot3 (l : S8x64x224x224.Idx → EReal) (r : S3x64.Idx → EReal) (n : Fin 8) (o : Fin 3) (a b : Fin 224) :
    (Host.dotGeneral (F := Ideal) (φ₁ := .f32) (φ₂ := .f32) dot_S8x64x224x224_S3x64_S8x224x224x3_1_1_023_0_n_n none l r : S8x224x224x3.Idx → EReal) (ix4 n a b o)
      = ∑ c, l (ix4 n c a b) * r (ix2 o c) := by
  pointwise []

theorem term3 (x : S8x64x224x224.Idx → EReal) (w : S3x64x3x3.Idx → EReal) (kh kw : ℕ) (hh : kh < 3) (hw : kw < 3)
    (h : Shape.Slices S3x64x3x3 ![0, 0, kh, kw] S3x64x1x1) (n : Fin 8) (o : Fin 3) (a b : Fin 224) :
    transpose S8x3x224x224 [0, 3, 1, 2] (Host.dotGeneral (F := Ideal) (φ₁ := .f32) (φ₂ := .f32) dot_S8x64x224x224_S3x64_S8x224x224x3_1_1_023_0_n_n none x
        (shapeCast S3x64 (extractStridedSlice S3x64x1x1 ![0, 0, kh, kw] w h) shapeCasts_S3x64x1x1_S3x64) : S8x224x224x3.Idx → EReal)
      transposes_S8x224x224x3_S8x3x224x224_0_3_1_2 (ix4 n o a b) = ∑ c, x (ix4 n c a b) * w (ix4 o c ⟨kh, hh⟩ ⟨kw, hw⟩) := by
  refine (transpose_apply _ _ _ _ (ix4 n a b o) fun q => ?_).trans ?_
  · match q with
    | ⟨0, _⟩ => rfl
    | ⟨1, _⟩ => rfl
    | ⟨2, _⟩ => rfl
    | ⟨3, _⟩ => rfl
  rw [dot3]
  refine Finset.sum_congr rfl fun c _ => congrArg (x (ix4 n c a b) * ·) ?_
  refine (shapeCast_apply _ _ _ (ix4 o c (0 : Fin 1) (0 : Fin 1)) ?_).trans ?_
  · rw [Shape.rowMajor_val_four, Shape.rowMajor_val_two]
    show ((o.val * 64 + c.val) * 1 + 0) * 1 + 0 = o.val * 64 + c.val
    omega
  exact extractStridedSlice_apply _ _ _ _ _ fun q => by
    match q with
    | ⟨0, _⟩ => exact (Nat.zero_add _).symm
    | ⟨1, _⟩ => exact (Nat.zero_add _).symm
    | ⟨2, _⟩ => rfl
    | ⟨3, _⟩ => rfl

theorem bias3 (b : S3.Idx → EReal) (n : Fin 8) (o : Fin 3) (a a' : Fin 224) :
    broadcastInDim S8x3x224x224 ![0, 1, 2, 3] bcast_S1x3x1x1_S8x3x224x224_0_1_2_3 (broadcastInDim S1x3x1x1 ![1] bcast_S3_S1x3x1x1_1 b) (ix4 n o a a') = b (ix1 o) := by
  pointwise []

set_option maxHeartbeats 2000000 in
/-- The layer's output, from the array whose padding it reads. -/
theorem layer3 (x : S8x64x112x112.Idx → EReal)
    (hx : (res_main_v128 W : S8x64x226x226.Idx → EReal)
      = pad S8x64x226x226 ![0, 0, 2, 2] ![0, 0, 1, 1] ![0, 0, 1, 1] x (constant (F := Ideal) S_ .f32 0x00000000#32 : S_.Idx → EReal) pads_S8x64x112x112_S8x64x226x226_000_000_211_211 h_S_) :
    (res_main_v184 W : S8x3x224x224.Idx → EReal)
      = up 64 112 3 224 x (W (Proc.devRef (τ := τ) .tc main_arg8)) (W (Proc.devRef (τ := τ) .tc main_arg9)) := by
  unfold res_main_v184
  rw [hx]
  funext y
  obtain ⟨n, o, a, b, rfl⟩ : ∃ (n : Fin 8) (o : Fin 3) (a b : Fin 224), y = ix4 n o a b := ⟨y 0, y 1, y 2, y 3, ValueIdx.eq_ix4 y⟩
  have hT := fun (kh kw : ℕ) (hh : kh < 3) (hw : kw < 3) (h : Shape.Slices S3x64x3x3 ![0, 0, kh, kw] S3x64x1x1)
      (hs : Shape.Slices S8x64x226x226 ![0, 0, kh, kw] S8x64x224x224) =>
    (term3 (extractStridedSlice S8x64x224x224 ![0, 0, kh, kw] (pad S8x64x226x226 ![0, 0, 2, 2] ![0, 0, 1, 1] ![0, 0, 1, 1] x (constant (F := Ideal) S_ .f32 0x00000000#32 : S_.Idx → EReal) pads_S8x64x112x112_S8x64x226x226_000_000_211_211 h_S_) hs)
      (W (Proc.devRef (τ := τ) .tc main_arg8)) kh kw hh hw h n o a b).trans
      (Finset.sum_congr rfl fun c _ => congrArg (· * (W (Proc.devRef (τ := τ) .tc main_arg8) : S3x64x3x3.Idx → EReal) (ix4 o c ⟨kh, hh⟩ ⟨kw, hw⟩)) (spread_tap x _ h_S_ zero_first pads_S8x64x112x112_S8x64x226x226_000_000_211_211 hs n c a b))
  unfold up
  rw [← sum_nine]
  refine congrArg₂ (· + ·) ?_ (bias3 _ n o a b)
  exact congrArg₂ (· + ·) (congrArg₂ (· + ·) (congrArg₂ (· + ·) (congrArg₂ (· + ·) (congrArg₂ (· + ·) (congrArg₂ (· + ·) (congrArg₂ (· + ·) (congrArg₂ (· + ·) (hT 0 0 (by decide) (by decide) _ _) (hT 0 1 (by decide) (by decide) _ _)) (hT 0 2 (by decide) (by decide) _ _)) (hT 1 0 (by decide) (by decide) _ _)) (hT 1 1 (by decide) (by decide) _ _)) (hT 1 2 (by decide) (by decide) _ _)) (hT 2 0 (by decide) (by decide) _ _)) (hT 2 1 (by decide) (by decide) _ _)) (hT 2 2 (by decide) (by decide) _ _)

/-! ## The 1x1 layer and the whole -/

theorem quant_dot (l : S8x256x28x28.Idx → EReal) (r : S256x256.Idx → EReal) (n : Fin 8) (o : Fin 256) (a b : Fin 28) :
    (Host.dotGeneral (F := Ideal) (φ₁ := .f32) (φ₂ := .f32) dot_S8x256x28x28_S256x256_S8x28x28x256_1_1_023_0_n_n none l r : S8x28x28x256.Idx → EReal) (ix4 n a b o)
      = ∑ c, l (ix4 n c a b) * r (ix2 o c) := by
  pointwise []

theorem bias0 (b : S256.Idx → EReal) (n : Fin 8) (o : Fin 256) (a a' : Fin 28) :
    broadcastInDim S8x256x28x28 ![0, 1, 2, 3] bcast_S1x256x1x1_S8x256x28x28_0_1_2_3 (broadcastInDim S1x256x1x1 ![1] bcast_S256_S1x256x1x1_1 b) (ix4 n o a a') = b (ix1 o) := by
  pointwise []

theorem quant_eq (x : S8x256x28x28.Idx → EReal) (w : S256x256x1x1.Idx → EReal) (b : S256.Idx → EReal) :
    (addf (F := Ideal) (φ := .f32) (transpose S8x256x28x28 [0, 3, 1, 2] (Host.dotGeneral (F := Ideal) (φ₁ := .f32) (φ₂ := .f32) dot_S8x256x28x28_S256x256_S8x28x28x256_1_1_023_0_n_n none x
        (shapeCast S256x256 w shapeCasts_S256x256x1x1_S256x256)) transposes_S8x28x28x256_S8x256x28x28_0_3_1_2)
      (broadcastInDim S8x256x28x28 ![0, 1, 2, 3] bcast_S1x256x1x1_S8x256x28x28_0_1_2_3 (broadcastInDim S1x256x1x1 ![1] bcast_S256_S1x256x1x1_1 b)) : S8x256x28x28.Idx → EReal) = quant w b x := by
  funext y
  obtain ⟨n, o, a, b', rfl⟩ : ∃ (n : Fin 8) (o : Fin 256) (a b : Fin 28), y = ix4 n o a b := ⟨y 0, y 1, y 2, y 3, ValueIdx.eq_ix4 y⟩
  refine congrArg₂ (· + ·) ?_ (bias0 _ n o a b')
  refine (transpose_apply _ _ _ _ (ix4 n a b' o) fun q => ?_).trans ?_
  · match q with
    | ⟨0, _⟩ => rfl
    | ⟨1, _⟩ => rfl
    | ⟨2, _⟩ => rfl
    | ⟨3, _⟩ => rfl
  exact (quant_dot _ _ n o a b').trans (Finset.sum_congr rfl fun c _ => congrArg₂ (· * ·) rfl (square_apply _ _ o c))

/-- Adding what is missing gives what was wanted, where the first is finite. -/
theorem straight {s : Shape} (z q : s.Idx → EReal) (hz : ∀ i, z i ≠ ⊤ ∧ z i ≠ ⊥) : (addf (F := Ideal) (φ := .f32) z (subf (F := Ideal) (φ := .f32) q z) : s.Idx → EReal) = q := by
  funext i
  show z i + (q i - z i) = q i
  obtain ⟨r, e⟩ : ∃ r : ℝ, z i = r := ⟨(z i).toReal, (EReal.coe_toReal (hz i).1 (hz i).2).symm⟩
  rw [e, add_comm, EReal.sub_add_cancel]

/-- The frames of the input, two leading axes read as one. -/
abbrev framed (x : S2x4x256x28x28.Idx → EReal) : S8x256x28x28.Idx → EReal := shapeCast S8x256x28x28 x shapeCasts_S2x4x256x28x28_S8x256x28x28

theorem result (z : S2x4x256x28x28.Idx → EReal) (hW : W (Proc.devRef (τ := τ) .tc main_arg0) = z) (hz : ∀ i, z i ≠ ⊤ ∧ z i ≠ ⊥) :
    (res_main_v184 W : S8x3x224x224.Idx → EReal)
      = decode (framed (W (Proc.devRef (τ := τ) .tc main_arg1))) (W (Proc.devRef (τ := τ) .tc main_arg2)) (W (Proc.devRef (τ := τ) .tc main_arg3)) (W (Proc.devRef (τ := τ) .tc main_arg4))
          (W (Proc.devRef (τ := τ) .tc main_arg5)) (W (Proc.devRef (τ := τ) .tc main_arg6)) (W (Proc.devRef (τ := τ) .tc main_arg7)) (W (Proc.devRef (τ := τ) .tc main_arg8)) (W (Proc.devRef (τ := τ) .tc main_arg9)) := by
  have h0 : (addf (F := Ideal) (φ := .f32) (res_main_v0 W : S8x256x28x28.Idx → EReal) (subf (F := Ideal) (φ := .f32) (framed (W (Proc.devRef (τ := τ) .tc main_arg1))) (res_main_v0 W)) : S8x256x28x28.Idx → EReal)
      = framed (W (Proc.devRef (τ := τ) .tc main_arg1)) := by
    refine straight _ _ fun i => ?_
    unfold res_main_v0
    rw [hW]
    exact hz _
  refine layer3 W _ ?_
  unfold res_main_v128
  refine congrArg (fun x : S8x64x112x112.Idx → EReal => pad S8x64x226x226 ![0, 0, 2, 2] ![0, 0, 1, 1] ![0, 0, 1, 1] x (constant (F := Ideal) S_ .f32 0x00000000#32 : S_.Idx → EReal) pads_S8x64x112x112_S8x64x226x226_000_000_211_211 h_S_)
    (cut_of _ _ bcast_S_S8x64x112x112 (layer2 W _ ?_))
  unfold res_main_v69
  refine congrArg (fun x : S8x128x56x56.Idx → EReal => pad S8x128x114x114 ![0, 0, 2, 2] ![0, 0, 1, 1] ![0, 0, 1, 1] x (constant (F := Ideal) S_ .f32 0x00000000#32 : S_.Idx → EReal) pads_S8x128x56x56_S8x128x114x114_000_000_211_211 h_S_)
    (cut_of _ _ bcast_S_S8x128x56x56 (layer1 W _ ?_))
  unfold res_main_v10
  exact congrArg (fun x : S8x256x28x28.Idx → EReal => pad S8x256x58x58 ![0, 0, 2, 2] ![0, 0, 1, 1] ![0, 0, 1, 1] x (constant (F := Ideal) S_ .f32 0x00000000#32 : S_.Idx → EReal) pads_S8x256x28x28_S8x256x58x58_000_000_211_211 h_S_)
    ((quant_eq _ _ _).trans (congrArg (quant _ _) h0))

end Cert.Proof.DecoderPlain

end
-- ==== Proof.Decoder.Claims.lean ====
/-
  The claims about the decoder's program and its reference.
-/
module

public import proofs.«01_k».proof.Defs
public import proofs.«01_k».proof.Proof.Decoder.Run
public import proofs.«01_k».proof.Proof.Decoder.Values
public import proofs.«01_k».proof.Proof.Decoder.RefLayers
public import proofs.«01_k».proof.Proof.Gen.Pre_z_finite
public import Idealize.ShloMosaic.Init

@[expose] public section

noncomputable section

namespace Cert.Proof

open Idealize.ShloMosaic Idealize.ShloMosaic.TcCoe Idealize.SL.Sem

/-! ## What the precondition gives -/

/-- An entry whose magnitude is below the top is neither infinity. -/
theorem finite_of_below {x : EReal} (h : Ideal.cmp .olt (max x (-x)) ⊤ = 1#1) : x ≠ ⊤ ∧ x ≠ ⊥ := by
  constructor
  · rintro rfl
    exact absurd h (by simp [Ideal.cmp])
  · rintro rfl
    exact absurd h (by simp [Ideal.cmp])

theorem top_word : Ideal.ofBits .f32 0x7F800000#32 = ⊤ := by simp [Ideal.ofBits, Ideal.ieee]

theorem z_entries {m : (ℓ : Loc Cert.DecoderIdeal.nD Cert.DecoderIdeal.τ Cert.DecoderIdeal.sig) → Buf (Elt Ideal) ℓ} (h : Cert.Pre_DecoderIdeal_z_finite m)
    (c : Dev Cert.DecoderIdeal.nD) (z : Cert.DecoderIdeal.S2x4x256x28x28.Idx → EReal)
    (e : m ((c.tc : Thread Cert.DecoderIdeal.nD Cert.DecoderIdeal.τ).loc Cert.DecoderIdeal.main_arg0) = z) (i : Cert.DecoderIdeal.S2x4x256x28x28.Idx) : z i ≠ ⊤ ∧ z i ≠ ⊥ := by
  refine finite_of_below ?_
  have hi := congrFun (h c) i
  rw [e] at hi
  rw [← top_word]
  exact hi

section Kernel
open Cert.DecoderIdeal Cert.DecoderIdeal.Gen

theorem decoder_at {m : (ℓ : Loc nD τ sig) → Buf (Elt Ideal) ℓ} {ρ : Dev nD → PrngReg} {r : PUnit × MemSt nD τ sig (Elt Ideal)}
    (h : ∀ c : Dev nD, ∀ b ∈ Pipeline.ucRefs τ sig, r.2.mem ((c : Thread nD τ).1, b) = W15 m ρ c b) (c : Dev nD) (b : Ref sig .tc)
    (hb : ¬(Proc.devRef .tc b : DevRef τ sig).isScoped) : r.2.mem ((c.tc : Thread nD τ).loc b) = W15 m ρ c (Proc.devRef .tc b) :=
  h c _ (mem_uc b hb)

theorem decoder_args {m : (ℓ : Loc nD τ sig) → Buf (Elt Ideal) ℓ} {ρ : Dev nD → PrngReg} {r : PUnit × MemSt nD τ sig (Elt Ideal)}
    (h : ∀ c : Dev nD, ∀ b ∈ Pipeline.ucRefs τ sig, r.2.mem ((c : Thread nD τ).1, b) = W15 m ρ c b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  have go (a : Ref sig .tc) (hb : ¬(Proc.devRef .tc a : DevRef τ sig).isScoped) (ha : a ∈ argRefs) : r.2.mem ((c.tc : Thread nD τ).loc a) = m ((c.tc : Thread nD τ).loc a) :=
    (decoder_at h c a hb).trans (W15_args m ρ c a ha)
  ⟨go _ (by decide) (by decide), go _ (by decide) (by decide), go _ (by decide) (by decide), go _ (by decide) (by decide), go _ (by decide) (by decide),
    go _ (by decide) (by decide), go _ (by decide) (by decide), go _ (by decide) (by decide), go _ (by decide) (by decide), go _ (by decide) (by decide)⟩

end Kernel

theorem decoder_reference_frame : Cert.quiescent_DecoderReferenceIdeal := fun m ρ _ =>
  (θ_run Cert.DecoderReferenceIdeal.defs _ _).mono (fun r h => ⟨fun c => (h c).2, sem_eq_zero_of_no_sems (by decide) r.2⟩)
    (Cert.DecoderReferenceIdeal.Value.run (F := Ideal) m ρ)

/-- The reference's reading of two leading axes as one, entry by entry. -/
theorem framed_eq (x : Cert.DecoderIdeal.S2x4x256x28x28.Idx → EReal) : DecoderPlain.framed x = Decoder.frames x := by
  funext y
  obtain ⟨n, c, a, b, rfl⟩ : ∃ (n : Fin 8) (c : Fin 256) (a b : Fin 28), y = ValueIdx.ix4 n c a b := ⟨y 0, y 1, y 2, y 3, ValueIdx.eq_ix4 y⟩
  refine shapeCast_apply _ _ _ (ValueIdx.ix5 ⟨n.val / 4, by omega⟩ ⟨n.val % 4, by omega⟩ c a b) ?_
  rw [Shape.rowMajor_val_five]
  refine Eq.trans ?_ (Shape.rowMajor_val_four _).symm
  show (((n.val / 4 * 4 + n.val % 4) * 256 + c.val) * 28 + a.val) * 28 + b.val = ((n.val * 256 + c.val) * 28 + a.val) * 28 + b.val
  omega

/-- On equal arguments, the first of them finite, the two programs decode alike. -/
theorem decoded (m : (ℓ : Loc Cert.DecoderIdeal.nD Cert.DecoderIdeal.τ Cert.DecoderIdeal.sig) → Buf (Elt Ideal) ℓ) (ρ : Dev Cert.DecoderIdeal.nD → PrngReg) (c : Dev Cert.DecoderIdeal.nD)
    (hpre : Cert.Pre_DecoderIdeal_z_finite m) (W : Valuation Cert.DecoderReferenceIdeal.τ Cert.DecoderReferenceIdeal.sig (Elt Ideal))
    (h0 : W (Proc.devRef (τ := Cert.DecoderReferenceIdeal.τ) .tc Cert.DecoderReferenceIdeal.main_arg0) = Decoder.arg m ρ c Cert.DecoderIdeal.main_arg0)
    (h1 : W (Proc.devRef (τ := Cert.DecoderReferenceIdeal.τ) .tc Cert.DecoderReferenceIdeal.main_arg1) = Decoder.arg m ρ c Cert.DecoderIdeal.main_arg1)
    (h2 : W (Proc.devRef (τ := Cert.DecoderReferenceIdeal.τ) .tc Cert.DecoderReferenceIdeal.main_arg2) = Decoder.arg m ρ c Cert.DecoderIdeal.main_arg2)
    (h3 : W (Proc.devRef (τ := Cert.DecoderReferenceIdeal.τ) .tc Cert.DecoderReferenceIdeal.main_arg3) = Decoder.arg m ρ c Cert.DecoderIdeal.main_arg3)
    (h4 : W (Proc.devRef (τ := Cert.DecoderReferenceIdeal.τ) .tc Cert.DecoderReferenceIdeal.main_arg4) = Decoder.arg m ρ c Cert.DecoderIdeal.main_arg4)
    (h5 : W (Proc.devRef (τ := Cert.DecoderReferenceIdeal.τ) .tc Cert.DecoderReferenceIdeal.main_arg5) = Decoder.arg m ρ c Cert.DecoderIdeal.main_arg5)
    (h6 : W (Proc.devRef (τ := Cert.DecoderReferenceIdeal.τ) .tc Cert.DecoderReferenceIdeal.main_arg6) = Decoder.arg m ρ c Cert.DecoderIdeal.main_arg6)
    (h7 : W (Proc.devRef (τ := Cert.DecoderReferenceIdeal.τ) .tc Cert.DecoderReferenceIdeal.main_arg7) = Decoder.arg m ρ c Cert.DecoderIdeal.main_arg7)
    (h8 : W (Proc.devRef (τ := Cert.DecoderReferenceIdeal.τ) .tc Cert.DecoderReferenceIdeal.main_arg8) = Decoder.arg m ρ c Cert.DecoderIdeal.main_arg8)
    (h9 : W (Proc.devRef (τ := Cert.DecoderReferenceIdeal.τ) .tc Cert.DecoderReferenceIdeal.main_arg9) = Decoder.arg m ρ c Cert.DecoderIdeal.main_arg9) :
    (Cert.DecoderReferenceIdeal.Value.res_main_v184 W : Cert.DecoderIdeal.S8x3x224x224.Idx → EReal) = Decoder.out m ρ c := by
  refine (DecoderPlain.result W _ h0 (z_entries hpre c _ rfl)).trans ?_
  rw [h1, h2, h3, h4, h5, h6, h7, h8, h9, framed_eq]
  exact (Decoder.out_eq m ρ c).symm

theorem decoder_value : Cert.algebraic_DecoderIdeal_DecoderReferenceIdeal_pre_z_finite := fun m ρ m' ρ' hpre hagree =>
  ⟨fun c => shapeCast Cert.DecoderIdeal.S2x4x3x224x224 (Decoder.out m ρ c) Cert.DecoderIdeal.Gen.shapeCasts_S8x3x224x224_S2x4x3x224x224,
    (θ_run Cert.DecoderIdeal.defs _ _).mono (fun _ h c => ⟨(decoder_at h c Cert.DecoderIdeal.main_v71 (by decide)).trans (Decoder.step4 m ρ c), decoder_args h c⟩)
      (Decoder.run_main (F := Ideal) m ρ),
    (θ_run Cert.DecoderReferenceIdeal.defs _ _).mono (fun _ h c => by
        have e := decoded m ρ c hpre (StableHlo.launchContents m' c) (hagree c).1 (hagree c).2.1 (hagree c).2.2.1 (hagree c).2.2.2.1 (hagree c).2.2.2.2.1 (hagree c).2.2.2.2.2.1
          (hagree c).2.2.2.2.2.2.1 (hagree c).2.2.2.2.2.2.2.1 (hagree c).2.2.2.2.2.2.2.2.1 (hagree c).2.2.2.2.2.2.2.2.2
        exact ⟨(h c).1.trans (congrArg (fun y : Cert.DecoderIdeal.S8x3x224x224.Idx → EReal =>
          shapeCast Cert.DecoderIdeal.S2x4x3x224x224 y Cert.DecoderIdeal.Gen.shapeCasts_S8x3x224x224_S2x4x3x224x224) e), (h c).2⟩)
      (Cert.DecoderReferenceIdeal.Value.run (F := Ideal) m' ρ')⟩

end Cert.Proof

end
-- ==== Proof.lean ====
/- The proof of the certificate's claim: the gather alone at any table and tokens in it, the encoder with its quantizer
   from the program's arguments, and the decoder from a finite `z` and any `zq`. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Rows
public import proofs.«01_k».proof.Proof.Gen.EncoderIdeal
public import proofs.«01_k».proof.Proof.Encoder.Claims
public import proofs.«01_k».proof.Proof.Decoder.Claims
public import proofs.«01_k».proof.Proof.Gen.EncoderReferenceIdeal
public import proofs.«01_k».proof.Proof.Gen.Pre_tokens_in_table
public import proofs.«01_k».proof.Proof.Gen.Decoder
public import proofs.«01_k».proof.Proof.Gen.Decoder.Skeleton
public import proofs.«01_k».proof.Proof.Gen.Decoder.Launch
public import proofs.«01_k».proof.Proof.Gen.Decoder.Points
public import proofs.«01_k».proof.Proof.Gen.Decoder.Frame
public import proofs.«01_k».proof.Proof.Gen.DecoderIdeal
public import proofs.«01_k».proof.Proof.Gen.DecoderIdeal.Skeleton
public import proofs.«01_k».proof.Proof.Gen.DecoderIdeal.Launch
public import proofs.«01_k».proof.Proof.Gen.DecoderIdeal.Points
public import proofs.«01_k».proof.Proof.Gen.DecoderIdeal.Frame
public import proofs.«01_k».proof.Proof.Gen.DecoderReferenceIdeal
public import proofs.«01_k».proof.Proof.Gen.DecoderReferenceIdeal.Run
public import proofs.«01_k».proof.Proof.Gen.Pre_z_finite
public import Idealize.ShloMosaic.Adequacy
public import Idealize.ShloMosaic.Init

@[expose] public section

noncomputable section

namespace Cert.Proof

open Idealize.ShloMosaic Idealize.SL.Sem Cert.Kernel

/-! ## What the precondition gives -/

/-- `0 ≤ tok` and `tok < 8192`, both read signed and both 1, leave the word below 8192. -/
theorem word_in_table : ∀ v : BitVec 32, IntOp.andi (IntOp.cmpi .sge v 0#32) (IntOp.cmpi .slt v 8192#32) = 1#1 → v.toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  intro v e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem toks_in_table {F : FTy → Type} [FloatOps F] (e : FVec F Cert.Pre_tokens_in_table.S8192x256 .f32) (ix : IVec Cert.Pre_tokens_in_table.S6400 32)
    (h : Cert.Pre_tokens_in_table.fn (F := F) e ix = fun _ => 1#1) : ∀ j, (ix j).toNat < 8192 := by
  intro j
  have hj := congrFun h j
  simp only [Cert.Pre_tokens_in_table.fn, andi, cmpi, broadcastInDim, constantI] at hj
  exact word_in_table _ hj

/-! ## The claims -/

theorem frame_kernel : Cert.quiescent_Kernel := fun m ρ hpre =>
  (θ_run Cert.KernelIdeal.defs _ _).mono (fun _ h => ⟨fun c => ⟨(h.1 c).1, (h.1 c).2.1⟩, h.2⟩)
    (Gather.run_main (F := Bits) m ρ fun d => toks_in_table _ _ (hpre d))

theorem frame_kernelIdeal : Cert.quiescent_KernelIdeal := fun m ρ hpre =>
  (θ_run Cert.KernelIdeal.defs _ _).mono (fun _ h => ⟨fun c => ⟨(h.1 c).1, (h.1 c).2.1⟩, h.2⟩)
    (Gather.run_main (F := Ideal) m ρ fun d => toks_in_table _ _ (hpre d))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem gathered : Cert.algebraic_KernelIdeal_ReferenceIdeal := fun m ρ m' ρ' hpre hagree =>
  ⟨fun c => Rows.laid (F := Ideal) (Rows.plain (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    (θ_run Cert.KernelIdeal.defs _ _).mono (fun _ h c => ⟨(h.1 c).2.2.trans (Rows.kernel_result _ _), (h.1 c).1, (h.1 c).2.1⟩)
      (Gather.run_main (F := Ideal) m ρ fun d => toks_in_table _ _ (hpre d)),
    (θ_run Cert.ReferenceIdeal.defs _ _).mono (fun _ h c => ⟨by
        refine (h c).1.trans ?_
        rw [(hagree c).1, (hagree c).2]
        exact Rows.reference_result (F := Ideal) _ _ (toks_in_table _ _ (hpre c)), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.EncoderIdeal.Gen.facts,
  Cert.EncoderReferenceIdeal.Gen.facts, Cert.Decoder.Gen.facts, Cert.DecoderIdeal.Gen.facts, Cert.DecoderReferenceIdeal.Gen.facts,
  Cert.Pre_tokens_in_table.Gen.facts, Cert.Pre_z_finite.Gen.facts,
  frame_kernel, frame_kernelIdeal, frame_reference, fun m ρ _ => frame_reference m ρ trivial, encoder_frame, encoder_reference_frame,
  fun m ρ _ => Cert.Decoder.Gen.frame m ρ, fun m ρ _ => Cert.DecoderIdeal.Gen.frame m ρ, fun m ρ _ => Cert.DecoderIdeal.Gen.frame m ρ,
  decoder_reference_frame, fun m ρ _ => decoder_reference_frame m ρ trivial, trivial, gathered, encoder_value, trivial, decoder_value⟩

end Cert.Proof

end
